-- ==== Defs.lean ====
def Pre_PoolA (m : (ℓ : Loc Cert.PoolA.nD Cert.PoolA.τ Cert.PoolA.sig) → Buf (Elt Bits) ℓ) : Prop :=
  True

def Pre_PoolAIdeal (m : (ℓ : Loc Cert.PoolAIdeal.nD Cert.PoolAIdeal.τ Cert.PoolAIdeal.sig) → Buf (Elt Ideal) ℓ) : Prop :=
  True

def Pre_PoolAIdeal_pool_a_finite [hPre_pool_a_finite : Cert.Pre_pool_a_finite.Facts] (m : (ℓ : Loc Cert.PoolAIdeal.nD Cert.PoolAIdeal.τ Cert.PoolAIdeal.sig) → Buf (Elt Ideal) ℓ) : Prop :=
  ∀ c : Dev Cert.PoolAIdeal.nD,
    (Cert.Pre_pool_a_finite.fn (F := Ideal) (m ((c.tc : Thread Cert.PoolAIdeal.nD Cert.PoolAIdeal.τ).loc Cert.PoolAIdeal.main_arg0)) (m ((c.tc : Thread Cert.PoolAIdeal.nD Cert.PoolAIdeal.τ).loc Cert.PoolAIdeal.main_arg1)) (m ((c.tc : Thread Cert.PoolAIdeal.nD Cert.PoolAIdeal.τ).loc Cert.PoolAIdeal.main_arg2)) (m ((c.tc : Thread Cert.PoolAIdeal.nD Cert.PoolAIdeal.τ).loc Cert.PoolAIdeal.main_arg3))) = (fun _ => 1#1)

def Pre_PoolARefIdeal (m : (ℓ : Loc Cert.PoolARefIdeal.nD Cert.PoolARefIdeal.τ Cert.PoolARefIdeal.sig) → Buf (Elt Ideal) ℓ) : Prop :=
  True

def Pre_PoolARefIdeal_pool_a_finite [hPre_pool_a_finite : Cert.Pre_pool_a_finite.Facts] (m : (ℓ : Loc Cert.PoolARefIdeal.nD Cert.PoolARefIdeal.τ Cert.PoolARefIdeal.sig) → Buf (Elt Ideal) ℓ) : Prop :=
  ∀ c : Dev Cert.PoolARefIdeal.nD,
    (Cert.Pre_pool_a_finite.fn (F := Ideal) (m ((c.tc : Thread Cert.PoolARefIdeal.nD Cert.PoolARefIdeal.τ).loc Cert.PoolARefIdeal.main_arg0)) (m ((c.tc : Thread Cert.PoolARefIdeal.nD Cert.PoolARefIdeal.τ).loc Cert.PoolARefIdeal.main_arg1)) (m ((c.tc : Thread Cert.PoolARefIdeal.nD Cert.PoolARefIdeal.τ).loc Cert.PoolARefIdeal.main_arg2)) (m ((c.tc : Thread Cert.PoolARefIdeal.nD Cert.PoolARefIdeal.τ).loc Cert.PoolARefIdeal.main_arg3))) = (fun _ => 1#1)

def Pre_PoolB (m : (ℓ : Loc Cert.PoolB.nD Cert.PoolB.τ Cert.PoolB.sig) → Buf (Elt Bits) ℓ) : Prop :=
  True

def Pre_PoolBIdeal (m : (ℓ : Loc Cert.PoolBIdeal.nD Cert.PoolBIdeal.τ Cert.PoolBIdeal.sig) → Buf (Elt Ideal) ℓ) : Prop :=
  True

def Pre_PoolBIdeal_pool_b_finite [hPre_pool_b_finite : Cert.Pre_pool_b_finite.Facts] (m : (ℓ : Loc Cert.PoolBIdeal.nD Cert.PoolBIdeal.τ Cert.PoolBIdeal.sig) → Buf (Elt Ideal) ℓ) : Prop :=
  ∀ c : Dev Cert.PoolBIdeal.nD,
    (Cert.Pre_pool_b_finite.fn (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1))) = (fun _ => 1#1)

def Pre_PoolBRefIdeal (m : (ℓ : Loc Cert.PoolBRefIdeal.nD Cert.PoolBRefIdeal.τ Cert.PoolBRefIdeal.sig) → Buf (Elt Ideal) ℓ) : Prop :=
  True

def Pre_PoolBRefIdeal_pool_b_finite [hPre_pool_b_finite : Cert.Pre_pool_b_finite.Facts] (m : (ℓ : Loc Cert.PoolBRefIdeal.nD Cert.PoolBRefIdeal.τ Cert.PoolBRefIdeal.sig) → Buf (Elt Ideal) ℓ) : Prop :=
  ∀ c : Dev Cert.PoolBRefIdeal.nD,
    (Cert.Pre_pool_b_finite.fn (F := Ideal) (m ((c.tc : Thread Cert.PoolBRefIdeal.nD Cert.PoolBRefIdeal.τ).loc Cert.PoolBRefIdeal.main_arg0)) (m ((c.tc : Thread Cert.PoolBRefIdeal.nD Cert.PoolBRefIdeal.τ).loc Cert.PoolBRefIdeal.main_arg1))) = (fun _ => 1#1)

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightRefIdeal (m : (ℓ : Loc Cert.InWeightRefIdeal.nD Cert.InWeightRefIdeal.τ Cert.InWeightRefIdeal.sig) → Buf (Elt Ideal) ℓ) : Prop :=
  True

def Pre_DtWeight (m : (ℓ : Loc Cert.DtWeight.nD Cert.DtWeight.τ Cert.DtWeight.sig) → Buf (Elt Bits) ℓ) : Prop :=
  True

def Pre_DtWeightIdeal (m : (ℓ : Loc Cert.DtWeightIdeal.nD Cert.DtWeightIdeal.τ Cert.DtWeightIdeal.sig) → Buf (Elt Ideal) ℓ) : Prop :=
  True

def Pre_DtWeightRefIdeal (m : (ℓ : Loc Cert.DtWeightRefIdeal.nD Cert.DtWeightRefIdeal.τ Cert.DtWeightRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedRefIdeal (m : (ℓ : Loc Cert.MixedRefIdeal.nD Cert.MixedRefIdeal.τ Cert.MixedRefIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenRefIdeal (m : (ℓ : Loc Cert.HiddenRefIdeal.nD Cert.HiddenRefIdeal.τ Cert.HiddenRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DtProj (m : (ℓ : Loc Cert.DtProj.nD Cert.DtProj.τ Cert.DtProj.sig) → Buf (Elt Bits) ℓ) : Prop :=
  True

def Pre_DtProjIdeal (m : (ℓ : Loc Cert.DtProjIdeal.nD Cert.DtProjIdeal.τ Cert.DtProjIdeal.sig) → Buf (Elt Ideal) ℓ) : Prop :=
  True

def Pre_DtProjRefIdeal (m : (ℓ : Loc Cert.DtProjRefIdeal.nD Cert.DtProjRefIdeal.τ Cert.DtProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvA (m : (ℓ : Loc Cert.ConvA.nD Cert.ConvA.τ Cert.ConvA.sig) → Buf (Elt Bits) ℓ) : Prop :=
  True

def Pre_ConvAIdeal (m : (ℓ : Loc Cert.ConvAIdeal.nD Cert.ConvAIdeal.τ Cert.ConvAIdeal.sig) → Buf (Elt Ideal) ℓ) : Prop :=
  True

def Pre_ConvAIdeal_conv_finite [hPre_conv_finite : Cert.Pre_conv_finite.Facts] (m : (ℓ : Loc Cert.ConvAIdeal.nD Cert.ConvAIdeal.τ Cert.ConvAIdeal.sig) → Buf (Elt Ideal) ℓ) : Prop :=
  ∀ c : Dev Cert.ConvAIdeal.nD,
    (Cert.Pre_conv_finite.fn (F := Ideal) (m ((c.tc : Thread Cert.ConvAIdeal.nD Cert.ConvAIdeal.τ).loc Cert.ConvAIdeal.main_arg0)) (m ((c.tc : Thread Cert.ConvAIdeal.nD Cert.ConvAIdeal.τ).loc Cert.ConvAIdeal.main_arg1)) (m ((c.tc : Thread Cert.ConvAIdeal.nD Cert.ConvAIdeal.τ).loc Cert.ConvAIdeal.main_arg2)) (m ((c.tc : Thread Cert.ConvAIdeal.nD Cert.ConvAIdeal.τ).loc Cert.ConvAIdeal.main_arg3)) (m ((c.tc : Thread Cert.ConvAIdeal.nD Cert.ConvAIdeal.τ).loc Cert.ConvAIdeal.main_arg4)) (m ((c.tc : Thread Cert.ConvAIdeal.nD Cert.ConvAIdeal.τ).loc Cert.ConvAIdeal.main_arg5))) = (fun _ => 1#1)

def Pre_ConvARefIdeal (m : (ℓ : Loc Cert.ConvARefIdeal.nD Cert.ConvARefIdeal.τ Cert.ConvARefIdeal.sig) → Buf (Elt Ideal) ℓ) : Prop :=
  True

def Pre_ConvARefIdeal_conv_finite [hPre_conv_finite : Cert.Pre_conv_finite.Facts] (m : (ℓ : Loc Cert.ConvARefIdeal.nD Cert.ConvARefIdeal.τ Cert.ConvARefIdeal.sig) → Buf (Elt Ideal) ℓ) : Prop :=
  ∀ c : Dev Cert.ConvARefIdeal.nD,
    (Cert.Pre_conv_finite.fn (F := Ideal) (m ((c.tc : Thread Cert.ConvARefIdeal.nD Cert.ConvARefIdeal.τ).loc Cert.ConvARefIdeal.main_arg0)) (m ((c.tc : Thread Cert.ConvARefIdeal.nD Cert.ConvARefIdeal.τ).loc Cert.ConvARefIdeal.main_arg1)) (m ((c.tc : Thread Cert.ConvARefIdeal.nD Cert.ConvARefIdeal.τ).loc Cert.ConvARefIdeal.main_arg2)) (m ((c.tc : Thread Cert.ConvARefIdeal.nD Cert.ConvARefIdeal.τ).loc Cert.ConvARefIdeal.main_arg3)) (m ((c.tc : Thread Cert.ConvARefIdeal.nD Cert.ConvARefIdeal.τ).loc Cert.ConvARefIdeal.main_arg4)) (m ((c.tc : Thread Cert.ConvARefIdeal.nD Cert.ConvARefIdeal.τ).loc Cert.ConvARefIdeal.main_arg5))) = (fun _ => 1#1)

def Pre_ConvB (m : (ℓ : Loc Cert.ConvB.nD Cert.ConvB.τ Cert.ConvB.sig) → Buf (Elt Bits) ℓ) : Prop :=
  True

def Pre_ConvBIdeal (m : (ℓ : Loc Cert.ConvBIdeal.nD Cert.ConvBIdeal.τ Cert.ConvBIdeal.sig) → Buf (Elt Ideal) ℓ) : Prop :=
  True

def Pre_ConvBRefIdeal (m : (ℓ : Loc Cert.ConvBRefIdeal.nD Cert.ConvBRefIdeal.τ Cert.ConvBRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_PostGrad (m : (ℓ : Loc Cert.PostGrad.nD Cert.PostGrad.τ Cert.PostGrad.sig) → Buf (Elt Bits) ℓ) : Prop :=
  True

def Pre_PostGradIdeal (m : (ℓ : Loc Cert.PostGradIdeal.nD Cert.PostGradIdeal.τ Cert.PostGradIdeal.sig) → Buf (Elt Ideal) ℓ) : Prop :=
  True

def Pre_PostGradRefIdeal (m : (ℓ : Loc Cert.PostGradRefIdeal.nD Cert.PostGradRefIdeal.τ Cert.PostGradRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def quiescent_PoolA [hPoolA : Cert.PoolA.Facts] : Prop :=
  ∀ (m : (ℓ : Loc Cert.PoolA.nD Cert.PoolA.τ Cert.PoolA.sig) → Buf (Elt Bits) ℓ) (g : Dev Cert.PoolA.nD → PrngReg), Pre_PoolA m →
    θ_run (Cert.PoolA.defs (F := Bits)) (onTc (τ := Cert.PoolA.τ) (Cert.PoolA.main (F := Bits))) ⟨m, fun _ => 0, g⟩ (fun r => (∀ c : Dev Cert.PoolA.nD,
      r.2.mem ((c.tc : Thread Cert.PoolA.nD Cert.PoolA.τ).loc Cert.PoolA.main_arg0) = m ((c.tc : Thread Cert.PoolA.nD Cert.PoolA.τ).loc Cert.PoolA.main_arg0)
      ∧ r.2.mem ((c.tc : Thread Cert.PoolA.nD Cert.PoolA.τ).loc Cert.PoolA.main_arg1) = m ((c.tc : Thread Cert.PoolA.nD Cert.PoolA.τ).loc Cert.PoolA.main_arg1)
      ∧ r.2.mem ((c.tc : Thread Cert.PoolA.nD Cert.PoolA.τ).loc Cert.PoolA.main_arg2) = m ((c.tc : Thread Cert.PoolA.nD Cert.PoolA.τ).loc Cert.PoolA.main_arg2)
      ∧ r.2.mem ((c.tc : Thread Cert.PoolA.nD Cert.PoolA.τ).loc Cert.PoolA.main_arg3) = m ((c.tc : Thread Cert.PoolA.nD Cert.PoolA.τ).loc Cert.PoolA.main_arg3))
      ∧ r.2.sem = fun _ => 0)

def quiescent_PoolAIdeal [hPoolAIdeal : Cert.PoolAIdeal.Facts] : Prop :=
  ∀ (m : (ℓ : Loc Cert.PoolAIdeal.nD Cert.PoolAIdeal.τ Cert.PoolAIdeal.sig) → Buf (Elt Ideal) ℓ) (g : Dev Cert.PoolAIdeal.nD → PrngReg), Pre_PoolAIdeal m →
    θ_run (Cert.PoolAIdeal.defs (F := Ideal)) (onTc (τ := Cert.PoolAIdeal.τ) (Cert.PoolAIdeal.main (F := Ideal))) ⟨m, fun _ => 0, g⟩ (fun r => (∀ c : Dev Cert.PoolAIdeal.nD,
      r.2.mem ((c.tc : Thread Cert.PoolAIdeal.nD Cert.PoolAIdeal.τ).loc Cert.PoolAIdeal.main_arg0) = m ((c.tc : Thread Cert.PoolAIdeal.nD Cert.PoolAIdeal.τ).loc Cert.PoolAIdeal.main_arg0)
      ∧ r.2.mem ((c.tc : Thread Cert.PoolAIdeal.nD Cert.PoolAIdeal.τ).loc Cert.PoolAIdeal.main_arg1) = m ((c.tc : Thread Cert.PoolAIdeal.nD Cert.PoolAIdeal.τ).loc Cert.PoolAIdeal.main_arg1)
      ∧ r.2.mem ((c.tc : Thread Cert.PoolAIdeal.nD Cert.PoolAIdeal.τ).loc Cert.PoolAIdeal.main_arg2) = m ((c.tc : Thread Cert.PoolAIdeal.nD Cert.PoolAIdeal.τ).loc Cert.PoolAIdeal.main_arg2)
      ∧ r.2.mem ((c.tc : Thread Cert.PoolAIdeal.nD Cert.PoolAIdeal.τ).loc Cert.PoolAIdeal.main_arg3) = m ((c.tc : Thread Cert.PoolAIdeal.nD Cert.PoolAIdeal.τ).loc Cert.PoolAIdeal.main_arg3))
      ∧ r.2.sem = fun _ => 0)

def quiescent_PoolAIdeal_pre_pool_a_finite [hPoolAIdeal : Cert.PoolAIdeal.Facts] [hPre_pool_a_finite : Cert.Pre_pool_a_finite.Facts] : Prop :=
  ∀ (m : (ℓ : Loc Cert.PoolAIdeal.nD Cert.PoolAIdeal.τ Cert.PoolAIdeal.sig) → Buf (Elt Ideal) ℓ) (g : Dev Cert.PoolAIdeal.nD → PrngReg), Pre_PoolAIdeal_pool_a_finite m →
    θ_run (Cert.PoolAIdeal.defs (F := Ideal)) (onTc (τ := Cert.PoolAIdeal.τ) (Cert.PoolAIdeal.main (F := Ideal))) ⟨m, fun _ => 0, g⟩ (fun r => (∀ c : Dev Cert.PoolAIdeal.nD,
      r.2.mem ((c.tc : Thread Cert.PoolAIdeal.nD Cert.PoolAIdeal.τ).loc Cert.PoolAIdeal.main_arg0) = m ((c.tc : Thread Cert.PoolAIdeal.nD Cert.PoolAIdeal.τ).loc Cert.PoolAIdeal.main_arg0)
      ∧ r.2.mem ((c.tc : Thread Cert.PoolAIdeal.nD Cert.PoolAIdeal.τ).loc Cert.PoolAIdeal.main_arg1) = m ((c.tc : Thread Cert.PoolAIdeal.nD Cert.PoolAIdeal.τ).loc Cert.PoolAIdeal.main_arg1)
      ∧ r.2.mem ((c.tc : Thread Cert.PoolAIdeal.nD Cert.PoolAIdeal.τ).loc Cert.PoolAIdeal.main_arg2) = m ((c.tc : Thread Cert.PoolAIdeal.nD Cert.PoolAIdeal.τ).loc Cert.PoolAIdeal.main_arg2)
      ∧ r.2.mem ((c.tc : Thread Cert.PoolAIdeal.nD Cert.PoolAIdeal.τ).loc Cert.PoolAIdeal.main_arg3) = m ((c.tc : Thread Cert.PoolAIdeal.nD Cert.PoolAIdeal.τ).loc Cert.PoolAIdeal.main_arg3))
      ∧ r.2.sem = fun _ => 0)

def quiescent_PoolARefIdeal [hPoolARefIdeal : Cert.PoolARefIdeal.Facts] : Prop :=
  ∀ (m : (ℓ : Loc Cert.PoolARefIdeal.nD Cert.PoolARefIdeal.τ Cert.PoolARefIdeal.sig) → Buf (Elt Ideal) ℓ) (g : Dev Cert.PoolARefIdeal.nD → PrngReg), Pre_PoolARefIdeal m →
    θ_run (Cert.PoolARefIdeal.defs (F := Ideal)) (onTc (τ := Cert.PoolARefIdeal.τ) (Cert.PoolARefIdeal.main (F := Ideal))) ⟨m, fun _ => 0, g⟩ (fun r => (∀ c : Dev Cert.PoolARefIdeal.nD,
      r.2.mem ((c.tc : Thread Cert.PoolARefIdeal.nD Cert.PoolARefIdeal.τ).loc Cert.PoolARefIdeal.main_arg0) = m ((c.tc : Thread Cert.PoolARefIdeal.nD Cert.PoolARefIdeal.τ).loc Cert.PoolARefIdeal.main_arg0)
      ∧ r.2.mem ((c.tc : Thread Cert.PoolARefIdeal.nD Cert.PoolARefIdeal.τ).loc Cert.PoolARefIdeal.main_arg1) = m ((c.tc : Thread Cert.PoolARefIdeal.nD Cert.PoolARefIdeal.τ).loc Cert.PoolARefIdeal.main_arg1)
      ∧ r.2.mem ((c.tc : Thread Cert.PoolARefIdeal.nD Cert.PoolARefIdeal.τ).loc Cert.PoolARefIdeal.main_arg2) = m ((c.tc : Thread Cert.PoolARefIdeal.nD Cert.PoolARefIdeal.τ).loc Cert.PoolARefIdeal.main_arg2)
      ∧ r.2.mem ((c.tc : Thread Cert.PoolARefIdeal.nD Cert.PoolARefIdeal.τ).loc Cert.PoolARefIdeal.main_arg3) = m ((c.tc : Thread Cert.PoolARefIdeal.nD Cert.PoolARefIdeal.τ).loc Cert.PoolARefIdeal.main_arg3))
      ∧ r.2.sem = fun _ => 0)

def quiescent_PoolARefIdeal_pre_pool_a_finite [hPoolARefIdeal : Cert.PoolARefIdeal.Facts] [hPre_pool_a_finite : Cert.Pre_pool_a_finite.Facts] : Prop :=
  ∀ (m : (ℓ : Loc Cert.PoolARefIdeal.nD Cert.PoolARefIdeal.τ Cert.PoolARefIdeal.sig) → Buf (Elt Ideal) ℓ) (g : Dev Cert.PoolARefIdeal.nD → PrngReg), Pre_PoolARefIdeal_pool_a_finite m →
    θ_run (Cert.PoolARefIdeal.defs (F := Ideal)) (onTc (τ := Cert.PoolARefIdeal.τ) (Cert.PoolARefIdeal.main (F := Ideal))) ⟨m, fun _ => 0, g⟩ (fun r => (∀ c : Dev Cert.PoolARefIdeal.nD,
      r.2.mem ((c.tc : Thread Cert.PoolARefIdeal.nD Cert.PoolARefIdeal.τ).loc Cert.PoolARefIdeal.main_arg0) = m ((c.tc : Thread Cert.PoolARefIdeal.nD Cert.PoolARefIdeal.τ).loc Cert.PoolARefIdeal.main_arg0)
      ∧ r.2.mem ((c.tc : Thread Cert.PoolARefIdeal.nD Cert.PoolARefIdeal.τ).loc Cert.PoolARefIdeal.main_arg1) = m ((c.tc : Thread Cert.PoolARefIdeal.nD Cert.PoolARefIdeal.τ).loc Cert.PoolARefIdeal.main_arg1)
      ∧ r.2.mem ((c.tc : Thread Cert.PoolARefIdeal.nD Cert.PoolARefIdeal.τ).loc Cert.PoolARefIdeal.main_arg2) = m ((c.tc : Thread Cert.PoolARefIdeal.nD Cert.PoolARefIdeal.τ).loc Cert.PoolARefIdeal.main_arg2)
      ∧ r.2.mem ((c.tc : Thread Cert.PoolARefIdeal.nD Cert.PoolARefIdeal.τ).loc Cert.PoolARefIdeal.main_arg3) = m ((c.tc : Thread Cert.PoolARefIdeal.nD Cert.PoolARefIdeal.τ).loc Cert.PoolARefIdeal.main_arg3))
      ∧ r.2.sem = fun _ => 0)

def quiescent_PoolB [hPoolB : Cert.PoolB.Facts] : Prop :=
  ∀ (m : (ℓ : Loc Cert.PoolB.nD Cert.PoolB.τ Cert.PoolB.sig) → Buf (Elt Bits) ℓ) (g : Dev Cert.PoolB.nD → PrngReg), Pre_PoolB m →
    θ_run (Cert.PoolB.defs (F := Bits)) (onTc (τ := Cert.PoolB.τ) (Cert.PoolB.main (F := Bits))) ⟨m, fun _ => 0, g⟩ (fun r => (∀ c : Dev Cert.PoolB.nD,
      r.2.mem ((c.tc : Thread Cert.PoolB.nD Cert.PoolB.τ).loc Cert.PoolB.main_arg0) = m ((c.tc : Thread Cert.PoolB.nD Cert.PoolB.τ).loc Cert.PoolB.main_arg0)
      ∧ r.2.mem ((c.tc : Thread Cert.PoolB.nD Cert.PoolB.τ).loc Cert.PoolB.main_arg1) = m ((c.tc : Thread Cert.PoolB.nD Cert.PoolB.τ).loc Cert.PoolB.main_arg1))
      ∧ r.2.sem = fun _ => 0)

def quiescent_PoolBIdeal [hPoolBIdeal : Cert.PoolBIdeal.Facts] : Prop :=
  ∀ (m : (ℓ : Loc Cert.PoolBIdeal.nD Cert.PoolBIdeal.τ Cert.PoolBIdeal.sig) → Buf (Elt Ideal) ℓ) (g : Dev Cert.PoolBIdeal.nD → PrngReg), Pre_PoolBIdeal m →
    θ_run (Cert.PoolBIdeal.defs (F := Ideal)) (onTc (τ := Cert.PoolBIdeal.τ) (Cert.PoolBIdeal.main (F := Ideal))) ⟨m, fun _ => 0, g⟩ (fun r => (∀ c : Dev Cert.PoolBIdeal.nD,
      r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
      ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1))
      ∧ r.2.sem = fun _ => 0)

def quiescent_PoolBIdeal_pre_pool_b_finite [hPoolBIdeal : Cert.PoolBIdeal.Facts] [hPre_pool_b_finite : Cert.Pre_pool_b_finite.Facts] : Prop :=
  ∀ (m : (ℓ : Loc Cert.PoolBIdeal.nD Cert.PoolBIdeal.τ Cert.PoolBIdeal.sig) → Buf (Elt Ideal) ℓ) (g : Dev Cert.PoolBIdeal.nD → PrngReg), Pre_PoolBIdeal_pool_b_finite m →
    θ_run (Cert.PoolBIdeal.defs (F := Ideal)) (onTc (τ := Cert.PoolBIdeal.τ) (Cert.PoolBIdeal.main (F := Ideal))) ⟨m, fun _ => 0, g⟩ (fun r => (∀ c : Dev Cert.PoolBIdeal.nD,
      r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
      ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1))
      ∧ r.2.sem = fun _ => 0)

def quiescent_PoolBRefIdeal [hPoolBRefIdeal : Cert.PoolBRefIdeal.Facts] : Prop :=
  ∀ (m : (ℓ : Loc Cert.PoolBRefIdeal.nD Cert.PoolBRefIdeal.τ Cert.PoolBRefIdeal.sig) → Buf (Elt Ideal) ℓ) (g : Dev Cert.PoolBRefIdeal.nD → PrngReg), Pre_PoolBRefIdeal m →
    θ_run (Cert.PoolBRefIdeal.defs (F := Ideal)) (onTc (τ := Cert.PoolBRefIdeal.τ) (Cert.PoolBRefIdeal.main (F := Ideal))) ⟨m, fun _ => 0, g⟩ (fun r => (∀ c : Dev Cert.PoolBRefIdeal.nD,
      r.2.mem ((c.tc : Thread Cert.PoolBRefIdeal.nD Cert.PoolBRefIdeal.τ).loc Cert.PoolBRefIdeal.main_arg0) = m ((c.tc : Thread Cert.PoolBRefIdeal.nD Cert.PoolBRefIdeal.τ).loc Cert.PoolBRefIdeal.main_arg0)
      ∧ r.2.mem ((c.tc : Thread Cert.PoolBRefIdeal.nD Cert.PoolBRefIdeal.τ).loc Cert.PoolBRefIdeal.main_arg1) = m ((c.tc : Thread Cert.PoolBRefIdeal.nD Cert.PoolBRefIdeal.τ).loc Cert.PoolBRefIdeal.main_arg1))
      ∧ r.2.sem = fun _ => 0)

def quiescent_PoolBRefIdeal_pre_pool_b_finite [hPoolBRefIdeal : Cert.PoolBRefIdeal.Facts] [hPre_pool_b_finite : Cert.Pre_pool_b_finite.Facts] : Prop :=
  ∀ (m : (ℓ : Loc Cert.PoolBRefIdeal.nD Cert.PoolBRefIdeal.τ Cert.PoolBRefIdeal.sig) → Buf (Elt Ideal) ℓ) (g : Dev Cert.PoolBRefIdeal.nD → PrngReg), Pre_PoolBRefIdeal_pool_b_finite m →
    θ_run (Cert.PoolBRefIdeal.defs (F := Ideal)) (onTc (τ := Cert.PoolBRefIdeal.τ) (Cert.PoolBRefIdeal.main (F := Ideal))) ⟨m, fun _ => 0, g⟩ (fun r => (∀ c : Dev Cert.PoolBRefIdeal.nD,
      r.2.mem ((c.tc : Thread Cert.PoolBRefIdeal.nD Cert.PoolBRefIdeal.τ).loc Cert.PoolBRefIdeal.main_arg0) = m ((c.tc : Thread Cert.PoolBRefIdeal.nD Cert.PoolBRefIdeal.τ).loc Cert.PoolBRefIdeal.main_arg0)
      ∧ r.2.mem ((c.tc : Thread Cert.PoolBRefIdeal.nD Cert.PoolBRefIdeal.τ).loc Cert.PoolBRefIdeal.main_arg1) = m ((c.tc : Thread Cert.PoolBRefIdeal.nD Cert.PoolBRefIdeal.τ).loc Cert.PoolBRefIdeal.main_arg1))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightRefIdeal [hInWeightRefIdeal : Cert.InWeightRefIdeal.Facts] : Prop :=
  ∀ (m : (ℓ : Loc Cert.InWeightRefIdeal.nD Cert.InWeightRefIdeal.τ Cert.InWeightRefIdeal.sig) → Buf (Elt Ideal) ℓ) (g : Dev Cert.InWeightRefIdeal.nD → PrngReg), Pre_InWeightRefIdeal m →
    θ_run (Cert.InWeightRefIdeal.defs (F := Ideal)) (onTc (τ := Cert.InWeightRefIdeal.τ) (Cert.InWeightRefIdeal.main (F := Ideal))) ⟨m, fun _ => 0, g⟩ (fun r => (∀ c : Dev Cert.InWeightRefIdeal.nD,
      r.2.mem ((c.tc : Thread Cert.InWeightRefIdeal.nD Cert.InWeightRefIdeal.τ).loc Cert.InWeightRefIdeal.main_arg0) = m ((c.tc : Thread Cert.InWeightRefIdeal.nD Cert.InWeightRefIdeal.τ).loc Cert.InWeightRefIdeal.main_arg0)
      ∧ r.2.mem ((c.tc : Thread Cert.InWeightRefIdeal.nD Cert.InWeightRefIdeal.τ).loc Cert.InWeightRefIdeal.main_arg1) = m ((c.tc : Thread Cert.InWeightRefIdeal.nD Cert.InWeightRefIdeal.τ).loc Cert.InWeightRefIdeal.main_arg1))
      ∧ r.2.sem = fun _ => 0)

def quiescent_DtWeight [hDtWeight : Cert.DtWeight.Facts] : Prop :=
  ∀ (m : (ℓ : Loc Cert.DtWeight.nD Cert.DtWeight.τ Cert.DtWeight.sig) → Buf (Elt Bits) ℓ) (g : Dev Cert.DtWeight.nD → PrngReg), Pre_DtWeight m →
    θ_run (Cert.DtWeight.defs (F := Bits)) (onTc (τ := Cert.DtWeight.τ) (Cert.DtWeight.main (F := Bits))) ⟨m, fun _ => 0, g⟩ (fun r => (∀ c : Dev Cert.DtWeight.nD,
      r.2.mem ((c.tc : Thread Cert.DtWeight.nD Cert.DtWeight.τ).loc Cert.DtWeight.main_arg0) = m ((c.tc : Thread Cert.DtWeight.nD Cert.DtWeight.τ).loc Cert.DtWeight.main_arg0)
      ∧ r.2.mem ((c.tc : Thread Cert.DtWeight.nD Cert.DtWeight.τ).loc Cert.DtWeight.main_arg1) = m ((c.tc : Thread Cert.DtWeight.nD Cert.DtWeight.τ).loc Cert.DtWeight.main_arg1))
      ∧ r.2.sem = fun _ => 0)

def quiescent_DtWeightIdeal [hDtWeightIdeal : Cert.DtWeightIdeal.Facts] : Prop :=
  ∀ (m : (ℓ : Loc Cert.DtWeightIdeal.nD Cert.DtWeightIdeal.τ Cert.DtWeightIdeal.sig) → Buf (Elt Ideal) ℓ) (g : Dev Cert.DtWeightIdeal.nD → PrngReg), Pre_DtWeightIdeal m →
    θ_run (Cert.DtWeightIdeal.defs (F := Ideal)) (onTc (τ := Cert.DtWeightIdeal.τ) (Cert.DtWeightIdeal.main (F := Ideal))) ⟨m, fun _ => 0, g⟩ (fun r => (∀ c : Dev Cert.DtWeightIdeal.nD,
      r.2.mem ((c.tc : Thread Cert.DtWeightIdeal.nD Cert.DtWeightIdeal.τ).loc Cert.DtWeightIdeal.main_arg0) = m ((c.tc : Thread Cert.DtWeightIdeal.nD Cert.DtWeightIdeal.τ).loc Cert.DtWeightIdeal.main_arg0)
      ∧ r.2.mem ((c.tc : Thread Cert.DtWeightIdeal.nD Cert.DtWeightIdeal.τ).loc Cert.DtWeightIdeal.main_arg1) = m ((c.tc : Thread Cert.DtWeightIdeal.nD Cert.DtWeightIdeal.τ).loc Cert.DtWeightIdeal.main_arg1))
      ∧ r.2.sem = fun _ => 0)

def quiescent_DtWeightRefIdeal [hDtWeightRefIdeal : Cert.DtWeightRefIdeal.Facts] : Prop :=
  ∀ (m : (ℓ : Loc Cert.DtWeightRefIdeal.nD Cert.DtWeightRefIdeal.τ Cert.DtWeightRefIdeal.sig) → Buf (Elt Ideal) ℓ) (g : Dev Cert.DtWeightRefIdeal.nD → PrngReg), Pre_DtWeightRefIdeal m →
    θ_run (Cert.DtWeightRefIdeal.defs (F := Ideal)) (onTc (τ := Cert.DtWeightRefIdeal.τ) (Cert.DtWeightRefIdeal.main (F := Ideal))) ⟨m, fun _ => 0, g⟩ (fun r => (∀ c : Dev Cert.DtWeightRefIdeal.nD,
      r.2.mem ((c.tc : Thread Cert.DtWeightRefIdeal.nD Cert.DtWeightRefIdeal.τ).loc Cert.DtWeightRefIdeal.main_arg0) = m ((c.tc : Thread Cert.DtWeightRefIdeal.nD Cert.DtWeightRefIdeal.τ).loc Cert.DtWeightRefIdeal.main_arg0)
      ∧ r.2.mem ((c.tc : Thread Cert.DtWeightRefIdeal.nD Cert.DtWeightRefIdeal.τ).loc Cert.DtWeightRefIdeal.main_arg1) = m ((c.tc : Thread Cert.DtWeightRefIdeal.nD Cert.DtWeightRefIdeal.τ).loc Cert.DtWeightRefIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1))
      ∧ r.2.sem = fun _ => 0)

def quiescent_MixedRefIdeal [hMixedRefIdeal : Cert.MixedRefIdeal.Facts] : Prop :=
  ∀ (m : (ℓ : Loc Cert.MixedRefIdeal.nD Cert.MixedRefIdeal.τ Cert.MixedRefIdeal.sig) → Buf (Elt Ideal) ℓ) (g : Dev Cert.MixedRefIdeal.nD → PrngReg), Pre_MixedRefIdeal m →
    θ_run (Cert.MixedRefIdeal.defs (F := Ideal)) (onTc (τ := Cert.MixedRefIdeal.τ) (Cert.MixedRefIdeal.main (F := Ideal))) ⟨m, fun _ => 0, g⟩ (fun r => (∀ c : Dev Cert.MixedRefIdeal.nD,
      r.2.mem ((c.tc : Thread Cert.MixedRefIdeal.nD Cert.MixedRefIdeal.τ).loc Cert.MixedRefIdeal.main_arg0) = m ((c.tc : Thread Cert.MixedRefIdeal.nD Cert.MixedRefIdeal.τ).loc Cert.MixedRefIdeal.main_arg0)
      ∧ r.2.mem ((c.tc : Thread Cert.MixedRefIdeal.nD Cert.MixedRefIdeal.τ).loc Cert.MixedRefIdeal.main_arg1) = m ((c.tc : Thread Cert.MixedRefIdeal.nD Cert.MixedRefIdeal.τ).loc Cert.MixedRefIdeal.main_arg1))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_DtProj [hDtProj : Cert.DtProj.Facts] : Prop :=
  ∀ (m : (ℓ : Loc Cert.DtProj.nD Cert.DtProj.τ Cert.DtProj.sig) → Buf (Elt Bits) ℓ) (g : Dev Cert.DtProj.nD → PrngReg), Pre_DtProj m →
    θ_run (Cert.DtProj.defs (F := Bits)) (onTc (τ := Cert.DtProj.τ) (Cert.DtProj.main (F := Bits))) ⟨m, fun _ => 0, g⟩ (fun r => (∀ c : Dev Cert.DtProj.nD,
      r.2.mem ((c.tc : Thread Cert.DtProj.nD Cert.DtProj.τ).loc Cert.DtProj.main_arg0) = m ((c.tc : Thread Cert.DtProj.nD Cert.DtProj.τ).loc Cert.DtProj.main_arg0)
      ∧ r.2.mem ((c.tc : Thread Cert.DtProj.nD Cert.DtProj.τ).loc Cert.DtProj.main_arg1) = m ((c.tc : Thread Cert.DtProj.nD Cert.DtProj.τ).loc Cert.DtProj.main_arg1))
      ∧ r.2.sem = fun _ => 0)

def quiescent_DtProjIdeal [hDtProjIdeal : Cert.DtProjIdeal.Facts] : Prop :=
  ∀ (m : (ℓ : Loc Cert.DtProjIdeal.nD Cert.DtProjIdeal.τ Cert.DtProjIdeal.sig) → Buf (Elt Ideal) ℓ) (g : Dev Cert.DtProjIdeal.nD → PrngReg), Pre_DtProjIdeal m →
    θ_run (Cert.DtProjIdeal.defs (F := Ideal)) (onTc (τ := Cert.DtProjIdeal.τ) (Cert.DtProjIdeal.main (F := Ideal))) ⟨m, fun _ => 0, g⟩ (fun r => (∀ c : Dev Cert.DtProjIdeal.nD,
      r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
      ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1))
      ∧ r.2.sem = fun _ => 0)

def quiescent_DtProjRefIdeal [hDtProjRefIdeal : Cert.DtProjRefIdeal.Facts] : Prop :=
  ∀ (m : (ℓ : Loc Cert.DtProjRefIdeal.nD Cert.DtProjRefIdeal.τ Cert.DtProjRefIdeal.sig) → Buf (Elt Ideal) ℓ) (g : Dev Cert.DtProjRefIdeal.nD → PrngReg), Pre_DtProjRefIdeal m →
    θ_run (Cert.DtProjRefIdeal.defs (F := Ideal)) (onTc (τ := Cert.DtProjRefIdeal.τ) (Cert.DtProjRefIdeal.main (F := Ideal))) ⟨m, fun _ => 0, g⟩ (fun r => (∀ c : Dev Cert.DtProjRefIdeal.nD,
      r.2.mem ((c.tc : Thread Cert.DtProjRefIdeal.nD Cert.DtProjRefIdeal.τ).loc Cert.DtProjRefIdeal.main_arg0) = m ((c.tc : Thread Cert.DtProjRefIdeal.nD Cert.DtProjRefIdeal.τ).loc Cert.DtProjRefIdeal.main_arg0)
      ∧ r.2.mem ((c.tc : Thread Cert.DtProjRefIdeal.nD Cert.DtProjRefIdeal.τ).loc Cert.DtProjRefIdeal.main_arg1) = m ((c.tc : Thread Cert.DtProjRefIdeal.nD Cert.DtProjRefIdeal.τ).loc Cert.DtProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_ConvA [hConvA : Cert.ConvA.Facts] : Prop :=
  ∀ (m : (ℓ : Loc Cert.ConvA.nD Cert.ConvA.τ Cert.ConvA.sig) → Buf (Elt Bits) ℓ) (g : Dev Cert.ConvA.nD → PrngReg), Pre_ConvA m →
    θ_run (Cert.ConvA.defs (F := Bits)) (onTc (τ := Cert.ConvA.τ) (Cert.ConvA.main (F := Bits))) ⟨m, fun _ => 0, g⟩ (fun r => (∀ c : Dev Cert.ConvA.nD,
      r.2.mem ((c.tc : Thread Cert.ConvA.nD Cert.ConvA.τ).loc Cert.ConvA.main_arg0) = m ((c.tc : Thread Cert.ConvA.nD Cert.ConvA.τ).loc Cert.ConvA.main_arg0)
      ∧ r.2.mem ((c.tc : Thread Cert.ConvA.nD Cert.ConvA.τ).loc Cert.ConvA.main_arg1) = m ((c.tc : Thread Cert.ConvA.nD Cert.ConvA.τ).loc Cert.ConvA.main_arg1)
      ∧ r.2.mem ((c.tc : Thread Cert.ConvA.nD Cert.ConvA.τ).loc Cert.ConvA.main_arg2) = m ((c.tc : Thread Cert.ConvA.nD Cert.ConvA.τ).loc Cert.ConvA.main_arg2)
      ∧ r.2.mem ((c.tc : Thread Cert.ConvA.nD Cert.ConvA.τ).loc Cert.ConvA.main_arg3) = m ((c.tc : Thread Cert.ConvA.nD Cert.ConvA.τ).loc Cert.ConvA.main_arg3)
      ∧ r.2.mem ((c.tc : Thread Cert.ConvA.nD Cert.ConvA.τ).loc Cert.ConvA.main_arg4) = m ((c.tc : Thread Cert.ConvA.nD Cert.ConvA.τ).loc Cert.ConvA.main_arg4)
      ∧ r.2.mem ((c.tc : Thread Cert.ConvA.nD Cert.ConvA.τ).loc Cert.ConvA.main_arg5) = m ((c.tc : Thread Cert.ConvA.nD Cert.ConvA.τ).loc Cert.ConvA.main_arg5))
      ∧ r.2.sem = fun _ => 0)

def quiescent_ConvAIdeal [hConvAIdeal : Cert.ConvAIdeal.Facts] : Prop :=
  ∀ (m : (ℓ : Loc Cert.ConvAIdeal.nD Cert.ConvAIdeal.τ Cert.ConvAIdeal.sig) → Buf (Elt Ideal) ℓ) (g : Dev Cert.ConvAIdeal.nD → PrngReg), Pre_ConvAIdeal m →
    θ_run (Cert.ConvAIdeal.defs (F := Ideal)) (onTc (τ := Cert.ConvAIdeal.τ) (Cert.ConvAIdeal.main (F := Ideal))) ⟨m, fun _ => 0, g⟩ (fun r => (∀ c : Dev Cert.ConvAIdeal.nD,
      r.2.mem ((c.tc : Thread Cert.ConvAIdeal.nD Cert.ConvAIdeal.τ).loc Cert.ConvAIdeal.main_arg0) = m ((c.tc : Thread Cert.ConvAIdeal.nD Cert.ConvAIdeal.τ).loc Cert.ConvAIdeal.main_arg0)
      ∧ r.2.mem ((c.tc : Thread Cert.ConvAIdeal.nD Cert.ConvAIdeal.τ).loc Cert.ConvAIdeal.main_arg1) = m ((c.tc : Thread Cert.ConvAIdeal.nD Cert.ConvAIdeal.τ).loc Cert.ConvAIdeal.main_arg1)
      ∧ r.2.mem ((c.tc : Thread Cert.ConvAIdeal.nD Cert.ConvAIdeal.τ).loc Cert.ConvAIdeal.main_arg2) = m ((c.tc : Thread Cert.ConvAIdeal.nD Cert.ConvAIdeal.τ).loc Cert.ConvAIdeal.main_arg2)
      ∧ r.2.mem ((c.tc : Thread Cert.ConvAIdeal.nD Cert.ConvAIdeal.τ).loc Cert.ConvAIdeal.main_arg3) = m ((c.tc : Thread Cert.ConvAIdeal.nD Cert.ConvAIdeal.τ).loc Cert.ConvAIdeal.main_arg3)
      ∧ r.2.mem ((c.tc : Thread Cert.ConvAIdeal.nD Cert.ConvAIdeal.τ).loc Cert.ConvAIdeal.main_arg4) = m ((c.tc : Thread Cert.ConvAIdeal.nD Cert.ConvAIdeal.τ).loc Cert.ConvAIdeal.main_arg4)
      ∧ r.2.mem ((c.tc : Thread Cert.ConvAIdeal.nD Cert.ConvAIdeal.τ).loc Cert.ConvAIdeal.main_arg5) = m ((c.tc : Thread Cert.ConvAIdeal.nD Cert.ConvAIdeal.τ).loc Cert.ConvAIdeal.main_arg5))
      ∧ r.2.sem = fun _ => 0)

def quiescent_ConvAIdeal_pre_conv_finite [hConvAIdeal : Cert.ConvAIdeal.Facts] [hPre_conv_finite : Cert.Pre_conv_finite.Facts] : Prop :=
  ∀ (m : (ℓ : Loc Cert.ConvAIdeal.nD Cert.ConvAIdeal.τ Cert.ConvAIdeal.sig) → Buf (Elt Ideal) ℓ) (g : Dev Cert.ConvAIdeal.nD → PrngReg), Pre_ConvAIdeal_conv_finite m →
    θ_run (Cert.ConvAIdeal.defs (F := Ideal)) (onTc (τ := Cert.ConvAIdeal.τ) (Cert.ConvAIdeal.main (F := Ideal))) ⟨m, fun _ => 0, g⟩ (fun r => (∀ c : Dev Cert.ConvAIdeal.nD,
      r.2.mem ((c.tc : Thread Cert.ConvAIdeal.nD Cert.ConvAIdeal.τ).loc Cert.ConvAIdeal.main_arg0) = m ((c.tc : Thread Cert.ConvAIdeal.nD Cert.ConvAIdeal.τ).loc Cert.ConvAIdeal.main_arg0)
      ∧ r.2.mem ((c.tc : Thread Cert.ConvAIdeal.nD Cert.ConvAIdeal.τ).loc Cert.ConvAIdeal.main_arg1) = m ((c.tc : Thread Cert.ConvAIdeal.nD Cert.ConvAIdeal.τ).loc Cert.ConvAIdeal.main_arg1)
      ∧ r.2.mem ((c.tc : Thread Cert.ConvAIdeal.nD Cert.ConvAIdeal.τ).loc Cert.ConvAIdeal.main_arg2) = m ((c.tc : Thread Cert.ConvAIdeal.nD Cert.ConvAIdeal.τ).loc Cert.ConvAIdeal.main_arg2)
      ∧ r.2.mem ((c.tc : Thread Cert.ConvAIdeal.nD Cert.ConvAIdeal.τ).loc Cert.ConvAIdeal.main_arg3) = m ((c.tc : Thread Cert.ConvAIdeal.nD Cert.ConvAIdeal.τ).loc Cert.ConvAIdeal.main_arg3)
      ∧ r.2.mem ((c.tc : Thread Cert.ConvAIdeal.nD Cert.ConvAIdeal.τ).loc Cert.ConvAIdeal.main_arg4) = m ((c.tc : Thread Cert.ConvAIdeal.nD Cert.ConvAIdeal.τ).loc Cert.ConvAIdeal.main_arg4)
      ∧ r.2.mem ((c.tc : Thread Cert.ConvAIdeal.nD Cert.ConvAIdeal.τ).loc Cert.ConvAIdeal.main_arg5) = m ((c.tc : Thread Cert.ConvAIdeal.nD Cert.ConvAIdeal.τ).loc Cert.ConvAIdeal.main_arg5))
      ∧ r.2.sem = fun _ => 0)

def quiescent_ConvARefIdeal [hConvARefIdeal : Cert.ConvARefIdeal.Facts] : Prop :=
  ∀ (m : (ℓ : Loc Cert.ConvARefIdeal.nD Cert.ConvARefIdeal.τ Cert.ConvARefIdeal.sig) → Buf (Elt Ideal) ℓ) (g : Dev Cert.ConvARefIdeal.nD → PrngReg), Pre_ConvARefIdeal m →
    θ_run (Cert.ConvARefIdeal.defs (F := Ideal)) (onTc (τ := Cert.ConvARefIdeal.τ) (Cert.ConvARefIdeal.main (F := Ideal))) ⟨m, fun _ => 0, g⟩ (fun r => (∀ c : Dev Cert.ConvARefIdeal.nD,
      r.2.mem ((c.tc : Thread Cert.ConvARefIdeal.nD Cert.ConvARefIdeal.τ).loc Cert.ConvARefIdeal.main_arg0) = m ((c.tc : Thread Cert.ConvARefIdeal.nD Cert.ConvARefIdeal.τ).loc Cert.ConvARefIdeal.main_arg0)
      ∧ r.2.mem ((c.tc : Thread Cert.ConvARefIdeal.nD Cert.ConvARefIdeal.τ).loc Cert.ConvARefIdeal.main_arg1) = m ((c.tc : Thread Cert.ConvARefIdeal.nD Cert.ConvARefIdeal.τ).loc Cert.ConvARefIdeal.main_arg1)
      ∧ r.2.mem ((c.tc : Thread Cert.ConvARefIdeal.nD Cert.ConvARefIdeal.τ).loc Cert.ConvARefIdeal.main_arg2) = m ((c.tc : Thread Cert.ConvARefIdeal.nD Cert.ConvARefIdeal.τ).loc Cert.ConvARefIdeal.main_arg2)
      ∧ r.2.mem ((c.tc : Thread Cert.ConvARefIdeal.nD Cert.ConvARefIdeal.τ).loc Cert.ConvARefIdeal.main_arg3) = m ((c.tc : Thread Cert.ConvARefIdeal.nD Cert.ConvARefIdeal.τ).loc Cert.ConvARefIdeal.main_arg3)
      ∧ r.2.mem ((c.tc : Thread Cert.ConvARefIdeal.nD Cert.ConvARefIdeal.τ).loc Cert.ConvARefIdeal.main_arg4) = m ((c.tc : Thread Cert.ConvARefIdeal.nD Cert.ConvARefIdeal.τ).loc Cert.ConvARefIdeal.main_arg4)
      ∧ r.2.mem ((c.tc : Thread Cert.ConvARefIdeal.nD Cert.ConvARefIdeal.τ).loc Cert.ConvARefIdeal.main_arg5) = m ((c.tc : Thread Cert.ConvARefIdeal.nD Cert.ConvARefIdeal.τ).loc Cert.ConvARefIdeal.main_arg5))
      ∧ r.2.sem = fun _ => 0)

def quiescent_ConvARefIdeal_pre_conv_finite [hConvARefIdeal : Cert.ConvARefIdeal.Facts] [hPre_conv_finite : Cert.Pre_conv_finite.Facts] : Prop :=
  ∀ (m : (ℓ : Loc Cert.ConvARefIdeal.nD Cert.ConvARefIdeal.τ Cert.ConvARefIdeal.sig) → Buf (Elt Ideal) ℓ) (g : Dev Cert.ConvARefIdeal.nD → PrngReg), Pre_ConvARefIdeal_conv_finite m →
    θ_run (Cert.ConvARefIdeal.defs (F := Ideal)) (onTc (τ := Cert.ConvARefIdeal.τ) (Cert.ConvARefIdeal.main (F := Ideal))) ⟨m, fun _ => 0, g⟩ (fun r => (∀ c : Dev Cert.ConvARefIdeal.nD,
      r.2.mem ((c.tc : Thread Cert.ConvARefIdeal.nD Cert.ConvARefIdeal.τ).loc Cert.ConvARefIdeal.main_arg0) = m ((c.tc : Thread Cert.ConvARefIdeal.nD Cert.ConvARefIdeal.τ).loc Cert.ConvARefIdeal.main_arg0)
      ∧ r.2.mem ((c.tc : Thread Cert.ConvARefIdeal.nD Cert.ConvARefIdeal.τ).loc Cert.ConvARefIdeal.main_arg1) = m ((c.tc : Thread Cert.ConvARefIdeal.nD Cert.ConvARefIdeal.τ).loc Cert.ConvARefIdeal.main_arg1)
      ∧ r.2.mem ((c.tc : Thread Cert.ConvARefIdeal.nD Cert.ConvARefIdeal.τ).loc Cert.ConvARefIdeal.main_arg2) = m ((c.tc : Thread Cert.ConvARefIdeal.nD Cert.ConvARefIdeal.τ).loc Cert.ConvARefIdeal.main_arg2)
      ∧ r.2.mem ((c.tc : Thread Cert.ConvARefIdeal.nD Cert.ConvARefIdeal.τ).loc Cert.ConvARefIdeal.main_arg3) = m ((c.tc : Thread Cert.ConvARefIdeal.nD Cert.ConvARefIdeal.τ).loc Cert.ConvARefIdeal.main_arg3)
      ∧ r.2.mem ((c.tc : Thread Cert.ConvARefIdeal.nD Cert.ConvARefIdeal.τ).loc Cert.ConvARefIdeal.main_arg4) = m ((c.tc : Thread Cert.ConvARefIdeal.nD Cert.ConvARefIdeal.τ).loc Cert.ConvARefIdeal.main_arg4)
      ∧ r.2.mem ((c.tc : Thread Cert.ConvARefIdeal.nD Cert.ConvARefIdeal.τ).loc Cert.ConvARefIdeal.main_arg5) = m ((c.tc : Thread Cert.ConvARefIdeal.nD Cert.ConvARefIdeal.τ).loc Cert.ConvARefIdeal.main_arg5))
      ∧ r.2.sem = fun _ => 0)

def quiescent_ConvB [hConvB : Cert.ConvB.Facts] : Prop :=
  ∀ (m : (ℓ : Loc Cert.ConvB.nD Cert.ConvB.τ Cert.ConvB.sig) → Buf (Elt Bits) ℓ) (g : Dev Cert.ConvB.nD → PrngReg), Pre_ConvB m →
    θ_run (Cert.ConvB.defs (F := Bits)) (onTc (τ := Cert.ConvB.τ) (Cert.ConvB.main (F := Bits))) ⟨m, fun _ => 0, g⟩ (fun r => (∀ c : Dev Cert.ConvB.nD,
      r.2.mem ((c.tc : Thread Cert.ConvB.nD Cert.ConvB.τ).loc Cert.ConvB.main_arg0) = m ((c.tc : Thread Cert.ConvB.nD Cert.ConvB.τ).loc Cert.ConvB.main_arg0)
      ∧ r.2.mem ((c.tc : Thread Cert.ConvB.nD Cert.ConvB.τ).loc Cert.ConvB.main_arg1) = m ((c.tc : Thread Cert.ConvB.nD Cert.ConvB.τ).loc Cert.ConvB.main_arg1)
      ∧ r.2.mem ((c.tc : Thread Cert.ConvB.nD Cert.ConvB.τ).loc Cert.ConvB.main_arg2) = m ((c.tc : Thread Cert.ConvB.nD Cert.ConvB.τ).loc Cert.ConvB.main_arg2))
      ∧ r.2.sem = fun _ => 0)

def quiescent_ConvBIdeal [hConvBIdeal : Cert.ConvBIdeal.Facts] : Prop :=
  ∀ (m : (ℓ : Loc Cert.ConvBIdeal.nD Cert.ConvBIdeal.τ Cert.ConvBIdeal.sig) → Buf (Elt Ideal) ℓ) (g : Dev Cert.ConvBIdeal.nD → PrngReg), Pre_ConvBIdeal m →
    θ_run (Cert.ConvBIdeal.defs (F := Ideal)) (onTc (τ := Cert.ConvBIdeal.τ) (Cert.ConvBIdeal.main (F := Ideal))) ⟨m, fun _ => 0, g⟩ (fun r => (∀ c : Dev Cert.ConvBIdeal.nD,
      r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
      ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
      ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ r.2.sem = fun _ => 0)

def quiescent_ConvBRefIdeal [hConvBRefIdeal : Cert.ConvBRefIdeal.Facts] : Prop :=
  ∀ (m : (ℓ : Loc Cert.ConvBRefIdeal.nD Cert.ConvBRefIdeal.τ Cert.ConvBRefIdeal.sig) → Buf (Elt Ideal) ℓ) (g : Dev Cert.ConvBRefIdeal.nD → PrngReg), Pre_ConvBRefIdeal m →
    θ_run (Cert.ConvBRefIdeal.defs (F := Ideal)) (onTc (τ := Cert.ConvBRefIdeal.τ) (Cert.ConvBRefIdeal.main (F := Ideal))) ⟨m, fun _ => 0, g⟩ (fun r => (∀ c : Dev Cert.ConvBRefIdeal.nD,
      r.2.mem ((c.tc : Thread Cert.ConvBRefIdeal.nD Cert.ConvBRefIdeal.τ).loc Cert.ConvBRefIdeal.main_arg0) = m ((c.tc : Thread Cert.ConvBRefIdeal.nD Cert.ConvBRefIdeal.τ).loc Cert.ConvBRefIdeal.main_arg0)
      ∧ r.2.mem ((c.tc : Thread Cert.ConvBRefIdeal.nD Cert.ConvBRefIdeal.τ).loc Cert.ConvBRefIdeal.main_arg1) = m ((c.tc : Thread Cert.ConvBRefIdeal.nD Cert.ConvBRefIdeal.τ).loc Cert.ConvBRefIdeal.main_arg1)
      ∧ r.2.mem ((c.tc : Thread Cert.ConvBRefIdeal.nD Cert.ConvBRefIdeal.τ).loc Cert.ConvBRefIdeal.main_arg2) = m ((c.tc : Thread Cert.ConvBRefIdeal.nD Cert.ConvBRefIdeal.τ).loc Cert.ConvBRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2))
      ∧ r.2.sem = fun _ => 0)

def quiescent_PostGrad [hPostGrad : Cert.PostGrad.Facts] : Prop :=
  ∀ (m : (ℓ : Loc Cert.PostGrad.nD Cert.PostGrad.τ Cert.PostGrad.sig) → Buf (Elt Bits) ℓ) (g : Dev Cert.PostGrad.nD → PrngReg), Pre_PostGrad m →
    θ_run (Cert.PostGrad.defs (F := Bits)) (onTc (τ := Cert.PostGrad.τ) (Cert.PostGrad.main (F := Bits))) ⟨m, fun _ => 0, g⟩ (fun r => (∀ c : Dev Cert.PostGrad.nD,
      r.2.mem ((c.tc : Thread Cert.PostGrad.nD Cert.PostGrad.τ).loc Cert.PostGrad.main_arg0) = m ((c.tc : Thread Cert.PostGrad.nD Cert.PostGrad.τ).loc Cert.PostGrad.main_arg0)
      ∧ r.2.mem ((c.tc : Thread Cert.PostGrad.nD Cert.PostGrad.τ).loc Cert.PostGrad.main_arg1) = m ((c.tc : Thread Cert.PostGrad.nD Cert.PostGrad.τ).loc Cert.PostGrad.main_arg1)
      ∧ r.2.mem ((c.tc : Thread Cert.PostGrad.nD Cert.PostGrad.τ).loc Cert.PostGrad.main_arg2) = m ((c.tc : Thread Cert.PostGrad.nD Cert.PostGrad.τ).loc Cert.PostGrad.main_arg2))
      ∧ r.2.sem = fun _ => 0)

def quiescent_PostGradIdeal [hPostGradIdeal : Cert.PostGradIdeal.Facts] : Prop :=
  ∀ (m : (ℓ : Loc Cert.PostGradIdeal.nD Cert.PostGradIdeal.τ Cert.PostGradIdeal.sig) → Buf (Elt Ideal) ℓ) (g : Dev Cert.PostGradIdeal.nD → PrngReg), Pre_PostGradIdeal m →
    θ_run (Cert.PostGradIdeal.defs (F := Ideal)) (onTc (τ := Cert.PostGradIdeal.τ) (Cert.PostGradIdeal.main (F := Ideal))) ⟨m, fun _ => 0, g⟩ (fun r => (∀ c : Dev Cert.PostGradIdeal.nD,
      r.2.mem ((c.tc : Thread Cert.PostGradIdeal.nD Cert.PostGradIdeal.τ).loc Cert.PostGradIdeal.main_arg0) = m ((c.tc : Thread Cert.PostGradIdeal.nD Cert.PostGradIdeal.τ).loc Cert.PostGradIdeal.main_arg0)
      ∧ r.2.mem ((c.tc : Thread Cert.PostGradIdeal.nD Cert.PostGradIdeal.τ).loc Cert.PostGradIdeal.main_arg1) = m ((c.tc : Thread Cert.PostGradIdeal.nD Cert.PostGradIdeal.τ).loc Cert.PostGradIdeal.main_arg1)
      ∧ r.2.mem ((c.tc : Thread Cert.PostGradIdeal.nD Cert.PostGradIdeal.τ).loc Cert.PostGradIdeal.main_arg2) = m ((c.tc : Thread Cert.PostGradIdeal.nD Cert.PostGradIdeal.τ).loc Cert.PostGradIdeal.main_arg2))
      ∧ r.2.sem = fun _ => 0)

def quiescent_PostGradRefIdeal [hPostGradRefIdeal : Cert.PostGradRefIdeal.Facts] : Prop :=
  ∀ (m : (ℓ : Loc Cert.PostGradRefIdeal.nD Cert.PostGradRefIdeal.τ Cert.PostGradRefIdeal.sig) → Buf (Elt Ideal) ℓ) (g : Dev Cert.PostGradRefIdeal.nD → PrngReg), Pre_PostGradRefIdeal m →
    θ_run (Cert.PostGradRefIdeal.defs (F := Ideal)) (onTc (τ := Cert.PostGradRefIdeal.τ) (Cert.PostGradRefIdeal.main (F := Ideal))) ⟨m, fun _ => 0, g⟩ (fun r => (∀ c : Dev Cert.PostGradRefIdeal.nD,
      r.2.mem ((c.tc : Thread Cert.PostGradRefIdeal.nD Cert.PostGradRefIdeal.τ).loc Cert.PostGradRefIdeal.main_arg0) = m ((c.tc : Thread Cert.PostGradRefIdeal.nD Cert.PostGradRefIdeal.τ).loc Cert.PostGradRefIdeal.main_arg0)
      ∧ r.2.mem ((c.tc : Thread Cert.PostGradRefIdeal.nD Cert.PostGradRefIdeal.τ).loc Cert.PostGradRefIdeal.main_arg1) = m ((c.tc : Thread Cert.PostGradRefIdeal.nD Cert.PostGradRefIdeal.τ).loc Cert.PostGradRefIdeal.main_arg1)
      ∧ r.2.mem ((c.tc : Thread Cert.PostGradRefIdeal.nD Cert.PostGradRefIdeal.τ).loc Cert.PostGradRefIdeal.main_arg2) = m ((c.tc : Thread Cert.PostGradRefIdeal.nD Cert.PostGradRefIdeal.τ).loc Cert.PostGradRefIdeal.main_arg2))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3))
      ∧ r.2.sem = fun _ => 0)

def preserves_PoolA_PoolAIdeal : Prop :=
  True

def algebraic_PoolAIdeal_PoolARefIdeal_on_pool_a_written_pre_pool_a_finite [hPoolAIdeal : Cert.PoolAIdeal.Facts] [hPoolARefIdeal : Cert.PoolARefIdeal.Facts] [hPre_pool_a_finite : Cert.Pre_pool_a_finite.Facts] [hOn_pool_a_written : Cert.On_pool_a_written.Facts] : Prop :=
  ∀ (m : (ℓ : Loc Cert.PoolAIdeal.nD Cert.PoolAIdeal.τ Cert.PoolAIdeal.sig) → Buf (Elt Ideal) ℓ) (g : Dev Cert.PoolAIdeal.nD → PrngReg)
    (m' : (ℓ : Loc Cert.PoolARefIdeal.nD Cert.PoolARefIdeal.τ Cert.PoolARefIdeal.sig) → Buf (Elt Ideal) ℓ) (g' : Dev Cert.PoolARefIdeal.nD → PrngReg), Pre_PoolAIdeal_pool_a_finite m →
    (∀ c : Dev Cert.PoolAIdeal.nD,
      m' ((c.tc : Thread Cert.PoolARefIdeal.nD Cert.PoolARefIdeal.τ).loc Cert.PoolARefIdeal.main_arg0) = m ((c.tc : Thread Cert.PoolAIdeal.nD Cert.PoolAIdeal.τ).loc Cert.PoolAIdeal.main_arg0)
      ∧ m' ((c.tc : Thread Cert.PoolARefIdeal.nD Cert.PoolARefIdeal.τ).loc Cert.PoolARefIdeal.main_arg1) = m ((c.tc : Thread Cert.PoolAIdeal.nD Cert.PoolAIdeal.τ).loc Cert.PoolAIdeal.main_arg1)
      ∧ m' ((c.tc : Thread Cert.PoolARefIdeal.nD Cert.PoolARefIdeal.τ).loc Cert.PoolARefIdeal.main_arg2) = m ((c.tc : Thread Cert.PoolAIdeal.nD Cert.PoolAIdeal.τ).loc Cert.PoolAIdeal.main_arg2)
      ∧ m' ((c.tc : Thread Cert.PoolARefIdeal.nD Cert.PoolARefIdeal.τ).loc Cert.PoolARefIdeal.main_arg3) = m ((c.tc : Thread Cert.PoolAIdeal.nD Cert.PoolAIdeal.τ).loc Cert.PoolAIdeal.main_arg3)) →
    ∃ (v0 : (c : Dev Cert.PoolAIdeal.nD) → Buf (Elt Ideal) ((c.tc : Thread Cert.PoolAIdeal.nD Cert.PoolAIdeal.τ).loc Cert.PoolAIdeal.main_v0_0)) (v1 : (c : Dev Cert.PoolAIdeal.nD) → Buf (Elt Ideal) ((c.tc : Thread Cert.PoolAIdeal.nD Cert.PoolAIdeal.τ).loc Cert.PoolAIdeal.main_v0_1)) (v2 : (c : Dev Cert.PoolAIdeal.nD) → Buf (Elt Ideal) ((c.tc : Thread Cert.PoolAIdeal.nD Cert.PoolAIdeal.τ).loc Cert.PoolAIdeal.main_v0_2)) (v3 : (c : Dev Cert.PoolAIdeal.nD) → Buf (Elt Ideal) ((c.tc : Thread Cert.PoolAIdeal.nD Cert.PoolAIdeal.τ).loc Cert.PoolAIdeal.main_v0_3)),
      θ_run (Cert.PoolAIdeal.defs (F := Ideal)) (onTc (τ := Cert.PoolAIdeal.τ) (Cert.PoolAIdeal.main (F := Ideal))) ⟨m, fun _ => 0, g⟩ (fun r => ∀ c : Dev Cert.PoolAIdeal.nD,
          (∀ i : (⟨2, ![4096, 9216]⟩ : Shape).Idx, (Cert.On_pool_a_written.fn (F := Ideal) (m ((c.tc : Thread Cert.PoolAIdeal.nD Cert.PoolAIdeal.τ).loc Cert.PoolAIdeal.main_arg0)) (m ((c.tc : Thread Cert.PoolAIdeal.nD Cert.PoolAIdeal.τ).loc Cert.PoolAIdeal.main_arg1)) (m ((c.tc : Thread Cert.PoolAIdeal.nD Cert.PoolAIdeal.τ).loc Cert.PoolAIdeal.main_arg2)) (m ((c.tc : Thread Cert.PoolAIdeal.nD Cert.PoolAIdeal.τ).loc Cert.PoolAIdeal.main_arg3))).1 i = 1#1 → r.2.mem ((c.tc : Thread Cert.PoolAIdeal.nD Cert.PoolAIdeal.τ).loc Cert.PoolAIdeal.main_v0_0) i = v0 c i)
          ∧ (∀ i : (⟨2, ![4096, 2048]⟩ : Shape).Idx, (Cert.On_pool_a_written.fn (F := Ideal) (m ((c.tc : Thread Cert.PoolAIdeal.nD Cert.PoolAIdeal.τ).loc Cert.PoolAIdeal.main_arg0)) (m ((c.tc : Thread Cert.PoolAIdeal.nD Cert.PoolAIdeal.τ).loc Cert.PoolAIdeal.main_arg1)) (m ((c.tc : Thread Cert.PoolAIdeal.nD Cert.PoolAIdeal.τ).loc Cert.PoolAIdeal.main_arg2)) (m ((c.tc : Thread Cert.PoolAIdeal.nD Cert.PoolAIdeal.τ).loc Cert.PoolAIdeal.main_arg3))).2.1 i = 1#1 → r.2.mem ((c.tc : Thread Cert.PoolAIdeal.nD Cert.PoolAIdeal.τ).loc Cert.PoolAIdeal.main_v0_1) i = v1 c i)
          ∧ (∀ i : (⟨2, ![1, 2048]⟩ : Shape).Idx, (Cert.On_pool_a_written.fn (F := Ideal) (m ((c.tc : Thread Cert.PoolAIdeal.nD Cert.PoolAIdeal.τ).loc Cert.PoolAIdeal.main_arg0)) (m ((c.tc : Thread Cert.PoolAIdeal.nD Cert.PoolAIdeal.τ).loc Cert.PoolAIdeal.main_arg1)) (m ((c.tc : Thread Cert.PoolAIdeal.nD Cert.PoolAIdeal.τ).loc Cert.PoolAIdeal.main_arg2)) (m ((c.tc : Thread Cert.PoolAIdeal.nD Cert.PoolAIdeal.τ).loc Cert.PoolAIdeal.main_arg3))).2.2.1 i = 1#1 → r.2.mem ((c.tc : Thread Cert.PoolAIdeal.nD Cert.PoolAIdeal.τ).loc Cert.PoolAIdeal.main_v0_2) i = v2 c i)
          ∧ (∀ i : (⟨3, ![4, 512, 512]⟩ : Shape).Idx, (Cert.On_pool_a_written.fn (F := Ideal) (m ((c.tc : Thread Cert.PoolAIdeal.nD Cert.PoolAIdeal.τ).loc Cert.PoolAIdeal.main_arg0)) (m ((c.tc : Thread Cert.PoolAIdeal.nD Cert.PoolAIdeal.τ).loc Cert.PoolAIdeal.main_arg1)) (m ((c.tc : Thread Cert.PoolAIdeal.nD Cert.PoolAIdeal.τ).loc Cert.PoolAIdeal.main_arg2)) (m ((c.tc : Thread Cert.PoolAIdeal.nD Cert.PoolAIdeal.τ).loc Cert.PoolAIdeal.main_arg3))).2.2.2 i = 1#1 → r.2.mem ((c.tc : Thread Cert.PoolAIdeal.nD Cert.PoolAIdeal.τ).loc Cert.PoolAIdeal.main_v0_3) i = v3 c i)
          ∧ r.2.mem ((c.tc : Thread Cert.PoolAIdeal.nD Cert.PoolAIdeal.τ).loc Cert.PoolAIdeal.main_arg0) = m ((c.tc : Thread Cert.PoolAIdeal.nD Cert.PoolAIdeal.τ).loc Cert.PoolAIdeal.main_arg0)
          ∧ r.2.mem ((c.tc : Thread Cert.PoolAIdeal.nD Cert.PoolAIdeal.τ).loc Cert.PoolAIdeal.main_arg1) = m ((c.tc : Thread Cert.PoolAIdeal.nD Cert.PoolAIdeal.τ).loc Cert.PoolAIdeal.main_arg1)
          ∧ r.2.mem ((c.tc : Thread Cert.PoolAIdeal.nD Cert.PoolAIdeal.τ).loc Cert.PoolAIdeal.main_arg2) = m ((c.tc : Thread Cert.PoolAIdeal.nD Cert.PoolAIdeal.τ).loc Cert.PoolAIdeal.main_arg2)
          ∧ r.2.mem ((c.tc : Thread Cert.PoolAIdeal.nD Cert.PoolAIdeal.τ).loc Cert.PoolAIdeal.main_arg3) = m ((c.tc : Thread Cert.PoolAIdeal.nD Cert.PoolAIdeal.τ).loc Cert.PoolAIdeal.main_arg3))
      ∧ θ_run (Cert.PoolARefIdeal.defs (F := Ideal)) (onTc (τ := Cert.PoolARefIdeal.τ) (Cert.PoolARefIdeal.main (F := Ideal))) ⟨m', fun _ => 0, g'⟩ (fun r => ∀ c : Dev Cert.PoolARefIdeal.nD,
          (∀ i : (⟨2, ![4096, 9216]⟩ : Shape).Idx, (Cert.On_pool_a_written.fn (F := Ideal) (m ((c.tc : Thread Cert.PoolAIdeal.nD Cert.PoolAIdeal.τ).loc Cert.PoolAIdeal.main_arg0)) (m ((c.tc : Thread Cert.PoolAIdeal.nD Cert.PoolAIdeal.τ).loc Cert.PoolAIdeal.main_arg1)) (m ((c.tc : Thread Cert.PoolAIdeal.nD Cert.PoolAIdeal.τ).loc Cert.PoolAIdeal.main_arg2)) (m ((c.tc : Thread Cert.PoolAIdeal.nD Cert.PoolAIdeal.τ).loc Cert.PoolAIdeal.main_arg3))).1 i = 1#1 → r.2.mem ((c.tc : Thread Cert.PoolARefIdeal.nD Cert.PoolARefIdeal.τ).loc Cert.PoolARefIdeal.main_v134) i = v0 c i)
          ∧ (∀ i : (⟨2, ![4096, 2048]⟩ : Shape).Idx, (Cert.On_pool_a_written.fn (F := Ideal) (m ((c.tc : Thread Cert.PoolAIdeal.nD Cert.PoolAIdeal.τ).loc Cert.PoolAIdeal.main_arg0)) (m ((c.tc : Thread Cert.PoolAIdeal.nD Cert.PoolAIdeal.τ).loc Cert.PoolAIdeal.main_arg1)) (m ((c.tc : Thread Cert.PoolAIdeal.nD Cert.PoolAIdeal.τ).loc Cert.PoolAIdeal.main_arg2)) (m ((c.tc : Thread Cert.PoolAIdeal.nD Cert.PoolAIdeal.τ).loc Cert.PoolAIdeal.main_arg3))).2.1 i = 1#1 → r.2.mem ((c.tc : Thread Cert.PoolARefIdeal.nD Cert.PoolARefIdeal.τ).loc Cert.PoolARefIdeal.main_v130) i = v1 c i)
          ∧ (∀ i : (⟨2, ![1, 2048]⟩ : Shape).Idx, (Cert.On_pool_a_written.fn (F := Ideal) (m ((c.tc : Thread Cert.PoolAIdeal.nD Cert.PoolAIdeal.τ).loc Cert.PoolAIdeal.main_arg0)) (m ((c.tc : Thread Cert.PoolAIdeal.nD Cert.PoolAIdeal.τ).loc Cert.PoolAIdeal.main_arg1)) (m ((c.tc : Thread Cert.PoolAIdeal.nD Cert.PoolAIdeal.τ).loc Cert.PoolAIdeal.main_arg2)) (m ((c.tc : Thread Cert.PoolAIdeal.nD Cert.PoolAIdeal.τ).loc Cert.PoolAIdeal.main_arg3))).2.2.1 i = 1#1 → r.2.mem ((c.tc : Thread Cert.PoolARefIdeal.nD Cert.PoolARefIdeal.τ).loc Cert.PoolARefIdeal.main_v135) i = v2 c i)
          ∧ (∀ i : (⟨3, ![4, 512, 512]⟩ : Shape).Idx, (Cert.On_pool_a_written.fn (F := Ideal) (m ((c.tc : Thread Cert.PoolAIdeal.nD Cert.PoolAIdeal.τ).loc Cert.PoolAIdeal.main_arg0)) (m ((c.tc : Thread Cert.PoolAIdeal.nD Cert.PoolAIdeal.τ).loc Cert.PoolAIdeal.main_arg1)) (m ((c.tc : Thread Cert.PoolAIdeal.nD Cert.PoolAIdeal.τ).loc Cert.PoolAIdeal.main_arg2)) (m ((c.tc : Thread Cert.PoolAIdeal.nD Cert.PoolAIdeal.τ).loc Cert.PoolAIdeal.main_arg3))).2.2.2 i = 1#1 → r.2.mem ((c.tc : Thread Cert.PoolARefIdeal.nD Cert.PoolARefIdeal.τ).loc Cert.PoolARefIdeal.main_v88) i = v3 c i)
          ∧ r.2.mem ((c.tc : Thread Cert.PoolARefIdeal.nD Cert.PoolARefIdeal.τ).loc Cert.PoolARefIdeal.main_arg0) = m' ((c.tc : Thread Cert.PoolARefIdeal.nD Cert.PoolARefIdeal.τ).loc Cert.PoolARefIdeal.main_arg0)
          ∧ r.2.mem ((c.tc : Thread Cert.PoolARefIdeal.nD Cert.PoolARefIdeal.τ).loc Cert.PoolARefIdeal.main_arg1) = m' ((c.tc : Thread Cert.PoolARefIdeal.nD Cert.PoolARefIdeal.τ).loc Cert.PoolARefIdeal.main_arg1)
          ∧ r.2.mem ((c.tc : Thread Cert.PoolARefIdeal.nD Cert.PoolARefIdeal.τ).loc Cert.PoolARefIdeal.main_arg2) = m' ((c.tc : Thread Cert.PoolARefIdeal.nD Cert.PoolARefIdeal.τ).loc Cert.PoolARefIdeal.main_arg2)
          ∧ r.2.mem ((c.tc : Thread Cert.PoolARefIdeal.nD Cert.PoolARefIdeal.τ).loc Cert.PoolARefIdeal.main_arg3) = m' ((c.tc : Thread Cert.PoolARefIdeal.nD Cert.PoolARefIdeal.τ).loc Cert.PoolARefIdeal.main_arg3))

def preserves_PoolB_PoolBIdeal : Prop :=
  True

def algebraic_PoolBIdeal_PoolBRefIdeal_pre_pool_b_finite [hPoolBIdeal : Cert.PoolBIdeal.Facts] [hPoolBRefIdeal : Cert.PoolBRefIdeal.Facts] [hPre_pool_b_finite : Cert.Pre_pool_b_finite.Facts] : Prop :=
  ∀ (m : (ℓ : Loc Cert.PoolBIdeal.nD Cert.PoolBIdeal.τ Cert.PoolBIdeal.sig) → Buf (Elt Ideal) ℓ) (g : Dev Cert.PoolBIdeal.nD → PrngReg)
    (m' : (ℓ : Loc Cert.PoolBRefIdeal.nD Cert.PoolBRefIdeal.τ Cert.PoolBRefIdeal.sig) → Buf (Elt Ideal) ℓ) (g' : Dev Cert.PoolBRefIdeal.nD → PrngReg), Pre_PoolBIdeal_pool_b_finite m →
    (∀ c : Dev Cert.PoolBIdeal.nD,
      m' ((c.tc : Thread Cert.PoolBRefIdeal.nD Cert.PoolBRefIdeal.τ).loc Cert.PoolBRefIdeal.main_arg0) = m ((c.tc : Thread Cert.PoolBIdeal.nD Cert.PoolBIdeal.τ).loc Cert.PoolBIdeal.main_arg0)
      ∧ m' ((c.tc : Thread Cert.PoolBRefIdeal.nD Cert.PoolBRefIdeal.τ).loc Cert.PoolBRefIdeal.main_arg1) = m ((c.tc : Thread Cert.PoolBIdeal.nD Cert.PoolBIdeal.τ).loc Cert.PoolBIdeal.main_arg1)) →
    ∃ (v0 : (c : Dev Cert.PoolBIdeal.nD) → Buf (Elt Ideal) ((c.tc : Thread Cert.PoolBIdeal.nD Cert.PoolBIdeal.τ).loc Cert.PoolBIdeal.main_v0)),
      θ_run (Cert.PoolBIdeal.defs (F := Ideal)) (onTc (τ := Cert.PoolBIdeal.τ) (Cert.PoolBIdeal.main (F := Ideal))) ⟨m, fun _ => 0, g⟩ (fun r => ∀ c : Dev Cert.PoolBIdeal.nD,
          r.2.mem ((c.tc : Thread Cert.PoolBIdeal.nD Cert.PoolBIdeal.τ).loc Cert.PoolBIdeal.main_v0) = v0 c
          ∧ r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
          ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1))
      ∧ θ_run (Cert.PoolBRefIdeal.defs (F := Ideal)) (onTc (τ := Cert.PoolBRefIdeal.τ) (Cert.PoolBRefIdeal.main (F := Ideal))) ⟨m', fun _ => 0, g'⟩ (fun r => ∀ c : Dev Cert.PoolBRefIdeal.nD,
          r.2.mem ((c.tc : Thread Cert.PoolBRefIdeal.nD Cert.PoolBRefIdeal.τ).loc Cert.PoolBRefIdeal.main_v157) = v0 c
          ∧ r.2.mem ((c.tc : Thread Cert.PoolBRefIdeal.nD Cert.PoolBRefIdeal.τ).loc Cert.PoolBRefIdeal.main_arg0) = m' ((c.tc : Thread Cert.PoolBRefIdeal.nD Cert.PoolBRefIdeal.τ).loc Cert.PoolBRefIdeal.main_arg0)
          ∧ r.2.mem ((c.tc : Thread Cert.PoolBRefIdeal.nD Cert.PoolBRefIdeal.τ).loc Cert.PoolBRefIdeal.main_arg1) = m' ((c.tc : Thread Cert.PoolBRefIdeal.nD Cert.PoolBRefIdeal.τ).loc Cert.PoolBRefIdeal.main_arg1))

def preserves_InWeight_InWeightIdeal : Prop :=
  True

def algebraic_InWeightIdeal_InWeightRefIdeal [hInWeightIdeal : Cert.InWeightIdeal.Facts] [hInWeightRefIdeal : Cert.InWeightRefIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightRefIdeal.nD Cert.InWeightRefIdeal.τ Cert.InWeightRefIdeal.sig) → Buf (Elt Ideal) ℓ) (g' : Dev Cert.InWeightRefIdeal.nD → PrngReg), Pre_InWeightIdeal m →
    (∀ c : Dev Cert.InWeightIdeal.nD,
      m' ((c.tc : Thread Cert.InWeightRefIdeal.nD Cert.InWeightRefIdeal.τ).loc Cert.InWeightRefIdeal.main_arg0) = m ((c.tc : Thread Cert.InWeightIdeal.nD Cert.InWeightIdeal.τ).loc Cert.InWeightIdeal.main_arg0)
      ∧ m' ((c.tc : Thread Cert.InWeightRefIdeal.nD Cert.InWeightRefIdeal.τ).loc Cert.InWeightRefIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v0)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v0) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightRefIdeal.defs (F := Ideal)) (onTc (τ := Cert.InWeightRefIdeal.τ) (Cert.InWeightRefIdeal.main (F := Ideal))) ⟨m', fun _ => 0, g'⟩ (fun r => ∀ c : Dev Cert.InWeightRefIdeal.nD,
          r.2.mem ((c.tc : Thread Cert.InWeightRefIdeal.nD Cert.InWeightRefIdeal.τ).loc Cert.InWeightRefIdeal.main_v5) = v0 c
          ∧ r.2.mem ((c.tc : Thread Cert.InWeightRefIdeal.nD Cert.InWeightRefIdeal.τ).loc Cert.InWeightRefIdeal.main_arg0) = m' ((c.tc : Thread Cert.InWeightRefIdeal.nD Cert.InWeightRefIdeal.τ).loc Cert.InWeightRefIdeal.main_arg0)
          ∧ r.2.mem ((c.tc : Thread Cert.InWeightRefIdeal.nD Cert.InWeightRefIdeal.τ).loc Cert.InWeightRefIdeal.main_arg1) = m' ((c.tc : Thread Cert.InWeightRefIdeal.nD Cert.InWeightRefIdeal.τ).loc Cert.InWeightRefIdeal.main_arg1))

def preserves_DtWeight_DtWeightIdeal : Prop :=
  True

def algebraic_DtWeightIdeal_DtWeightRefIdeal [hDtWeightIdeal : Cert.DtWeightIdeal.Facts] [hDtWeightRefIdeal : Cert.DtWeightRefIdeal.Facts] : Prop :=
  ∀ (m : (ℓ : Loc Cert.DtWeightIdeal.nD Cert.DtWeightIdeal.τ Cert.DtWeightIdeal.sig) → Buf (Elt Ideal) ℓ) (g : Dev Cert.DtWeightIdeal.nD → PrngReg)
    (m' : (ℓ : Loc Cert.DtWeightRefIdeal.nD Cert.DtWeightRefIdeal.τ Cert.DtWeightRefIdeal.sig) → Buf (Elt Ideal) ℓ) (g' : Dev Cert.DtWeightRefIdeal.nD → PrngReg), Pre_DtWeightIdeal m →
    (∀ c : Dev Cert.DtWeightIdeal.nD,
      m' ((c.tc : Thread Cert.DtWeightRefIdeal.nD Cert.DtWeightRefIdeal.τ).loc Cert.DtWeightRefIdeal.main_arg0) = m ((c.tc : Thread Cert.DtWeightIdeal.nD Cert.DtWeightIdeal.τ).loc Cert.DtWeightIdeal.main_arg0)
      ∧ m' ((c.tc : Thread Cert.DtWeightRefIdeal.nD Cert.DtWeightRefIdeal.τ).loc Cert.DtWeightRefIdeal.main_arg1) = m ((c.tc : Thread Cert.DtWeightIdeal.nD Cert.DtWeightIdeal.τ).loc Cert.DtWeightIdeal.main_arg1)) →
    ∃ (v0 : (c : Dev Cert.DtWeightIdeal.nD) → Buf (Elt Ideal) ((c.tc : Thread Cert.DtWeightIdeal.nD Cert.DtWeightIdeal.τ).loc Cert.DtWeightIdeal.main_v0)),
      θ_run (Cert.DtWeightIdeal.defs (F := Ideal)) (onTc (τ := Cert.DtWeightIdeal.τ) (Cert.DtWeightIdeal.main (F := Ideal))) ⟨m, fun _ => 0, g⟩ (fun r => ∀ c : Dev Cert.DtWeightIdeal.nD,
          r.2.mem ((c.tc : Thread Cert.DtWeightIdeal.nD Cert.DtWeightIdeal.τ).loc Cert.DtWeightIdeal.main_v0) = v0 c
          ∧ r.2.mem ((c.tc : Thread Cert.DtWeightIdeal.nD Cert.DtWeightIdeal.τ).loc Cert.DtWeightIdeal.main_arg0) = m ((c.tc : Thread Cert.DtWeightIdeal.nD Cert.DtWeightIdeal.τ).loc Cert.DtWeightIdeal.main_arg0)
          ∧ r.2.mem ((c.tc : Thread Cert.DtWeightIdeal.nD Cert.DtWeightIdeal.τ).loc Cert.DtWeightIdeal.main_arg1) = m ((c.tc : Thread Cert.DtWeightIdeal.nD Cert.DtWeightIdeal.τ).loc Cert.DtWeightIdeal.main_arg1))
      ∧ θ_run (Cert.DtWeightRefIdeal.defs (F := Ideal)) (onTc (τ := Cert.DtWeightRefIdeal.τ) (Cert.DtWeightRefIdeal.main (F := Ideal))) ⟨m', fun _ => 0, g'⟩ (fun r => ∀ c : Dev Cert.DtWeightRefIdeal.nD,
          r.2.mem ((c.tc : Thread Cert.DtWeightRefIdeal.nD Cert.DtWeightRefIdeal.τ).loc Cert.DtWeightRefIdeal.main_v5) = v0 c
          ∧ r.2.mem ((c.tc : Thread Cert.DtWeightRefIdeal.nD Cert.DtWeightRefIdeal.τ).loc Cert.DtWeightRefIdeal.main_arg0) = m' ((c.tc : Thread Cert.DtWeightRefIdeal.nD Cert.DtWeightRefIdeal.τ).loc Cert.DtWeightRefIdeal.main_arg0)
          ∧ r.2.mem ((c.tc : Thread Cert.DtWeightRefIdeal.nD Cert.DtWeightRefIdeal.τ).loc Cert.DtWeightRefIdeal.main_arg1) = m' ((c.tc : Thread Cert.DtWeightRefIdeal.nD Cert.DtWeightRefIdeal.τ).loc Cert.DtWeightRefIdeal.main_arg1))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v5) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1))

def preserves_Mixed_MixedIdeal : Prop :=
  True

def algebraic_MixedIdeal_MixedRefIdeal [hMixedIdeal : Cert.MixedIdeal.Facts] [hMixedRefIdeal : Cert.MixedRefIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedRefIdeal.nD Cert.MixedRefIdeal.τ Cert.MixedRefIdeal.sig) → Buf (Elt Ideal) ℓ) (g' : Dev Cert.MixedRefIdeal.nD → PrngReg), Pre_MixedIdeal m →
    (∀ c : Dev Cert.MixedIdeal.nD,
      m' ((c.tc : Thread Cert.MixedRefIdeal.nD Cert.MixedRefIdeal.τ).loc Cert.MixedRefIdeal.main_arg0) = m ((c.tc : Thread Cert.MixedIdeal.nD Cert.MixedIdeal.τ).loc Cert.MixedIdeal.main_arg0)
      ∧ m' ((c.tc : Thread Cert.MixedRefIdeal.nD Cert.MixedRefIdeal.τ).loc Cert.MixedRefIdeal.main_arg1) = m ((c.tc : Thread Cert.MixedIdeal.nD Cert.MixedIdeal.τ).loc Cert.MixedIdeal.main_arg1)) →
    ∃ (v0 : (c : Dev Cert.MixedIdeal.nD) → Buf (Elt Ideal) ((c.tc : Thread Cert.MixedIdeal.nD Cert.MixedIdeal.τ).loc Cert.MixedIdeal.main_v0)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v0) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1))
      ∧ θ_run (Cert.MixedRefIdeal.defs (F := Ideal)) (onTc (τ := Cert.MixedRefIdeal.τ) (Cert.MixedRefIdeal.main (F := Ideal))) ⟨m', fun _ => 0, g'⟩ (fun r => ∀ c : Dev Cert.MixedRefIdeal.nD,
          r.2.mem ((c.tc : Thread Cert.MixedRefIdeal.nD Cert.MixedRefIdeal.τ).loc Cert.MixedRefIdeal.main_v4) = v0 c
          ∧ r.2.mem ((c.tc : Thread Cert.MixedRefIdeal.nD Cert.MixedRefIdeal.τ).loc Cert.MixedRefIdeal.main_arg0) = m' ((c.tc : Thread Cert.MixedRefIdeal.nD Cert.MixedRefIdeal.τ).loc Cert.MixedRefIdeal.main_arg0)
          ∧ r.2.mem ((c.tc : Thread Cert.MixedRefIdeal.nD Cert.MixedRefIdeal.τ).loc Cert.MixedRefIdeal.main_arg1) = m' ((c.tc : Thread Cert.MixedRefIdeal.nD Cert.MixedRefIdeal.τ).loc Cert.MixedRefIdeal.main_arg1))

def preserves_Hidden_HiddenIdeal : Prop :=
  True

def algebraic_HiddenIdeal_HiddenRefIdeal [hHiddenIdeal : Cert.HiddenIdeal.Facts] [hHiddenRefIdeal : Cert.HiddenRefIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)
      ∧ m' ((c.tc : Thread Cert.HiddenRefIdeal.nD Cert.HiddenRefIdeal.τ).loc Cert.HiddenRefIdeal.main_arg3) = m ((c.tc : Thread Cert.HiddenIdeal.nD Cert.HiddenIdeal.τ).loc Cert.HiddenIdeal.main_arg3)) →
    ∃ (v0 : (c : Dev Cert.HiddenIdeal.nD) → Buf (Elt Ideal) ((c.tc : Thread Cert.HiddenIdeal.nD Cert.HiddenIdeal.τ).loc Cert.HiddenIdeal.main_v0)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v0) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v9) = v0 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2)
          ∧ r.2.mem ((c.tc : Thread Cert.HiddenRefIdeal.nD Cert.HiddenRefIdeal.τ).loc Cert.HiddenRefIdeal.main_arg3) = m' ((c.tc : Thread Cert.HiddenRefIdeal.nD Cert.HiddenRefIdeal.τ).loc Cert.HiddenRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_DtProj_DtProjIdeal : Prop :=
  True

def algebraic_DtProjIdeal_DtProjRefIdeal [hDtProjIdeal : Cert.DtProjIdeal.Facts] [hDtProjRefIdeal : Cert.DtProjRefIdeal.Facts] : Prop :=
  ∀ (m : (ℓ : Loc Cert.DtProjIdeal.nD Cert.DtProjIdeal.τ Cert.DtProjIdeal.sig) → Buf (Elt Ideal) ℓ) (g : Dev Cert.DtProjIdeal.nD → PrngReg)
    (m' : (ℓ : Loc Cert.DtProjRefIdeal.nD Cert.DtProjRefIdeal.τ Cert.DtProjRefIdeal.sig) → Buf (Elt Ideal) ℓ) (g' : Dev Cert.DtProjRefIdeal.nD → PrngReg), Pre_DtProjIdeal m →
    (∀ c : Dev Cert.DtProjIdeal.nD,
      m' ((c.tc : Thread Cert.DtProjRefIdeal.nD Cert.DtProjRefIdeal.τ).loc Cert.DtProjRefIdeal.main_arg0) = m ((c.tc : Thread Cert.DtProjIdeal.nD Cert.DtProjIdeal.τ).loc Cert.DtProjIdeal.main_arg0)
      ∧ m' ((c.tc : Thread Cert.DtProjRefIdeal.nD Cert.DtProjRefIdeal.τ).loc Cert.DtProjRefIdeal.main_arg1) = m ((c.tc : Thread Cert.DtProjIdeal.nD Cert.DtProjIdeal.τ).loc Cert.DtProjIdeal.main_arg1)) →
    ∃ (v0 : (c : Dev Cert.DtProjIdeal.nD) → Buf (Elt Ideal) ((c.tc : Thread Cert.DtProjIdeal.nD Cert.DtProjIdeal.τ).loc Cert.DtProjIdeal.main_v0)),
      θ_run (Cert.DtProjIdeal.defs (F := Ideal)) (onTc (τ := Cert.DtProjIdeal.τ) (Cert.DtProjIdeal.main (F := Ideal))) ⟨m, fun _ => 0, g⟩ (fun r => ∀ c : Dev Cert.DtProjIdeal.nD,
          r.2.mem ((c.tc : Thread Cert.DtProjIdeal.nD Cert.DtProjIdeal.τ).loc Cert.DtProjIdeal.main_v0) = v0 c
          ∧ r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
          ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1))
      ∧ θ_run (Cert.DtProjRefIdeal.defs (F := Ideal)) (onTc (τ := Cert.DtProjRefIdeal.τ) (Cert.DtProjRefIdeal.main (F := Ideal))) ⟨m', fun _ => 0, g'⟩ (fun r => ∀ c : Dev Cert.DtProjRefIdeal.nD,
          r.2.mem ((c.tc : Thread Cert.DtProjRefIdeal.nD Cert.DtProjRefIdeal.τ).loc Cert.DtProjRefIdeal.main_v2) = v0 c
          ∧ r.2.mem ((c.tc : Thread Cert.DtProjRefIdeal.nD Cert.DtProjRefIdeal.τ).loc Cert.DtProjRefIdeal.main_arg0) = m' ((c.tc : Thread Cert.DtProjRefIdeal.nD Cert.DtProjRefIdeal.τ).loc Cert.DtProjRefIdeal.main_arg0)
          ∧ r.2.mem ((c.tc : Thread Cert.DtProjRefIdeal.nD Cert.DtProjRefIdeal.τ).loc Cert.DtProjRefIdeal.main_arg1) = m' ((c.tc : Thread Cert.DtProjRefIdeal.nD Cert.DtProjRefIdeal.τ).loc Cert.DtProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Pool_PoolIdeal : Prop :=
  True

def algebraic_PoolIdeal_PoolRefIdeal_on_pool_written_pre_pool_finite [hPoolIdeal : Cert.PoolIdeal.Facts] [hPoolRefIdeal : Cert.PoolRefIdeal.Facts] [hPre_pool_finite : Cert.Pre_pool_finite.Facts] [hOn_pool_written : Cert.On_pool_written.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          (∀ i : (⟨2, ![4096, 4096]⟩ : Shape).Idx, (Cert.On_pool_written.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) i = 1#1 → r.2.mem ((c.tc : Thread Cert.PoolIdeal.nD Cert.PoolIdeal.τ).loc Cert.PoolIdeal.main_v0) i = v0 c i)
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          (∀ i : (⟨2, ![4096, 4096]⟩ : Shape).Idx, (Cert.On_pool_written.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) i = 1#1 → r.2.mem ((c.tc : Thread Cert.PoolRefIdeal.nD Cert.PoolRefIdeal.τ).loc Cert.PoolRefIdeal.main_v75) i = v0 c i)
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v36) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_ConvA_ConvAIdeal : Prop :=
  True

def algebraic_ConvAIdeal_ConvARefIdeal_pre_conv_finite [hConvAIdeal : Cert.ConvAIdeal.Facts] [hConvARefIdeal : Cert.ConvARefIdeal.Facts] [hPre_conv_finite : Cert.Pre_conv_finite.Facts] : Prop :=
  ∀ (m : (ℓ : Loc Cert.ConvAIdeal.nD Cert.ConvAIdeal.τ Cert.ConvAIdeal.sig) → Buf (Elt Ideal) ℓ) (g : Dev Cert.ConvAIdeal.nD → PrngReg)
    (m' : (ℓ : Loc Cert.ConvARefIdeal.nD Cert.ConvARefIdeal.τ Cert.ConvARefIdeal.sig) → Buf (Elt Ideal) ℓ) (g' : Dev Cert.ConvARefIdeal.nD → PrngReg), Pre_ConvAIdeal_conv_finite m →
    (∀ c : Dev Cert.ConvAIdeal.nD,
      m' ((c.tc : Thread Cert.ConvARefIdeal.nD Cert.ConvARefIdeal.τ).loc Cert.ConvARefIdeal.main_arg0) = m ((c.tc : Thread Cert.ConvAIdeal.nD Cert.ConvAIdeal.τ).loc Cert.ConvAIdeal.main_arg0)
      ∧ m' ((c.tc : Thread Cert.ConvARefIdeal.nD Cert.ConvARefIdeal.τ).loc Cert.ConvARefIdeal.main_arg1) = m ((c.tc : Thread Cert.ConvAIdeal.nD Cert.ConvAIdeal.τ).loc Cert.ConvAIdeal.main_arg1)
      ∧ m' ((c.tc : Thread Cert.ConvARefIdeal.nD Cert.ConvARefIdeal.τ).loc Cert.ConvARefIdeal.main_arg2) = m ((c.tc : Thread Cert.ConvAIdeal.nD Cert.ConvAIdeal.τ).loc Cert.ConvAIdeal.main_arg2)
      ∧ m' ((c.tc : Thread Cert.ConvARefIdeal.nD Cert.ConvARefIdeal.τ).loc Cert.ConvARefIdeal.main_arg3) = m ((c.tc : Thread Cert.ConvAIdeal.nD Cert.ConvAIdeal.τ).loc Cert.ConvAIdeal.main_arg3)
      ∧ m' ((c.tc : Thread Cert.ConvARefIdeal.nD Cert.ConvARefIdeal.τ).loc Cert.ConvARefIdeal.main_arg4) = m ((c.tc : Thread Cert.ConvAIdeal.nD Cert.ConvAIdeal.τ).loc Cert.ConvAIdeal.main_arg4)
      ∧ m' ((c.tc : Thread Cert.ConvARefIdeal.nD Cert.ConvARefIdeal.τ).loc Cert.ConvARefIdeal.main_arg5) = m ((c.tc : Thread Cert.ConvAIdeal.nD Cert.ConvAIdeal.τ).loc Cert.ConvAIdeal.main_arg5)) →
    ∃ (v0 : (c : Dev Cert.ConvAIdeal.nD) → Buf (Elt Ideal) ((c.tc : Thread Cert.ConvAIdeal.nD Cert.ConvAIdeal.τ).loc Cert.ConvAIdeal.main_v0_0)) (v1 : (c : Dev Cert.ConvAIdeal.nD) → Buf (Elt Ideal) ((c.tc : Thread Cert.ConvAIdeal.nD Cert.ConvAIdeal.τ).loc Cert.ConvAIdeal.main_v0_1)) (v2 : (c : Dev Cert.ConvAIdeal.nD) → Buf (Elt Ideal) ((c.tc : Thread Cert.ConvAIdeal.nD Cert.ConvAIdeal.τ).loc Cert.ConvAIdeal.main_v0_2)),
      θ_run (Cert.ConvAIdeal.defs (F := Ideal)) (onTc (τ := Cert.ConvAIdeal.τ) (Cert.ConvAIdeal.main (F := Ideal))) ⟨m, fun _ => 0, g⟩ (fun r => ∀ c : Dev Cert.ConvAIdeal.nD,
          r.2.mem ((c.tc : Thread Cert.ConvAIdeal.nD Cert.ConvAIdeal.τ).loc Cert.ConvAIdeal.main_v0_0) = v0 c
          ∧ r.2.mem ((c.tc : Thread Cert.ConvAIdeal.nD Cert.ConvAIdeal.τ).loc Cert.ConvAIdeal.main_v0_1) = v1 c
          ∧ r.2.mem ((c.tc : Thread Cert.ConvAIdeal.nD Cert.ConvAIdeal.τ).loc Cert.ConvAIdeal.main_v0_2) = v2 c
          ∧ r.2.mem ((c.tc : Thread Cert.ConvAIdeal.nD Cert.ConvAIdeal.τ).loc Cert.ConvAIdeal.main_arg0) = m ((c.tc : Thread Cert.ConvAIdeal.nD Cert.ConvAIdeal.τ).loc Cert.ConvAIdeal.main_arg0)
          ∧ r.2.mem ((c.tc : Thread Cert.ConvAIdeal.nD Cert.ConvAIdeal.τ).loc Cert.ConvAIdeal.main_arg1) = m ((c.tc : Thread Cert.ConvAIdeal.nD Cert.ConvAIdeal.τ).loc Cert.ConvAIdeal.main_arg1)
          ∧ r.2.mem ((c.tc : Thread Cert.ConvAIdeal.nD Cert.ConvAIdeal.τ).loc Cert.ConvAIdeal.main_arg2) = m ((c.tc : Thread Cert.ConvAIdeal.nD Cert.ConvAIdeal.τ).loc Cert.ConvAIdeal.main_arg2)
          ∧ r.2.mem ((c.tc : Thread Cert.ConvAIdeal.nD Cert.ConvAIdeal.τ).loc Cert.ConvAIdeal.main_arg3) = m ((c.tc : Thread Cert.ConvAIdeal.nD Cert.ConvAIdeal.τ).loc Cert.ConvAIdeal.main_arg3)
          ∧ r.2.mem ((c.tc : Thread Cert.ConvAIdeal.nD Cert.ConvAIdeal.τ).loc Cert.ConvAIdeal.main_arg4) = m ((c.tc : Thread Cert.ConvAIdeal.nD Cert.ConvAIdeal.τ).loc Cert.ConvAIdeal.main_arg4)
          ∧ r.2.mem ((c.tc : Thread Cert.ConvAIdeal.nD Cert.ConvAIdeal.τ).loc Cert.ConvAIdeal.main_arg5) = m ((c.tc : Thread Cert.ConvAIdeal.nD Cert.ConvAIdeal.τ).loc Cert.ConvAIdeal.main_arg5))
      ∧ θ_run (Cert.ConvARefIdeal.defs (F := Ideal)) (onTc (τ := Cert.ConvARefIdeal.τ) (Cert.ConvARefIdeal.main (F := Ideal))) ⟨m', fun _ => 0, g'⟩ (fun r => ∀ c : Dev Cert.ConvARefIdeal.nD,
          r.2.mem ((c.tc : Thread Cert.ConvARefIdeal.nD Cert.ConvARefIdeal.τ).loc Cert.ConvARefIdeal.main_v38) = v0 c
          ∧ r.2.mem ((c.tc : Thread Cert.ConvARefIdeal.nD Cert.ConvARefIdeal.τ).loc Cert.ConvARefIdeal.main_v68) = v1 c
          ∧ r.2.mem ((c.tc : Thread Cert.ConvARefIdeal.nD Cert.ConvARefIdeal.τ).loc Cert.ConvARefIdeal.main_v69) = v2 c
          ∧ r.2.mem ((c.tc : Thread Cert.ConvARefIdeal.nD Cert.ConvARefIdeal.τ).loc Cert.ConvARefIdeal.main_arg0) = m' ((c.tc : Thread Cert.ConvARefIdeal.nD Cert.ConvARefIdeal.τ).loc Cert.ConvARefIdeal.main_arg0)
          ∧ r.2.mem ((c.tc : Thread Cert.ConvARefIdeal.nD Cert.ConvARefIdeal.τ).loc Cert.ConvARefIdeal.main_arg1) = m' ((c.tc : Thread Cert.ConvARefIdeal.nD Cert.ConvARefIdeal.τ).loc Cert.ConvARefIdeal.main_arg1)
          ∧ r.2.mem ((c.tc : Thread Cert.ConvARefIdeal.nD Cert.ConvARefIdeal.τ).loc Cert.ConvARefIdeal.main_arg2) = m' ((c.tc : Thread Cert.ConvARefIdeal.nD Cert.ConvARefIdeal.τ).loc Cert.ConvARefIdeal.main_arg2)
          ∧ r.2.mem ((c.tc : Thread Cert.ConvARefIdeal.nD Cert.ConvARefIdeal.τ).loc Cert.ConvARefIdeal.main_arg3) = m' ((c.tc : Thread Cert.ConvARefIdeal.nD Cert.ConvARefIdeal.τ).loc Cert.ConvARefIdeal.main_arg3)
          ∧ r.2.mem ((c.tc : Thread Cert.ConvARefIdeal.nD Cert.ConvARefIdeal.τ).loc Cert.ConvARefIdeal.main_arg4) = m' ((c.tc : Thread Cert.ConvARefIdeal.nD Cert.ConvARefIdeal.τ).loc Cert.ConvARefIdeal.main_arg4)
          ∧ r.2.mem ((c.tc : Thread Cert.ConvARefIdeal.nD Cert.ConvARefIdeal.τ).loc Cert.ConvARefIdeal.main_arg5) = m' ((c.tc : Thread Cert.ConvARefIdeal.nD Cert.ConvARefIdeal.τ).loc Cert.ConvARefIdeal.main_arg5))

def preserves_ConvB_ConvBIdeal : Prop :=
  True

def algebraic_ConvBIdeal_ConvBRefIdeal [hConvBIdeal : Cert.ConvBIdeal.Facts] [hConvBRefIdeal : Cert.ConvBRefIdeal.Facts] : Prop :=
  ∀ (m : (ℓ : Loc Cert.ConvBIdeal.nD Cert.ConvBIdeal.τ Cert.ConvBIdeal.sig) → Buf (Elt Ideal) ℓ) (g : Dev Cert.ConvBIdeal.nD → PrngReg)
    (m' : (ℓ : Loc Cert.ConvBRefIdeal.nD Cert.ConvBRefIdeal.τ Cert.ConvBRefIdeal.sig) → Buf (Elt Ideal) ℓ) (g' : Dev Cert.ConvBRefIdeal.nD → PrngReg), Pre_ConvBIdeal m →
    (∀ c : Dev Cert.ConvBIdeal.nD,
      m' ((c.tc : Thread Cert.ConvBRefIdeal.nD Cert.ConvBRefIdeal.τ).loc Cert.ConvBRefIdeal.main_arg0) = m ((c.tc : Thread Cert.ConvBIdeal.nD Cert.ConvBIdeal.τ).loc Cert.ConvBIdeal.main_arg0)
      ∧ m' ((c.tc : Thread Cert.ConvBRefIdeal.nD Cert.ConvBRefIdeal.τ).loc Cert.ConvBRefIdeal.main_arg1) = m ((c.tc : Thread Cert.ConvBIdeal.nD Cert.ConvBIdeal.τ).loc Cert.ConvBIdeal.main_arg1)
      ∧ m' ((c.tc : Thread Cert.ConvBRefIdeal.nD Cert.ConvBRefIdeal.τ).loc Cert.ConvBRefIdeal.main_arg2) = m ((c.tc : Thread Cert.ConvBIdeal.nD Cert.ConvBIdeal.τ).loc Cert.ConvBIdeal.main_arg2)) →
    ∃ (v0 : (c : Dev Cert.ConvBIdeal.nD) → Buf (Elt Ideal) ((c.tc : Thread Cert.ConvBIdeal.nD Cert.ConvBIdeal.τ).loc Cert.ConvBIdeal.main_v0)),
      θ_run (Cert.ConvBIdeal.defs (F := Ideal)) (onTc (τ := Cert.ConvBIdeal.τ) (Cert.ConvBIdeal.main (F := Ideal))) ⟨m, fun _ => 0, g⟩ (fun r => ∀ c : Dev Cert.ConvBIdeal.nD,
          r.2.mem ((c.tc : Thread Cert.ConvBIdeal.nD Cert.ConvBIdeal.τ).loc Cert.ConvBIdeal.main_v0) = v0 c
          ∧ r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
          ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
          ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ θ_run (Cert.ConvBRefIdeal.defs (F := Ideal)) (onTc (τ := Cert.ConvBRefIdeal.τ) (Cert.ConvBRefIdeal.main (F := Ideal))) ⟨m', fun _ => 0, g'⟩ (fun r => ∀ c : Dev Cert.ConvBRefIdeal.nD,
          r.2.mem ((c.tc : Thread Cert.ConvBRefIdeal.nD Cert.ConvBRefIdeal.τ).loc Cert.ConvBRefIdeal.main_v58) = v0 c
          ∧ r.2.mem ((c.tc : Thread Cert.ConvBRefIdeal.nD Cert.ConvBRefIdeal.τ).loc Cert.ConvBRefIdeal.main_arg0) = m' ((c.tc : Thread Cert.ConvBRefIdeal.nD Cert.ConvBRefIdeal.τ).loc Cert.ConvBRefIdeal.main_arg0)
          ∧ r.2.mem ((c.tc : Thread Cert.ConvBRefIdeal.nD Cert.ConvBRefIdeal.τ).loc Cert.ConvBRefIdeal.main_arg1) = m' ((c.tc : Thread Cert.ConvBRefIdeal.nD Cert.ConvBRefIdeal.τ).loc Cert.ConvBRefIdeal.main_arg1)
          ∧ r.2.mem ((c.tc : Thread Cert.ConvBRefIdeal.nD Cert.ConvBRefIdeal.τ).loc Cert.ConvBRefIdeal.main_arg2) = m' ((c.tc : Thread Cert.ConvBRefIdeal.nD Cert.ConvBRefIdeal.τ).loc Cert.ConvBRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_v22) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v14) = v0 c
          ∧ r.2.mem ((c.tc : Thread Cert.PostRefIdeal.nD Cert.PostRefIdeal.τ).loc Cert.PostRefIdeal.main_v22) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2))

def preserves_PostGrad_PostGradIdeal : Prop :=
  True

def algebraic_PostGradIdeal_PostGradRefIdeal [hPostGradIdeal : Cert.PostGradIdeal.Facts] [hPostGradRefIdeal : Cert.PostGradRefIdeal.Facts] : Prop :=
  ∀ (m : (ℓ : Loc Cert.PostGradIdeal.nD Cert.PostGradIdeal.τ Cert.PostGradIdeal.sig) → Buf (Elt Ideal) ℓ) (g : Dev Cert.PostGradIdeal.nD → PrngReg)
    (m' : (ℓ : Loc Cert.PostGradRefIdeal.nD Cert.PostGradRefIdeal.τ Cert.PostGradRefIdeal.sig) → Buf (Elt Ideal) ℓ) (g' : Dev Cert.PostGradRefIdeal.nD → PrngReg), Pre_PostGradIdeal m →
    (∀ c : Dev Cert.PostGradIdeal.nD,
      m' ((c.tc : Thread Cert.PostGradRefIdeal.nD Cert.PostGradRefIdeal.τ).loc Cert.PostGradRefIdeal.main_arg0) = m ((c.tc : Thread Cert.PostGradIdeal.nD Cert.PostGradIdeal.τ).loc Cert.PostGradIdeal.main_arg0)
      ∧ m' ((c.tc : Thread Cert.PostGradRefIdeal.nD Cert.PostGradRefIdeal.τ).loc Cert.PostGradRefIdeal.main_arg1) = m ((c.tc : Thread Cert.PostGradIdeal.nD Cert.PostGradIdeal.τ).loc Cert.PostGradIdeal.main_arg1)
      ∧ m' ((c.tc : Thread Cert.PostGradRefIdeal.nD Cert.PostGradRefIdeal.τ).loc Cert.PostGradRefIdeal.main_arg2) = m ((c.tc : Thread Cert.PostGradIdeal.nD Cert.PostGradIdeal.τ).loc Cert.PostGradIdeal.main_arg2)) →
    ∃ (v0 : (c : Dev Cert.PostGradIdeal.nD) → Buf (Elt Ideal) ((c.tc : Thread Cert.PostGradIdeal.nD Cert.PostGradIdeal.τ).loc Cert.PostGradIdeal.main_v8_0)) (v1 : (c : Dev Cert.PostGradIdeal.nD) → Buf (Elt Ideal) ((c.tc : Thread Cert.PostGradIdeal.nD Cert.PostGradIdeal.τ).loc Cert.PostGradIdeal.main_v8_1)),
      θ_run (Cert.PostGradIdeal.defs (F := Ideal)) (onTc (τ := Cert.PostGradIdeal.τ) (Cert.PostGradIdeal.main (F := Ideal))) ⟨m, fun _ => 0, g⟩ (fun r => ∀ c : Dev Cert.PostGradIdeal.nD,
          r.2.mem ((c.tc : Thread Cert.PostGradIdeal.nD Cert.PostGradIdeal.τ).loc Cert.PostGradIdeal.main_v8_0) = v0 c
          ∧ r.2.mem ((c.tc : Thread Cert.PostGradIdeal.nD Cert.PostGradIdeal.τ).loc Cert.PostGradIdeal.main_v8_1) = v1 c
          ∧ r.2.mem ((c.tc : Thread Cert.PostGradIdeal.nD Cert.PostGradIdeal.τ).loc Cert.PostGradIdeal.main_arg0) = m ((c.tc : Thread Cert.PostGradIdeal.nD Cert.PostGradIdeal.τ).loc Cert.PostGradIdeal.main_arg0)
          ∧ r.2.mem ((c.tc : Thread Cert.PostGradIdeal.nD Cert.PostGradIdeal.τ).loc Cert.PostGradIdeal.main_arg1) = m ((c.tc : Thread Cert.PostGradIdeal.nD Cert.PostGradIdeal.τ).loc Cert.PostGradIdeal.main_arg1)
          ∧ r.2.mem ((c.tc : Thread Cert.PostGradIdeal.nD Cert.PostGradIdeal.τ).loc Cert.PostGradIdeal.main_arg2) = m ((c.tc : Thread Cert.PostGradIdeal.nD Cert.PostGradIdeal.τ).loc Cert.PostGradIdeal.main_arg2))
      ∧ θ_run (Cert.PostGradRefIdeal.defs (F := Ideal)) (onTc (τ := Cert.PostGradRefIdeal.τ) (Cert.PostGradRefIdeal.main (F := Ideal))) ⟨m', fun _ => 0, g'⟩ (fun r => ∀ c : Dev Cert.PostGradRefIdeal.nD,
          r.2.mem ((c.tc : Thread Cert.PostGradRefIdeal.nD Cert.PostGradRefIdeal.τ).loc Cert.PostGradRefIdeal.main_v37) = v0 c
          ∧ r.2.mem ((c.tc : Thread Cert.PostGradRefIdeal.nD Cert.PostGradRefIdeal.τ).loc Cert.PostGradRefIdeal.main_v38) = v1 c
          ∧ r.2.mem ((c.tc : Thread Cert.PostGradRefIdeal.nD Cert.PostGradRefIdeal.τ).loc Cert.PostGradRefIdeal.main_arg0) = m' ((c.tc : Thread Cert.PostGradRefIdeal.nD Cert.PostGradRefIdeal.τ).loc Cert.PostGradRefIdeal.main_arg0)
          ∧ r.2.mem ((c.tc : Thread Cert.PostGradRefIdeal.nD Cert.PostGradRefIdeal.τ).loc Cert.PostGradRefIdeal.main_arg1) = m' ((c.tc : Thread Cert.PostGradRefIdeal.nD Cert.PostGradRefIdeal.τ).loc Cert.PostGradRefIdeal.main_arg1)
          ∧ r.2.mem ((c.tc : Thread Cert.PostGradRefIdeal.nD Cert.PostGradRefIdeal.τ).loc Cert.PostGradRefIdeal.main_arg2) = m' ((c.tc : Thread Cert.PostGradRefIdeal.nD Cert.PostGradRefIdeal.τ).loc Cert.PostGradRefIdeal.main_arg2))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v8_0)) (v1 : (c : Dev Cert.NormGradIdeal.nD) → Buf (Elt Ideal) ((c.tc : Thread Cert.NormGradIdeal.nD Cert.NormGradIdeal.τ).loc Cert.NormGradIdeal.main_v8_1)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v8_0) = v0 c
          ∧ r.2.mem ((c.tc : Thread Cert.NormGradIdeal.nD Cert.NormGradIdeal.τ).loc Cert.NormGradIdeal.main_v8_1) = v1 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v37) = v0 c
          ∧ r.2.mem ((c.tc : Thread Cert.NormGradRefIdeal.nD Cert.NormGradRefIdeal.τ).loc Cert.NormGradRefIdeal.main_v38) = v1 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3))

def Claim : Prop :=
  ∃ (hPoolA : Cert.PoolA.Facts) (hPoolAIdeal : Cert.PoolAIdeal.Facts) (hPoolARefIdeal : Cert.PoolARefIdeal.Facts) (hPoolB : Cert.PoolB.Facts) (hPoolBIdeal : Cert.PoolBIdeal.Facts) (hPoolBRefIdeal : Cert.PoolBRefIdeal.Facts) (hInWeight : Cert.InWeight.Facts) (hInWeightIdeal : Cert.InWeightIdeal.Facts) (hInWeightRefIdeal : Cert.InWeightRefIdeal.Facts) (hDtWeight : Cert.DtWeight.Facts) (hDtWeightIdeal : Cert.DtWeightIdeal.Facts) (hDtWeightRefIdeal : Cert.DtWeightRefIdeal.Facts) (hOutWeight : Cert.OutWeight.Facts) (hOutWeightIdeal : Cert.OutWeightIdeal.Facts) (hOutWeightRefIdeal : Cert.OutWeightRefIdeal.Facts) (hMixed : Cert.Mixed.Facts) (hMixedIdeal : Cert.MixedIdeal.Facts) (hMixedRefIdeal : Cert.MixedRefIdeal.Facts) (hHidden : Cert.Hidden.Facts) (hHiddenIdeal : Cert.HiddenIdeal.Facts) (hHiddenRefIdeal : Cert.HiddenRefIdeal.Facts) (hInProj : Cert.InProj.Facts) (hInProjIdeal : Cert.InProjIdeal.Facts) (hInProjRefIdeal : Cert.InProjRefIdeal.Facts) (hDtProj : Cert.DtProj.Facts) (hDtProjIdeal : Cert.DtProjIdeal.Facts) (hDtProjRefIdeal : Cert.DtProjRefIdeal.Facts) (hOutProj : Cert.OutProj.Facts) (hOutProjIdeal : Cert.OutProjIdeal.Facts) (hOutProjRefIdeal : Cert.OutProjRefIdeal.Facts) (hPool : Cert.Pool.Facts) (hPoolIdeal : Cert.PoolIdeal.Facts) (hPoolRefIdeal : Cert.PoolRefIdeal.Facts) (hConv : Cert.Conv.Facts) (hConvIdeal : Cert.ConvIdeal.Facts) (hConvRefIdeal : Cert.ConvRefIdeal.Facts) (hConvA : Cert.ConvA.Facts) (hConvAIdeal : Cert.ConvAIdeal.Facts) (hConvARefIdeal : Cert.ConvARefIdeal.Facts) (hConvB : Cert.ConvB.Facts) (hConvBIdeal : Cert.ConvBIdeal.Facts) (hConvBRefIdeal : Cert.ConvBRefIdeal.Facts) (hLoss : Cert.Loss.Facts) (hLossIdeal : Cert.LossIdeal.Facts) (hLossRefIdeal : Cert.LossRefIdeal.Facts) (hNorm : Cert.Norm.Facts) (hNormIdeal : Cert.NormIdeal.Facts) (hNormRefIdeal : Cert.NormRefIdeal.Facts) (hPost : Cert.Post.Facts) (hPostIdeal : Cert.PostIdeal.Facts) (hPostRefIdeal : Cert.PostRefIdeal.Facts) (hPostGrad : Cert.PostGrad.Facts) (hPostGradIdeal : Cert.PostGradIdeal.Facts) (hPostGradRefIdeal : Cert.PostGradRefIdeal.Facts) (hNormGrad : Cert.NormGrad.Facts) (hNormGradIdeal : Cert.NormGradIdeal.Facts) (hNormGradRefIdeal : Cert.NormGradRefIdeal.Facts) (hPre_pool_a_finite : Cert.Pre_pool_a_finite.Facts) (hPre_pool_b_finite : Cert.Pre_pool_b_finite.Facts) (hPre_pool_finite : Cert.Pre_pool_finite.Facts) (hPre_conv_finite : Cert.Pre_conv_finite.Facts) (hOn_pool_a_written : Cert.On_pool_a_written.Facts) (hOn_pool_written : Cert.On_pool_written.Facts),
    quiescent_PoolA (hPoolA := hPoolA)
    ∧ quiescent_PoolAIdeal (hPoolAIdeal := hPoolAIdeal)
    ∧ quiescent_PoolAIdeal_pre_pool_a_finite (hPoolAIdeal := hPoolAIdeal) (hPre_pool_a_finite := hPre_pool_a_finite)
    ∧ quiescent_PoolARefIdeal (hPoolARefIdeal := hPoolARefIdeal)
    ∧ quiescent_PoolARefIdeal_pre_pool_a_finite (hPoolARefIdeal := hPoolARefIdeal) (hPre_pool_a_finite := hPre_pool_a_finite)
    ∧ quiescent_PoolB (hPoolB := hPoolB)
    ∧ quiescent_PoolBIdeal (hPoolBIdeal := hPoolBIdeal)
    ∧ quiescent_PoolBIdeal_pre_pool_b_finite (hPoolBIdeal := hPoolBIdeal) (hPre_pool_b_finite := hPre_pool_b_finite)
    ∧ quiescent_PoolBRefIdeal (hPoolBRefIdeal := hPoolBRefIdeal)
    ∧ quiescent_PoolBRefIdeal_pre_pool_b_finite (hPoolBRefIdeal := hPoolBRefIdeal) (hPre_pool_b_finite := hPre_pool_b_finite)
    ∧ quiescent_InWeight (hInWeight := hInWeight)
    ∧ quiescent_InWeightIdeal (hInWeightIdeal := hInWeightIdeal)
    ∧ quiescent_InWeightRefIdeal (hInWeightRefIdeal := hInWeightRefIdeal)
    ∧ quiescent_DtWeight (hDtWeight := hDtWeight)
    ∧ quiescent_DtWeightIdeal (hDtWeightIdeal := hDtWeightIdeal)
    ∧ quiescent_DtWeightRefIdeal (hDtWeightRefIdeal := hDtWeightRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_Mixed (hMixed := hMixed)
    ∧ quiescent_MixedIdeal (hMixedIdeal := hMixedIdeal)
    ∧ quiescent_MixedRefIdeal (hMixedRefIdeal := hMixedRefIdeal)
    ∧ quiescent_Hidden (hHidden := hHidden)
    ∧ quiescent_HiddenIdeal (hHiddenIdeal := hHiddenIdeal)
    ∧ quiescent_HiddenRefIdeal (hHiddenRefIdeal := hHiddenRefIdeal)
    ∧ quiescent_InProj (hInProj := hInProj)
    ∧ quiescent_InProjIdeal (hInProjIdeal := hInProjIdeal)
    ∧ quiescent_InProjRefIdeal (hInProjRefIdeal := hInProjRefIdeal)
    ∧ quiescent_DtProj (hDtProj := hDtProj)
    ∧ quiescent_DtProjIdeal (hDtProjIdeal := hDtProjIdeal)
    ∧ quiescent_DtProjRefIdeal (hDtProjRefIdeal := hDtProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Conv (hConv := hConv)
    ∧ quiescent_ConvIdeal (hConvIdeal := hConvIdeal)
    ∧ quiescent_ConvRefIdeal (hConvRefIdeal := hConvRefIdeal)
    ∧ quiescent_ConvA (hConvA := hConvA)
    ∧ quiescent_ConvAIdeal (hConvAIdeal := hConvAIdeal)
    ∧ quiescent_ConvAIdeal_pre_conv_finite (hConvAIdeal := hConvAIdeal) (hPre_conv_finite := hPre_conv_finite)
    ∧ quiescent_ConvARefIdeal (hConvARefIdeal := hConvARefIdeal)
    ∧ quiescent_ConvARefIdeal_pre_conv_finite (hConvARefIdeal := hConvARefIdeal) (hPre_conv_finite := hPre_conv_finite)
    ∧ quiescent_ConvB (hConvB := hConvB)
    ∧ quiescent_ConvBIdeal (hConvBIdeal := hConvBIdeal)
    ∧ quiescent_ConvBRefIdeal (hConvBRefIdeal := hConvBRefIdeal)
    ∧ quiescent_Loss (hLoss := hLoss)
    ∧ quiescent_LossIdeal (hLossIdeal := hLossIdeal)
    ∧ quiescent_LossRefIdeal (hLossRefIdeal := hLossRefIdeal)
    ∧ quiescent_Norm (hNorm := hNorm)
    ∧ quiescent_NormIdeal (hNormIdeal := hNormIdeal)
    ∧ quiescent_NormRefIdeal (hNormRefIdeal := hNormRefIdeal)
    ∧ quiescent_Post (hPost := hPost)
    ∧ quiescent_PostIdeal (hPostIdeal := hPostIdeal)
    ∧ quiescent_PostRefIdeal (hPostRefIdeal := hPostRefIdeal)
    ∧ quiescent_PostGrad (hPostGrad := hPostGrad)
    ∧ quiescent_PostGradIdeal (hPostGradIdeal := hPostGradIdeal)
    ∧ quiescent_PostGradRefIdeal (hPostGradRefIdeal := hPostGradRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ preserves_PoolA_PoolAIdeal
    ∧ algebraic_PoolAIdeal_PoolARefIdeal_on_pool_a_written_pre_pool_a_finite (hPoolAIdeal := hPoolAIdeal) (hPoolARefIdeal := hPoolARefIdeal) (hPre_pool_a_finite := hPre_pool_a_finite) (hOn_pool_a_written := hOn_pool_a_written)
    ∧ preserves_PoolB_PoolBIdeal
    ∧ algebraic_PoolBIdeal_PoolBRefIdeal_pre_pool_b_finite (hPoolBIdeal := hPoolBIdeal) (hPoolBRefIdeal := hPoolBRefIdeal) (hPre_pool_b_finite := hPre_pool_b_finite)
    ∧ preserves_InWeight_InWeightIdeal
    ∧ algebraic_InWeightIdeal_InWeightRefIdeal (hInWeightIdeal := hInWeightIdeal) (hInWeightRefIdeal := hInWeightRefIdeal)
    ∧ preserves_DtWeight_DtWeightIdeal
    ∧ algebraic_DtWeightIdeal_DtWeightRefIdeal (hDtWeightIdeal := hDtWeightIdeal) (hDtWeightRefIdeal := hDtWeightRefIdeal)
    ∧ preserves_OutWeight_OutWeightIdeal
    ∧ algebraic_OutWeightIdeal_OutWeightRefIdeal (hOutWeightIdeal := hOutWeightIdeal) (hOutWeightRefIdeal := hOutWeightRefIdeal)
    ∧ preserves_Mixed_MixedIdeal
    ∧ algebraic_MixedIdeal_MixedRefIdeal (hMixedIdeal := hMixedIdeal) (hMixedRefIdeal := hMixedRefIdeal)
    ∧ preserves_Hidden_HiddenIdeal
    ∧ algebraic_HiddenIdeal_HiddenRefIdeal (hHiddenIdeal := hHiddenIdeal) (hHiddenRefIdeal := hHiddenRefIdeal)
    ∧ preserves_InProj_InProjIdeal
    ∧ algebraic_InProjIdeal_InProjRefIdeal (hInProjIdeal := hInProjIdeal) (hInProjRefIdeal := hInProjRefIdeal)
    ∧ preserves_DtProj_DtProjIdeal
    ∧ algebraic_DtProjIdeal_DtProjRefIdeal (hDtProjIdeal := hDtProjIdeal) (hDtProjRefIdeal := hDtProjRefIdeal)
    ∧ preserves_OutProj_OutProjIdeal
    ∧ algebraic_OutProjIdeal_OutProjRefIdeal (hOutProjIdeal := hOutProjIdeal) (hOutProjRefIdeal := hOutProjRefIdeal)
    ∧ preserves_Pool_PoolIdeal
    ∧ algebraic_PoolIdeal_PoolRefIdeal_on_pool_written_pre_pool_finite (hPoolIdeal := hPoolIdeal) (hPoolRefIdeal := hPoolRefIdeal) (hPre_pool_finite := hPre_pool_finite) (hOn_pool_written := hOn_pool_written)
    ∧ preserves_Conv_ConvIdeal
    ∧ algebraic_ConvIdeal_ConvRefIdeal (hConvIdeal := hConvIdeal) (hConvRefIdeal := hConvRefIdeal)
    ∧ preserves_ConvA_ConvAIdeal
    ∧ algebraic_ConvAIdeal_ConvARefIdeal_pre_conv_finite (hConvAIdeal := hConvAIdeal) (hConvARefIdeal := hConvARefIdeal) (hPre_conv_finite := hPre_conv_finite)
    ∧ preserves_ConvB_ConvBIdeal
    ∧ algebraic_ConvBIdeal_ConvBRefIdeal (hConvBIdeal := hConvBIdeal) (hConvBRefIdeal := hConvBRefIdeal)
    ∧ preserves_Loss_LossIdeal
    ∧ algebraic_LossIdeal_LossRefIdeal (hLossIdeal := hLossIdeal) (hLossRefIdeal := hLossRefIdeal)
    ∧ preserves_Norm_NormIdeal
    ∧ algebraic_NormIdeal_NormRefIdeal (hNormIdeal := hNormIdeal) (hNormRefIdeal := hNormRefIdeal)
    ∧ preserves_Post_PostIdeal
    ∧ algebraic_PostIdeal_PostRefIdeal (hPostIdeal := hPostIdeal) (hPostRefIdeal := hPostRefIdeal)
    ∧ preserves_PostGrad_PostGradIdeal
    ∧ algebraic_PostGradIdeal_PostGradRefIdeal (hPostGradIdeal := hPostGradIdeal) (hPostGradRefIdeal := hPostGradRefIdeal)
    ∧ preserves_NormGrad_NormGradIdeal
    ∧ algebraic_NormGradIdeal_NormGradRefIdeal (hNormGradIdeal := hNormGradIdeal) (hNormGradRefIdeal := hNormGradRefIdeal)
-- ==== On_pool_a_written.lean ====
abbrev S4096x4096 : Shape := ⟨2, ![4096, 4096]⟩
abbrev S4096x9216 : Shape := ⟨2, ![4096, 9216]⟩
abbrev S4x512x512 : Shape := ⟨3, ![4, 512, 512]⟩
abbrev S1x2048 : Shape := ⟨2, ![1, 2048]⟩
abbrev S_ : Shape := ⟨0, ![]⟩
abbrev S4096x2048 : Shape := ⟨2, ![4096, 2048]⟩

class Facts : Prop where
  bcast_S_S4096x9216 : S_.BroadcastsInDim S4096x9216 (![] : Fin 0 → Fin S4096x9216.rank)
  bcast_S_S4096x2048 : S_.BroadcastsInDim S4096x2048 (![] : Fin 0 → Fin S4096x2048.rank)
  bcast_S_S1x2048 : S_.BroadcastsInDim S1x2048 (![] : Fin 0 → Fin S1x2048.rank)
  bcast_S_S4x512x512 : S_.BroadcastsInDim S4x512x512 (![] : Fin 0 → Fin S4x512x512.rank)

variable [Facts]

def fn {F : FTy → Type} [FloatOps F] (main_arg0 : FVec F S4096x4096 .f32) (main_arg1 : FVec F S4096x9216 .f32) (main_arg2 : FVec F S4x512x512 .bf16) (main_arg3 : FVec F S1x2048 .f32) : IVec S4096x9216 1 × IVec S4096x2048 1 × IVec S1x2048 1 × IVec S4x512x512 1 :=
  let main_v0 : IVec S4096x9216 32 := iotaInDim S4096x9216 32 1
  let main_c : IVec S_ 32 := constantI S_ 32 2048#32
  let main_v1 : IVec S4096x9216 32 := broadcastInDim S4096x9216 ![] bcast_S_S4096x9216 main_c
  let main_v2 : IVec S4096x9216 1 := cmpi .sge main_v0 main_v1
  let main_c_0 : IVec S_ 32 := constantI S_ 32 4096#32
  let main_v3 : IVec S4096x9216 32 := broadcastInDim S4096x9216 ![] bcast_S_S4096x9216 main_c_0
  let main_v4 : IVec S4096x9216 1 := cmpi .slt main_v0 main_v3
  let main_v5 : IVec S4096x9216 1 := andi main_v2 main_v4
  let main_c_1 : IVec S_ 1 := constantI S_ 1 1#1
  let main_v6 : IVec S4096x2048 1 := broadcastInDim S4096x2048 ![] bcast_S_S4096x2048 main_c_1
  let main_c_2 : IVec S_ 1 := constantI S_ 1 1#1
  let main_v7 : IVec S1x2048 1 := broadcastInDim S1x2048 ![] bcast_S_S1x2048 main_c_2
  let main_c_3 : IVec S_ 1 := constantI S_ 1 1#1
  let main_v8 : IVec S4x512x512 1 := broadcastInDim S4x512x512 ![] bcast_S_S4x512x512 main_c_3
  (main_v5, main_v6, main_v7, main_v8)
-- ==== On_pool_written.lean ====
abbrev S4096x9216 : Shape := ⟨2, ![4096, 9216]⟩
abbrev S4x512x512 : Shape := ⟨3, ![4, 512, 512]⟩
abbrev S1x2048 : Shape := ⟨2, ![1, 2048]⟩
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : FVec F S4096x9216 .f32) (main_arg1 : FVec F S4x512x512 .bf16) (main_arg2 : FVec F S1x2048 .f32) : IVec S4096x4096 1 :=
  let main_v0 : IVec S4096x4096 32 := iotaInDim S4096x4096 32 1
  let main_c : IVec S_ 32 := constantI S_ 32 2048#32
  let main_v1 : IVec S4096x4096 32 := broadcastInDim S4096x4096 ![] bcast_S_S4096x4096 main_c
  let main_v2 : IVec S4096x4096 1 := cmpi .slt main_v0 main_v1
  main_v2
-- ==== Pre_conv_finite.lean ====
abbrev S4096x2048 : Shape := ⟨2, ![4096, 2048]⟩
abbrev S4096x512 : Shape := ⟨2, ![4096, 512]⟩
abbrev S4096x9216 : Shape := ⟨2, ![4096, 9216]⟩
abbrev S4x3072 : Shape := ⟨2, ![4, 3072]⟩
abbrev S1x3072 : Shape := ⟨2, ![1, 3072]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x2048 .f32) (main_arg1 : FVec F S4096x512 .f32) (main_arg2 : FVec F S4096x512 .f32) (main_arg3 : FVec F S4096x9216 .f32) (main_arg4 : FVec F S4x3072 .f32) (main_arg5 : FVec F S1x3072 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  main_v13
-- ==== Pre_pool_a_finite.lean ====
abbrev S4096x4096 : Shape := ⟨2, ![4096, 4096]⟩
abbrev S4096x9216 : Shape := ⟨2, ![4096, 9216]⟩
abbrev S4x512x512 : Shape := ⟨3, ![4, 512, 512]⟩
abbrev S1x2048 : Shape := ⟨2, ![1, 2048]⟩
abbrev S4096x2048 : Shape := ⟨2, ![4096, 2048]⟩
abbrev S_ : Shape := ⟨0, ![]⟩

class Facts : Prop where
  slices_S4096x4096_S4096x2048_0_0 : S4096x4096.Slices ![0, 0] S4096x2048
  bcast_S_S4096x2048 : S_.BroadcastsInDim S4096x2048 (![] : Fin 0 → Fin S4096x2048.rank)
  reducesTo_S4096x2048_S_d0_1 : S4096x2048.ReducesTo [0, 1] S_
  h_S_ : 0 < S_.numel
  slices_S4096x9216_S4096x2048_0_0 : S4096x9216.Slices ![0, 0] S4096x2048
  bitsLt_bf16_f32 : FTy.bits .bf16 < FTy.bits .f32
  bcast_S_S4x512x512 : S_.BroadcastsInDim S4x512x512 (![] : Fin 0 → Fin S4x512x512.rank)
  reducesTo_S4x512x512_S_d0_1_2 : S4x512x512.ReducesTo [0, 1, 2] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v16 : IVec S_ 1) (main_v17 : FVec F S1x2048 .f32) : IVec S_ 1 :=
  let main_cst_4 : FVec F S_ .f32 := constant S_ .f32 0x7F800000#32
  let main_v18 : FVec F S1x2048 .f32 := broadcastInDim S1x2048 ![] bcast_S_S1x2048 main_cst_4
  let main_v19 : IVec S1x2048 1 := cmpf .olt main_v17 main_v18
  let main_c_5 : IVec S_ 1 := constantI S_ 1 1#1
  let main_v20 : IVec S_ 1 := (fun x v => Host.reduce IntOp.andi x v reducesTo_S1x2048_S_d0_1 h_S_) main_v19 main_c_5
  let main_v21 : IVec S_ 1 := andi main_v16 main_v20
  main_v21

def fn {F : FTy → Type} [FloatOps F] (main_arg0 : FVec F S4096x4096 .f32) (main_arg1 : FVec F S4096x9216 .f32) (main_arg2 : FVec F S4x512x512 .bf16) (main_arg3 : FVec F S1x2048 .f32) : IVec S_ 1 :=
  let main_v0 : FVec F S4096x2048 .f32 := (extractStridedSlice S4096x2048 ![0, 0] · slices_S4096x4096_S4096x2048_0_0) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x2048 .f32 := (extractStridedSlice S4096x2048 ![0, 0] · slices_S4096x9216_S4096x2048_0_0) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S4x512x512 .f32 := (extf .f32 · bitsLt_bf16_f32) main_arg2
  let main_v12 : FVec F S4x512x512 .f32 := Host.absf main_v11
  let main_cst_2 : FVec F S_ .f32 := constant S_ .f32 0x7F800000#32
  let main_v13 : FVec F S4x512x512 .f32 := broadcastInDim S4x512x512 ![] bcast_S_S4x512x512 main_cst_2
  let main_v14 : IVec S4x512x512 1 := cmpf .olt main_v12 main_v13
  let main_c_3 : IVec S_ 1 := constantI S_ 1 1#1
  let main_v15 : IVec S_ 1 := (fun x v => Host.reduce IntOp.andi x v reducesTo_S4x512x512_S_d0_1_2 h_S_) main_v14 main_c_3
  let main_v16 : IVec S_ 1 := andi main_v10 main_v15
  let main_v17 : FVec F S1x2048 .f32 := Host.absf main_arg3
  fn_part1 (F := F) main_v16 main_v17
-- ==== Pre_pool_b_finite.lean ====
abbrev S4096x2048 : Shape := ⟨2, ![4096, 2048]⟩
abbrev S4096x9216 : Shape := ⟨2, ![4096, 9216]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x9216 .bf16) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Pre_pool_finite.lean ====
abbrev S4096x9216 : Shape := ⟨2, ![4096, 9216]⟩
abbrev S4x512x512 : Shape := ⟨3, ![4, 512, 512]⟩
abbrev S1x2048 : Shape := ⟨2, ![1, 2048]⟩
abbrev S4096x2048 : Shape := ⟨2, ![4096, 2048]⟩
abbrev S_ : Shape := ⟨0, ![]⟩

class Facts : Prop where
  slices_S4096x9216_S4096x2048_0_0 : S4096x9216.Slices ![0, 0] S4096x2048
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x9216 .f32) (main_arg1 : FVec F S4x512x512 .bf16) (main_arg2 : FVec F S1x2048 .f32) : IVec S_ 1 :=
  let main_v0 : FVec F S4096x2048 .f32 := (extractStridedSlice S4096x2048 ![0, 0] · slices_S4096x9216_S4096x2048_0_0) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  main_v4
-- ==== PoolA.lean ====
abbrev S4096x4096 : Shape := ⟨2, ![4096, 4096]⟩
abbrev S4096x9216 : Shape := ⟨2, ![4096, 9216]⟩
abbrev S4x512x512 : Shape := ⟨3, ![4, 512, 512]⟩
abbrev S1x2048 : Shape := ⟨2, ![1, 2048]⟩
abbrev S4096x2048 : Shape := ⟨2, ![4096, 2048]⟩
abbrev S256x2048 : Shape := ⟨2, ![256, 2048]⟩
abbrev S16x2048 : Shape := ⟨2, ![16, 2048]⟩
abbrev S272x2048 : Shape := ⟨2, ![272, 2048]⟩
abbrev S256x1 : Shape := ⟨2, ![256, 1]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 8
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x9216, .f32⟩
  | .hbm, ⟨2, _⟩ => ⟨S4x512x512, .bf16⟩
  | .hbm, ⟨3, _⟩ => ⟨S1x2048, .f32⟩
  | .hbm, ⟨4, _⟩ => ⟨S4096x9216, .bf16⟩
  | .hbm, ⟨5, _⟩ => ⟨S4096x2048, .f32⟩
  | .hbm, ⟨6, _⟩ => ⟨S1x2048, .f32⟩
  | .hbm, ⟨7, _⟩ => ⟨S4x512x512, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S16x2048, .f32⟩
  | .local _ .vmem, ⟨5, _⟩ => ⟨S16x2048, .f32⟩
  | .local _ .vmem, ⟨6, _⟩ => ⟨S256x2048, .f32⟩
  | .local _ .vmem, ⟨7, _⟩ => ⟨S256x2048, .f32⟩
  | .local _ .vmem, ⟨8, _⟩ => ⟨S4x512x512, .bf16⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S4x512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PoolARefIdeal.lean ====
abbrev S4096x4096 : Shape := ⟨2, ![4096, 4096]⟩
abbrev S4096x9216 : Shape := ⟨2, ![4096, 9216]⟩
abbrev S4x512x512 : Shape := ⟨3, ![4, 512, 512]⟩
abbrev S1x2048 : Shape := ⟨2, ![1, 2048]⟩
abbrev S4096x2048 : Shape := ⟨2, ![4096, 2048]⟩
abbrev S_ : Shape := ⟨0, ![]⟩
abbrev S16x2048 : Shape := ⟨2, ![16, 2048]⟩
abbrev S4112x2048 : Shape := ⟨2, ![4112, 2048]⟩
abbrev S4096 : Shape := ⟨1, ![4096]⟩
abbrev S4096x1 : Shape := ⟨2, ![4096, 1]⟩
abbrev S4096x512 : Shape := ⟨2, ![4096, 512]⟩
abbrev S4096x1x512 : Shape := ⟨3, ![4096, 1, 512]⟩
abbrev S4096x4x512 : Shape := ⟨3, ![4096, 4, 512]⟩
abbrev S2048 : Shape := ⟨1, ![2048]⟩
abbrev S4x512x4096 : Shape := ⟨3, ![4, 512, 4096]⟩
abbrev S4x4096x512 : Shape := ⟨3, ![4, 4096, 512]⟩
abbrev S4096x5120 : Shape := ⟨2, ![4096, 5120]⟩

abbrev nBuf : Space → Nat
  | .hbm => 178
  | .vmem => 0
  | .smem => 0
  | _ => 0

abbrev hbmTy0_0 (i : Nat) : BufTy := match i % 128 with
  | 0 => ⟨S4096x4096, .f32⟩
  | 1 => ⟨S4096x9216, .f32⟩
  | 2 => ⟨S4x512x512, .bf16⟩
  | 3 => ⟨S1x2048, .f32⟩
  | 4 => ⟨S4096x2048, .f32⟩
  | 5 => ⟨S_, .f32⟩
  | 6 => ⟨S_, .f32⟩
  | 7 => ⟨S4096x2048, .f32⟩
  | 8 => ⟨S_, .f32⟩
  | 9 => ⟨S16x2048, .f32⟩
  | 10 => ⟨S4112x2048, .f32⟩
  | 11 => ⟨S4096, .i32⟩
  | 12 => ⟨S_, .i32⟩
  | 13 => ⟨S4096, .i32⟩
  | 14 => ⟨S4096, .i32⟩
  | 15 => ⟨S_, .i32⟩
  | 16 => ⟨S4096, .i32⟩
  | 17 => ⟨S4096, .i32⟩
  | 18 => ⟨S4096, .f32⟩
  | 19 => ⟨S4096x1, .f32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S4096, .f32⟩
  | 27 => ⟨S4096x1, .f32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S4096, .f32⟩
  | 35 => ⟨S4096x1, .f32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S4096, .f32⟩
  | 43 => ⟨S4096x1, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S4096x512, .f32⟩
  | 60 => ⟨S4096x512, .f32⟩
  | 61 => ⟨S4096x512, .f32⟩
  | 62 => ⟨S4096x512, .f32⟩
  | 63 => ⟨S4096x512, .f32⟩
  | 64 => ⟨S4096x512, .f32⟩
  | 65 => ⟨S4096x512, .f32⟩
  | 66 => ⟨S4096x512, .f32⟩
  | 67 => ⟨S4096x512, .f32⟩
  | 68 => ⟨S4096x512, .f32⟩
  | 69 => ⟨S4096x512, .f32⟩
  | 70 => ⟨S4096x512, .f32⟩
  | 71 => ⟨S4096x512, .f32⟩
  | 72 => ⟨S4096x1x512, .f32⟩
  | 73 => ⟨S4096x1x512, .f32⟩
  | 74 => ⟨S4096x1x512, .f32⟩
  | 75 => ⟨S4096x1x512, .f32⟩
  | 76 => ⟨S4096x4x512, .f32⟩
  | 77 => ⟨S4096x2048, .f32⟩
  | 78 => ⟨S4x512x512, .f32⟩
  | 79 => ⟨S2048, .f32⟩
  | 80 => ⟨S4x512x4096, .f32⟩
  | 81 => ⟨S4096x4x512, .f32⟩
  | 82 => ⟨S4096x2048, .f32⟩
  | 83 => ⟨S1x2048, .f32⟩
  | 84 => ⟨S4096x2048, .f32⟩
  | 85 => ⟨S4096x2048, .f32⟩
  | 86 => ⟨S4096x2048, .f32⟩
  | 87 => ⟨S4096x2048, .f32⟩
  | 88 => ⟨S_, .f32⟩
  | 89 => ⟨S4096x2048, .f32⟩
  | 90 => ⟨S4096x2048, .f32⟩
  | 91 => ⟨S_, .f32⟩
  | 92 => ⟨S4096x2048, .f32⟩
  | 93 => ⟨S4096x2048, .f32⟩
  | 94 => ⟨S_, .f32⟩
  | 95 => ⟨S4096x2048, .f32⟩
  | 96 => ⟨S4096x2048, .f32⟩
  | 97 => ⟨S4096x2048, .f32⟩
  | 98 => ⟨S4096x2048, .f32⟩
  | 99 => ⟨S4096x2048, .f32⟩
  | 100 => ⟨S4096x2048, .f32⟩
  | 101 => ⟨S4096x2048, .f32⟩
  | 102 => ⟨S4096x2048, .f32⟩
  | 103 => ⟨S4096x2048, .f32⟩
  | 104 => ⟨S4096x2048, .f32⟩
  | 105 => ⟨S4096x2048, .f32⟩
  | 106 => ⟨S4096x2048, .f32⟩
  | 107 => ⟨S4096x2048, .f32⟩
  | 108 => ⟨S_, .f32⟩
  | 109 => ⟨S2048, .f32⟩
  | 110 => ⟨S1x2048, .f32⟩
  | 111 => ⟨S4096x2048, .f32⟩
  | 112 => ⟨S4096x2048, .f32⟩
  | 113 => ⟨S_, .f32⟩
  | 114 => ⟨S2048, .f32⟩
  | 115 => ⟨S4096x4x512, .f32⟩
  | 116 => ⟨S4x512x4096, .f32⟩
  | 117 => ⟨S4x4096x512, .f32⟩
  | 118 => ⟨S4096x4x512, .f32⟩
  | 119 => ⟨S4x512x512, .f32⟩
  | 120 => ⟨S4x512x512, .f32⟩
  | 121 => ⟨S4096, .i32⟩
  | 122 => ⟨S_, .i32⟩
  | 123 => ⟨S4096, .i32⟩
  | 124 => ⟨S4096, .i32⟩
  | 125 => ⟨S_, .i32⟩
  | 126 => ⟨S4096, .i32⟩
  | 127 => ⟨S4096, .i32⟩
  | _ => ⟨S4096x4096, .f32⟩

abbrev hbmTy0_1 (i : Nat) : BufTy := match i % 128 with
  | 0 => ⟨S4096, .f32⟩
  | 1 => ⟨S4096x1, .f32⟩
  | 2 => ⟨S_, .i32⟩
  | 3 => ⟨S4096, .i32⟩
  | 4 => ⟨S4096, .i32⟩
  | 5 => ⟨S_, .i32⟩
  | 6 => ⟨S4096, .i32⟩
  | 7 => ⟨S4096, .i32⟩
  | 8 => ⟨S4096, .f32⟩
  | 9 => ⟨S4096x1, .f32⟩
  | 10 => ⟨S_, .i32⟩
  | 11 => ⟨S4096, .i32⟩
  | 12 => ⟨S4096, .i32⟩
  | 13 => ⟨S_, .i32⟩
  | 14 => ⟨S4096, .i32⟩
  | 15 => ⟨S4096, .i32⟩
  | 16 => ⟨S4096, .f32⟩
  | 17 => ⟨S4096x1, .f32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S4096, .f32⟩
  | 25 => ⟨S4096x1, .f32⟩
  | 26 => ⟨S4096x1x512, .f32⟩
  | 27 => ⟨S4096x512, .f32⟩
  | 28 => ⟨S4096x512, .f32⟩
  | 29 => ⟨S4096x512, .f32⟩
  | 30 => ⟨S4096x1x512, .f32⟩
  | 31 => ⟨S4096x512, .f32⟩
  | 32 => ⟨S4096x512, .f32⟩
  | 33 => ⟨S4096x512, .f32⟩
  | 34 => ⟨S4096x1x512, .f32⟩
  | 35 => ⟨S4096x512, .f32⟩
  | 36 => ⟨S4096x512, .f32⟩
  | 37 => ⟨S4096x512, .f32⟩
  | 38 => ⟨S4096x1x512, .f32⟩
  | 39 => ⟨S4096x512, .f32⟩
  | 40 => ⟨S4096x512, .f32⟩
  | 41 => ⟨S4096x512, .f32⟩
  | 42 => ⟨S4096x2048, .f32⟩
  | 43 => ⟨S_, .f32⟩
  | 44 => ⟨S4096x2048, .f32⟩
  | 45 => ⟨S_, .f32⟩
  | 46 => ⟨S4096x5120, .f32⟩
  | 47 => ⟨S4096x9216, .f32⟩
  | 48 => ⟨S4096x9216, .bf16⟩
  | 49 => ⟨S1x2048, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_v71_2 : Ref sig .tc := ⟨.hbm, 93, rfl⟩
abbrev main_call1_cst_1 : Ref sig .tc := ⟨.hbm, 94, rfl⟩
abbrev main_call1_v6 : Ref sig .tc := ⟨.hbm, 95, rfl⟩
abbrev main_call1_v7 : Ref sig .tc := ⟨.hbm, 96, rfl⟩
abbrev main_v71_1 : Ref sig .tc := ⟨.hbm, 97, rfl⟩
abbrev main_v71_0 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_v76 : Ref sig .tc := ⟨.hbm, 106, rfl⟩
abbrev main_v77 : Ref sig .tc := ⟨.hbm, 107, rfl⟩
abbrev main_cst_7 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_8 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_9 : Ref sig .tc := ⟨.hbm, 122, rfl⟩
abbrev main_v90 : Ref sig .tc := ⟨.hbm, 123, rfl⟩
abbrev main_v91 : Ref sig .tc := ⟨.hbm, 124, rfl⟩
abbrev main_c_10 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_11 : Ref sig .tc := ⟨.hbm, 130, rfl⟩
abbrev main_v96 : Ref sig .tc := ⟨.hbm, 131, rfl⟩
abbrev main_v97 : Ref sig .tc := ⟨.hbm, 132, rfl⟩
abbrev main_c_12 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_13 : Ref sig .tc := ⟨.hbm, 138, rfl⟩
abbrev main_v102 : Ref sig .tc := ⟨.hbm, 139, rfl⟩
abbrev main_v103 : Ref sig .tc := ⟨.hbm, 140, rfl⟩
abbrev main_c_14 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_15 : Ref sig .tc := ⟨.hbm, 146, rfl⟩
abbrev main_v108 : Ref sig .tc := ⟨.hbm, 147, rfl⟩
abbrev main_v109 : Ref sig .tc := ⟨.hbm, 148, rfl⟩
abbrev main_c_16 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_17 : Ref sig .tc := ⟨.hbm, 171, rfl⟩
abbrev main_v131 : Ref sig .tc := ⟨.hbm, 172, rfl⟩
abbrev main_cst_18 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩

abbrev nD : Nat := 1
abbrev τ : Topo := Topo.v7x

variable {F : FTy → Type} [FloatOps F]
-- ==== PoolB.lean ====
abbrev S4096x2048 : Shape := ⟨2, ![4096, 2048]⟩
abbrev S4096x9216 : Shape := ⟨2, ![4096, 9216]⟩
abbrev S512x2048 : Shape := ⟨2, ![512, 2048]⟩
abbrev S16x2048 : Shape := ⟨2, ![16, 2048]⟩
abbrev S528x2048 : Shape := ⟨2, ![528, 2048]⟩
abbrev S512x512 : Shape := ⟨2, ![512, 512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x9216, .bf16⟩
  | .hbm, ⟨2, _⟩ => ⟨S4096x9216, .bf16⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S512x2048, .bf16⟩
  | .local _ .vmem, ⟨5, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolBRefIdeal.lean ====
abbrev S4096x2048 : Shape := ⟨2, ![4096, 2048]⟩
abbrev S4096x9216 : Shape := ⟨2, ![4096, 9216]⟩
abbrev S4096 : Shape := ⟨1, ![4096]⟩
abbrev S_ : Shape := ⟨0, ![]⟩
abbrev S4096x1 : Shape := ⟨2, ![4096, 1]⟩
abbrev S4096x512 : Shape := ⟨2, ![4096, 512]⟩
abbrev S4096x1x512 : Shape := ⟨3, ![4096, 1, 512]⟩
abbrev S4096x4x512 : Shape := ⟨3, ![4096, 4, 512]⟩
abbrev S16x2048 : Shape := ⟨2, ![16, 2048]⟩
abbrev S4112x2048 : Shape := ⟨2, ![4112, 2048]⟩
abbrev S4096x7168 : Shape := ⟨2, ![4096, 7168]⟩

abbrev nBuf : Space → Nat
  | .hbm => 195
  | .vmem => 0
  | .smem => 0
  | _ => 0

abbrev hbmTy0_0 (i : Nat) : BufTy := match i % 128 with
  | 0 => ⟨S4096x2048, .f32⟩
  | 1 => ⟨S4096x9216, .bf16⟩
  | 2 => ⟨S4096, .i32⟩
  | 3 => ⟨S_, .i32⟩
  | 4 => ⟨S4096, .i32⟩
  | 5 => ⟨S4096, .i32⟩
  | 6 => ⟨S_, .i32⟩
  | 7 => ⟨S4096, .i32⟩
  | 8 => ⟨S4096, .i32⟩
  | 9 => ⟨S4096, .f32⟩
  | 10 => ⟨S4096x1, .f32⟩
  | 11 => ⟨S_, .i32⟩
  | 12 => ⟨S4096, .i32⟩
  | 13 => ⟨S4096, .i32⟩
  | 14 => ⟨S_, .i32⟩
  | 15 => ⟨S4096, .i32⟩
  | 16 => ⟨S4096, .i32⟩
  | 17 => ⟨S4096, .f32⟩
  | 18 => ⟨S4096x1, .f32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S4096, .f32⟩
  | 26 => ⟨S4096x1, .f32⟩
  | 27 => ⟨S_, .i32⟩
  | 28 => ⟨S4096, .i32⟩
  | 29 => ⟨S4096, .i32⟩
  | 30 => ⟨S_, .i32⟩
  | 31 => ⟨S4096, .i32⟩
  | 32 => ⟨S4096, .i32⟩
  | 33 => ⟨S4096, .f32⟩
  | 34 => ⟨S4096x1, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S4096x1x512, .f32⟩
  | 48 => ⟨S4096x1x512, .f32⟩
  | 49 => ⟨S4096x1x512, .f32⟩
  | 50 => ⟨S4096x1x512, .f32⟩
  | 51 => ⟨S4096x4x512, .f32⟩
  | 52 => ⟨S_, .f32⟩
  | 53 => ⟨S4096x2048, .f32⟩
  | 54 => ⟨S_, .f32⟩
  | 55 => ⟨S_, .f32⟩
  | 56 => ⟨S4096x2048, .f32⟩
  | 57 => ⟨S_, .f32⟩
  | 58 => ⟨S16x2048, .f32⟩
  | 59 => ⟨S4112x2048, .f32⟩
  | 60 => ⟨S_, .f32⟩
  | 61 => ⟨S16x2048, .f32⟩
  | 62 => ⟨S4096, .i32⟩
  | 63 => ⟨S_, .i32⟩
  | 64 => ⟨S4096, .i32⟩
  | 65 => ⟨S4096, .i32⟩
  | 66 => ⟨S_, .i32⟩
  | 67 => ⟨S4096, .i32⟩
  | 68 => ⟨S4096, .i32⟩
  | 69 => ⟨S4096, .f32⟩
  | 70 => ⟨S4096x1, .f32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S4096, .f32⟩
  | 78 => ⟨S4096x1, .f32⟩
  | 79 => ⟨S_, .i32⟩
  | 80 => ⟨S4096, .i32⟩
  | 81 => ⟨S4096, .i32⟩
  | 82 => ⟨S_, .i32⟩
  | 83 => ⟨S4096, .i32⟩
  | 84 => ⟨S4096, .i32⟩
  | 85 => ⟨S4096, .f32⟩
  | 86 => ⟨S4096x1, .f32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S4096, .f32⟩
  | 94 => ⟨S4096x1, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S4096x512, .f32⟩
  | 108 => ⟨S4096x512, .f32⟩
  | 109 => ⟨S4096x512, .f32⟩
  | 110 => ⟨S4096x512, .f32⟩
  | 111 => ⟨S4096x512, .f32⟩
  | 112 => ⟨S4096x512, .f32⟩
  | 113 => ⟨S4096x512, .f32⟩
  | 114 => ⟨S4096x512, .f32⟩
  | 115 => ⟨S4096x512, .f32⟩
  | 116 => ⟨S4096x512, .f32⟩
  | 117 => ⟨S4096x512, .f32⟩
  | 118 => ⟨S4096x512, .f32⟩
  | 119 => ⟨S4096x512, .f32⟩
  | 120 => ⟨S4096x512, .f32⟩
  | 121 => ⟨S4096x512, .f32⟩
  | 122 => ⟨S4096x512, .f32⟩
  | 123 => ⟨S4096x1x512, .f32⟩
  | 124 => ⟨S4096x1x512, .f32⟩
  | 125 => ⟨S4096x1x512, .f32⟩
  | 126 => ⟨S4096x1x512, .f32⟩
  | 127 => ⟨S4096x4x512, .f32⟩
  | _ => ⟨S4096x2048, .f32⟩

abbrev hbmTy0_1 (i : Nat) : BufTy := match i % 128 with
  | 0 => ⟨S4096x1x512, .f32⟩
  | 1 => ⟨S4096x512, .f32⟩
  | 2 => ⟨S4096x1x512, .f32⟩
  | 3 => ⟨S4096x512, .f32⟩
  | 4 => ⟨S4096x1x512, .f32⟩
  | 5 => ⟨S4096x512, .f32⟩
  | 6 => ⟨S4096x1x512, .f32⟩
  | 7 => ⟨S4096x512, .f32⟩
  | 8 => ⟨S4096x512, .f32⟩
  | 9 => ⟨S_, .f32⟩
  | 10 => ⟨S4096x2048, .f32⟩
  | 11 => ⟨S4096x512, .f32⟩
  | 12 => ⟨S4096x512, .f32⟩
  | 13 => ⟨S4096x512, .f32⟩
  | 14 => ⟨S_, .f32⟩
  | 15 => ⟨S4112x2048, .f32⟩
  | 16 => ⟨S_, .f32⟩
  | 17 => ⟨S4112x2048, .f32⟩
  | 18 => ⟨S4112x2048, .f32⟩
  | 19 => ⟨S4096x512, .f32⟩
  | 20 => ⟨S_, .f32⟩
  | 21 => ⟨S4096x2048, .f32⟩
  | 22 => ⟨S4096x2048, .f32⟩
  | 23 => ⟨S4096x512, .f32⟩
  | 24 => ⟨S4096x512, .f32⟩
  | 25 => ⟨S4096x512, .f32⟩
  | 26 => ⟨S_, .f32⟩
  | 27 => ⟨S4112x2048, .f32⟩
  | 28 => ⟨S4112x2048, .f32⟩
  | 29 => ⟨S_, .f32⟩
  | 30 => ⟨S4112x2048, .f32⟩
  | 31 => ⟨S4112x2048, .f32⟩
  | 32 => ⟨S4096x512, .f32⟩
  | 33 => ⟨S_, .f32⟩
  | 34 => ⟨S4096x2048, .f32⟩
  | 35 => ⟨S4096x2048, .f32⟩
  | 36 => ⟨S4096x512, .f32⟩
  | 37 => ⟨S4096x512, .f32⟩
  | 38 => ⟨S4096x512, .f32⟩
  | 39 => ⟨S_, .f32⟩
  | 40 => ⟨S4112x2048, .f32⟩
  | 41 => ⟨S4112x2048, .f32⟩
  | 42 => ⟨S_, .f32⟩
  | 43 => ⟨S4112x2048, .f32⟩
  | 44 => ⟨S4112x2048, .f32⟩
  | 45 => ⟨S4096x512, .f32⟩
  | 46 => ⟨S_, .f32⟩
  | 47 => ⟨S4096x2048, .f32⟩
  | 48 => ⟨S4096x2048, .f32⟩
  | 49 => ⟨S4096x512, .f32⟩
  | 50 => ⟨S4096x512, .f32⟩
  | 51 => ⟨S4096x512, .f32⟩
  | 52 => ⟨S_, .f32⟩
  | 53 => ⟨S4112x2048, .f32⟩
  | 54 => ⟨S4112x2048, .f32⟩
  | 55 => ⟨S_, .f32⟩
  | 56 => ⟨S4112x2048, .f32⟩
  | 57 => ⟨S4112x2048, .f32⟩
  | 58 => ⟨S16x2048, .f32⟩
  | 59 => ⟨S4096x2048, .f32⟩
  | 60 => ⟨S_, .f32⟩
  | 61 => ⟨S_, .f32⟩
  | 62 => ⟨S4096x2048, .f32⟩
  | 63 => ⟨S4096x2048, .f32⟩
  | 64 => ⟨S4096x2048, .bf16⟩
  | 65 => ⟨S4096x7168, .bf16⟩
  | 66 => ⟨S4096x9216, .bf16⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst : Ref sig .tc := ⟨.hbm, 52, rfl⟩
abbrev main_v42 : Ref sig .tc := ⟨.hbm, 53, rfl⟩
abbrev main_call0_call0_cst : Ref sig .tc := ⟨.hbm, 54, rfl⟩
abbrev main_call0_call0_v0 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_c_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_c_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_13 : Ref sig .tc := ⟨.hbm, 79, rfl⟩
abbrev main_v60 : Ref sig .tc := ⟨.hbm, 80, rfl⟩
abbrev main_v61 : Ref sig .tc := ⟨.hbm, 81, rfl⟩
abbrev main_c_14 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_15 : Ref sig .tc := ⟨.hbm, 87, rfl⟩
abbrev main_v66 : Ref sig .tc := ⟨.hbm, 88, rfl⟩
abbrev main_v67 : Ref sig .tc := ⟨.hbm, 89, rfl⟩
abbrev main_c_16 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_cst_17 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_18 : Ref sig .tc := ⟨.hbm, 142, rfl⟩
abbrev main_v118 : Ref sig .tc := ⟨.hbm, 143, rfl⟩
abbrev main_cst_19 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_20 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_cst_21 : Ref sig .tc := ⟨.hbm, 154, rfl⟩
abbrev main_v127 : Ref sig .tc := ⟨.hbm, 155, rfl⟩
abbrev main_v128 : Ref sig .tc := ⟨.hbm, 156, rfl⟩
abbrev main_cst_22 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_23 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_24 : Ref sig .tc := ⟨.hbm, 167, rfl⟩
abbrev main_v137 : Ref sig .tc := ⟨.hbm, 168, rfl⟩
abbrev main_v138 : Ref sig .tc := ⟨.hbm, 169, rfl⟩
abbrev main_cst_25 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_cst_26 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_cst_27 : Ref sig .tc := ⟨.hbm, 180, rfl⟩
abbrev main_v147 : Ref sig .tc := ⟨.hbm, 181, rfl⟩
abbrev main_v148 : Ref sig .tc := ⟨.hbm, 182, rfl⟩
abbrev main_cst_28 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_call1_call0_cst : Ref sig .tc := ⟨.hbm, 188, rfl⟩
abbrev main_call1_call0_v0 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩

abbrev nD : Nat := 1
abbrev τ : Topo := Topo.v7x

variable {F : FTy → Type} [FloatOps F]
-- ==== InWeight.lean ====
abbrev S4096x2048 : Shape := ⟨2, ![4096, 2048]⟩
abbrev S4096x9216 : Shape := ⟨2, ![4096, 9216]⟩
abbrev S2048x9216 : Shape := ⟨2, ![2048, 9216]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x9216, .bf16⟩
  | .hbm, ⟨2, _⟩ => ⟨S2048x9216, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InWeightRefIdeal.lean ====
abbrev S4096x2048 : Shape := ⟨2, ![4096, 2048]⟩
abbrev S4096x9216 : Shape := ⟨2, ![4096, 9216]⟩
abbrev S_ : Shape := ⟨0, ![]⟩
abbrev S2048x9216 : Shape := ⟨2, ![2048, 9216]⟩
abbrev S9216x2048 : Shape := ⟨2, ![9216, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x9216, .bf16⟩
  | .hbm, ⟨2, _⟩ => ⟨S_, .f32⟩
  | .hbm, ⟨3, _⟩ => ⟨S2048x9216, .f32⟩
  | .hbm, ⟨4, _⟩ => ⟨S4096x2048, .f32⟩
  | .hbm, ⟨5, _⟩ => ⟨S4096x9216, .f32⟩
  | .hbm, ⟨6, _⟩ => ⟨S4096x9216, .f32⟩
  | .hbm, ⟨7, _⟩ => ⟨S9216x2048, .f32⟩
  | .hbm, ⟨8, _⟩ => ⟨S2048x9216, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DtWeight.lean ====
abbrev S4096x2048 : Shape := ⟨2, ![4096, 2048]⟩
abbrev S4096x128 : Shape := ⟨2, ![4096, 128]⟩
abbrev S2048x128 : Shape := ⟨2, ![2048, 128]⟩
abbrev S4096x512 : Shape := ⟨2, ![4096, 512]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S2048x128, .f32⟩
  | .local _ .vmem, ⟨0, _⟩ => ⟨S4096x512, .bf16⟩
  | .local _ .vmem, ⟨1, _⟩ => ⟨S4096x512, .bf16⟩
  | .local _ .vmem, ⟨2, _⟩ => ⟨S4096x128, .bf16⟩
  | .local _ .vmem, ⟨3, _⟩ => ⟨S512x128, .f32⟩
  | .local _ .vmem, ⟨4, _⟩ => ⟨S512x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DtWeightRefIdeal.lean ====
abbrev S4096x2048 : Shape := ⟨2, ![4096, 2048]⟩
abbrev S4096x128 : Shape := ⟨2, ![4096, 128]⟩
abbrev S_ : Shape := ⟨0, ![]⟩
abbrev S2048x128 : Shape := ⟨2, ![2048, 128]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S_, .f32⟩
  | .hbm, ⟨3, _⟩ => ⟨S2048x128, .f32⟩
  | .hbm, ⟨4, _⟩ => ⟨S4096x2048, .f32⟩
  | .hbm, ⟨5, _⟩ => ⟨S4096x128, .f32⟩
  | .hbm, ⟨6, _⟩ => ⟨S4096x128, .f32⟩
  | .hbm, ⟨7, _⟩ => ⟨S128x2048, .f32⟩
  | .hbm, ⟨8, _⟩ => ⟨S2048x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWeight.lean ====
abbrev S4096x4096 : Shape := ⟨2, ![4096, 4096]⟩
abbrev S4096x2048 : Shape := ⟨2, ![4096, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutWeightRefIdeal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mixed.lean ====
abbrev S4096x2048 : Shape := ⟨2, ![4096, 2048]⟩
abbrev S4096x4096 : Shape := ⟨2, ![4096, 4096]⟩
abbrev S512x2048 : Shape := ⟨2, ![512, 2048]⟩
abbrev S2048x2048 : Shape := ⟨2, ![2048, 2048]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixedRefIdeal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Hidden.lean ====
abbrev S4096x9216 : Shape := ⟨2, ![4096, 9216]⟩
abbrev S2048x9216 : Shape := ⟨2, ![2048, 9216]⟩
abbrev S4096x128 : Shape := ⟨2, ![4096, 128]⟩
abbrev S2048x128 : Shape := ⟨2, ![2048, 128]⟩
abbrev S4096x2048 : Shape := ⟨2, ![4096, 2048]⟩
abbrev S512x3072 : Shape := ⟨2, ![512, 3072]⟩
abbrev S2048x3072 : Shape := ⟨2, ![2048, 3072]⟩
abbrev S512x128 : Shape := ⟨2, ![512, 128]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x9216, .bf16⟩
  | .hbm, ⟨1, _⟩ => ⟨S2048x9216, .bf16⟩
  | .hbm, ⟨2, _⟩ => ⟨S4096x128, .bf16⟩
  | .hbm, ⟨3, _⟩ => ⟨S2048x128, .bf16⟩
  | .hbm, ⟨4, _⟩ => ⟨S4096x2048, .f32⟩
  | .local _ .vmem, ⟨0, _⟩ => ⟨S512x3072, .bf16⟩
  | .local _ .vmem, ⟨1, _⟩ => ⟨S512x3072, .bf16⟩
  | .local _ .vmem, ⟨2, _⟩ => ⟨S2048x3072, .bf16⟩
  | .local _ .vmem, ⟨3, _⟩ => ⟨S2048x3072, .bf16⟩
  | .local _ .vmem, ⟨4, _⟩ => ⟨S512x128, .bf16⟩
  | .local _ .vmem, ⟨5, _⟩ => ⟨S512x128, .bf16⟩
  | .local _ .vmem, ⟨6, _⟩ => ⟨S2048x128, .bf16⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== HiddenRefIdeal.lean ====
abbrev S4096x9216 : Shape := ⟨2, ![4096, 9216]⟩
abbrev S2048x9216 : Shape := ⟨2, ![2048, 9216]⟩
abbrev S4096x128 : Shape := ⟨2, ![4096, 128]⟩
abbrev S2048x128 : Shape := ⟨2, ![2048, 128]⟩
abbrev S_ : Shape := ⟨0, ![]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S2048x9216, .bf16⟩
  | .hbm, ⟨2, _⟩ => ⟨S4096x128, .bf16⟩
  | .hbm, ⟨3, _⟩ => ⟨S2048x128, .bf16⟩
  | .hbm, ⟨4, _⟩ => ⟨S_, .f32⟩
  | .hbm, ⟨5, _⟩ => ⟨S4096x2048, .f32⟩
  | .hbm, ⟨6, _⟩ => ⟨S2048x9216, .f32⟩
  | .hbm, ⟨7, _⟩ => ⟨S4096x9216, .f32⟩
  | .hbm, ⟨8, _⟩ => ⟨S2048x128, .f32⟩
  | .hbm, ⟨9, _⟩ => ⟨S4096x128, .f32⟩
  | .hbm, ⟨10, _⟩ => ⟨S4096x9216, .f32⟩
  | .hbm, ⟨11, _⟩ => ⟨S4096x128, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== InProj.lean ====
abbrev S4096x2048 : Shape := ⟨2, ![4096, 2048]⟩
abbrev S2048x9216 : Shape := ⟨2, ![2048, 9216]⟩
abbrev S4096x9216 : Shape := ⟨2, ![4096, 9216]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x9216, .bf16⟩
  | .hbm, ⟨2, _⟩ => ⟨S4096x9216, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4096x2048 : Shape := ⟨2, ![4096, 2048]⟩
abbrev S2048x9216 : Shape := ⟨2, ![2048, 9216]⟩
abbrev S4096x9216 : Shape := ⟨2, ![4096, 9216]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x9216, .bf16⟩
  | .hbm, ⟨2, _⟩ => ⟨S4096x2048, .f32⟩
  | .hbm, ⟨3, _⟩ => ⟨S2048x9216, .f32⟩
  | .hbm, ⟨4, _⟩ => ⟨S4096x9216, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DtProj.lean ====
abbrev S4096x2048 : Shape := ⟨2, ![4096, 2048]⟩
abbrev S2048x128 : Shape := ⟨2, ![2048, 128]⟩
abbrev S4096x128 : Shape := ⟨2, ![4096, 128]⟩
abbrev S512x2048 : Shape := ⟨2, ![512, 2048]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x128, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DtProjRefIdeal.lean ====
abbrev S4096x2048 : Shape := ⟨2, ![4096, 2048]⟩
abbrev S2048x128 : Shape := ⟨2, ![2048, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x2048, .f32⟩
  | .hbm, ⟨3, _⟩ => ⟨S2048x128, .f32⟩
  | .hbm, ⟨4, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S4096x4096 : Shape := ⟨2, ![4096, 4096]⟩
abbrev S4096x2048 : Shape := ⟨2, ![4096, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Pool.lean ====
abbrev S4096x9216 : Shape := ⟨2, ![4096, 9216]⟩
abbrev S4x512x512 : Shape := ⟨3, ![4, 512, 512]⟩
abbrev S1x2048 : Shape := ⟨2, ![1, 2048]⟩
abbrev S4096x4096 : Shape := ⟨2, ![4096, 4096]⟩
abbrev S512x2048 : Shape := ⟨2, ![512, 2048]⟩
abbrev S16x2048 : Shape := ⟨2, ![16, 2048]⟩
abbrev S528x2048 : Shape := ⟨2, ![528, 2048]⟩
abbrev S512x512 : Shape := ⟨2, ![512, 512]⟩
abbrev S512x1 : Shape := ⟨2, ![512, 1]⟩
abbrev S1x512x512 : Shape := ⟨3, ![1, 512, 512]⟩
abbrev S1x512 : Shape := ⟨2, ![1, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x9216, .f32⟩
  | .hbm, ⟨1, _⟩ => ⟨S4x512x512, .bf16⟩
  | .hbm, ⟨2, _⟩ => ⟨S1x2048, .f32⟩
  | .hbm, ⟨3, _⟩ => ⟨S4096x4096, .bf16⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S512x2048, .f32⟩
  | .local _ .vmem, ⟨5, _⟩ => ⟨S512x2048, .f32⟩
  | .local _ .vmem, ⟨6, _⟩ => ⟨S4x512x512, .bf16⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolRefIdeal.lean ====
abbrev S4096x9216 : Shape := ⟨2, ![4096, 9216]⟩
abbrev S4x512x512 : Shape := ⟨3, ![4, 512, 512]⟩
abbrev S1x2048 : Shape := ⟨2, ![1, 2048]⟩
abbrev S4096x2048 : Shape := ⟨2, ![4096, 2048]⟩
abbrev S_ : Shape := ⟨0, ![]⟩
abbrev S16x2048 : Shape := ⟨2, ![16, 2048]⟩
abbrev S4112x2048 : Shape := ⟨2, ![4112, 2048]⟩
abbrev S4096 : Shape := ⟨1, ![4096]⟩
abbrev S4096x1 : Shape := ⟨2, ![4096, 1]⟩
abbrev S4096x512 : Shape := ⟨2, ![4096, 512]⟩
abbrev S4096x1x512 : Shape := ⟨3, ![4096, 1, 512]⟩
abbrev S4096x4x512 : Shape := ⟨3, ![4096, 4, 512]⟩
abbrev S2048 : Shape := ⟨1, ![2048]⟩
abbrev S4x512x4096 : Shape := ⟨3, ![4, 512, 4096]⟩
abbrev S4096x4096 : Shape := ⟨2, ![4096, 4096]⟩

abbrev nBuf : Space → Nat
  | .hbm => 99
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4x512x512, .bf16⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S_, .f32⟩
  | .hbm, ⟨8, _⟩ => ⟨S16x2048, .f32⟩
  | .hbm, ⟨9, _⟩ => ⟨S4112x2048, .f32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .f32⟩
  | .hbm, ⟨18, _⟩ => ⟨S4096x1, .f32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .f32⟩
  | .hbm, ⟨26, _⟩ => ⟨S4096x1, .f32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .f32⟩
  | .hbm, ⟨34, _⟩ => ⟨S4096x1, .f32⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .f32⟩
  | .hbm, ⟨42, _⟩ => ⟨S4096x1, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x1x512, .f32⟩
  | .hbm, ⟨72, _⟩ => ⟨S4096x1x512, .f32⟩
  | .hbm, ⟨73, _⟩ => ⟨S4096x1x512, .f32⟩
  | .hbm, ⟨74, _⟩ => ⟨S4096x1x512, .f32⟩
  | .hbm, ⟨75, _⟩ => ⟨S4096x4x512, .f32⟩
  | .hbm, ⟨76, _⟩ => ⟨S4096x2048, .f32⟩
  | .hbm, ⟨77, _⟩ => ⟨S4x512x512, .f32⟩
  | .hbm, ⟨78, _⟩ => ⟨S2048, .f32⟩
  | .hbm, ⟨79, _⟩ => ⟨S4x512x4096, .f32⟩
  | .hbm, ⟨80, _⟩ => ⟨S4096x4x512, .f32⟩
  | .hbm, ⟨81, _⟩ => ⟨S4096x2048, .f32⟩
  | .hbm, ⟨82, _⟩ => ⟨S1x2048, .f32⟩
  | .hbm, ⟨83, _⟩ => ⟨S4096x2048, .f32⟩
  | .hbm, ⟨84, _⟩ => ⟨S4096x2048, .f32⟩
  | .hbm, ⟨85, _⟩ => ⟨S4096x2048, .f32⟩
  | .hbm, ⟨86, _⟩ => ⟨S4096x2048, .f32⟩
  | .hbm, ⟨87, _⟩ => ⟨S_, .f32⟩
  | .hbm, ⟨88, _⟩ => ⟨S4096x2048, .f32⟩
  | .hbm, ⟨89, _⟩ => ⟨S4096x2048, .f32⟩
  | .hbm, ⟨90, _⟩ => ⟨S_, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S_, .f32⟩
  | .hbm, ⟨96, _⟩ => ⟨S4096x2048, .f32⟩
  | .hbm, ⟨97, _⟩ => ⟨S4096x4096, .f32⟩
  | .hbm, ⟨98, _⟩ => ⟨S4096x4096, .bf16⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v71 : Ref sig .tc := ⟨.hbm, 93, rfl⟩
abbrev main_v72 : Ref sig .tc := ⟨.hbm, 94, rfl⟩
abbrev main_cst_7 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Conv.lean ====
abbrev S4096x9216 : Shape := ⟨2, ![4096, 9216]⟩
abbrev S4x3072 : Shape := ⟨2, ![4, 3072]⟩
abbrev S1x3072 : Shape := ⟨2, ![1, 3072]⟩
abbrev S4096x3072 : Shape := ⟨2, ![4096, 3072]⟩
abbrev S512x3072 : Shape := ⟨2, ![512, 3072]⟩
abbrev S8x3072 : Shape := ⟨2, ![8, 3072]⟩
abbrev S512x256 : Shape := ⟨2, ![512, 256]⟩
abbrev S8x256 : Shape := ⟨2, ![8, 256]⟩
abbrev S520x256 : Shape := ⟨2, ![520, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x9216, .f32⟩
  | .hbm, ⟨1, _⟩ => ⟨S4x3072, .f32⟩
  | .hbm, ⟨2, _⟩ => ⟨S1x3072, .f32⟩
  | .hbm, ⟨3, _⟩ => ⟨S4096x3072, .f32⟩
  | .local _ .vmem, ⟨0, _⟩ => ⟨S512x3072, .f32⟩
  | .local _ .vmem, ⟨1, _⟩ => ⟨S512x3072, .f32⟩
  | .local _ .vmem, ⟨2, _⟩ => ⟨S8x3072, .f32⟩
  | .local _ .vmem, ⟨3, _⟩ => ⟨S8x3072, .f32⟩
  | .local _ .vmem, ⟨4, _⟩ => ⟨S4x3072, .f32⟩
  | .local _ .vmem, ⟨5, _⟩ => ⟨S1x3072, .f32⟩
  | .local _ .vmem, ⟨6, _⟩ => ⟨S512x3072, .f32⟩
  | .local _ .vmem, ⟨7, _⟩ => ⟨S512x3072, .f32⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvRefIdeal.lean ====
abbrev S4096x9216 : Shape := ⟨2, ![4096, 9216]⟩
abbrev S4x3072 : Shape := ⟨2, ![4, 3072]⟩
abbrev S1x3072 : Shape := ⟨2, ![1, 3072]⟩
abbrev S4096x3072 : Shape := ⟨2, ![4096, 3072]⟩
abbrev S3072 : Shape := ⟨1, ![3072]⟩
abbrev S_ : Shape := ⟨0, ![]⟩
abbrev S3x3072 : Shape := ⟨2, ![3, 3072]⟩
abbrev S4099x3072 : Shape := ⟨2, ![4099, 3072]⟩

abbrev nBuf : Space → Nat
  | .hbm => 50
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4x3072, .f32⟩
  | .hbm, ⟨2, _⟩ => ⟨S1x3072, .f32⟩
  | .hbm, ⟨3, _⟩ => ⟨S4096x3072, .f32⟩
  | .hbm, ⟨4, _⟩ => ⟨S3072, .f32⟩
  | .hbm, ⟨5, _⟩ => ⟨S_, .f32⟩
  | .hbm, ⟨6, _⟩ => ⟨S3x3072, .f32⟩
  | .hbm, ⟨7, _⟩ => ⟨S4099x3072, .f32⟩
  | .hbm, ⟨8, _⟩ => ⟨S4096x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S1x3072, .f32⟩
  | .hbm, ⟨19, _⟩ => ⟨S3072, .f32⟩
  | .hbm, ⟨20, _⟩ => ⟨S1x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S1x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S4096x3072, .f32⟩
  | .hbm, ⟨45, _⟩ => ⟨S4096x3072, .f32⟩
  | .hbm, ⟨46, _⟩ => ⟨S_, .f32⟩
  | .hbm, ⟨47, _⟩ => ⟨S4096x3072, .f32⟩
  | .hbm, ⟨48, _⟩ => ⟨S4096x3072, .f32⟩
  | .hbm, ⟨49, _⟩ => ⟨S4096x3072, .f32⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== ConvA.lean ====
abbrev S4096x2048 : Shape := ⟨2, ![4096, 2048]⟩
abbrev S4096x512 : Shape := ⟨2, ![4096, 512]⟩
abbrev S4096x9216 : Shape := ⟨2, ![4096, 9216]⟩
abbrev S4x3072 : Shape := ⟨2, ![4, 3072]⟩
abbrev S1x3072 : Shape := ⟨2, ![1, 3072]⟩
abbrev S4096x3072 : Shape := ⟨2, ![4096, 3072]⟩
abbrev S256x2048 : Shape := ⟨2, ![256, 2048]⟩
abbrev S256x512 : Shape := ⟨2, ![256, 512]⟩
abbrev S256x3072 : Shape := ⟨2, ![256, 3072]⟩
abbrev S8x3072 : Shape := ⟨2, ![8, 3072]⟩
abbrev S256x256 : Shape := ⟨2, ![256, 256]⟩
abbrev S8x256 : Shape := ⟨2, ![8, 256]⟩
abbrev S264x256 : Shape := ⟨2, ![264, 256]⟩
abbrev S1x256 : Shape := ⟨2, ![1, 256]⟩
abbrev S256 : Shape := ⟨1, ![256]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x9216, .f32⟩
  | .hbm, ⟨4, _⟩ => ⟨S4x3072, .f32⟩
  | .hbm, ⟨5, _⟩ => ⟨S1x3072, .f32⟩
  | .hbm, ⟨6, _⟩ => ⟨S4096x3072, .f32⟩
  | .hbm, ⟨7, _⟩ => ⟨S4x3072, .f32⟩
  | .hbm, ⟨8, _⟩ => ⟨S1x3072, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x3072, .f32⟩
  | .local _ .vmem, ⟨7, _⟩ => ⟨S256x3072, .f32⟩
  | .local _ .vmem, ⟨8, _⟩ => ⟨S8x3072, .f32⟩
  | .local _ .vmem, ⟨9, _⟩ => ⟨S8x3072, .f32⟩
  | .local _ .vmem, ⟨10, _⟩ => ⟨S4x3072, .f32⟩
  | .local _ .vmem, ⟨11, _⟩ => ⟨S1x3072, .f32⟩
  | .local _ .vmem, ⟨12, _⟩ => ⟨S256x3072, .f32⟩
  | .local _ .vmem, ⟨13, _⟩ => ⟨S256x3072, .f32⟩
  | .local _ .vmem, ⟨14, _⟩ => ⟨S4x3072, .f32⟩
  | .local _ .vmem, ⟨15, _⟩ => ⟨S1x3072, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ConvARefIdeal.lean ====
abbrev S4096x2048 : Shape := ⟨2, ![4096, 2048]⟩
abbrev S4096x512 : Shape := ⟨2, ![4096, 512]⟩
abbrev S4096x9216 : Shape := ⟨2, ![4096, 9216]⟩
abbrev S4x3072 : Shape := ⟨2, ![4, 3072]⟩
abbrev S1x3072 : Shape := ⟨2, ![1, 3072]⟩
abbrev S3072 : Shape := ⟨1, ![3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩

abbrev nBuf : Space → Nat
  | .hbm => 107
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x9216, .f32⟩
  | .hbm, ⟨4, _⟩ => ⟨S4x3072, .f32⟩
  | .hbm, ⟨5, _⟩ => ⟨S1x3072, .f32⟩
  | .hbm, ⟨6, _⟩ => ⟨S3072, .f32⟩
  | .hbm, ⟨7, _⟩ => ⟨S4096x3072, .f32⟩
  | .hbm, ⟨8, _⟩ => ⟨S_, .f32⟩
  | .hbm, ⟨9, _⟩ => ⟨S3x3072, .f32⟩
  | .hbm, ⟨10, _⟩ => ⟨S4099x3072, .f32⟩
  | .hbm, ⟨11, _⟩ => ⟨S4096x3072, .f32⟩
  | .hbm, ⟨12, _⟩ => ⟨S1x3072, .f32⟩
  | .hbm, ⟨13, _⟩ => ⟨S3072, .f32⟩
  | .hbm, ⟨14, _⟩ => ⟨S1x3072, .f32⟩
  | .hbm, ⟨15, _⟩ => ⟨S4096x3072, .f32⟩
  | .hbm, ⟨16, _⟩ => ⟨S4096x3072, .f32⟩
  | .hbm, ⟨17, _⟩ => ⟨S_, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S1x3072, .f32⟩
  | .hbm, ⟨22, _⟩ => ⟨S3072, .f32⟩
  | .hbm, ⟨23, _⟩ => ⟨S1x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S1x3072, .f32⟩
  | .hbm, ⟨29, _⟩ => ⟨S3072, .f32⟩
  | .hbm, ⟨30, _⟩ => ⟨S1x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S1x3072, .f32⟩
  | .hbm, ⟨36, _⟩ => ⟨S3072, .f32⟩
  | .hbm, ⟨37, _⟩ => ⟨S1x3072, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S1x3072, .f32⟩
  | .hbm, ⟨42, _⟩ => ⟨S4096x3072, .f32⟩
  | .hbm, ⟨43, _⟩ => ⟨S4096x3072, .f32⟩
  | .hbm, ⟨44, _⟩ => ⟨S4096x3072, .f32⟩
  | .hbm, ⟨45, _⟩ => ⟨S4096x3072, .f32⟩
  | .hbm, ⟨46, _⟩ => ⟨S_, .f32⟩
  | .hbm, ⟨47, _⟩ => ⟨S4096x3072, .f32⟩
  | .hbm, ⟨48, _⟩ => ⟨S4096x3072, .f32⟩
  | .hbm, ⟨49, _⟩ => ⟨S_, .f32⟩
  | .hbm, ⟨50, _⟩ => ⟨S4096x3072, .f32⟩
  | .hbm, ⟨51, _⟩ => ⟨S4096x3072, .f32⟩
  | .hbm, ⟨52, _⟩ => ⟨S_, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S4096x3072, .f32⟩
  | .hbm, ⟨57, _⟩ => ⟨S4096x3072, .f32⟩
  | .hbm, ⟨58, _⟩ => ⟨S4096x3072, .f32⟩
  | .hbm, ⟨59, _⟩ => ⟨S4096x3072, .f32⟩
  | .hbm, ⟨60, _⟩ => ⟨S4096x3072, .f32⟩
  | .hbm, ⟨61, _⟩ => ⟨S4096x3072, .f32⟩
  | .hbm, ⟨62, _⟩ => ⟨S_, .f32⟩
  | .hbm, ⟨63, _⟩ => ⟨S3072, .f32⟩
  | .hbm, ⟨64, _⟩ => ⟨S1x3072, .f32⟩
  | .hbm, ⟨65, _⟩ => ⟨S_, .f32⟩
  | .hbm, ⟨66, _⟩ => ⟨S3072, .f32⟩
  | .hbm, ⟨67, _⟩ => ⟨S4096x3072, .f32⟩
  | .hbm, ⟨68, _⟩ => ⟨S_, .f32⟩
  | .hbm, ⟨69, _⟩ => ⟨S3072, .f32⟩
  | .hbm, ⟨70, _⟩ => ⟨S1x3072, .f32⟩
  | .hbm, ⟨71, _⟩ => ⟨S_, .f32⟩
  | .hbm, ⟨72, _⟩ => ⟨S3072, .f32⟩
  | .hbm, ⟨73, _⟩ => ⟨S1x3072, .f32⟩
  | .hbm, ⟨74, _⟩ => ⟨S_, .f32⟩
  | .hbm, ⟨75, _⟩ => ⟨S4x3072, .f32⟩
  | .hbm, ⟨76, _⟩ => ⟨S4096x3072, .f32⟩
  | .hbm, ⟨77, _⟩ => ⟨S_, .f32⟩
  | .hbm, ⟨78, _⟩ => ⟨S3072, .f32⟩
  | .hbm, ⟨79, _⟩ => ⟨S1x3072, .f32⟩
  | .hbm, ⟨80, _⟩ => ⟨S_, .f32⟩
  | .hbm, ⟨81, _⟩ => ⟨S3072, .f32⟩
  | .hbm, ⟨82, _⟩ => ⟨S1x3072, .f32⟩
  | .hbm, ⟨83, _⟩ => ⟨S_, .f32⟩
  | .hbm, ⟨84, _⟩ => ⟨S4x3072, .f32⟩
  | .hbm, ⟨85, _⟩ => ⟨S4x3072, .f32⟩
  | .hbm, ⟨86, _⟩ => ⟨S4096x3072, .f32⟩
  | .hbm, ⟨87, _⟩ => ⟨S_, .f32⟩
  | .hbm, ⟨88, _⟩ => ⟨S3072, .f32⟩
  | .hbm, ⟨89, _⟩ => ⟨S1x3072, .f32⟩
  | .hbm, ⟨90, _⟩ => ⟨S_, .f32⟩
  | .hbm, ⟨91, _⟩ => ⟨S3072, .f32⟩
  | .hbm, ⟨92, _⟩ => ⟨S1x3072, .f32⟩
  | .hbm, ⟨93, _⟩ => ⟨S_, .f32⟩
  | .hbm, ⟨94, _⟩ => ⟨S4x3072, .f32⟩
  | .hbm, ⟨95, _⟩ => ⟨S4x3072, .f32⟩
  | .hbm, ⟨96, _⟩ => ⟨S4096x3072, .f32⟩
  | .hbm, ⟨97, _⟩ => ⟨S_, .f32⟩
  | .hbm, ⟨98, _⟩ => ⟨S3072, .f32⟩
  | .hbm, ⟨99, _⟩ => ⟨S1x3072, .f32⟩
  | .hbm, ⟨100, _⟩ => ⟨S_, .f32⟩
  | .hbm, ⟨101, _⟩ => ⟨S3072, .f32⟩
  | .hbm, ⟨102, _⟩ => ⟨S1x3072, .f32⟩
  | .hbm, ⟨103, _⟩ => ⟨S_, .f32⟩
  | .hbm, ⟨104, _⟩ => ⟨S4x3072, .f32⟩
  | .hbm, ⟨105, _⟩ => ⟨S4x3072, .f32⟩
  | .hbm, ⟨106, _⟩ => ⟨S1x3072, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v36_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v36_1 : Ref sig .tc := ⟨.hbm, 55, rfl⟩
abbrev main_v36_0 : Ref sig .tc := ⟨.hbm, 56, rfl⟩
abbrev main_v37 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v38 : Ref sig .tc := ⟨.hbm, 61, rfl⟩
abbrev main_cst_1 : Ref sig .tc := ⟨.hbm, 62, rfl⟩
abbrev main_v39 : Ref sig .tc := ⟨.hbm, 63, rfl⟩
abbrev main_v40 : Ref sig .tc := ⟨.hbm, 64, rfl⟩
abbrev main_cst_2 : Ref sig .tc := ⟨.hbm, 65, rfl⟩
abbrev main_v41 : Ref sig .tc := ⟨.hbm, 66, rfl⟩
abbrev main_v42 : Ref sig .tc := ⟨.hbm, 67, rfl⟩
abbrev main_cst_3 : Ref sig .tc := ⟨.hbm, 68, rfl⟩
abbrev main_v43 : Ref sig .tc := ⟨.hbm, 69, rfl⟩
abbrev main_v44 : Ref sig .tc := ⟨.hbm, 70, rfl⟩
abbrev main_cst_4 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_v66 : Ref sig .tc := ⟨.hbm, 102, rfl⟩
abbrev main_cst_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩

abbrev nD : Nat := 1
abbrev τ : Topo := Topo.v7x

variable {F : FTy → Type} [FloatOps F]
-- ==== ConvB.lean ====
abbrev S4096x3072 : Shape := ⟨2, ![4096, 3072]⟩
abbrev S4x3072 : Shape := ⟨2, ![4, 3072]⟩
abbrev S4096x9216 : Shape := ⟨2, ![4096, 9216]⟩
abbrev S512x3072 : Shape := ⟨2, ![512, 3072]⟩
abbrev S8x3072 : Shape := ⟨2, ![8, 3072]⟩
abbrev S512x256 : Shape := ⟨2, ![512, 256]⟩
abbrev S8x256 : Shape := ⟨2, ![8, 256]⟩
abbrev S520x256 : Shape := ⟨2, ![520, 256]⟩
abbrev S1x256 : Shape := ⟨2, ![1, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x9216, .bf16⟩
  | .hbm, ⟨3, _⟩ => ⟨S4096x9216, .bf16⟩
  | .local _ .vmem, ⟨0, _⟩ => ⟨S512x3072, .f32⟩
  | .local _ .vmem, ⟨1, _⟩ => ⟨S512x3072, .f32⟩
  | .local _ .vmem, ⟨2, _⟩ => ⟨S8x3072, .f32⟩
  | .local _ .vmem, ⟨3, _⟩ => ⟨S8x3072, .f32⟩
  | .local _ .vmem, ⟨4, _⟩ => ⟨S4x3072, .f32⟩
  | .local _ .vmem, ⟨5, _⟩ => ⟨S512x3072, .bf16⟩
  | .local _ .vmem, ⟨6, _⟩ => ⟨S512x3072, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvBRefIdeal.lean ====
abbrev S4096x3072 : Shape := ⟨2, ![4096, 3072]⟩
abbrev S4x3072 : Shape := ⟨2, ![4, 3072]⟩
abbrev S4096x9216 : Shape := ⟨2, ![4096, 9216]⟩
abbrev S_ : Shape := ⟨0, ![]⟩
abbrev S3072 : Shape := ⟨1, ![3072]⟩
abbrev S3x3072 : Shape := ⟨2, ![3, 3072]⟩
abbrev S4099x3072 : Shape := ⟨2, ![4099, 3072]⟩
abbrev S1x3072 : Shape := ⟨2, ![1, 3072]⟩
abbrev S4096x6144 : Shape := ⟨2, ![4096, 6144]⟩

abbrev nBuf : Space → Nat
  | .hbm => 71
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x9216, .bf16⟩
  | .hbm, ⟨3, _⟩ => ⟨S_, .f32⟩
  | .hbm, ⟨4, _⟩ => ⟨S4096x3072, .f32⟩
  | .hbm, ⟨5, _⟩ => ⟨S_, .f32⟩
  | .hbm, ⟨6, _⟩ => ⟨S3072, .f32⟩
  | .hbm, ⟨7, _⟩ => ⟨S_, .f32⟩
  | .hbm, ⟨8, _⟩ => ⟨S3x3072, .f32⟩
  | .hbm, ⟨9, _⟩ => ⟨S4099x3072, .f32⟩
  | .hbm, ⟨10, _⟩ => ⟨S_, .f32⟩
  | .hbm, ⟨11, _⟩ => ⟨S3x3072, .f32⟩
  | .hbm, ⟨12, _⟩ => ⟨S4096x3072, .f32⟩
  | .hbm, ⟨13, _⟩ => ⟨S1x3072, .f32⟩
  | .hbm, ⟨14, _⟩ => ⟨S3072, .f32⟩
  | .hbm, ⟨15, _⟩ => ⟨S1x3072, .f32⟩
  | .hbm, ⟨16, _⟩ => ⟨S4096x3072, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S1x3072, .f32⟩
  | .hbm, ⟨30, _⟩ => ⟨S3072, .f32⟩
  | .hbm, ⟨31, _⟩ => ⟨S1x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S1x3072, .f32⟩
  | .hbm, ⟨37, _⟩ => ⟨S3072, .f32⟩
  | .hbm, ⟨38, _⟩ => ⟨S1x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S1x3072, .f32⟩
  | .hbm, ⟨43, _⟩ => ⟨S4096x3072, .f32⟩
  | .hbm, ⟨44, _⟩ => ⟨S4096x3072, .f32⟩
  | .hbm, ⟨45, _⟩ => ⟨S4096x3072, .f32⟩
  | .hbm, ⟨46, _⟩ => ⟨S4096x3072, .f32⟩
  | .hbm, ⟨47, _⟩ => ⟨S4096x3072, .f32⟩
  | .hbm, ⟨48, _⟩ => ⟨S4096x3072, .f32⟩
  | .hbm, ⟨49, _⟩ => ⟨S_, .f32⟩
  | .hbm, ⟨50, _⟩ => ⟨S4099x3072, .f32⟩
  | .hbm, ⟨51, _⟩ => ⟨S4096x3072, .f32⟩
  | .hbm, ⟨52, _⟩ => ⟨S4096x3072, .f32⟩
  | .hbm, ⟨53, _⟩ => ⟨S_, .f32⟩
  | .hbm, ⟨54, _⟩ => ⟨S4099x3072, .f32⟩
  | .hbm, ⟨55, _⟩ => ⟨S4099x3072, .f32⟩
  | .hbm, ⟨56, _⟩ => ⟨S4096x3072, .f32⟩
  | .hbm, ⟨57, _⟩ => ⟨S4096x3072, .f32⟩
  | .hbm, ⟨58, _⟩ => ⟨S_, .f32⟩
  | .hbm, ⟨59, _⟩ => ⟨S4099x3072, .f32⟩
  | .hbm, ⟨60, _⟩ => ⟨S4099x3072, .f32⟩
  | .hbm, ⟨61, _⟩ => ⟨S4096x3072, .f32⟩
  | .hbm, ⟨62, _⟩ => ⟨S4096x3072, .f32⟩
  | .hbm, ⟨63, _⟩ => ⟨S_, .f32⟩
  | .hbm, ⟨64, _⟩ => ⟨S4099x3072, .f32⟩
  | .hbm, ⟨65, _⟩ => ⟨S4099x3072, .f32⟩
  | .hbm, ⟨66, _⟩ => ⟨S3x3072, .f32⟩
  | .hbm, ⟨67, _⟩ => ⟨S4096x3072, .f32⟩
  | .hbm, ⟨68, _⟩ => ⟨S4096x6144, .bf16⟩
  | .hbm, ⟨69, _⟩ => ⟨S4096x3072, .bf16⟩
  | .hbm, ⟨70, _⟩ => ⟨S4096x9216, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Loss.lean ====
abbrev S4096x2048 : Shape := ⟨2, ![4096, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x1, .f32⟩
  | .hbm, ⟨3, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1, .f32⟩
  | .local _ .vmem, ⟨5, _⟩ => ⟨S512x2048, .f32⟩
  | .local _ .vmem, ⟨6, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg0 : BitVec 32 := BitVec.ofNat 32 (i 0).val
  let c0_i32_10 : BitVec 32 := 0#32
  let v18 : BitVec 1 := Scalar.cmpi .sgt arg0 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S4096x2048 : Shape := ⟨2, ![4096, 2048]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x2048, .f32⟩
  | .hbm, ⟨25, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Post.lean ====
abbrev S4096x2048 : Shape := ⟨2, ![4096, 2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x1, .f32⟩
  | .local _ .vmem, ⟨8, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== PostGrad.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S512x2048 : Shape := ⟨2, ![512, 2048]⟩
abbrev S512x1 : Shape := ⟨2, ![512, 1]⟩
abbrev S2048 : Shape := ⟨1, ![2048]⟩
abbrev S512 : Shape := ⟨1, ![512]⟩

abbrev nBuf : Space → Nat
  | .hbm => 16
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .bf16⟩
  | .hbm, ⟨15, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_5 : BitVec 32 := 0#32
  let v11 : BitVec 1 := Scalar.cmpi .ne v10 c0_i32_5
  v11

def k0_cond2 (i : grid0.Coords) : BitVec 1 :=
  let arg0 : BitVec 32 := BitVec.ofNat 32 (i 0).val
  let c0_i32_6 : BitVec 32 := 0#32
  let v12 : BitVec 1 := Scalar.cmpi .sgt arg0 c0_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PostGradRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .bf16⟩
  | .hbm, ⟨50, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== NormGrad.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S2048 : Shape := ⟨1, ![2048]⟩

abbrev nBuf : Space → Nat
  | .hbm => 17
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_13 : BitVec 32 := 0#32
  let v27 : BitVec 1 := Scalar.cmpi .ne v26 c0_i32_13
  v27

def k0_cond2 (i : grid0.Coords) : BitVec 1 :=
  let arg0 : BitVec 32 := BitVec.ofNat 32 (i 0).val
  let c0_i32_14 : BitVec 32 := 0#32
  let v28 : BitVec 1 := Scalar.cmpi .sgt arg0 c0_i32_14
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormGradRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.ConvValue.lean ====
module

public import proofs.«01_k».proof.Proof.Gen.ConvIdeal.Value
public import Idealize.ShloMosaic.Lib.Pipeline.ValueKit
public import Idealize.ShloMosaic.Lib.Pointwise

@[expose] public section

set_option maxRecDepth 16384

noncomputable section

namespace Cert.ConvIdeal.Value

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![(grid0.coords t 0).val, 2] ∧ win0_1.index t = ![(grid0.coords t 0).val * 64 - 1, 2] ∧ win0_2.index t = ![0, 0] ∧ win0_3.index t = ![0, 0] ∧ win0_4.index t = ![(grid0.coords t 0).val, 0] ∧ (grid0.coords t 0).val = t.val := by
  decide +kernel

/-- Row `n - 8` of the last columns of an array, zero above its first row. -/
def past (a : S4096x9216.Idx → EReal) (c : Fin 3072) (n : Nat) : EReal := if h : 8 ≤ n ∧ n < 4104 then a (ix2 ⟨n - 8, by omega⟩ ⟨6144 + c.val, by omega⟩) else 0

/-- The convolution at row `n`: the bias, and the last four rows, each times its weight. -/
def conv (a : S4096x9216.Idx → EReal) (w : S4x3072.Idx → EReal) (b : S1x3072.Idx → EReal) (c : Fin 3072) (n : Nat) : EReal :=
  b (ix2 0 c) + w (ix2 0 c) * past a c (n + 5) + w (ix2 1 c) * past a c (n + 6) + w (ix2 2 c) * past a c (n + 7) + w (ix2 3 c) * past a c (n + 8)

/-- The convolution through its gate. -/
def gated (a : S4096x9216.Idx → EReal) (w : S4x3072.Idx → EReal) (b : S1x3072.Idx → EReal) (c : Fin 3072) (n : Nat) : EReal :=
  conv a w b c n * FloatOps.logistic (F := Ideal) (φ := .f32) (conv a w b c n)

/-- The result array. -/
def out (a : S4096x9216.Idx → EReal) (w : S4x3072.Idx → EReal) (b : S1x3072.Idx → EReal) (i : S4096x3072.Idx) : EReal :=
  gated a w b ⟨(i 1).val, by have := (i 1).isLt; simp at this; omega⟩ (i 0).val

theorem stage0 (c : Dev nD) (t : Fin cfg0.N) (r : Fin 512) (q : Fin 3072) :
    iblk m c 0 t (ix2 r q) = past (m ((c : Thread nD τ).loc main_arg0)) q (512 * (grid0.coords t 0).val + r.val + 8) := by
  have hi : (grid0.coords t 0).val < 8 := (grid0.coords t 0).isLt
  have hy := idx0 t
  unfold past
  rw [dif_pos (by omega)]
  blk_point [iblk, V_main_arg0, hy.1]

theorem stage1 (c : Dev nD) (t : Fin cfg0.N) (r : Fin 8) (q : Fin 3072) (h0 : 0 < (grid0.coords t 0).val) :
    iblk m c 1 t (ix2 r q) = past (m ((c : Thread nD τ).loc main_arg0)) q (512 * (grid0.coords t 0).val + r.val) := by
  have hi : (grid0.coords t 0).val < 8 := (grid0.coords t 0).isLt
  have hy := idx0 t
  unfold past
  rw [dif_pos (by omega)]
  blk_point [iblk, V_main_arg0, hy.2.1]

theorem stage2 (c : Dev nD) (t : Fin cfg0.N) (r : Fin 4) (q : Fin 3072) :
    iblk m c 2 t (ix2 r q) = m ((c : Thread nD τ).loc main_arg1) (ix2 r q) := by
  have hy := idx0 t
  blk_point [iblk, V_main_arg1, hy.2.2.1]

theorem stage3 (c : Dev nD) (t : Fin cfg0.N) (r : Fin 1) (q : Fin 3072) :
    iblk m c 3 t (ix2 r q) = m ((c : Thread nD τ).loc main_arg2) (ix2 r q) := by
  have hy := idx0 t
  blk_point [iblk, V_main_arg2, hy.2.2.2.1]

section
variable {i : grid0.Coords} {a : S4096x9216.Idx → EReal} {w : S4x3072.Idx → EReal} {b : S1x3072.Idx → EReal} {o : Nat}
    {v0 : Vec Ideal S512x256 .f32} {v1 : Vec Ideal S8x256 .f32}

/-- The staged rows with the rows before them above. -/
theorem ext_apply (ho : o + 256 ≤ 3072) (h0 : ∀ (r : Fin 512) (q : Fin 256), v0 (ix2 r q) = past a ⟨o + q.val, by omega⟩ (512 * (i 0).val + r.val + 8))
    (h1 : ∀ (r : Fin 8) (q : Fin 256), 0 < (i 0).val → v1 (ix2 r q) = past a ⟨o + q.val, by omega⟩ (512 * (i 0).val + r.val)) (r : Nat) (q : Fin 256) (hr : r < 520) :
    (if h : r < 8 then Scalar.select (Scalar.cmpi .sgt (BitVec.ofNat 32 (i 0).val) 0#32) (v1 (ix2 ⟨r, h⟩ q)) (0 : EReal) else v0 (ix2 ⟨r - 8, by omega⟩ q)) =
      past a ⟨o + q.val, by omega⟩ (512 * (i 0).val + r) := by
  split
  · rename_i hr8
    have hi : (i 0).val < 8 := (i 0).isLt
    by_cases h7 : 0 < (i 0).val
    · have e : Scalar.cmpi .sgt (BitVec.ofNat 32 (i 0).val) 0#32 = 1#1 := (by decide : ∀ k : Fin 8, 0 < k.val → Scalar.cmpi .sgt (BitVec.ofNat 32 k.val) 0#32 = 1#1) ⟨_, hi⟩ h7
      rw [e, h1 _ _ h7]
      rfl
    · have e : (i 0).val = 0 := by omega
      rw [e]
      show (0 : EReal) = _
      unfold past; rw [dif_neg (by omega)]
  · rw [h0]
    congr 1; show _ + (r - 8) + 8 = _; omega

/-- One column piece of the body, entry by entry. -/
theorem piece (ho : o + 256 ≤ 3072) (h0 : ∀ (r : Fin 512) (q : Fin 256), v0 (ix2 r q) = past a ⟨o + q.val, by omega⟩ (512 * (i 0).val + r.val + 8))
    (h1 : ∀ (r : Fin 8) (q : Fin 256), 0 < (i 0).val → v1 (ix2 r q) = past a ⟨o + q.val, by omega⟩ (512 * (i 0).val + r.val))
    (bb w0 w1 w2 w3 : Vec Ideal S1x256 .f32) (eb : ∀ q : Fin 256, bb (ix2 0 q) = b (ix2 0 ⟨o + q.val, by omega⟩)) (e0 : ∀ q : Fin 256, w0 (ix2 0 q) = w (ix2 0 ⟨o + q.val, by omega⟩))
    (e1 : ∀ q : Fin 256, w1 (ix2 0 q) = w (ix2 1 ⟨o + q.val, by omega⟩)) (e2 : ∀ q : Fin 256, w2 (ix2 0 q) = w (ix2 2 ⟨o + q.val, by omega⟩))
    (e3 : ∀ q : Fin 256, w3 (ix2 0 q) = w (ix2 3 ⟨o + q.val, by omega⟩)) (y : S512x256.Idx) :
    k0_pay1 i v0 v1 bb w0 w1 w2 w3 y = gated a w b ⟨o + (y 1).val, by have := (y 1).isLt; simp at this; omega⟩ (512 * (i 0).val + (y 0).val) := by
  idx_vars y
  pointwise [k0_pay1, gated, conv]
  rw [ext_apply ho h0 h1 _ _ (Nat.mod_lt _ (by norm_num)), ext_apply ho h0 h1 _ _ (Nat.mod_lt _ (by norm_num)), ext_apply ho h0 h1 _ _ (Nat.mod_lt _ (by norm_num)), h0]
  rw [eb, e0, e1, e2, e3, show 512 * (i 0).val + (8 + y0.val + 520 - 3) % 520 = 512 * (i 0).val + y0.val + 5 by omega,
    show 512 * (i 0).val + (8 + y0.val + 520 - 2) % 520 = 512 * (i 0).val + y0.val + 6 by omega,
    show 512 * (i 0).val + (8 + y0.val + 520 - 1) % 520 = 512 * (i 0).val + y0.val + 7 by omega]

theorem piece_at (c : Dev nD) (t : Fin cfg0.N) (o : Nat) (ho : o + 256 ≤ 3072)
    (i0 : ∀ a, (![0, o] : Fin 2 → Nat) a + S512x256.size a ≤ S512x3072.size a) (i1 : ∀ a, (![0, o] : Fin 2 → Nat) a + S8x256.size a ≤ S8x3072.size a)
    (jb : ∀ a, (![0, o] : Fin 2 → Nat) a + S1x256.size a ≤ S1x3072.size a) (j0 : ∀ a, (![0, o] : Fin 2 → Nat) a + S1x256.size a ≤ S4x3072.size a)
    (j1 : ∀ a, (![1, o] : Fin 2 → Nat) a + S1x256.size a ≤ S4x3072.size a) (j2 : ∀ a, (![2, o] : Fin 2 → Nat) a + S1x256.size a ≤ S4x3072.size a) (j3 : ∀ a, (![3, o] : Fin 2 → Nat) a + S1x256.size a ≤ S4x3072.size a)
    (y : S512x256.Idx) (j : S4096x3072.Idx) (h0 : (j 0).val = 512 * (grid0.coords t 0).val + (y 0).val) (h1 : (j 1).val = o + (y 1).val) :
    k0_pay1 (grid0.coords t) (View.ld (iblk m c 0 t) (Rect.unit ![0, o] S512x256.size i0)) (View.ld (iblk m c 1 t) (Rect.unit ![0, o] S8x256.size i1))
      (View.ld (iblk m c 3 t) (Rect.unit ![0, o] S1x256.size jb)) (View.ld (iblk m c 2 t) (Rect.unit ![0, o] S1x256.size j0)) (View.ld (iblk m c 2 t) (Rect.unit ![1, o] S1x256.size j1)) (View.ld (iblk m c 2 t) (Rect.unit ![2, o] S1x256.size j2)) (View.ld (iblk m c 2 t) (Rect.unit ![3, o] S1x256.size j3)) y =
      out (m ((c : Thread nD τ).loc main_arg0)) (m ((c : Thread nD τ).loc main_arg1)) (m ((c : Thread nD τ).loc main_arg2)) j := by
  have hy1 : (y 1).val < 256 := (y 1).isLt
  unfold out
  refine (piece (a := m ((c : Thread nD τ).loc main_arg0)) (w := m ((c : Thread nD τ).loc main_arg1)) (b := m ((c : Thread nD τ).loc main_arg2)) (o := o) ho (fun r q => ?_) (fun r q h7 => ?_) _ _ _ _ _ (fun q => ?_) (fun q => ?_) (fun q => ?_) (fun q => ?_) (fun q => ?_) y).trans ?_
  · rw [View.ld_unit_apply_of _ _ _ _ _ (ix2 r ⟨o + q.val, by omega⟩) (by intro a; fin_cases a <;> simp)]
    exact stage0 m c t _ _
  · rw [View.ld_unit_apply_of _ _ _ _ _ (ix2 r ⟨o + q.val, by omega⟩) (by intro a; fin_cases a <;> simp)]
    exact stage1 m c t _ _ h7
  · rw [View.ld_unit_apply_of _ _ _ _ _ (ix2 0 ⟨o + q.val, by omega⟩) (by intro a; fin_cases a <;> simp)]
    exact stage3 m c t _ _
  · rw [View.ld_unit_apply_of _ _ _ _ _ (ix2 0 ⟨o + q.val, by omega⟩) (by intro a; fin_cases a <;> simp)]
    exact stage2 m c t _ _
  · rw [View.ld_unit_apply_of _ _ _ _ _ (ix2 1 ⟨o + q.val, by omega⟩) (by intro a; fin_cases a <;> simp)]
    exact stage2 m c t _ _
  · rw [View.ld_unit_apply_of _ _ _ _ _ (ix2 2 ⟨o + q.val, by omega⟩) (by intro a; fin_cases a <;> simp)]
    exact stage2 m c t _ _
  · rw [View.ld_unit_apply_of _ _ _ _ _ (ix2 3 ⟨o + q.val, by omega⟩) (by intro a; fin_cases a <;> simp)]
    exact stage2 m c t _ _
  · exact congrArg₂ (gated _ _ _) (Fin.ext (by show o + (y 1).val = (j 1).val; omega)) h0.symm

end

set_option maxHeartbeats 1600000 in
theorem value (c : Dev nD) : (dats m 0 c).arrAt 4 cfg0.N = out (m ((c : Thread nD τ).loc main_arg0)) (m ((c : Thread nD τ).loc main_arg1)) (m ((c : Thread nD τ).loc main_arg2)) := by
  refine (dats m 0 c).arrAt_eq_of_covers 4 (out (m ((c : Thread nD τ).loc main_arg0)) (m ((c : Thread nD τ).loc main_arg1)) (m ((c : Thread nD τ).loc main_arg2))) (by decide +kernel) fun t hf y => ?_
  have hy := idx0 t
  blk_simp
  rw [after0_4]
  frame_out
  have hj0 : ((((View.whole main_v0).slice (win0_4.rect t)).emb y) 0).val = 512 * (grid0.coords t 0).val + ((win0 4).xinj (grid0.coords t) y 0).val := by
    show _ = 512 * (grid0.coords t 0).val + (y 0).val
    blk_simp [hy.2.2.2.2.1]; omega
  have hj1 : ((((View.whole main_v0).slice (win0_4.rect t)).emb y) 1).val = ((win0 4).xinj (grid0.coords t) y 1).val := by
    show _ = (y 1).val
    blk_simp [hy.2.2.2.2.1]
  generalize ((View.whole main_v0).slice (win0_4.rect t)).emb y = j at hj0 hj1 ⊢
  canon_tiles y
  · exact piece_at m c t 2816 (by norm_num) inb_S512x3072_S512x256_0_2816 inb_S8x3072_S8x256_0_2816 inb_S1x3072_S1x256_0_2816 inb_S4x3072_S1x256_0_2816 inb_S4x3072_S1x256_1_2816 inb_S4x3072_S1x256_2_2816 inb_S4x3072_S1x256_3_2816 y j (hj0.trans (congrArg (512 * (grid0.coords t 0).val + ·) h0)) (hj1.trans h1)
  · exact piece_at m c t 2560 (by norm_num) inb_S512x3072_S512x256_0_2560 inb_S8x3072_S8x256_0_2560 inb_S1x3072_S1x256_0_2560 inb_S4x3072_S1x256_0_2560 inb_S4x3072_S1x256_1_2560 inb_S4x3072_S1x256_2_2560 inb_S4x3072_S1x256_3_2560 y j (hj0.trans (congrArg (512 * (grid0.coords t 0).val + ·) h0)) (hj1.trans h1)
  · exact piece_at m c t 2304 (by norm_num) inb_S512x3072_S512x256_0_2304 inb_S8x3072_S8x256_0_2304 inb_S1x3072_S1x256_0_2304 inb_S4x3072_S1x256_0_2304 inb_S4x3072_S1x256_1_2304 inb_S4x3072_S1x256_2_2304 inb_S4x3072_S1x256_3_2304 y j (hj0.trans (congrArg (512 * (grid0.coords t 0).val + ·) h0)) (hj1.trans h1)
  · exact piece_at m c t 2048 (by norm_num) inb_S512x3072_S512x256_0_2048 inb_S8x3072_S8x256_0_2048 inb_S1x3072_S1x256_0_2048 inb_S4x3072_S1x256_0_2048 inb_S4x3072_S1x256_1_2048 inb_S4x3072_S1x256_2_2048 inb_S4x3072_S1x256_3_2048 y j (hj0.trans (congrArg (512 * (grid0.coords t 0).val + ·) h0)) (hj1.trans h1)
  · exact piece_at m c t 1792 (by norm_num) inb_S512x3072_S512x256_0_1792 inb_S8x3072_S8x256_0_1792 inb_S1x3072_S1x256_0_1792 inb_S4x3072_S1x256_0_1792 inb_S4x3072_S1x256_1_1792 inb_S4x3072_S1x256_2_1792 inb_S4x3072_S1x256_3_1792 y j (hj0.trans (congrArg (512 * (grid0.coords t 0).val + ·) h0)) (hj1.trans h1)
  · exact piece_at m c t 1536 (by norm_num) inb_S512x3072_S512x256_0_1536 inb_S8x3072_S8x256_0_1536 inb_S1x3072_S1x256_0_1536 inb_S4x3072_S1x256_0_1536 inb_S4x3072_S1x256_1_1536 inb_S4x3072_S1x256_2_1536 inb_S4x3072_S1x256_3_1536 y j (hj0.trans (congrArg (512 * (grid0.coords t 0).val + ·) h0)) (hj1.trans h1)
  · exact piece_at m c t 1280 (by norm_num) inb_S512x3072_S512x256_0_1280 inb_S8x3072_S8x256_0_1280 inb_S1x3072_S1x256_0_1280 inb_S4x3072_S1x256_0_1280 inb_S4x3072_S1x256_1_1280 inb_S4x3072_S1x256_2_1280 inb_S4x3072_S1x256_3_1280 y j (hj0.trans (congrArg (512 * (grid0.coords t 0).val + ·) h0)) (hj1.trans h1)
  · exact piece_at m c t 1024 (by norm_num) inb_S512x3072_S512x256_0_1024 inb_S8x3072_S8x256_0_1024 inb_S1x3072_S1x256_0_1024 inb_S4x3072_S1x256_0_1024 inb_S4x3072_S1x256_1_1024 inb_S4x3072_S1x256_2_1024 inb_S4x3072_S1x256_3_1024 y j (hj0.trans (congrArg (512 * (grid0.coords t 0).val + ·) h0)) (hj1.trans h1)
  · exact piece_at m c t 768 (by norm_num) inb_S512x3072_S512x256_0_768 inb_S8x3072_S8x256_0_768 inb_S1x3072_S1x256_0_768 inb_S4x3072_S1x256_0_768 inb_S4x3072_S1x256_1_768 inb_S4x3072_S1x256_2_768 inb_S4x3072_S1x256_3_768 y j (hj0.trans (congrArg (512 * (grid0.coords t 0).val + ·) h0)) (hj1.trans h1)
  · exact piece_at m c t 512 (by norm_num) inb_S512x3072_S512x256_0_512 inb_S8x3072_S8x256_0_512 inb_S1x3072_S1x256_0_512 inb_S4x3072_S1x256_0_512 inb_S4x3072_S1x256_1_512 inb_S4x3072_S1x256_2_512 inb_S4x3072_S1x256_3_512 y j (hj0.trans (congrArg (512 * (grid0.coords t 0).val + ·) h0)) (hj1.trans h1)
  · exact piece_at m c t 256 (by norm_num) inb_S512x3072_S512x256_0_256 inb_S8x3072_S8x256_0_256 inb_S1x3072_S1x256_0_256 inb_S4x3072_S1x256_0_256 inb_S4x3072_S1x256_1_256 inb_S4x3072_S1x256_2_256 inb_S4x3072_S1x256_3_256 y j (hj0.trans (congrArg (512 * (grid0.coords t 0).val + ·) h0)) (hj1.trans h1)
  · exact piece_at m c t 0 (by norm_num) inb_S512x3072_S512x256_0_0 inb_S8x3072_S8x256_0_0 inb_S1x3072_S1x256_0_0 inb_S4x3072_S1x256_0_0 inb_S4x3072_S1x256_1_0 inb_S4x3072_S1x256_2_0 inb_S4x3072_S1x256_3_0 y j (hj0.trans (congrArg (512 * (grid0.coords t 0).val + ·) h0)) (hj1.trans (h1.trans (Nat.zero_add _).symm))

end Cert.ConvIdeal.Value
end
-- ==== Proof.ConvARows.lean ====
module

public import proofs.«01_k».proof.Proof.Gen.ConvAIdeal.Value
public import proofs.«01_k».proof.Proof.ConvValue
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvAIdeal.Value

open Cert.ConvAIdeal Cert.ConvAIdeal.Gen Idealize.ShloMosaic Idealize.ShloMosaic.TcCoe Idealize.SL.Sem
open Idealize.ShloMosaic.Pipeline (Dat)
open Cert.ConvIdeal.Value (past conv)

variable (m : (ℓ : Loc nD τ sig) → Buf (Elt Ideal) ℓ)

theorem idx0 : ∀ t, win0_0.index t = ![(grid0.coords t 0).val, 0] ∧ win0_1.index t = ![(grid0.coords t 0).val, 0] ∧ win0_2.index t = ![(grid0.coords t 0).val, 0] ∧ win0_3.index t = ![(grid0.coords t 0).val, 2] ∧ win0_4.index t = ![(grid0.coords t 0).val * 32 - 1, 2] ∧ win0_5.index t = ![0, 0] ∧ win0_6.index t = ![0, 0] ∧ win0_7.index t = ![(grid0.coords t 0).val, 0] ∧ (grid0.coords t 0).val = t.val := by
  decide +kernel

/-- The cotangent of the gated convolution: three arrays side by side. -/
def cot (dx : S4096x2048.Idx → EReal) (db dc : S4096x512.Idx → EReal) (n : Fin 4096) (q : Nat) : EReal :=
  if h : q < 2048 then dx (ix2 n ⟨q, h⟩) else if h : q < 2560 then db (ix2 n ⟨q - 2048, by omega⟩) else if h : q < 3072 then dc (ix2 n ⟨q - 2560, by omega⟩) else 0

/-- The cotangent `g` through the gate at `p`. -/
def through (p g : EReal) : EReal := g * (FloatOps.logistic (F := Ideal) (φ := .f32) p * (1 + p * (1 - FloatOps.logistic (F := Ideal) (φ := .f32) p)))

/-- The arguments of one device. -/
structure Args where
  dx : S4096x2048.Idx → EReal
  db : S4096x512.Idx → EReal
  dc : S4096x512.Idx → EReal
  a : S4096x9216.Idx → EReal
  w : S4x3072.Idx → EReal
  b : S1x3072.Idx → EReal

/-- The arguments as the memory holds them. -/
def args (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5)⟩

/-- The cotangent of the convolution's sum. -/
def slope (A : Args) (n : Fin 4096) (q : Fin 3072) : EReal := through (conv A.a A.w A.b q n.val) (cot A.dx A.db A.dc n q.val)

/-- The same, as an array. -/
def out (A : Args) (i : S4096x3072.Idx) : EReal := slope A ⟨(i 0).val, (i 0).isLt⟩ ⟨(i 1).val, (i 1).isLt⟩

/-- A row's term of the gradient of the weight of tap `k`. -/
def tapTerm (A : Args) (k : Nat) (q : Fin 3072) (n : Fin 4096) : EReal := slope A n q * past A.a q (n.val + 5 + k)

/-- The gradient of the weights. -/
def weight (A : Args) (i : S4x3072.Idx) : EReal := ∑ n : Fin 4096, tapTerm A (i 0).val ⟨(i 1).val, (i 1).isLt⟩ n

/-- The gradient of the bias. -/
def bias (A : Args) (i : S1x3072.Idx) : EReal := ∑ n : Fin 4096, slope A n ⟨(i 1).val, (i 1).isLt⟩

/-- Row `r` of tile `t`. -/
def row (t : Fin cfg0.N) (r : Fin 256) : Fin 4096 := ⟨t.val * 256 + r.val, by have := lt_of_lt_of_eq t.isLt (show cfg0.N = 16 from N_0); omega⟩

/-- One tile's part of the weights' gradient. -/
def weightPart (A : Args) (t : Fin cfg0.N) (i : S4x3072.Idx) : EReal := ∑ r : Fin 256, tapTerm A (i 0).val ⟨(i 1).val, (i 1).isLt⟩ (row t r)

/-- One tile's part of the bias's gradient. -/
def biasPart (A : Args) (t : Fin cfg0.N) (i : S1x3072.Idx) : EReal := ∑ r : Fin 256, slope A (row t r) ⟨(i 1).val, (i 1).isLt⟩

theorem coord (t : Fin cfg0.N) : (grid0.coords t 0).val = t.val := (idx0 t).2.2.2.2.2.2.2.2

theorem stage_dx (c : Dev nD) (t : Fin cfg0.N) (r : Fin 256) (q : Fin 2048) : iblk m c 0 t (ix2 r q) = (args m c).dx (ix2 (row t r) q) := by
  have hy := idx0 t
  have hc := coord t
  unfold args row
  blk_point [iblk, V_main_arg0, hy.1]

theorem stage_db (c : Dev nD) (t : Fin cfg0.N) (r : Fin 256) (q : Fin 512) : iblk m c 1 t (ix2 r q) = (args m c).db (ix2 (row t r) q) := by
  have hy := idx0 t
  have hc := coord t
  unfold args row
  blk_point [iblk, V_main_arg1, hy.2.1]

theorem stage_dc (c : Dev nD) (t : Fin cfg0.N) (r : Fin 256) (q : Fin 512) : iblk m c 2 t (ix2 r q) = (args m c).dc (ix2 (row t r) q) := by
  have hy := idx0 t
  have hc := coord t
  unfold args row
  blk_point [iblk, V_main_arg2, hy.2.2.1]

theorem stage_a (c : Dev nD) (t : Fin cfg0.N) (r : Fin 256) (q : Fin 3072) : iblk m c 3 t (ix2 r q) = past (args m c).a q (256 * t.val + r.val + 8) := by
  have hN := lt_of_lt_of_eq t.isLt (show cfg0.N = 16 from N_0)
  have hy := idx0 t
  have hc := coord t
  unfold args past
  rw [dif_pos (by omega)]
  blk_point [iblk, V_main_arg3, hy.2.2.2.1]

theorem stage_p (c : Dev nD) (t : Fin cfg0.N) (r : Fin 8) (q : Fin 3072) (h0 : 0 < t.val) : iblk m c 4 t (ix2 r q) = past (args m c).a q (256 * t.val + r.val) := by
  have hN := lt_of_lt_of_eq t.isLt (show cfg0.N = 16 from N_0)
  have hy := idx0 t
  have hc := coord t
  unfold args past
  rw [dif_pos (by omega)]
  blk_point [iblk, V_main_arg3, hy.2.2.2.2.1]

theorem stage_w (c : Dev nD) (t : Fin cfg0.N) (r : Fin 4) (q : Fin 3072) : iblk m c 5 t (ix2 r q) = (args m c).w (ix2 r q) := by
  have hy := idx0 t
  unfold args
  blk_point [iblk, V_main_arg4, hy.2.2.2.2.2.1]

theorem stage_b (c : Dev nD) (t : Fin cfg0.N) (r : Fin 1) (q : Fin 3072) : iblk m c 6 t (ix2 r q) = (args m c).b (ix2 r q) := by
  have hy := idx0 t
  unfold args
  blk_point [iblk, V_main_arg5, hy.2.2.2.2.2.2.1]

/-- What one column piece of a tile is given. -/
structure Piece (A : Args) (t : Fin cfg0.N) (o : Nat) (ho : o + 256 ≤ 3072) (x : Vec Ideal S256x256 .f32) (p : Vec Ideal S8x256 .f32) (b w0 w1 w2 w3 : Vec Ideal S1x256 .f32) (d : Vec Ideal S256x256 .f32) : Prop where
  x : ∀ (r : Fin 256) (q : Fin 256), x (ix2 r q) = past A.a ⟨o + q.val, by omega⟩ (256 * t.val + r.val + 8)
  p : ∀ (r : Fin 8) (q : Fin 256), 0 < t.val → p (ix2 r q) = past A.a ⟨o + q.val, by omega⟩ (256 * t.val + r.val)
  b : ∀ q : Fin 256, b (ix2 0 q) = A.b (ix2 0 ⟨o + q.val, by omega⟩)
  w0 : ∀ q : Fin 256, w0 (ix2 0 q) = A.w (ix2 0 ⟨o + q.val, by omega⟩)
  w1 : ∀ q : Fin 256, w1 (ix2 0 q) = A.w (ix2 1 ⟨o + q.val, by omega⟩)
  w2 : ∀ q : Fin 256, w2 (ix2 0 q) = A.w (ix2 2 ⟨o + q.val, by omega⟩)
  w3 : ∀ q : Fin 256, w3 (ix2 0 q) = A.w (ix2 3 ⟨o + q.val, by omega⟩)
  d : ∀ (r : Fin 256) (q : Fin 256), d (ix2 r q) = cot A.dx A.db A.dc (row t r) (o + q.val)

section
variable {A : Args} {t : Fin cfg0.N} {o : Nat} {ho : o + 256 ≤ 3072} {x : Vec Ideal S256x256 .f32} {p : Vec Ideal S8x256 .f32} {b w0 w1 w2 w3 : Vec Ideal S1x256 .f32} {d : Vec Ideal S256x256 .f32}

/-- The staged rows with the rows before them above. -/
theorem ext_apply (P : Piece A t o ho x p b w0 w1 w2 w3 d) (r : Nat) (q : Fin 256) (hr : r < 264) :
    (if h : r < 8 then Scalar.select (Scalar.cmpi .sgt (BitVec.ofNat 32 (grid0.coords t 0).val) 0#32) (p (ix2 ⟨r, h⟩ q)) (0 : EReal) else x (ix2 ⟨r - 8, by omega⟩ q)) =
      past A.a ⟨o + q.val, by omega⟩ (256 * t.val + r) := by
  have hN := lt_of_lt_of_eq t.isLt (show cfg0.N = 16 from N_0)
  split
  · rename_i hr8
    rw [coord]
    by_cases h7 : 0 < t.val
    · have e : Scalar.cmpi .sgt (BitVec.ofNat 32 t.val) 0#32 = 1#1 := (by decide : ∀ k : Fin 16, 0 < k.val → Scalar.cmpi .sgt (BitVec.ofNat 32 k.val) 0#32 = 1#1) ⟨_, hN⟩ h7
      rw [e, P.p _ _ h7]
      rfl
    · have e : t.val = 0 := by omega
      rw [e]
      show (0 : EReal) = _
      unfold past; rw [dif_neg (by omega)]
  · rw [P.x]
    congr 1; show _ + (r - 8) + 8 = _; omega

theorem tap0 (P : Piece A t o ho x p b w0 w1 w2 w3 d) (r q : Fin 256) : (k0_pay5 (grid0.coords t) x p (ix2 r q) : EReal) = past A.a ⟨o + q.val, by omega⟩ (256 * t.val + r.val + 5) := by
  pointwise [k0_pay5, k0_pay4]
  rw [ext_apply P _ _ (Nat.mod_lt _ (by norm_num)), show 256 * t.val + (8 + r.val + 264 - 3) % 264 = 256 * t.val + r.val + 5 by omega]

theorem tap1 (P : Piece A t o ho x p b w0 w1 w2 w3 d) (r q : Fin 256) : (k0_pay6 (grid0.coords t) x p (ix2 r q) : EReal) = past A.a ⟨o + q.val, by omega⟩ (256 * t.val + r.val + 6) := by
  pointwise [k0_pay6, k0_pay4]
  rw [ext_apply P _ _ (Nat.mod_lt _ (by norm_num)), show 256 * t.val + (8 + r.val + 264 - 2) % 264 = 256 * t.val + r.val + 6 by omega]

theorem tap2 (P : Piece A t o ho x p b w0 w1 w2 w3 d) (r q : Fin 256) : (k0_pay7 (grid0.coords t) x p (ix2 r q) : EReal) = past A.a ⟨o + q.val, by omega⟩ (256 * t.val + r.val + 7) := by
  pointwise [k0_pay7, k0_pay4]
  rw [ext_apply P _ _ (Nat.mod_lt _ (by norm_num)), show 256 * t.val + (8 + r.val + 264 - 1) % 264 = 256 * t.val + r.val + 7 by omega]

theorem pre_apply (P : Piece A t o ho x p b w0 w1 w2 w3 d) (r q : Fin 256) : (k0_pay8 (grid0.coords t) x p b w0 w1 w2 w3 (ix2 r q) : EReal) = conv A.a A.w A.b ⟨o + q.val, by omega⟩ (256 * t.val + r.val) := by
  pointwise [k0_pay8, conv]
  rw [tap0 P, tap1 P, tap2 P, P.x, P.b, P.w0, P.w1, P.w2, P.w3]

/-- The cotangent of the convolution's sum, in one column piece. -/
theorem dpre_apply (P : Piece A t o ho x p b w0 w1 w2 w3 d) (r q : Fin 256) : (k0_pay10 (k0_pay8 (grid0.coords t) x p b w0 w1 w2 w3) d (k0_pay9 (grid0.coords t) x p b w0 w1 w2 w3) (ix2 r q) : EReal) = slope A (row t r) ⟨o + q.val, by omega⟩ := by
  pointwise [k0_pay10, k0_pay9, slope, through, row]
  rw [pre_apply P, P.d, Nat.mul_comm 256 t.val]
  rfl

theorem bias_apply (P : Piece A t o ho x p b w0 w1 w2 w3 d) (s : Vec Ideal S1x256 .f32) (q : Fin 256) : (k0_pay11 (k0_pay8 (grid0.coords t) x p b w0 w1 w2 w3) d (k0_pay9 (grid0.coords t) x p b w0 w1 w2 w3) s (ix2 0 q) : EReal) = s (ix2 0 q) + ∑ r : Fin 256, slope A (row t r) ⟨o + q.val, by omega⟩ := by
  pointwise [k0_pay11]
  exact congrArg (fun z : EReal => s (ix2 0 q) + z) (Finset.sum_congr (M := EReal) rfl fun r _ => dpre_apply P r q)

theorem weight_apply0 (P : Piece A t o ho x p b w0 w1 w2 w3 d) (s : Vec Ideal S1x256 .f32) (q : Fin 256) : (k0_pay12 (k0_pay5 (grid0.coords t) x p) (k0_pay8 (grid0.coords t) x p b w0 w1 w2 w3) d (k0_pay9 (grid0.coords t) x p b w0 w1 w2 w3) s (ix2 0 q) : EReal) = s (ix2 0 q) + ∑ r : Fin 256, tapTerm A 0 ⟨o + q.val, by omega⟩ (row t r) := by
  pointwise [k0_pay12]
  refine congrArg (fun z : EReal => s (ix2 0 q) + z) (Finset.sum_congr (M := EReal) rfl fun r _ => congrArg₂ (fun x y : EReal => x * y) (dpre_apply P r q) ((tap0 P r q).trans ?_))
  unfold row
  congr 1
  show 256 * t.val + r.val + 5 = t.val * 256 + r.val + 5 + 0
  omega

theorem weight_apply1 (P : Piece A t o ho x p b w0 w1 w2 w3 d) (s : Vec Ideal S1x256 .f32) (q : Fin 256) : (k0_pay13 (k0_pay6 (grid0.coords t) x p) (k0_pay8 (grid0.coords t) x p b w0 w1 w2 w3) d (k0_pay9 (grid0.coords t) x p b w0 w1 w2 w3) s (ix2 0 q) : EReal) = s (ix2 0 q) + ∑ r : Fin 256, tapTerm A 1 ⟨o + q.val, by omega⟩ (row t r) := by
  pointwise [k0_pay13]
  refine congrArg (fun z : EReal => s (ix2 0 q) + z) (Finset.sum_congr (M := EReal) rfl fun r _ => congrArg₂ (fun x y : EReal => x * y) (dpre_apply P r q) ((tap1 P r q).trans ?_))
  unfold row
  congr 1
  show 256 * t.val + r.val + 6 = t.val * 256 + r.val + 5 + 1
  omega

theorem weight_apply2 (P : Piece A t o ho x p b w0 w1 w2 w3 d) (s : Vec Ideal S1x256 .f32) (q : Fin 256) : (k0_pay14 (k0_pay7 (grid0.coords t) x p) (k0_pay8 (grid0.coords t) x p b w0 w1 w2 w3) d (k0_pay9 (grid0.coords t) x p b w0 w1 w2 w3) s (ix2 0 q) : EReal) = s (ix2 0 q) + ∑ r : Fin 256, tapTerm A 2 ⟨o + q.val, by omega⟩ (row t r) := by
  pointwise [k0_pay14]
  refine congrArg (fun z : EReal => s (ix2 0 q) + z) (Finset.sum_congr (M := EReal) rfl fun r _ => congrArg₂ (fun x y : EReal => x * y) (dpre_apply P r q) ((tap2 P r q).trans ?_))
  unfold row
  congr 1
  show 256 * t.val + r.val + 7 = t.val * 256 + r.val + 5 + 2
  omega

theorem weight_apply3 (P : Piece A t o ho x p b w0 w1 w2 w3 d) (s : Vec Ideal S1x256 .f32) (q : Fin 256) : (k0_pay15 x (k0_pay10 (k0_pay8 (grid0.coords t) x p b w0 w1 w2 w3) d (k0_pay9 (grid0.coords t) x p b w0 w1 w2 w3)) s (ix2 0 q) : EReal) = s (ix2 0 q) + ∑ r : Fin 256, tapTerm A 3 ⟨o + q.val, by omega⟩ (row t r) := by
  pointwise [k0_pay15]
  refine congrArg (fun z : EReal => s (ix2 0 q) + z) (Finset.sum_congr (M := EReal) rfl fun r _ => congrArg₂ (fun x y : EReal => x * y) (dpre_apply P r q) ((P.x r q).trans ?_))
  unfold row
  congr 1
  show 256 * t.val + r.val + 8 = t.val * 256 + r.val + 5 + 3
  omega

end

/-- The rectangle loads of one column piece, read. -/
theorem piece_of (c : Dev nD) (t : Fin cfg0.N) (o : Nat) (ho : o + 256 ≤ 3072)
    (i0 : ∀ a, (![0, o] : Fin 2 → Nat) a + S256x256.size a ≤ S256x3072.size a) (i1 : ∀ a, (![0, o] : Fin 2 → Nat) a + S8x256.size a ≤ S8x3072.size a)
    (jb : ∀ a, (![0, o] : Fin 2 → Nat) a + S1x256.size a ≤ S1x3072.size a) (j0 : ∀ a, (![0, o] : Fin 2 → Nat) a + S1x256.size a ≤ S4x3072.size a)
    (j1 : ∀ a, (![1, o] : Fin 2 → Nat) a + S1x256.size a ≤ S4x3072.size a) (j2 : ∀ a, (![2, o] : Fin 2 → Nat) a + S1x256.size a ≤ S4x3072.size a) (j3 : ∀ a, (![3, o] : Fin 2 → Nat) a + S1x256.size a ≤ S4x3072.size a)
    (d : Vec Ideal S256x256 .f32) (hd : ∀ (r : Fin 256) (q : Fin 256), d (ix2 r q) = cot (args m c).dx (args m c).db (args m c).dc (row t r) (o + q.val)) :
    Piece (args m c) t o ho (View.ld (iblk m c 3 t) (Rect.unit ![0, o] S256x256.size i0)) (View.ld (iblk m c 4 t) (Rect.unit ![0, o] S8x256.size i1))
      (View.ld (iblk m c 6 t) (Rect.unit ![0, o] S1x256.size jb)) (View.ld (iblk m c 5 t) (Rect.unit ![0, o] S1x256.size j0)) (View.ld (iblk m c 5 t) (Rect.unit ![1, o] S1x256.size j1)) (View.ld (iblk m c 5 t) (Rect.unit ![2, o] S1x256.size j2)) (View.ld (iblk m c 5 t) (Rect.unit ![3, o] S1x256.size j3)) d := by
  refine ⟨fun r q => ?_, fun r q h7 => ?_, fun q => ?_, fun q => ?_, fun q => ?_, fun q => ?_, fun q => ?_, hd⟩
  · rw [View.ld_unit_apply_of _ _ _ _ _ (ix2 r ⟨o + q.val, by omega⟩) (by intro a; fin_cases a <;> simp)]
    exact stage_a m c t _ _
  · rw [View.ld_unit_apply_of _ _ _ _ _ (ix2 r ⟨o + q.val, by omega⟩) (by intro a; fin_cases a <;> simp)]
    exact stage_p m c t _ _ h7
  · rw [View.ld_unit_apply_of _ _ _ _ _ (ix2 0 ⟨o + q.val, by omega⟩) (by intro a; fin_cases a <;> simp)]
    exact stage_b m c t _ _
  · rw [View.ld_unit_apply_of _ _ _ _ _ (ix2 0 ⟨o + q.val, by omega⟩) (by intro a; fin_cases a <;> simp)]
    exact stage_w m c t _ _
  · rw [View.ld_unit_apply_of _ _ _ _ _ (ix2 1 ⟨o + q.val, by omega⟩) (by intro a; fin_cases a <;> simp)]
    exact stage_w m c t _ _
  · rw [View.ld_unit_apply_of _ _ _ _ _ (ix2 2 ⟨o + q.val, by omega⟩) (by intro a; fin_cases a <;> simp)]
    exact stage_w m c t _ _
  · rw [View.ld_unit_apply_of _ _ _ _ _ (ix2 3 ⟨o + q.val, by omega⟩) (by intro a; fin_cases a <;> simp)]
    exact stage_w m c t _ _

theorem cot_dx (c : Dev nD) (t : Fin cfg0.N) (o : Nat) (ho : o + 256 ≤ 2048) (i0 : ∀ a, (![0, o] : Fin 2 → Nat) a + S256x256.size a ≤ S256x2048.size a) (r q : Fin 256) :
    View.ld (iblk m c 0 t) (Rect.unit ![0, o] S256x256.size i0) (ix2 r q) = cot (args m c).dx (args m c).db (args m c).dc (row t r) (o + q.val) := by
  rw [View.ld_unit_apply_of _ _ _ _ _ (ix2 r ⟨o + q.val, by omega⟩) (by intro a; fin_cases a <;> simp)]
  unfold cot
  rw [dif_pos (by omega)]
  exact stage_dx m c t _ _

theorem cot_db (c : Dev nD) (t : Fin cfg0.N) (o : Nat) (ho : o + 256 ≤ 512) (i0 : ∀ a, (![0, o] : Fin 2 → Nat) a + S256x256.size a ≤ S256x512.size a) (r q : Fin 256) :
    View.ld (iblk m c 1 t) (Rect.unit ![0, o] S256x256.size i0) (ix2 r q) = cot (args m c).dx (args m c).db (args m c).dc (row t r) (2048 + o + q.val) := by
  rw [View.ld_unit_apply_of _ _ _ _ _ (ix2 r ⟨o + q.val, by omega⟩) (by intro a; fin_cases a <;> simp)]
  unfold cot
  rw [dif_neg (by omega), dif_pos (by omega)]
  refine (stage_db m c t _ _).trans (congrArg (args m c).db (congrArg (ix2 (row t r)) (Fin.ext ?_)))
  show o + q.val = 2048 + o + q.val - 2048
  omega

theorem cot_dc (c : Dev nD) (t : Fin cfg0.N) (o : Nat) (ho : o + 256 ≤ 512) (i0 : ∀ a, (![0, o] : Fin 2 → Nat) a + S256x256.size a ≤ S256x512.size a) (r q : Fin 256) :
    View.ld (iblk m c 2 t) (Rect.unit ![0, o] S256x256.size i0) (ix2 r q) = cot (args m c).dx (args m c).db (args m c).dc (row t r) (2560 + o + q.val) := by
  rw [View.ld_unit_apply_of _ _ _ _ _ (ix2 r ⟨o + q.val, by omega⟩) (by intro a; fin_cases a <;> simp)]
  unfold cot
  rw [dif_neg (by omega), dif_neg (by omega), dif_pos (by omega)]
  refine (stage_dc m c t _ _).trans (congrArg (args m c).dc (congrArg (ix2 (row t r)) (Fin.ext ?_)))
  show o + q.val = 2560 + o + q.val - 2560
  omega

theorem piece0 (c : Dev nD) (t : Fin cfg0.N) : Piece (args m c) t 0 (by norm_num) (View.ld (iblk m c 3 t) (Rect.unit ![0, 0] S256x256.size inb_S256x3072_S256x256_0_0)) (View.ld (iblk m c 4 t) (Rect.unit ![0, 0] S8x256.size inb_S8x3072_S8x256_0_0)) (View.ld (iblk m c 6 t) (Rect.unit ![0, 0] S1x256.size inb_S1x3072_S1x256_0_0))
      (View.ld (iblk m c 5 t) (Rect.unit ![0, 0] S1x256.size inb_S4x3072_S1x256_0_0)) (View.ld (iblk m c 5 t) (Rect.unit ![1, 0] S1x256.size inb_S4x3072_S1x256_1_0)) (View.ld (iblk m c 5 t) (Rect.unit ![2, 0] S1x256.size inb_S4x3072_S1x256_2_0)) (View.ld (iblk m c 5 t) (Rect.unit ![3, 0] S1x256.size inb_S4x3072_S1x256_3_0)) (View.ld (iblk m c 0 t) (Rect.unit ![0, 0] S256x256.size inb_S256x2048_S256x256_0_0))
    := piece_of m c t 0 (by norm_num) inb_S256x3072_S256x256_0_0 inb_S8x3072_S8x256_0_0 inb_S1x3072_S1x256_0_0 inb_S4x3072_S1x256_0_0 inb_S4x3072_S1x256_1_0 inb_S4x3072_S1x256_2_0 inb_S4x3072_S1x256_3_0 (View.ld (iblk m c 0 t) (Rect.unit ![0, 0] S256x256.size inb_S256x2048_S256x256_0_0)) (cot_dx m c t 0 (by norm_num) inb_S256x2048_S256x256_0_0)

theorem piece1 (c : Dev nD) (t : Fin cfg0.N) : Piece (args m c) t 256 (by norm_num) (View.ld (iblk m c 3 t) (Rect.unit ![0, 256] S256x256.size inb_S256x3072_S256x256_0_256)) (View.ld (iblk m c 4 t) (Rect.unit ![0, 256] S8x256.size inb_S8x3072_S8x256_0_256)) (View.ld (iblk m c 6 t) (Rect.unit ![0, 256] S1x256.size inb_S1x3072_S1x256_0_256))
      (View.ld (iblk m c 5 t) (Rect.unit ![0, 256] S1x256.size inb_S4x3072_S1x256_0_256)) (View.ld (iblk m c 5 t) (Rect.unit ![1, 256] S1x256.size inb_S4x3072_S1x256_1_256)) (View.ld (iblk m c 5 t) (Rect.unit ![2, 256] S1x256.size inb_S4x3072_S1x256_2_256)) (View.ld (iblk m c 5 t) (Rect.unit ![3, 256] S1x256.size inb_S4x3072_S1x256_3_256)) (View.ld (iblk m c 0 t) (Rect.unit ![0, 256] S256x256.size inb_S256x2048_S256x256_0_256))
    := piece_of m c t 256 (by norm_num) inb_S256x3072_S256x256_0_256 inb_S8x3072_S8x256_0_256 inb_S1x3072_S1x256_0_256 inb_S4x3072_S1x256_0_256 inb_S4x3072_S1x256_1_256 inb_S4x3072_S1x256_2_256 inb_S4x3072_S1x256_3_256 (View.ld (iblk m c 0 t) (Rect.unit ![0, 256] S256x256.size inb_S256x2048_S256x256_0_256)) (cot_dx m c t 256 (by norm_num) inb_S256x2048_S256x256_0_256)

theorem piece2 (c : Dev nD) (t : Fin cfg0.N) : Piece (args m c) t 512 (by norm_num) (View.ld (iblk m c 3 t) (Rect.unit ![0, 512] S256x256.size inb_S256x3072_S256x256_0_512)) (View.ld (iblk m c 4 t) (Rect.unit ![0, 512] S8x256.size inb_S8x3072_S8x256_0_512)) (View.ld (iblk m c 6 t) (Rect.unit ![0, 512] S1x256.size inb_S1x3072_S1x256_0_512))
      (View.ld (iblk m c 5 t) (Rect.unit ![0, 512] S1x256.size inb_S4x3072_S1x256_0_512)) (View.ld (iblk m c 5 t) (Rect.unit ![1, 512] S1x256.size inb_S4x3072_S1x256_1_512)) (View.ld (iblk m c 5 t) (Rect.unit ![2, 512] S1x256.size inb_S4x3072_S1x256_2_512)) (View.ld (iblk m c 5 t) (Rect.unit ![3, 512] S1x256.size inb_S4x3072_S1x256_3_512)) (View.ld (iblk m c 0 t) (Rect.unit ![0, 512] S256x256.size inb_S256x2048_S256x256_0_512))
    := piece_of m c t 512 (by norm_num) inb_S256x3072_S256x256_0_512 inb_S8x3072_S8x256_0_512 inb_S1x3072_S1x256_0_512 inb_S4x3072_S1x256_0_512 inb_S4x3072_S1x256_1_512 inb_S4x3072_S1x256_2_512 inb_S4x3072_S1x256_3_512 (View.ld (iblk m c 0 t) (Rect.unit ![0, 512] S256x256.size inb_S256x2048_S256x256_0_512)) (cot_dx m c t 512 (by norm_num) inb_S256x2048_S256x256_0_512)

theorem piece3 (c : Dev nD) (t : Fin cfg0.N) : Piece (args m c) t 768 (by norm_num) (View.ld (iblk m c 3 t) (Rect.unit ![0, 768] S256x256.size inb_S256x3072_S256x256_0_768)) (View.ld (iblk m c 4 t) (Rect.unit ![0, 768] S8x256.size inb_S8x3072_S8x256_0_768)) (View.ld (iblk m c 6 t) (Rect.unit ![0, 768] S1x256.size inb_S1x3072_S1x256_0_768))
      (View.ld (iblk m c 5 t) (Rect.unit ![0, 768] S1x256.size inb_S4x3072_S1x256_0_768)) (View.ld (iblk m c 5 t) (Rect.unit ![1, 768] S1x256.size inb_S4x3072_S1x256_1_768)) (View.ld (iblk m c 5 t) (Rect.unit ![2, 768] S1x256.size inb_S4x3072_S1x256_2_768)) (View.ld (iblk m c 5 t) (Rect.unit ![3, 768] S1x256.size inb_S4x3072_S1x256_3_768)) (View.ld (iblk m c 0 t) (Rect.unit ![0, 768] S256x256.size inb_S256x2048_S256x256_0_768))
    := piece_of m c t 768 (by norm_num) inb_S256x3072_S256x256_0_768 inb_S8x3072_S8x256_0_768 inb_S1x3072_S1x256_0_768 inb_S4x3072_S1x256_0_768 inb_S4x3072_S1x256_1_768 inb_S4x3072_S1x256_2_768 inb_S4x3072_S1x256_3_768 (View.ld (iblk m c 0 t) (Rect.unit ![0, 768] S256x256.size inb_S256x2048_S256x256_0_768)) (cot_dx m c t 768 (by norm_num) inb_S256x2048_S256x256_0_768)

theorem piece4 (c : Dev nD) (t : Fin cfg0.N) : Piece (args m c) t 1024 (by norm_num) (View.ld (iblk m c 3 t) (Rect.unit ![0, 1024] S256x256.size inb_S256x3072_S256x256_0_1024)) (View.ld (iblk m c 4 t) (Rect.unit ![0, 1024] S8x256.size inb_S8x3072_S8x256_0_1024)) (View.ld (iblk m c 6 t) (Rect.unit ![0, 1024] S1x256.size inb_S1x3072_S1x256_0_1024))
      (View.ld (iblk m c 5 t) (Rect.unit ![0, 1024] S1x256.size inb_S4x3072_S1x256_0_1024)) (View.ld (iblk m c 5 t) (Rect.unit ![1, 1024] S1x256.size inb_S4x3072_S1x256_1_1024)) (View.ld (iblk m c 5 t) (Rect.unit ![2, 1024] S1x256.size inb_S4x3072_S1x256_2_1024)) (View.ld (iblk m c 5 t) (Rect.unit ![3, 1024] S1x256.size inb_S4x3072_S1x256_3_1024)) (View.ld (iblk m c 0 t) (Rect.unit ![0, 1024] S256x256.size inb_S256x2048_S256x256_0_1024))
    := piece_of m c t 1024 (by norm_num) inb_S256x3072_S256x256_0_1024 inb_S8x3072_S8x256_0_1024 inb_S1x3072_S1x256_0_1024 inb_S4x3072_S1x256_0_1024 inb_S4x3072_S1x256_1_1024 inb_S4x3072_S1x256_2_1024 inb_S4x3072_S1x256_3_1024 (View.ld (iblk m c 0 t) (Rect.unit ![0, 1024] S256x256.size inb_S256x2048_S256x256_0_1024)) (cot_dx m c t 1024 (by norm_num) inb_S256x2048_S256x256_0_1024)

theorem piece5 (c : Dev nD) (t : Fin cfg0.N) : Piece (args m c) t 1280 (by norm_num) (View.ld (iblk m c 3 t) (Rect.unit ![0, 1280] S256x256.size inb_S256x3072_S256x256_0_1280)) (View.ld (iblk m c 4 t) (Rect.unit ![0, 1280] S8x256.size inb_S8x3072_S8x256_0_1280)) (View.ld (iblk m c 6 t) (Rect.unit ![0, 1280] S1x256.size inb_S1x3072_S1x256_0_1280))
      (View.ld (iblk m c 5 t) (Rect.unit ![0, 1280] S1x256.size inb_S4x3072_S1x256_0_1280)) (View.ld (iblk m c 5 t) (Rect.unit ![1, 1280] S1x256.size inb_S4x3072_S1x256_1_1280)) (View.ld (iblk m c 5 t) (Rect.unit ![2, 1280] S1x256.size inb_S4x3072_S1x256_2_1280)) (View.ld (iblk m c 5 t) (Rect.unit ![3, 1280] S1x256.size inb_S4x3072_S1x256_3_1280)) (View.ld (iblk m c 0 t) (Rect.unit ![0, 1280] S256x256.size inb_S256x2048_S256x256_0_1280))
    := piece_of m c t 1280 (by norm_num) inb_S256x3072_S256x256_0_1280 inb_S8x3072_S8x256_0_1280 inb_S1x3072_S1x256_0_1280 inb_S4x3072_S1x256_0_1280 inb_S4x3072_S1x256_1_1280 inb_S4x3072_S1x256_2_1280 inb_S4x3072_S1x256_3_1280 (View.ld (iblk m c 0 t) (Rect.unit ![0, 1280] S256x256.size inb_S256x2048_S256x256_0_1280)) (cot_dx m c t 1280 (by norm_num) inb_S256x2048_S256x256_0_1280)

theorem piece6 (c : Dev nD) (t : Fin cfg0.N) : Piece (args m c) t 1536 (by norm_num) (View.ld (iblk m c 3 t) (Rect.unit ![0, 1536] S256x256.size inb_S256x3072_S256x256_0_1536)) (View.ld (iblk m c 4 t) (Rect.unit ![0, 1536] S8x256.size inb_S8x3072_S8x256_0_1536)) (View.ld (iblk m c 6 t) (Rect.unit ![0, 1536] S1x256.size inb_S1x3072_S1x256_0_1536))
      (View.ld (iblk m c 5 t) (Rect.unit ![0, 1536] S1x256.size inb_S4x3072_S1x256_0_1536)) (View.ld (iblk m c 5 t) (Rect.unit ![1, 1536] S1x256.size inb_S4x3072_S1x256_1_1536)) (View.ld (iblk m c 5 t) (Rect.unit ![2, 1536] S1x256.size inb_S4x3072_S1x256_2_1536)) (View.ld (iblk m c 5 t) (Rect.unit ![3, 1536] S1x256.size inb_S4x3072_S1x256_3_1536)) (View.ld (iblk m c 0 t) (Rect.unit ![0, 1536] S256x256.size inb_S256x2048_S256x256_0_1536))
    := piece_of m c t 1536 (by norm_num) inb_S256x3072_S256x256_0_1536 inb_S8x3072_S8x256_0_1536 inb_S1x3072_S1x256_0_1536 inb_S4x3072_S1x256_0_1536 inb_S4x3072_S1x256_1_1536 inb_S4x3072_S1x256_2_1536 inb_S4x3072_S1x256_3_1536 (View.ld (iblk m c 0 t) (Rect.unit ![0, 1536] S256x256.size inb_S256x2048_S256x256_0_1536)) (cot_dx m c t 1536 (by norm_num) inb_S256x2048_S256x256_0_1536)

theorem piece7 (c : Dev nD) (t : Fin cfg0.N) : Piece (args m c) t 1792 (by norm_num) (View.ld (iblk m c 3 t) (Rect.unit ![0, 1792] S256x256.size inb_S256x3072_S256x256_0_1792)) (View.ld (iblk m c 4 t) (Rect.unit ![0, 1792] S8x256.size inb_S8x3072_S8x256_0_1792)) (View.ld (iblk m c 6 t) (Rect.unit ![0, 1792] S1x256.size inb_S1x3072_S1x256_0_1792))
      (View.ld (iblk m c 5 t) (Rect.unit ![0, 1792] S1x256.size inb_S4x3072_S1x256_0_1792)) (View.ld (iblk m c 5 t) (Rect.unit ![1, 1792] S1x256.size inb_S4x3072_S1x256_1_1792)) (View.ld (iblk m c 5 t) (Rect.unit ![2, 1792] S1x256.size inb_S4x3072_S1x256_2_1792)) (View.ld (iblk m c 5 t) (Rect.unit ![3, 1792] S1x256.size inb_S4x3072_S1x256_3_1792)) (View.ld (iblk m c 0 t) (Rect.unit ![0, 1792] S256x256.size inb_S256x2048_S256x256_0_1792))
    := piece_of m c t 1792 (by norm_num) inb_S256x3072_S256x256_0_1792 inb_S8x3072_S8x256_0_1792 inb_S1x3072_S1x256_0_1792 inb_S4x3072_S1x256_0_1792 inb_S4x3072_S1x256_1_1792 inb_S4x3072_S1x256_2_1792 inb_S4x3072_S1x256_3_1792 (View.ld (iblk m c 0 t) (Rect.unit ![0, 1792] S256x256.size inb_S256x2048_S256x256_0_1792)) (cot_dx m c t 1792 (by norm_num) inb_S256x2048_S256x256_0_1792)

theorem piece8 (c : Dev nD) (t : Fin cfg0.N) : Piece (args m c) t 2048 (by norm_num) (View.ld (iblk m c 3 t) (Rect.unit ![0, 2048] S256x256.size inb_S256x3072_S256x256_0_2048)) (View.ld (iblk m c 4 t) (Rect.unit ![0, 2048] S8x256.size inb_S8x3072_S8x256_0_2048)) (View.ld (iblk m c 6 t) (Rect.unit ![0, 2048] S1x256.size inb_S1x3072_S1x256_0_2048))
      (View.ld (iblk m c 5 t) (Rect.unit ![0, 2048] S1x256.size inb_S4x3072_S1x256_0_2048)) (View.ld (iblk m c 5 t) (Rect.unit ![1, 2048] S1x256.size inb_S4x3072_S1x256_1_2048)) (View.ld (iblk m c 5 t) (Rect.unit ![2, 2048] S1x256.size inb_S4x3072_S1x256_2_2048)) (View.ld (iblk m c 5 t) (Rect.unit ![3, 2048] S1x256.size inb_S4x3072_S1x256_3_2048)) (View.ld (iblk m c 1 t) (Rect.unit ![0, 0] S256x256.size inb_S256x512_S256x256_0_0))
    := piece_of m c t 2048 (by norm_num) inb_S256x3072_S256x256_0_2048 inb_S8x3072_S8x256_0_2048 inb_S1x3072_S1x256_0_2048 inb_S4x3072_S1x256_0_2048 inb_S4x3072_S1x256_1_2048 inb_S4x3072_S1x256_2_2048 inb_S4x3072_S1x256_3_2048 (View.ld (iblk m c 1 t) (Rect.unit ![0, 0] S256x256.size inb_S256x512_S256x256_0_0)) (cot_db m c t 0 (by norm_num) inb_S256x512_S256x256_0_0)

theorem piece9 (c : Dev nD) (t : Fin cfg0.N) : Piece (args m c) t 2304 (by norm_num) (View.ld (iblk m c 3 t) (Rect.unit ![0, 2304] S256x256.size inb_S256x3072_S256x256_0_2304)) (View.ld (iblk m c 4 t) (Rect.unit ![0, 2304] S8x256.size inb_S8x3072_S8x256_0_2304)) (View.ld (iblk m c 6 t) (Rect.unit ![0, 2304] S1x256.size inb_S1x3072_S1x256_0_2304))
      (View.ld (iblk m c 5 t) (Rect.unit ![0, 2304] S1x256.size inb_S4x3072_S1x256_0_2304)) (View.ld (iblk m c 5 t) (Rect.unit ![1, 2304] S1x256.size inb_S4x3072_S1x256_1_2304)) (View.ld (iblk m c 5 t) (Rect.unit ![2, 2304] S1x256.size inb_S4x3072_S1x256_2_2304)) (View.ld (iblk m c 5 t) (Rect.unit ![3, 2304] S1x256.size inb_S4x3072_S1x256_3_2304)) (View.ld (iblk m c 1 t) (Rect.unit ![0, 256] S256x256.size inb_S256x512_S256x256_0_256))
    := piece_of m c t 2304 (by norm_num) inb_S256x3072_S256x256_0_2304 inb_S8x3072_S8x256_0_2304 inb_S1x3072_S1x256_0_2304 inb_S4x3072_S1x256_0_2304 inb_S4x3072_S1x256_1_2304 inb_S4x3072_S1x256_2_2304 inb_S4x3072_S1x256_3_2304 (View.ld (iblk m c 1 t) (Rect.unit ![0, 256] S256x256.size inb_S256x512_S256x256_0_256)) (cot_db m c t 256 (by norm_num) inb_S256x512_S256x256_0_256)

theorem piece10 (c : Dev nD) (t : Fin cfg0.N) : Piece (args m c) t 2560 (by norm_num) (View.ld (iblk m c 3 t) (Rect.unit ![0, 2560] S256x256.size inb_S256x3072_S256x256_0_2560)) (View.ld (iblk m c 4 t) (Rect.unit ![0, 2560] S8x256.size inb_S8x3072_S8x256_0_2560)) (View.ld (iblk m c 6 t) (Rect.unit ![0, 2560] S1x256.size inb_S1x3072_S1x256_0_2560))
      (View.ld (iblk m c 5 t) (Rect.unit ![0, 2560] S1x256.size inb_S4x3072_S1x256_0_2560)) (View.ld (iblk m c 5 t) (Rect.unit ![1, 2560] S1x256.size inb_S4x3072_S1x256_1_2560)) (View.ld (iblk m c 5 t) (Rect.unit ![2, 2560] S1x256.size inb_S4x3072_S1x256_2_2560)) (View.ld (iblk m c 5 t) (Rect.unit ![3, 2560] S1x256.size inb_S4x3072_S1x256_3_2560)) (View.ld (iblk m c 2 t) (Rect.unit ![0, 0] S256x256.size inb_S256x512_S256x256_0_0))
    := piece_of m c t 2560 (by norm_num) inb_S256x3072_S256x256_0_2560 inb_S8x3072_S8x256_0_2560 inb_S1x3072_S1x256_0_2560 inb_S4x3072_S1x256_0_2560 inb_S4x3072_S1x256_1_2560 inb_S4x3072_S1x256_2_2560 inb_S4x3072_S1x256_3_2560 (View.ld (iblk m c 2 t) (Rect.unit ![0, 0] S256x256.size inb_S256x512_S256x256_0_0)) (cot_dc m c t 0 (by norm_num) inb_S256x512_S256x256_0_0)

theorem piece11 (c : Dev nD) (t : Fin cfg0.N) : Piece (args m c) t 2816 (by norm_num) (View.ld (iblk m c 3 t) (Rect.unit ![0, 2816] S256x256.size inb_S256x3072_S256x256_0_2816)) (View.ld (iblk m c 4 t) (Rect.unit ![0, 2816] S8x256.size inb_S8x3072_S8x256_0_2816)) (View.ld (iblk m c 6 t) (Rect.unit ![0, 2816] S1x256.size inb_S1x3072_S1x256_0_2816))
      (View.ld (iblk m c 5 t) (Rect.unit ![0, 2816] S1x256.size inb_S4x3072_S1x256_0_2816)) (View.ld (iblk m c 5 t) (Rect.unit ![1, 2816] S1x256.size inb_S4x3072_S1x256_1_2816)) (View.ld (iblk m c 5 t) (Rect.unit ![2, 2816] S1x256.size inb_S4x3072_S1x256_2_2816)) (View.ld (iblk m c 5 t) (Rect.unit ![3, 2816] S1x256.size inb_S4x3072_S1x256_3_2816)) (View.ld (iblk m c 2 t) (Rect.unit ![0, 256] S256x256.size inb_S256x512_S256x256_0_256))
    := piece_of m c t 2816 (by norm_num) inb_S256x3072_S256x256_0_2816 inb_S8x3072_S8x256_0_2816 inb_S1x3072_S1x256_0_2816 inb_S4x3072_S1x256_0_2816 inb_S4x3072_S1x256_1_2816 inb_S4x3072_S1x256_2_2816 inb_S4x3072_S1x256_3_2816 (View.ld (iblk m c 2 t) (Rect.unit ![0, 256] S256x256.size inb_S256x512_S256x256_0_256)) (cot_dc m c t 256 (by norm_num) inb_S256x512_S256x256_0_256)

end Cert.ConvAIdeal.Value
end
-- ==== Proof.ConvAPieces.lean ====
module

public import proofs.«01_k».proof.Proof.ConvARows

@[expose] public section

set_option maxRecDepth 16384

noncomputable section

namespace Cert.ConvAIdeal.Value

open Cert.ConvAIdeal Cert.ConvAIdeal.Gen Idealize.ShloMosaic Idealize.ShloMosaic.TcCoe Idealize.SL.Sem
open Idealize.ShloMosaic.Pipeline (Dat)
open Cert.ConvIdeal.Value (past conv)

variable (m : (ℓ : Loc nD τ sig) → Buf (Elt Ideal) ℓ)

section
variable {A : Args} {t : Fin cfg0.N} {o : Nat} {ho : o + 256 ≤ 3072} {x : Vec Ideal S256x256 .f32} {p : Vec Ideal S8x256 .f32} {b w0 w1 w2 w3 : Vec Ideal S1x256 .f32} {d : Vec Ideal S256x256 .f32}

theorem dpre_at (P : Piece A t o ho x p b w0 w1 w2 w3 d) (y : S256x256.Idx) (j : S4096x3072.Idx) (h0 : (j 0).val = t.val * 256 + (y 0).val) (h1 : (j 1).val = o + (y 1).val) :
    (k0_pay10 (k0_pay8 (grid0.coords t) x p b w0 w1 w2 w3) d (k0_pay9 (grid0.coords t) x p b w0 w1 w2 w3) y : EReal) = out A j := by
  idx_vars y
  idx_vars j
  exact (dpre_apply P y0 y1).trans (congrArg₂ (slope A) (Fin.ext h0.symm) (Fin.ext h1.symm))

theorem bias_at (P : Piece A t o ho x p b w0 w1 w2 w3 d) (s : Vec Ideal S1x256 .f32) (y : S1x256.Idx) (j : S1x3072.Idx) (h1 : (j 1).val = o + (y 1).val) (z : EReal) (hs : s y = z) :
    (k0_pay11 (k0_pay8 (grid0.coords t) x p b w0 w1 w2 w3) d (k0_pay9 (grid0.coords t) x p b w0 w1 w2 w3) s y : EReal) = z + biasPart A t j := by
  idx_vars y
  idx_vars j
  obtain rfl : y0 = 0 := Subsingleton.elim _ _
  refine (bias_apply P s y1).trans (congrArg₂ (fun x y : EReal => x + y) hs ?_)
  exact Finset.sum_congr (M := EReal) rfl fun r _ => congrArg (slope A (row t r)) (Fin.ext h1.symm)

theorem weight_at0 (P : Piece A t o ho x p b w0 w1 w2 w3 d) (s : Vec Ideal S1x256 .f32) (y : S1x256.Idx) (j : S4x3072.Idx) (h0 : (j 0).val = 0 + (y 0).val) (h1 : (j 1).val = o + (y 1).val) (z : EReal) (hs : s y = z) :
    (k0_pay12 (k0_pay5 (grid0.coords t) x p) (k0_pay8 (grid0.coords t) x p b w0 w1 w2 w3) d (k0_pay9 (grid0.coords t) x p b w0 w1 w2 w3) s y : EReal) = z + weightPart A t j := by
  idx_vars y
  idx_vars j
  obtain rfl : y0 = 0 := Subsingleton.elim _ _
  refine (weight_apply0 P s y1).trans (congrArg₂ (fun x y : EReal => x + y) hs ?_)
  exact Finset.sum_congr (M := EReal) rfl fun r _ => congrArg₂ (fun k q => tapTerm A k q (row t r)) (h0.trans (Nat.add_zero _)).symm (Fin.ext h1.symm)

theorem weight_at1 (P : Piece A t o ho x p b w0 w1 w2 w3 d) (s : Vec Ideal S1x256 .f32) (y : S1x256.Idx) (j : S4x3072.Idx) (h0 : (j 0).val = 1 + (y 0).val) (h1 : (j 1).val = o + (y 1).val) (z : EReal) (hs : s y = z) :
    (k0_pay13 (k0_pay6 (grid0.coords t) x p) (k0_pay8 (grid0.coords t) x p b w0 w1 w2 w3) d (k0_pay9 (grid0.coords t) x p b w0 w1 w2 w3) s y : EReal) = z + weightPart A t j := by
  idx_vars y
  idx_vars j
  obtain rfl : y0 = 0 := Subsingleton.elim _ _
  refine (weight_apply1 P s y1).trans (congrArg₂ (fun x y : EReal => x + y) hs ?_)
  exact Finset.sum_congr (M := EReal) rfl fun r _ => congrArg₂ (fun k q => tapTerm A k q (row t r)) (h0.trans (Nat.add_zero _)).symm (Fin.ext h1.symm)

theorem weight_at2 (P : Piece A t o ho x p b w0 w1 w2 w3 d) (s : Vec Ideal S1x256 .f32) (y : S1x256.Idx) (j : S4x3072.Idx) (h0 : (j 0).val = 2 + (y 0).val) (h1 : (j 1).val = o + (y 1).val) (z : EReal) (hs : s y = z) :
    (k0_pay14 (k0_pay7 (grid0.coords t) x p) (k0_pay8 (grid0.coords t) x p b w0 w1 w2 w3) d (k0_pay9 (grid0.coords t) x p b w0 w1 w2 w3) s y : EReal) = z + weightPart A t j := by
  idx_vars y
  idx_vars j
  obtain rfl : y0 = 0 := Subsingleton.elim _ _
  refine (weight_apply2 P s y1).trans (congrArg₂ (fun x y : EReal => x + y) hs ?_)
  exact Finset.sum_congr (M := EReal) rfl fun r _ => congrArg₂ (fun k q => tapTerm A k q (row t r)) (h0.trans (Nat.add_zero _)).symm (Fin.ext h1.symm)

theorem weight_at3 (P : Piece A t o ho x p b w0 w1 w2 w3 d) (s : Vec Ideal S1x256 .f32) (y : S1x256.Idx) (j : S4x3072.Idx) (h0 : (j 0).val = 3 + (y 0).val) (h1 : (j 1).val = o + (y 1).val) (z : EReal) (hs : s y = z) :
    (k0_pay15 x (k0_pay10 (k0_pay8 (grid0.coords t) x p b w0 w1 w2 w3) d (k0_pay9 (grid0.coords t) x p b w0 w1 w2 w3)) s y : EReal) = z + weightPart A t j := by
  idx_vars y
  idx_vars j
  obtain rfl : y0 = 0 := Subsingleton.elim _ _
  refine (weight_apply3 P s y1).trans (congrArg₂ (fun x y : EReal => x + y) hs ?_)
  exact Finset.sum_congr (M := EReal) rfl fun r _ => congrArg₂ (fun k q => tapTerm A k q (row t r)) (h0.trans (Nat.add_zero _)).symm (Fin.ext h1.symm)

end

theorem out_A (c : Dev nD) (t : Fin cfg0.N) (h : t.val % 16 = 0) (y : S256x3072.Idx) (j : S4096x3072.Idx) (hj0 : (j 0).val = t.val * 256 + (y 0).val) (hj1 : (j 1).val = (y 1).val) :
    ((outsAt0 m c t.val t.isLt).1 y : EReal) = out (args m c) j := by
  rw [outsAt0_A m c t h]
  frame_out
  canon_tiles y
  · exact dpre_at (piece11 m c t) y j (hj0.trans (congrArg (t.val * 256 + ·) h0)) (hj1.trans h1)
  · exact dpre_at (piece10 m c t) y j (hj0.trans (congrArg (t.val * 256 + ·) h0)) (hj1.trans h1)
  · exact dpre_at (piece9 m c t) y j (hj0.trans (congrArg (t.val * 256 + ·) h0)) (hj1.trans h1)
  · exact dpre_at (piece8 m c t) y j (hj0.trans (congrArg (t.val * 256 + ·) h0)) (hj1.trans h1)
  · exact dpre_at (piece7 m c t) y j (hj0.trans (congrArg (t.val * 256 + ·) h0)) (hj1.trans h1)
  · exact dpre_at (piece6 m c t) y j (hj0.trans (congrArg (t.val * 256 + ·) h0)) (hj1.trans h1)
  · exact dpre_at (piece5 m c t) y j (hj0.trans (congrArg (t.val * 256 + ·) h0)) (hj1.trans h1)
  · exact dpre_at (piece4 m c t) y j (hj0.trans (congrArg (t.val * 256 + ·) h0)) (hj1.trans h1)
  · exact dpre_at (piece3 m c t) y j (hj0.trans (congrArg (t.val * 256 + ·) h0)) (hj1.trans h1)
  · exact dpre_at (piece2 m c t) y j (hj0.trans (congrArg (t.val * 256 + ·) h0)) (hj1.trans h1)
  · exact dpre_at (piece1 m c t) y j (hj0.trans (congrArg (t.val * 256 + ·) h0)) (hj1.trans h1)
  · exact dpre_at (piece0 m c t) y j (hj0.trans (congrArg (t.val * 256 + ·) h0)) (hj1.trans (h1.trans (Nat.zero_add _).symm))

theorem out_B (c : Dev nD) (t : Fin cfg0.N) (h : ¬ t.val % 16 = 0) (y : S256x3072.Idx) (j : S4096x3072.Idx) (hj0 : (j 0).val = t.val * 256 + (y 0).val) (hj1 : (j 1).val = (y 1).val) :
    ((outsAt0 m c t.val t.isLt).1 y : EReal) = out (args m c) j := by
  rw [outsAt0_B m c t h]
  frame_out
  canon_tiles y
  · exact dpre_at (piece11 m c t) y j (hj0.trans (congrArg (t.val * 256 + ·) h0)) (hj1.trans h1)
  · exact dpre_at (piece10 m c t) y j (hj0.trans (congrArg (t.val * 256 + ·) h0)) (hj1.trans h1)
  · exact dpre_at (piece9 m c t) y j (hj0.trans (congrArg (t.val * 256 + ·) h0)) (hj1.trans h1)
  · exact dpre_at (piece8 m c t) y j (hj0.trans (congrArg (t.val * 256 + ·) h0)) (hj1.trans h1)
  · exact dpre_at (piece7 m c t) y j (hj0.trans (congrArg (t.val * 256 + ·) h0)) (hj1.trans h1)
  · exact dpre_at (piece6 m c t) y j (hj0.trans (congrArg (t.val * 256 + ·) h0)) (hj1.trans h1)
  · exact dpre_at (piece5 m c t) y j (hj0.trans (congrArg (t.val * 256 + ·) h0)) (hj1.trans h1)
  · exact dpre_at (piece4 m c t) y j (hj0.trans (congrArg (t.val * 256 + ·) h0)) (hj1.trans h1)
  · exact dpre_at (piece3 m c t) y j (hj0.trans (congrArg (t.val * 256 + ·) h0)) (hj1.trans h1)
  · exact dpre_at (piece2 m c t) y j (hj0.trans (congrArg (t.val * 256 + ·) h0)) (hj1.trans h1)
  · exact dpre_at (piece1 m c t) y j (hj0.trans (congrArg (t.val * 256 + ·) h0)) (hj1.trans h1)
  · exact dpre_at (piece0 m c t) y j (hj0.trans (congrArg (t.val * 256 + ·) h0)) (hj1.trans (h1.trans (Nat.zero_add _).symm))

theorem bias_B (c : Dev nD) (t : Fin cfg0.N) (h : ¬ t.val % 16 = 0) (j : S1x3072.Idx) :
    ((outsAt0 m c t.val t.isLt).2.2 j : EReal) = (outsAt0 m c (t.val - 1) (Nat.lt_of_le_of_lt (Nat.sub_le _ _) t.isLt)).2.2 j + biasPart (args m c) t j := by
  rw [outsAt0_B m c t h]
  frame_out
  canon_tiles y
  · exact bias_at (piece11 m c t) _ y _ h1 _ (View.ld_unit_apply_of _ _ _ _ _ _ (by intro a; fin_cases a <;> simp <;> omega))
  · exact bias_at (piece10 m c t) _ y _ h1 _ (View.ld_unit_apply_of _ _ _ _ _ _ (by intro a; fin_cases a <;> simp <;> omega))
  · exact bias_at (piece9 m c t) _ y _ h1 _ (View.ld_unit_apply_of _ _ _ _ _ _ (by intro a; fin_cases a <;> simp <;> omega))
  · exact bias_at (piece8 m c t) _ y _ h1 _ (View.ld_unit_apply_of _ _ _ _ _ _ (by intro a; fin_cases a <;> simp <;> omega))
  · exact bias_at (piece7 m c t) _ y _ h1 _ (View.ld_unit_apply_of _ _ _ _ _ _ (by intro a; fin_cases a <;> simp <;> omega))
  · exact bias_at (piece6 m c t) _ y _ h1 _ (View.ld_unit_apply_of _ _ _ _ _ _ (by intro a; fin_cases a <;> simp <;> omega))
  · exact bias_at (piece5 m c t) _ y _ h1 _ (View.ld_unit_apply_of _ _ _ _ _ _ (by intro a; fin_cases a <;> simp <;> omega))
  · exact bias_at (piece4 m c t) _ y _ h1 _ (View.ld_unit_apply_of _ _ _ _ _ _ (by intro a; fin_cases a <;> simp <;> omega))
  · exact bias_at (piece3 m c t) _ y _ h1 _ (View.ld_unit_apply_of _ _ _ _ _ _ (by intro a; fin_cases a <;> simp <;> omega))
  · exact bias_at (piece2 m c t) _ y _ h1 _ (View.ld_unit_apply_of _ _ _ _ _ _ (by intro a; fin_cases a <;> simp <;> omega))
  · exact bias_at (piece1 m c t) _ y _ h1 _ (View.ld_unit_apply_of _ _ _ _ _ _ (by intro a; fin_cases a <;> simp <;> omega))
  · exact bias_at (piece0 m c t) _ y _ (h1.trans (Nat.zero_add _).symm) _ (View.ld_unit_apply_of _ _ _ _ _ _ (by intro a; fin_cases a <;> simp <;> omega))

theorem weight_B (c : Dev nD) (t : Fin cfg0.N) (h : ¬ t.val % 16 = 0) (j : S4x3072.Idx) :
    ((outsAt0 m c t.val t.isLt).2.1 j : EReal) = (outsAt0 m c (t.val - 1) (Nat.lt_of_le_of_lt (Nat.sub_le _ _) t.isLt)).2.1 j + weightPart (args m c) t j := by
  rw [outsAt0_B m c t h]
  frame_out
  canon_tiles y
  · exact weight_at3 (piece11 m c t) _ y _ h0 h1 _ (View.ld_unit_apply_of _ _ _ _ _ _ (by intro a; fin_cases a <;> simp <;> omega))
  · exact weight_at2 (piece11 m c t) _ y _ h0 h1 _ (View.ld_unit_apply_of _ _ _ _ _ _ (by intro a; fin_cases a <;> simp <;> omega))
  · exact weight_at1 (piece11 m c t) _ y _ h0 h1 _ (View.ld_unit_apply_of _ _ _ _ _ _ (by intro a; fin_cases a <;> simp <;> omega))
  · exact weight_at0 (piece11 m c t) _ y _ (h0.trans (Nat.zero_add _).symm) h1 _ (View.ld_unit_apply_of _ _ _ _ _ _ (by intro a; fin_cases a <;> simp <;> omega))
  · exact weight_at3 (piece10 m c t) _ y _ h0 h1 _ (View.ld_unit_apply_of _ _ _ _ _ _ (by intro a; fin_cases a <;> simp <;> omega))
  · exact weight_at2 (piece10 m c t) _ y _ h0 h1 _ (View.ld_unit_apply_of _ _ _ _ _ _ (by intro a; fin_cases a <;> simp <;> omega))
  · exact weight_at1 (piece10 m c t) _ y _ h0 h1 _ (View.ld_unit_apply_of _ _ _ _ _ _ (by intro a; fin_cases a <;> simp <;> omega))
  · exact weight_at0 (piece10 m c t) _ y _ (h0.trans (Nat.zero_add _).symm) h1 _ (View.ld_unit_apply_of _ _ _ _ _ _ (by intro a; fin_cases a <;> simp <;> omega))
  · exact weight_at3 (piece9 m c t) _ y _ h0 h1 _ (View.ld_unit_apply_of _ _ _ _ _ _ (by intro a; fin_cases a <;> simp <;> omega))
  · exact weight_at2 (piece9 m c t) _ y _ h0 h1 _ (View.ld_unit_apply_of _ _ _ _ _ _ (by intro a; fin_cases a <;> simp <;> omega))
  · exact weight_at1 (piece9 m c t) _ y _ h0 h1 _ (View.ld_unit_apply_of _ _ _ _ _ _ (by intro a; fin_cases a <;> simp <;> omega))
  · exact weight_at0 (piece9 m c t) _ y _ (h0.trans (Nat.zero_add _).symm) h1 _ (View.ld_unit_apply_of _ _ _ _ _ _ (by intro a; fin_cases a <;> simp <;> omega))
  · exact weight_at3 (piece8 m c t) _ y _ h0 h1 _ (View.ld_unit_apply_of _ _ _ _ _ _ (by intro a; fin_cases a <;> simp <;> omega))
  · exact weight_at2 (piece8 m c t) _ y _ h0 h1 _ (View.ld_unit_apply_of _ _ _ _ _ _ (by intro a; fin_cases a <;> simp <;> omega))
  · exact weight_at1 (piece8 m c t) _ y _ h0 h1 _ (View.ld_unit_apply_of _ _ _ _ _ _ (by intro a; fin_cases a <;> simp <;> omega))
  · exact weight_at0 (piece8 m c t) _ y _ (h0.trans (Nat.zero_add _).symm) h1 _ (View.ld_unit_apply_of _ _ _ _ _ _ (by intro a; fin_cases a <;> simp <;> omega))
  · exact weight_at3 (piece7 m c t) _ y _ h0 h1 _ (View.ld_unit_apply_of _ _ _ _ _ _ (by intro a; fin_cases a <;> simp <;> omega))
  · exact weight_at2 (piece7 m c t) _ y _ h0 h1 _ (View.ld_unit_apply_of _ _ _ _ _ _ (by intro a; fin_cases a <;> simp <;> omega))
  · exact weight_at1 (piece7 m c t) _ y _ h0 h1 _ (View.ld_unit_apply_of _ _ _ _ _ _ (by intro a; fin_cases a <;> simp <;> omega))
  · exact weight_at0 (piece7 m c t) _ y _ (h0.trans (Nat.zero_add _).symm) h1 _ (View.ld_unit_apply_of _ _ _ _ _ _ (by intro a; fin_cases a <;> simp <;> omega))
  · exact weight_at3 (piece6 m c t) _ y _ h0 h1 _ (View.ld_unit_apply_of _ _ _ _ _ _ (by intro a; fin_cases a <;> simp <;> omega))
  · exact weight_at2 (piece6 m c t) _ y _ h0 h1 _ (View.ld_unit_apply_of _ _ _ _ _ _ (by intro a; fin_cases a <;> simp <;> omega))
  · exact weight_at1 (piece6 m c t) _ y _ h0 h1 _ (View.ld_unit_apply_of _ _ _ _ _ _ (by intro a; fin_cases a <;> simp <;> omega))
  · exact weight_at0 (piece6 m c t) _ y _ (h0.trans (Nat.zero_add _).symm) h1 _ (View.ld_unit_apply_of _ _ _ _ _ _ (by intro a; fin_cases a <;> simp <;> omega))
  · exact weight_at3 (piece5 m c t) _ y _ h0 h1 _ (View.ld_unit_apply_of _ _ _ _ _ _ (by intro a; fin_cases a <;> simp <;> omega))
  · exact weight_at2 (piece5 m c t) _ y _ h0 h1 _ (View.ld_unit_apply_of _ _ _ _ _ _ (by intro a; fin_cases a <;> simp <;> omega))
  · exact weight_at1 (piece5 m c t) _ y _ h0 h1 _ (View.ld_unit_apply_of _ _ _ _ _ _ (by intro a; fin_cases a <;> simp <;> omega))
  · exact weight_at0 (piece5 m c t) _ y _ (h0.trans (Nat.zero_add _).symm) h1 _ (View.ld_unit_apply_of _ _ _ _ _ _ (by intro a; fin_cases a <;> simp <;> omega))
  · exact weight_at3 (piece4 m c t) _ y _ h0 h1 _ (View.ld_unit_apply_of _ _ _ _ _ _ (by intro a; fin_cases a <;> simp <;> omega))
  · exact weight_at2 (piece4 m c t) _ y _ h0 h1 _ (View.ld_unit_apply_of _ _ _ _ _ _ (by intro a; fin_cases a <;> simp <;> omega))
  · exact weight_at1 (piece4 m c t) _ y _ h0 h1 _ (View.ld_unit_apply_of _ _ _ _ _ _ (by intro a; fin_cases a <;> simp <;> omega))
  · exact weight_at0 (piece4 m c t) _ y _ (h0.trans (Nat.zero_add _).symm) h1 _ (View.ld_unit_apply_of _ _ _ _ _ _ (by intro a; fin_cases a <;> simp <;> omega))
  · exact weight_at3 (piece3 m c t) _ y _ h0 h1 _ (View.ld_unit_apply_of _ _ _ _ _ _ (by intro a; fin_cases a <;> simp <;> omega))
  · exact weight_at2 (piece3 m c t) _ y _ h0 h1 _ (View.ld_unit_apply_of _ _ _ _ _ _ (by intro a; fin_cases a <;> simp <;> omega))
  · exact weight_at1 (piece3 m c t) _ y _ h0 h1 _ (View.ld_unit_apply_of _ _ _ _ _ _ (by intro a; fin_cases a <;> simp <;> omega))
  · exact weight_at0 (piece3 m c t) _ y _ (h0.trans (Nat.zero_add _).symm) h1 _ (View.ld_unit_apply_of _ _ _ _ _ _ (by intro a; fin_cases a <;> simp <;> omega))
  · exact weight_at3 (piece2 m c t) _ y _ h0 h1 _ (View.ld_unit_apply_of _ _ _ _ _ _ (by intro a; fin_cases a <;> simp <;> omega))
  · exact weight_at2 (piece2 m c t) _ y _ h0 h1 _ (View.ld_unit_apply_of _ _ _ _ _ _ (by intro a; fin_cases a <;> simp <;> omega))
  · exact weight_at1 (piece2 m c t) _ y _ h0 h1 _ (View.ld_unit_apply_of _ _ _ _ _ _ (by intro a; fin_cases a <;> simp <;> omega))
  · exact weight_at0 (piece2 m c t) _ y _ (h0.trans (Nat.zero_add _).symm) h1 _ (View.ld_unit_apply_of _ _ _ _ _ _ (by intro a; fin_cases a <;> simp <;> omega))
  · exact weight_at3 (piece1 m c t) _ y _ h0 h1 _ (View.ld_unit_apply_of _ _ _ _ _ _ (by intro a; fin_cases a <;> simp <;> omega))
  · exact weight_at2 (piece1 m c t) _ y _ h0 h1 _ (View.ld_unit_apply_of _ _ _ _ _ _ (by intro a; fin_cases a <;> simp <;> omega))
  · exact weight_at1 (piece1 m c t) _ y _ h0 h1 _ (View.ld_unit_apply_of _ _ _ _ _ _ (by intro a; fin_cases a <;> simp <;> omega))
  · exact weight_at0 (piece1 m c t) _ y _ (h0.trans (Nat.zero_add _).symm) h1 _ (View.ld_unit_apply_of _ _ _ _ _ _ (by intro a; fin_cases a <;> simp <;> omega))
  · exact weight_at3 (piece0 m c t) _ y _ h0 (h1.trans (Nat.zero_add _).symm) _ (View.ld_unit_apply_of _ _ _ _ _ _ (by intro a; fin_cases a <;> simp <;> omega))
  · exact weight_at2 (piece0 m c t) _ y _ h0 (h1.trans (Nat.zero_add _).symm) _ (View.ld_unit_apply_of _ _ _ _ _ _ (by intro a; fin_cases a <;> simp <;> omega))
  · exact weight_at1 (piece0 m c t) _ y _ h0 (h1.trans (Nat.zero_add _).symm) _ (View.ld_unit_apply_of _ _ _ _ _ _ (by intro a; fin_cases a <;> simp <;> omega))
  · exact weight_at0 (piece0 m c t) _ y _ (h0.trans (Nat.zero_add _).symm) (h1.trans (Nat.zero_add _).symm) _ (View.ld_unit_apply_of _ _ _ _ _ _ (by intro a; fin_cases a <;> simp <;> omega))

end Cert.ConvAIdeal.Value
end
-- ==== Proof.ConvAStart.lean ====
module

public import proofs.«01_k».proof.Proof.ConvAPieces

@[expose] public section

set_option maxRecDepth 16384

noncomputable section

namespace Cert.ConvAIdeal.Value

open Cert.ConvAIdeal Cert.ConvAIdeal.Gen Idealize.ShloMosaic Idealize.ShloMosaic.TcCoe Idealize.SL.Sem
open Idealize.ShloMosaic.Pipeline (Dat)
open Cert.ConvIdeal.Value (past conv)

variable (m : (ℓ : Loc nD τ sig) → Buf (Elt Ideal) ℓ)

theorem zero3 (j : S1x3072.Idx) : (k0_pay3 (F := Ideal) j : EReal) = 0 := by
  idx_vars j
  pointwise [k0_pay3]

theorem zero2 (j : S4x3072.Idx) : (k0_pay2 (F := Ideal) j : EReal) = 0 := by
  idx_vars j
  pointwise [k0_pay2]

section
variable {A : Args} {t : Fin cfg0.N} {o : Nat} {ho : o + 256 ≤ 3072} {x : Vec Ideal S256x256 .f32} {p : Vec Ideal S8x256 .f32} {b w0 w1 w2 w3 : Vec Ideal S1x256 .f32} {d : Vec Ideal S256x256 .f32}

theorem bias_start (P : Piece A t o ho x p b w0 w1 w2 w3 d) (inb) (s : Vec Ideal S1x256 .f32) (y : S1x256.Idx) (hs : (s y : EReal) = 0) :
    (k0_pay11 (k0_pay8 (grid0.coords t) x p b w0 w1 w2 w3) d (k0_pay9 (grid0.coords t) x p b w0 w1 w2 w3) s y : EReal) = 0 + biasPart A t ((Rect.unit (s := S1x3072) ![0, o] ![1, 256] inb).emb y) :=
  bias_at P s y _ (ValueKit.rect_emb_unit_val (s := S1x3072) ![0, o] ![1, 256] inb y 1) 0 hs

theorem weight_start0 (P : Piece A t o ho x p b w0 w1 w2 w3 d) (inb) (s : Vec Ideal S1x256 .f32) (y : S1x256.Idx) (hs : (s y : EReal) = 0) :
    (k0_pay12 (k0_pay5 (grid0.coords t) x p) (k0_pay8 (grid0.coords t) x p b w0 w1 w2 w3) d (k0_pay9 (grid0.coords t) x p b w0 w1 w2 w3) s y : EReal) = 0 + weightPart A t ((Rect.unit (s := S4x3072) ![0, o] ![1, 256] inb).emb y) :=
  weight_at0 P s y _ (ValueKit.rect_emb_unit_val (s := S4x3072) ![0, o] ![1, 256] inb y 0) (ValueKit.rect_emb_unit_val (s := S4x3072) ![0, o] ![1, 256] inb y 1) 0 hs

theorem weight_start1 (P : Piece A t o ho x p b w0 w1 w2 w3 d) (inb) (s : Vec Ideal S1x256 .f32) (y : S1x256.Idx) (hs : (s y : EReal) = 0) :
    (k0_pay13 (k0_pay6 (grid0.coords t) x p) (k0_pay8 (grid0.coords t) x p b w0 w1 w2 w3) d (k0_pay9 (grid0.coords t) x p b w0 w1 w2 w3) s y : EReal) = 0 + weightPart A t ((Rect.unit (s := S4x3072) ![1, o] ![1, 256] inb).emb y) :=
  weight_at1 P s y _ (ValueKit.rect_emb_unit_val (s := S4x3072) ![1, o] ![1, 256] inb y 0) (ValueKit.rect_emb_unit_val (s := S4x3072) ![1, o] ![1, 256] inb y 1) 0 hs

theorem weight_start2 (P : Piece A t o ho x p b w0 w1 w2 w3 d) (inb) (s : Vec Ideal S1x256 .f32) (y : S1x256.Idx) (hs : (s y : EReal) = 0) :
    (k0_pay14 (k0_pay7 (grid0.coords t) x p) (k0_pay8 (grid0.coords t) x p b w0 w1 w2 w3) d (k0_pay9 (grid0.coords t) x p b w0 w1 w2 w3) s y : EReal) = 0 + weightPart A t ((Rect.unit (s := S4x3072) ![2, o] ![1, 256] inb).emb y) :=
  weight_at2 P s y _ (ValueKit.rect_emb_unit_val (s := S4x3072) ![2, o] ![1, 256] inb y 0) (ValueKit.rect_emb_unit_val (s := S4x3072) ![2, o] ![1, 256] inb y 1) 0 hs

theorem weight_start3 (P : Piece A t o ho x p b w0 w1 w2 w3 d) (inb) (s : Vec Ideal S1x256 .f32) (y : S1x256.Idx) (hs : (s y : EReal) = 0) :
    (k0_pay15 x (k0_pay10 (k0_pay8 (grid0.coords t) x p b w0 w1 w2 w3) d (k0_pay9 (grid0.coords t) x p b w0 w1 w2 w3)) s y : EReal) = 0 + weightPart A t ((Rect.unit (s := S4x3072) ![3, o] ![1, 256] inb).emb y) :=
  weight_at3 P s y _ (ValueKit.rect_emb_unit_val (s := S4x3072) ![3, o] ![1, 256] inb y 0) (ValueKit.rect_emb_unit_val (s := S4x3072) ![3, o] ![1, 256] inb y 1) 0 hs

end

theorem bias_A (c : Dev nD) (t : Fin cfg0.N) (h : t.val % 16 = 0) (j : S1x3072.Idx) :
    ((outsAt0 m c t.val t.isLt).2.2 j : EReal) = 0 + biasPart (args m c) t j := by
  rw [outsAt0_A m c t h]
  frame_out
  refine View.canon_append_of_piecesOf (Val := Elt Ideal) (s := S1x3072) (e := .f32) (fun j => 0 + biasPart (args m c) t j) [_] [_, _, _, _, _, _, _, _, _, _, _, _] ⟨fun y => ?_, fun y => ?_, fun y => ?_, fun y => ?_, fun y => ?_, fun y => ?_, fun y => ?_, fun y => ?_, fun y => ?_, fun y => ?_, fun y => ?_, fun y => ?_, trivial⟩ j ?_
  · refine bias_start (piece11 m c t) inb_S1x3072_S1x256_0_2816 _ y ?_
    simp (decide := true) only [↓View.readCov_skip, ↓View.readCov_fill]
    exact zero3 _
  · unfold k0_pay125
    refine bias_start (piece10 m c t) inb_S1x3072_S1x256_0_2560 _ y ?_
    simp (decide := true) only [↓View.readCov_skip, ↓View.readCov_fill]
    exact zero3 _
  · refine bias_start (piece9 m c t) inb_S1x3072_S1x256_0_2304 _ y ?_
    simp (decide := true) only [↓View.readCov_skip, ↓View.readCov_fill]
    exact zero3 _
  · refine bias_start (piece8 m c t) inb_S1x3072_S1x256_0_2048 _ y ?_
    simp (decide := true) only [↓View.readCov_skip, ↓View.readCov_fill]
    exact zero3 _
  · refine bias_start (piece7 m c t) inb_S1x3072_S1x256_0_1792 _ y ?_
    simp (decide := true) only [↓View.readCov_skip, ↓View.readCov_fill]
    exact zero3 _
  · refine bias_start (piece6 m c t) inb_S1x3072_S1x256_0_1536 _ y ?_
    simp (decide := true) only [↓View.readCov_skip, ↓View.readCov_fill]
    exact zero3 _
  · refine bias_start (piece5 m c t) inb_S1x3072_S1x256_0_1280 _ y ?_
    simp (decide := true) only [↓View.readCov_skip, ↓View.readCov_fill]
    exact zero3 _
  · unfold k0_pay55
    refine bias_start (piece4 m c t) inb_S1x3072_S1x256_0_1024 _ y ?_
    simp (decide := true) only [↓View.readCov_skip, ↓View.readCov_fill]
    exact zero3 _
  · refine bias_start (piece3 m c t) inb_S1x3072_S1x256_0_768 _ y ?_
    simp (decide := true) only [↓View.readCov_skip, ↓View.readCov_fill]
    exact zero3 _
  · refine bias_start (piece2 m c t) inb_S1x3072_S1x256_0_512 _ y ?_
    simp (decide := true) only [↓View.readCov_skip, ↓View.readCov_fill]
    exact zero3 _
  · refine bias_start (piece1 m c t) inb_S1x3072_S1x256_0_256 _ y ?_
    simp (decide := true) only [↓View.readCov_skip, ↓View.readCov_fill]
    exact zero3 _
  · refine bias_start (piece0 m c t) inb_S1x3072_S1x256_0_0 _ y ?_
    simp (decide := true) only [↓View.readCov_skip, ↓View.readCov_fill]
    exact zero3 _
  · exact View.cover_of_tiledL (Val := Elt Ideal) (s := S1x3072) (e := .f32) _ S1x256.size (by sl_kernel_rfl) j

theorem weight_A (c : Dev nD) (t : Fin cfg0.N) (h : t.val % 16 = 0) (j : S4x3072.Idx) :
    ((outsAt0 m c t.val t.isLt).2.1 j : EReal) = 0 + weightPart (args m c) t j := by
  rw [outsAt0_A m c t h]
  frame_out
  refine View.canon_append_of_piecesOf (Val := Elt Ideal) (s := S4x3072) (e := .f32) (fun j => 0 + weightPart (args m c) t j) [_] [_, _, _, _, _, _, _, _, _, _, _, _, _, _, _, _, _, _, _, _, _, _, _, _, _, _, _, _, _, _, _, _, _, _, _, _, _, _, _, _, _, _, _, _, _, _, _, _] ⟨fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, trivial⟩ j ?_
  · unfold k0_pay141
    refine weight_start3 (piece11 m c t) inb_S4x3072_S1x256_3_2816 _ y ?_
    simp (decide := true) only [↓View.readCov_skip, ↓View.readCov_fill]
    exact zero2 _
  · refine weight_start2 (piece11 m c t) inb_S4x3072_S1x256_2_2816 _ y ?_
    simp (decide := true) only [↓View.readCov_skip, ↓View.readCov_fill]
    exact zero2 _
  · refine weight_start1 (piece11 m c t) inb_S4x3072_S1x256_1_2816 _ y ?_
    simp (decide := true) only [↓View.readCov_skip, ↓View.readCov_fill]
    exact zero2 _
  · refine weight_start0 (piece11 m c t) inb_S4x3072_S1x256_0_2816 _ y ?_
    simp (decide := true) only [↓View.readCov_skip, ↓View.readCov_fill]
    exact zero2 _
  · refine weight_start3 (piece10 m c t) inb_S4x3072_S1x256_3_2560 _ y ?_
    simp (decide := true) only [↓View.readCov_skip, ↓View.readCov_fill]
    exact zero2 _
  · refine weight_start2 (piece10 m c t) inb_S4x3072_S1x256_2_2560 _ y ?_
    simp (decide := true) only [↓View.readCov_skip, ↓View.readCov_fill]
    exact zero2 _
  · refine weight_start1 (piece10 m c t) inb_S4x3072_S1x256_1_2560 _ y ?_
    simp (decide := true) only [↓View.readCov_skip, ↓View.readCov_fill]
    exact zero2 _
  · refine weight_start0 (piece10 m c t) inb_S4x3072_S1x256_0_2560 _ y ?_
    simp (decide := true) only [↓View.readCov_skip, ↓View.readCov_fill]
    exact zero2 _
  · refine weight_start3 (piece9 m c t) inb_S4x3072_S1x256_3_2304 _ y ?_
    simp (decide := true) only [↓View.readCov_skip, ↓View.readCov_fill]
    exact zero2 _
  · refine weight_start2 (piece9 m c t) inb_S4x3072_S1x256_2_2304 _ y ?_
    simp (decide := true) only [↓View.readCov_skip, ↓View.readCov_fill]
    exact zero2 _
  · refine weight_start1 (piece9 m c t) inb_S4x3072_S1x256_1_2304 _ y ?_
    simp (decide := true) only [↓View.readCov_skip, ↓View.readCov_fill]
    exact zero2 _
  · unfold k0_pay114
    refine weight_start0 (piece9 m c t) inb_S4x3072_S1x256_0_2304 _ y ?_
    simp (decide := true) only [↓View.readCov_skip, ↓View.readCov_fill]
    exact zero2 _
  · refine weight_start3 (piece8 m c t) inb_S4x3072_S1x256_3_2048 _ y ?_
    simp (decide := true) only [↓View.readCov_skip, ↓View.readCov_fill]
    exact zero2 _
  · refine weight_start2 (piece8 m c t) inb_S4x3072_S1x256_2_2048 _ y ?_
    simp (decide := true) only [↓View.readCov_skip, ↓View.readCov_fill]
    exact zero2 _
  · refine weight_start1 (piece8 m c t) inb_S4x3072_S1x256_1_2048 _ y ?_
    simp (decide := true) only [↓View.readCov_skip, ↓View.readCov_fill]
    exact zero2 _
  · refine weight_start0 (piece8 m c t) inb_S4x3072_S1x256_0_2048 _ y ?_
    simp (decide := true) only [↓View.readCov_skip, ↓View.readCov_fill]
    exact zero2 _
  · refine weight_start3 (piece7 m c t) inb_S4x3072_S1x256_3_1792 _ y ?_
    simp (decide := true) only [↓View.readCov_skip, ↓View.readCov_fill]
    exact zero2 _
  · refine weight_start2 (piece7 m c t) inb_S4x3072_S1x256_2_1792 _ y ?_
    simp (decide := true) only [↓View.readCov_skip, ↓View.readCov_fill]
    exact zero2 _
  · refine weight_start1 (piece7 m c t) inb_S4x3072_S1x256_1_1792 _ y ?_
    simp (decide := true) only [↓View.readCov_skip, ↓View.readCov_fill]
    exact zero2 _
  · refine weight_start0 (piece7 m c t) inb_S4x3072_S1x256_0_1792 _ y ?_
    simp (decide := true) only [↓View.readCov_skip, ↓View.readCov_fill]
    exact zero2 _
  · refine weight_start3 (piece6 m c t) inb_S4x3072_S1x256_3_1536 _ y ?_
    simp (decide := true) only [↓View.readCov_skip, ↓View.readCov_fill]
    exact zero2 _
  · refine weight_start2 (piece6 m c t) inb_S4x3072_S1x256_2_1536 _ y ?_
    simp (decide := true) only [↓View.readCov_skip, ↓View.readCov_fill]
    exact zero2 _
  · refine weight_start1 (piece6 m c t) inb_S4x3072_S1x256_1_1536 _ y ?_
    simp (decide := true) only [↓View.readCov_skip, ↓View.readCov_fill]
    exact zero2 _
  · refine weight_start0 (piece6 m c t) inb_S4x3072_S1x256_0_1536 _ y ?_
    simp (decide := true) only [↓View.readCov_skip, ↓View.readCov_fill]
    exact zero2 _
  · unfold k0_pay71
    refine weight_start3 (piece5 m c t) inb_S4x3072_S1x256_3_1280 _ y ?_
    simp (decide := true) only [↓View.readCov_skip, ↓View.readCov_fill]
    exact zero2 _
  · refine weight_start2 (piece5 m c t) inb_S4x3072_S1x256_2_1280 _ y ?_
    simp (decide := true) only [↓View.readCov_skip, ↓View.readCov_fill]
    exact zero2 _
  · refine weight_start1 (piece5 m c t) inb_S4x3072_S1x256_1_1280 _ y ?_
    simp (decide := true) only [↓View.readCov_skip, ↓View.readCov_fill]
    exact zero2 _
  · refine weight_start0 (piece5 m c t) inb_S4x3072_S1x256_0_1280 _ y ?_
    simp (decide := true) only [↓View.readCov_skip, ↓View.readCov_fill]
    exact zero2 _
  · refine weight_start3 (piece4 m c t) inb_S4x3072_S1x256_3_1024 _ y ?_
    simp (decide := true) only [↓View.readCov_skip, ↓View.readCov_fill]
    exact zero2 _
  · refine weight_start2 (piece4 m c t) inb_S4x3072_S1x256_2_1024 _ y ?_
    simp (decide := true) only [↓View.readCov_skip, ↓View.readCov_fill]
    exact zero2 _
  · refine weight_start1 (piece4 m c t) inb_S4x3072_S1x256_1_1024 _ y ?_
    simp (decide := true) only [↓View.readCov_skip, ↓View.readCov_fill]
    exact zero2 _
  · refine weight_start0 (piece4 m c t) inb_S4x3072_S1x256_0_1024 _ y ?_
    simp (decide := true) only [↓View.readCov_skip, ↓View.readCov_fill]
    exact zero2 _
  · refine weight_start3 (piece3 m c t) inb_S4x3072_S1x256_3_768 _ y ?_
    simp (decide := true) only [↓View.readCov_skip, ↓View.readCov_fill]
    exact zero2 _
  · refine weight_start2 (piece3 m c t) inb_S4x3072_S1x256_2_768 _ y ?_
    simp (decide := true) only [↓View.readCov_skip, ↓View.readCov_fill]
    exact zero2 _
  · refine weight_start1 (piece3 m c t) inb_S4x3072_S1x256_1_768 _ y ?_
    simp (decide := true) only [↓View.readCov_skip, ↓View.readCov_fill]
    exact zero2 _
  · unfold k0_pay44
    refine weight_start0 (piece3 m c t) inb_S4x3072_S1x256_0_768 _ y ?_
    simp (decide := true) only [↓View.readCov_skip, ↓View.readCov_fill]
    exact zero2 _
  · refine weight_start3 (piece2 m c t) inb_S4x3072_S1x256_3_512 _ y ?_
    simp (decide := true) only [↓View.readCov_skip, ↓View.readCov_fill]
    exact zero2 _
  · refine weight_start2 (piece2 m c t) inb_S4x3072_S1x256_2_512 _ y ?_
    simp (decide := true) only [↓View.readCov_skip, ↓View.readCov_fill]
    exact zero2 _
  · refine weight_start1 (piece2 m c t) inb_S4x3072_S1x256_1_512 _ y ?_
    simp (decide := true) only [↓View.readCov_skip, ↓View.readCov_fill]
    exact zero2 _
  · refine weight_start0 (piece2 m c t) inb_S4x3072_S1x256_0_512 _ y ?_
    simp (decide := true) only [↓View.readCov_skip, ↓View.readCov_fill]
    exact zero2 _
  · refine weight_start3 (piece1 m c t) inb_S4x3072_S1x256_3_256 _ y ?_
    simp (decide := true) only [↓View.readCov_skip, ↓View.readCov_fill]
    exact zero2 _
  · refine weight_start2 (piece1 m c t) inb_S4x3072_S1x256_2_256 _ y ?_
    simp (decide := true) only [↓View.readCov_skip, ↓View.readCov_fill]
    exact zero2 _
  · refine weight_start1 (piece1 m c t) inb_S4x3072_S1x256_1_256 _ y ?_
    simp (decide := true) only [↓View.readCov_skip, ↓View.readCov_fill]
    exact zero2 _
  · refine weight_start0 (piece1 m c t) inb_S4x3072_S1x256_0_256 _ y ?_
    simp (decide := true) only [↓View.readCov_skip, ↓View.readCov_fill]
    exact zero2 _
  · refine weight_start3 (piece0 m c t) inb_S4x3072_S1x256_3_0 _ y ?_
    simp (decide := true) only [↓View.readCov_skip, ↓View.readCov_fill]
    exact zero2 _
  · refine weight_start2 (piece0 m c t) inb_S4x3072_S1x256_2_0 _ y ?_
    simp (decide := true) only [↓View.readCov_skip, ↓View.readCov_fill]
    exact zero2 _
  · refine weight_start1 (piece0 m c t) inb_S4x3072_S1x256_1_0 _ y ?_
    simp (decide := true) only [↓View.readCov_skip, ↓View.readCov_fill]
    exact zero2 _
  · refine weight_start0 (piece0 m c t) inb_S4x3072_S1x256_0_0 _ y ?_
    simp (decide := true) only [↓View.readCov_skip, ↓View.readCov_fill]
    exact zero2 _
  · exact View.cover_of_tiledL (Val := Elt Ideal) (s := S4x3072) (e := .f32) _ S1x256.size (by sl_kernel_rfl) j

end Cert.ConvAIdeal.Value
end
-- ==== Proof.ConvAValue.lean ====
module

public import proofs.«01_k».proof.Proof.ConvAStart

@[expose] public section

set_option maxRecDepth 16384

noncomputable section

namespace Cert.ConvAIdeal.Value

open Cert.ConvAIdeal Cert.ConvAIdeal.Gen Idealize.ShloMosaic Idealize.ShloMosaic.TcCoe Idealize.SL.Sem
open Idealize.ShloMosaic.Pipeline (Dat)

variable (m : (ℓ : Loc nD τ sig) → Buf (Elt Ideal) ℓ)

theorem out_value (c : Dev nD) : (dats m 0 c).arrAt 7 cfg0.N = out (args m c) := by
  refine (dats m 0 c).arrAt_eq_of_covers 7 _ (by decide +kernel) fun t hf y => ?_
  have hy := idx0 t
  have hc := coord t
  have hN := lt_of_lt_of_eq t.isLt (show cfg0.N = 16 from N_0)
  blk_simp
  rw [after0_7]
  have hj0 : ((((View.whole main_v0_0).slice (win0_7.rect t)).emb y) 0).val = t.val * 256 + (y 0).val := by
    blk_simp [hy.2.2.2.2.2.2.2.1, hc]
  have hj1 : ((((View.whole main_v0_0).slice (win0_7.rect t)).emb y) 1).val = (y 1).val := by
    blk_simp [hy.2.2.2.2.2.2.2.1, hc]
  generalize ((View.whole main_v0_0).slice (win0_7.rect t)).emb y = j at hj0 hj1 ⊢
  by_cases h0 : t.val % 16 = 0
  · exact out_A m c t h0 y j hj0 hj1
  · exact out_B m c t h0 y j hj0 hj1

theorem weight_sum (A : Args) (i : S4x3072.Idx) : (∑ t : Fin cfg0.N, weightPart A t i) = weight A i := by
  refine (Fintype.sum_equiv (finCongr N_0) _ (fun t : Fin 16 => ∑ r : Fin 256, tapTerm A (i 0).val ⟨(i 1).val, (i 1).isLt⟩ ⟨t.val * 256 + r.val, by omega⟩) fun t => rfl).trans ?_
  unfold weight
  exact Fin.sum_mul_add_congr fun p k h => rfl

theorem bias_sum (A : Args) (i : S1x3072.Idx) : (∑ t : Fin cfg0.N, biasPart A t i) = bias A i := by
  refine (Fintype.sum_equiv (finCongr N_0) _ (fun t : Fin 16 => ∑ r : Fin 256, slope A ⟨t.val * 256 + r.val, by omega⟩ ⟨(i 1).val, (i 1).isLt⟩) fun t => rfl).trans ?_
  unfold bias
  exact Fin.sum_mul_add_congr fun p k h => rfl

theorem weight_value (c : Dev nD) : (dats m 0 c).arrAt 8 cfg0.N = weight (args m c) := by
  have h15 : 15 < cfg0.N := lt_of_lt_of_eq (by norm_num : 15 < 16) N_0.symm
  have hw : ∀ t : Fin cfg0.N, t.val = 15 → (cfg0.win 8).WholeAt t := by decide +kernel
  refine (dats m 0 c).arrAt_eq_of_after_last 8 ⟨15, h15⟩ (hw _ rfl) _ fun j => ?_
  rw [after0_8]
  refine (Pipeline.eq_sum_fin_of_reset_step_apply_last (M := EReal) (fun n h i => (outsAt0 m c n h).2.1 i) 16 (fun _ => 0) (fun t j => weightPart (args m c) t j) (weight_A m c) (weight_B m c) (le_of_eq N_0) ⟨15, h15⟩ N_0.symm j).trans ?_
  rw [zero_add]
  exact weight_sum _ _

theorem bias_value (c : Dev nD) : (dats m 0 c).arrAt 9 cfg0.N = bias (args m c) := by
  have h15 : 15 < cfg0.N := lt_of_lt_of_eq (by norm_num : 15 < 16) N_0.symm
  have hw : ∀ t : Fin cfg0.N, t.val = 15 → (cfg0.win 9).WholeAt t := by decide +kernel
  refine (dats m 0 c).arrAt_eq_of_after_last 9 ⟨15, h15⟩ (hw _ rfl) _ fun j => ?_
  rw [after0_9]
  refine (Pipeline.eq_sum_fin_of_reset_step_apply_last (M := EReal) (fun n h i => (outsAt0 m c n h).2.2 i) 16 (fun _ => 0) (fun t j => biasPart (args m c) t j) (bias_A m c) (bias_B m c) (le_of_eq N_0) ⟨15, h15⟩ N_0.symm j).trans ?_
  rw [zero_add]
  exact bias_sum _ _

end Cert.ConvAIdeal.Value
end
-- ==== Proof.ConvClaim.lean ====
module

public import proofs.«01_k».proof.Defs
public import proofs.«01_k».proof.Proof.ConvValue
public import proofs.«01_k».proof.Proof.Gen.ConvRefIdeal.Run
public import Idealize.ShloMosaic.Lib.Pointwise
public import Idealize.ShloMosaic.Lib.Tactic.CleanTypes

@[expose] public section

set_option maxRecDepth 16384

noncomputable section

namespace Cert.ConvClaim

open Idealize.ShloMosaic Idealize.ShloMosaic.TcCoe Idealize.SL.Sem

theorem row_in (a : Cert.ConvIdeal.S4096x9216.Idx → EReal) (q : Fin 3072) (n : Nat) (x : EReal) (k : Fin 4096) (r : Fin 9216) (hk : k.val + 8 = n) (hr : r = ⟨6144 + q.val, by omega⟩) :
    a (ix2 k r) * x = x * Cert.ConvIdeal.Value.past a q n := by
  subst hr hk
  unfold Cert.ConvIdeal.Value.past
  rw [dif_pos (by omega), mul_comm]
  rfl

theorem row_out (a : Cert.ConvIdeal.S4096x9216.Idx → EReal) (q : Fin 3072) (n : Nat) (x : EReal) (hn : n < 8) :
    0 * x = x * Cert.ConvIdeal.Value.past a q n := by
  unfold Cert.ConvIdeal.Value.past
  rw [dif_neg (by omega), mul_zero, zero_mul]

theorem reorder (p q r s b : EReal) : p + q + r + s + b = b + p + q + r + s := by
  rw [add_comm _ b, ← add_assoc, ← add_assoc, ← add_assoc]

theorem silu_congr {x y : EReal} (h : x = y) : x * Ideal.div 1 (1 + Ideal.exp (-x)) = y * Ideal.logistic y := by
  subst h
  rfl

theorem out_congr {a a' : Cert.ConvIdeal.S4096x9216.Idx → EReal} {w w' : Cert.ConvIdeal.S4x3072.Idx → EReal} {b b' : Cert.ConvIdeal.S1x3072.Idx → EReal} (ha : a = a') (hw : w = w') (hb : b = b') :
    Cert.ConvIdeal.Value.out a w b = Cert.ConvIdeal.Value.out a' w' b' := by subst ha hw hb; rfl

theorem algebraic : Cert.algebraic_ConvIdeal_ConvRefIdeal (hConvIdeal := Cert.ConvIdeal.Gen.facts) (hConvRefIdeal := Cert.ConvRefIdeal.Gen.facts) := by
  intro m g m' g' _ hagree
  refine ⟨_, Cert.ConvIdeal.Value.run_blocks m g, (θ_run _ _ _).mono (fun r h c => ⟨(h c).1.trans ?_, (h c).2⟩) (Cert.ConvRefIdeal.Value.run m' g')⟩
  obtain ⟨e0, e1, e2⟩ := hagree c
  unfold Cert.ConvRefIdeal.Value.res_main_v36
  refine Eq.trans ?_ ((out_congr e0 e1 e2).trans (Cert.ConvIdeal.Value.value m c).symm)
  funext i
  clean_types
  idx_vars i
  pointwise [Cert.ConvIdeal.Value.out, Cert.ConvIdeal.Value.gated, Cert.ConvIdeal.Value.conv]
  refine silu_congr ((congrArg₂ (fun x y : EReal => x + y) (congrArg₂ (fun x y : EReal => x + y) (congrArg₂ (fun x y : EReal => x + y) (congrArg₂ (fun x y : EReal => x + y) ?_ ?_) ?_) ?_) rfl).trans (reorder _ _ _ _ _))
  · split
    · exact row_out _ _ _ _ (by omega)
    · exact row_in _ _ _ _ _ _ (by show i0.val - 3 + 8 = _; omega) rfl
  · split
    · exact row_out _ _ _ _ (by omega)
    · exact row_in _ _ _ _ _ _ (by show 1 + i0.val - 3 + 8 = _; omega) rfl
  · split
    · exact row_out _ _ _ _ (by omega)
    · exact row_in _ _ _ _ _ _ (by show 2 + i0.val - 3 + 8 = _; omega) rfl
  · exact row_in _ _ _ _ _ _ rfl rfl

end Cert.ConvClaim
end
-- ==== Proof.ConvARef.lean ====
module

public import proofs.«01_k».proof.Proof.ConvARows
public import proofs.«01_k».proof.Proof.ConvClaim
public import proofs.«01_k».proof.Proof.Gen.ConvARefIdeal.Run
public import Idealize.ShloMosaic.Lib.Pointwise
public import Idealize.ShloMosaic.Lib.Tactic.CleanTypes

@[expose] public section

set_option maxRecDepth 16384

noncomputable section

namespace Cert.ConvARefIdeal.Value

open Cert.ConvARefIdeal Cert.ConvARefIdeal.Gen Idealize.ShloMosaic Idealize.ShloMosaic.TcCoe Idealize.SL.Sem
open Cert.ConvIdeal.Value (past conv)
open Cert.ConvAIdeal.Value (Args cot through slope tapTerm)

/-- The ones of the gate. -/
def ones : FVec Ideal S4096x3072 .f32 := broadcastInDim S4096x3072 ![] bcast_S_S4096x3072 (constant S_ .f32 0x3F800000#32)

/-- The rows with three rows of zeros above. -/
def taps (a : FVec Ideal S4096x9216 .f32) : FVec Ideal S4099x3072 .f32 :=
  concatenate S4099x3072 0 [⟨S3x3072, (broadcastInDim S3x3072 ![] bcast_S_S3x3072 (constant S_ .f32 0x00000000#32))⟩, ⟨S4096x3072, (extractStridedSlice S4096x3072 ![0, 6144] a slices_S4096x9216_S4096x3072_0_6144)⟩] concatenates_S3x3072_S4096x3072_S4099x3072_d0

/-- The convolution's sum. -/
def total (U : FVec Ideal S4099x3072 .f32) (w : FVec Ideal S4x3072 .f32) (b : FVec Ideal S1x3072 .f32) : FVec Ideal S4096x3072 .f32 :=
  addf (addf (addf (addf (addf (broadcastInDim S4096x3072 ![] bcast_S_S4096x3072 (constant S_ .f32 0x00000000#32))
    (mulf (extractStridedSlice S4096x3072 ![0, 0] U slices_S4099x3072_S4096x3072_0_0) (broadcastInDim S4096x3072 ![0, 1] bcast_S1x3072_S4096x3072_0_1 (broadcastInDim S1x3072 ![1] bcast_S3072_S1x3072_1 (shapeCast _ (extractStridedSlice S1x3072 ![0, 0] w slices_S4x3072_S1x3072_0_0) shapeCasts_S1x3072_S3072)))))
    (mulf (extractStridedSlice S4096x3072 ![1, 0] U slices_S4099x3072_S4096x3072_1_0) (broadcastInDim S4096x3072 ![0, 1] bcast_S1x3072_S4096x3072_0_1 (broadcastInDim S1x3072 ![1] bcast_S3072_S1x3072_1 (shapeCast _ (extractStridedSlice S1x3072 ![1, 0] w slices_S4x3072_S1x3072_1_0) shapeCasts_S1x3072_S3072)))))
    (mulf (extractStridedSlice S4096x3072 ![2, 0] U slices_S4099x3072_S4096x3072_2_0) (broadcastInDim S4096x3072 ![0, 1] bcast_S1x3072_S4096x3072_0_1 (broadcastInDim S1x3072 ![1] bcast_S3072_S1x3072_1 (shapeCast _ (extractStridedSlice S1x3072 ![2, 0] w slices_S4x3072_S1x3072_2_0) shapeCasts_S1x3072_S3072)))))
    (mulf (extractStridedSlice S4096x3072 ![3, 0] U slices_S4099x3072_S4096x3072_3_0) (broadcastInDim S4096x3072 ![0, 1] bcast_S1x3072_S4096x3072_0_1 (broadcastInDim S1x3072 ![1] bcast_S3072_S1x3072_1 (shapeCast _ (extractStridedSlice S1x3072 ![3, 0] w slices_S4x3072_S1x3072_3_0) shapeCasts_S1x3072_S3072)))))
    (broadcastInDim S4096x3072 ![0, 1] bcast_S1x3072_S4096x3072_0_1 (broadcastInDim S1x3072 ![1] bcast_S3072_S1x3072_1 (shapeCast _ b shapeCasts_S1x3072_S3072)))

/-- The three cotangents side by side. -/
def cots (dx : FVec Ideal S4096x2048 .f32) (db dc : FVec Ideal S4096x512 .f32) : FVec Ideal S4096x3072 .f32 :=
  concatenate S4096x3072 1 [⟨S4096x2048, dx⟩, ⟨S4096x512, db⟩, ⟨S4096x512, dc⟩] concatenates_S4096x2048_S4096x512_S4096x512_S4096x3072_d1

/-- The gate. -/
def gate (P : FVec Ideal S4096x3072 .f32) : FVec Ideal S4096x3072 .f32 := Host.divf ones (addf ones (Host.exp (Host.negf P)))

/-- The cotangent of the sum. -/
def dsum (G P : FVec Ideal S4096x3072 .f32) : FVec Ideal S4096x3072 .f32 := addf (mulf G (gate P)) (mulf (mulf P G) (mulf (gate P) (subf ones (gate P))))

/-- A sum over the rows, in the host's two steps. -/
def rows (D : FVec Ideal S4096x3072 .f32) : FVec Ideal S1x3072 .f32 :=
  broadcastInDim S1x3072 ![1] bcast_S3072_S1x3072_1 (Host.reduceAdd (shapeCast _ (Host.reduceAdd D (constant S_ .f32 0x00000000#32) reducesTo_S4096x3072_S3072_d0 h_S_) shapeCasts_S3072_S1x3072) (constant S_ .f32 0x00000000#32) reducesTo_S1x3072_S3072_d0 h_S_)

def row0 (U : FVec Ideal S4099x3072 .f32) (D : FVec Ideal S4096x3072 .f32) := rows (mulf (extractStridedSlice S4096x3072 ![0, 0] U slices_S4099x3072_S4096x3072_0_0) D)
def row1 (U : FVec Ideal S4099x3072 .f32) (D : FVec Ideal S4096x3072 .f32) := rows (mulf (extractStridedSlice S4096x3072 ![1, 0] U slices_S4099x3072_S4096x3072_1_0) D)
def row2 (U : FVec Ideal S4099x3072 .f32) (D : FVec Ideal S4096x3072 .f32) := rows (mulf (extractStridedSlice S4096x3072 ![2, 0] U slices_S4099x3072_S4096x3072_2_0) D)
def row3 (U : FVec Ideal S4099x3072 .f32) (D : FVec Ideal S4096x3072 .f32) := rows (mulf (extractStridedSlice S4096x3072 ![3, 0] U slices_S4099x3072_S4096x3072_3_0) D)

/-- The four rows stacked. -/
def stack (r0 r1 r2 r3 : FVec Ideal S1x3072 .f32) : FVec Ideal S4x3072 .f32 :=
  addf (addf (addf (pad S4x3072 ![3, 0] ![0, 0] ![0, 0] r3 (constant S_ .f32 0x00000000#32) pads_S1x3072_S4x3072_300_000 h_S_)
    (pad S4x3072 ![2, 0] ![1, 0] ![0, 0] r2 (constant S_ .f32 0x00000000#32) pads_S1x3072_S4x3072_210_000 h_S_))
    (pad S4x3072 ![1, 0] ![2, 0] ![0, 0] r1 (constant S_ .f32 0x00000000#32) pads_S1x3072_S4x3072_120_000 h_S_))
    (pad S4x3072 ![0, 0] ![3, 0] ![0, 0] r0 (constant S_ .f32 0x00000000#32) pads_S1x3072_S4x3072_030_000 h_S_)

variable (m : (ℓ : Loc nD τ sig) → Buf (Elt Ideal) ℓ)

/-- The cotangent of the sum, of one device's arguments. -/
def grad (c : Dev nD) : FVec Ideal S4096x3072 .f32 :=
  dsum (cots (m ((c.tc : Thread nD τ).loc main_arg0)) (m ((c.tc : Thread nD τ).loc main_arg1)) (m ((c.tc : Thread nD τ).loc main_arg2)))
    (total (taps (m ((c.tc : Thread nD τ).loc main_arg3))) (m ((c.tc : Thread nD τ).loc main_arg4)) (m ((c.tc : Thread nD τ).loc main_arg5)))

theorem res0 (c : Dev nD) : res_main_v38 m c = grad m c := rfl

theorem res2 (c : Dev nD) : res_main_v69 m c = rows (grad m c) := rfl

theorem res1 (c : Dev nD) : res_main_v68 m c = stack (row0 (taps (m ((c.tc : Thread nD τ).loc main_arg3))) (grad m c)) (row1 (taps (m ((c.tc : Thread nD τ).loc main_arg3))) (grad m c)) (row2 (taps (m ((c.tc : Thread nD τ).loc main_arg3))) (grad m c)) (row3 (taps (m ((c.tc : Thread nD τ).loc main_arg3))) (grad m c)) := rfl

theorem rows_apply (D : FVec Ideal S4096x3072 .f32) (q : Fin 3072) : (rows D (ix2 0 q) : EReal) = ∑ n : Fin 4096, (D (ix2 n q) : EReal) := by
  pointwise [rows]
  exact Fintype.sum_unique _

theorem gate_apply (P : FVec Ideal S4096x3072 .f32) (n : Fin 4096) (q : Fin 3072) : (gate P (ix2 n q) : EReal) = Ideal.logistic (P (ix2 n q)) := by
  pointwise [gate, ones]
  rfl

/-- The two forms of the gate's derivative agree at a finite cotangent. -/
theorem gated (g : ℝ) (p : EReal) : (g : EReal) * Ideal.logistic p + p * g * (Ideal.logistic p * (1 - Ideal.logistic p)) = through p g := by
  show _ = (g : EReal) * (Ideal.logistic p * (1 + p * (1 - Ideal.logistic p)))
  induction p with
  | bot => simp
  | top =>
    have e : (1 : EReal) - 1 = 0 := by rw [← EReal.coe_one, ← EReal.coe_sub, sub_self, EReal.coe_zero]
    simp [e]
  | coe p =>
    rw [Ideal.logistic_coe]
    norm_cast
    ring

theorem dsum_apply (G P : FVec Ideal S4096x3072 .f32) (n : Fin 4096) (q : Fin 3072) (g : ℝ) (hg : (G (ix2 n q) : EReal) = g) : (dsum G P (ix2 n q) : EReal) = through (P (ix2 n q)) (G (ix2 n q)) := by
  rw [hg, ← gated]
  pointwise [dsum, ones]
  rw [gate_apply, hg]

theorem cots_apply (dx : FVec Ideal S4096x2048 .f32) (db dc : FVec Ideal S4096x512 .f32) (n : Fin 4096) (q : Fin 3072) : (cots dx db dc (ix2 n q) : EReal) = cot dx db dc n q.val := by
  pointwise [cots]
  unfold cot
  have hq := q.isLt
  refine dite_congr rfl (fun _ => rfl) fun h => ?_
  refine dite_congr (propext ⟨fun h' => by omega, fun h' => by omega⟩) (fun _ => rfl) fun h' => ?_
  refine Eq.trans ?_ (dif_pos hq).symm
  exact congrArg dc (congrArg (ix2 n) (Fin.ext (by show q.val - 2048 - 512 = q.val - 2560; omega)))

theorem total_apply (a : FVec Ideal S4096x9216 .f32) (w : FVec Ideal S4x3072 .f32) (b : FVec Ideal S1x3072 .f32) (n : Fin 4096) (q : Fin 3072) : (total (taps a) w b (ix2 n q) : EReal) = conv a w b q n.val := by
  pointwise [total, taps, conv]
  refine (congrArg₂ (fun x y : EReal => x + y) (congrArg₂ (fun x y : EReal => x + y) (congrArg₂ (fun x y : EReal => x + y) (congrArg₂ (fun x y : EReal => x + y) ?_ ?_) ?_) ?_) rfl).trans (Cert.ConvClaim.reorder _ _ _ _ _)
  · split
    · exact Cert.ConvClaim.row_out _ _ _ _ (by omega)
    · exact Cert.ConvClaim.row_in _ _ _ _ _ _ (by show n.val - 3 + 8 = _; omega) rfl
  · split
    · exact Cert.ConvClaim.row_out _ _ _ _ (by omega)
    · exact Cert.ConvClaim.row_in _ _ _ _ _ _ (by show 1 + n.val - 3 + 8 = _; omega) rfl
  · split
    · exact Cert.ConvClaim.row_out _ _ _ _ (by omega)
    · exact Cert.ConvClaim.row_in _ _ _ _ _ _ (by show 2 + n.val - 3 + 8 = _; omega) rfl
  · exact Cert.ConvClaim.row_in _ _ _ _ _ _ rfl rfl

theorem tap0_apply (a : FVec Ideal S4096x9216 .f32) (D : FVec Ideal S4096x3072 .f32) (n : Fin 4096) (q : Fin 3072) :
    (mulf (extractStridedSlice S4096x3072 ![0, 0] (taps a) slices_S4099x3072_S4096x3072_0_0) D (ix2 n q) : EReal) = D (ix2 n q) * past a q (n.val + 5 + 0) := by
  pointwise [taps]
  split
  · exact Cert.ConvClaim.row_out _ _ _ _ (by omega)
  · exact Cert.ConvClaim.row_in _ _ _ _ _ _ (by show n.val - 3 + 8 = _; omega) rfl

theorem tap1_apply (a : FVec Ideal S4096x9216 .f32) (D : FVec Ideal S4096x3072 .f32) (n : Fin 4096) (q : Fin 3072) :
    (mulf (extractStridedSlice S4096x3072 ![1, 0] (taps a) slices_S4099x3072_S4096x3072_1_0) D (ix2 n q) : EReal) = D (ix2 n q) * past a q (n.val + 5 + 1) := by
  pointwise [taps]
  split
  · exact Cert.ConvClaim.row_out _ _ _ _ (by omega)
  · exact Cert.ConvClaim.row_in _ _ _ _ _ _ (by show 1 + n.val - 3 + 8 = _; omega) rfl

theorem tap2_apply (a : FVec Ideal S4096x9216 .f32) (D : FVec Ideal S4096x3072 .f32) (n : Fin 4096) (q : Fin 3072) :
    (mulf (extractStridedSlice S4096x3072 ![2, 0] (taps a) slices_S4099x3072_S4096x3072_2_0) D (ix2 n q) : EReal) = D (ix2 n q) * past a q (n.val + 5 + 2) := by
  pointwise [taps]
  split
  · exact Cert.ConvClaim.row_out _ _ _ _ (by omega)
  · exact Cert.ConvClaim.row_in _ _ _ _ _ _ (by show 2 + n.val - 3 + 8 = _; omega) rfl

theorem tap3_apply (a : FVec Ideal S4096x9216 .f32) (D : FVec Ideal S4096x3072 .f32) (n : Fin 4096) (q : Fin 3072) :
    (mulf (extractStridedSlice S4096x3072 ![3, 0] (taps a) slices_S4099x3072_S4096x3072_3_0) D (ix2 n q) : EReal) = D (ix2 n q) * past a q (n.val + 5 + 3) := by
  pointwise [taps]
  exact Cert.ConvClaim.row_in _ _ _ _ _ _ (by omega) rfl

theorem stack0 (r0 r1 r2 r3 : FVec Ideal S1x3072 .f32) (q : Fin 3072) : (stack r0 r1 r2 r3 (ix2 0 q) : EReal) = r0 (ix2 0 q) := by
  pointwise [stack]

theorem stack1 (r0 r1 r2 r3 : FVec Ideal S1x3072 .f32) (q : Fin 3072) : (stack r0 r1 r2 r3 (ix2 1 q) : EReal) = r1 (ix2 0 q) := by
  pointwise [stack]

theorem stack2 (r0 r1 r2 r3 : FVec Ideal S1x3072 .f32) (q : Fin 3072) : (stack r0 r1 r2 r3 (ix2 2 q) : EReal) = r2 (ix2 0 q) := by
  pointwise [stack]

theorem stack3 (r0 r1 r2 r3 : FVec Ideal S1x3072 .f32) (q : Fin 3072) : (stack r0 r1 r2 r3 (ix2 3 q) : EReal) = r3 (ix2 0 q) := by
  pointwise [stack]

end Cert.ConvARefIdeal.Value
end
-- ==== Proof.Finite.lean ====
module

public import Idealize.ShloMosaic.Lib.ReduceAll
public import Idealize.ShloMosaic.Lib.Pointwise
public import Idealize.ShloMosaic.Lib.Pipeline.ValueKit

@[expose] public section

noncomputable section

namespace Cert.Finite

open Idealize.ShloMosaic

/-- An element below infinity in absolute value is a real number. -/
theorem real_of_olt (x : EReal) (h : FloatOps.cmpf (F := Ideal) (φ := .f32) .olt (FloatOps.hostAbsf (F := Ideal) (φ := .f32) x) (FloatOps.ofBits .f32 0x7F800000#32) = 1#1) : ((x.toReal : ℝ) : EReal) = x := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  have h2 : max x (-x) < ⊤ := by
    by_contra hc
    rw [decide_eq_false hc] at h'
    exact absurd h' (by decide)
  refine EReal.coe_toReal ?_ ?_
  · rintro rfl; simp at h2
  · rintro rfl; simp at h2

/-- The same of every element, from the printed test over a whole array. -/
theorem real_of_all {s t u : Shape} {axes : List (Fin s.rank)} [Subsingleton t.Idx] (x : s.Idx → EReal) (b : u.Idx → BitVec 1) (z : s.Idx → EReal)
    (hz : ∀ i, z i = FloatOps.ofBits (F := Ideal) .f32 0x7F800000#32)
    (h : s.ReducesTo axes t) (hu : 0 < u.numel) (j : t.Idx)
    (e : Host.reduce IntOp.andi (cmpf (F := Ideal) (φ := .f32) .olt (Host.absf (F := Ideal) (φ := .f32) x) z) b h hu j = 1#1) (i : s.Idx) : (((x i).toReal : ℝ) : EReal) = x i :=
  real_of_olt _ (by have := Host.reduce_andi_all _ _ _ _ j e i; rw [← hz i]; exact this)

end Cert.Finite
end
-- ==== Proof.ConvAClaim.lean ====
module

public import proofs.«01_k».proof.Defs
public import proofs.«01_k».proof.Proof.Gen.Pre_conv_finite
public import proofs.«01_k».proof.Proof.ConvAValue
public import proofs.«01_k».proof.Proof.ConvARef
public import proofs.«01_k».proof.Proof.Finite

@[expose] public section

set_option maxRecDepth 16384

noncomputable section

namespace Cert.ConvAClaim

open Idealize.ShloMosaic Idealize.ShloMosaic.TcCoe Idealize.SL.Sem
open Cert.ConvAIdeal.Value (Args cot through slope tapTerm args)
open Cert.ConvARefIdeal.Value (taps total cots dsum rows row0 row1 row2 row3 stack grad)

/-- The precondition makes every entry of the three cotangents a real number. -/
theorem real_of_pre (m : (ℓ : Loc Cert.ConvAIdeal.nD Cert.ConvAIdeal.τ Cert.ConvAIdeal.sig) → Buf (Elt Ideal) ℓ)
    (h : Cert.Pre_ConvAIdeal_conv_finite (hPre_conv_finite := Cert.Pre_conv_finite.Gen.facts) m) (c : Dev Cert.ConvAIdeal.nD) :
    (∀ i, ((((args m c).dx i).toReal : ℝ) : EReal) = (args m c).dx i) ∧ (∀ i, ((((args m c).db i).toReal : ℝ) : EReal) = (args m c).db i) ∧
      ∀ i, ((((args m c).dc i).toReal : ℝ) : EReal) = (args m c).dc i := by
  haveI : Subsingleton Cert.Pre_conv_finite.S_.Idx := ⟨fun a b => funext fun k => k.elim0⟩
  have e := congrFun (h c) ix0
  obtain ⟨e01, e2⟩ := IntOp.andi_eq_one.mp e
  obtain ⟨e0, e1⟩ := IntOp.andi_eq_one.mp e01
  exact ⟨fun i => Finite.real_of_all _ _ _ (fun _ => rfl) _ _ ix0 e0 i, fun i => Finite.real_of_all _ _ _ (fun _ => rfl) _ _ ix0 e1 i, fun i => Finite.real_of_all _ _ _ (fun _ => rfl) _ _ ix0 e2 i⟩

/-- So is the three side by side. -/
theorem real_cot (A : Args) (h0 : ∀ i, (((A.dx i).toReal : ℝ) : EReal) = A.dx i) (h1 : ∀ i, (((A.db i).toReal : ℝ) : EReal) = A.db i) (h2 : ∀ i, (((A.dc i).toReal : ℝ) : EReal) = A.dc i) (n : Fin 4096) (q : Nat) :
    cot A.dx A.db A.dc n q = (((cot A.dx A.db A.dc n q).toReal : ℝ) : EReal) := by
  unfold cot
  split
  · exact (h0 _).symm
  · split
    · exact (h1 _).symm
    · split
      · exact (h2 _).symm
      · simp

section
variable (A : Args) (h : ∀ n q, cot A.dx A.db A.dc n q = (((cot A.dx A.db A.dc n q).toReal : ℝ) : EReal))

/-- The host's cotangent of the sum. -/
def hostSlope : FVec Ideal Cert.ConvARefIdeal.S4096x3072 .f32 := dsum (cots A.dx A.db A.dc) (total (taps A.a) A.w A.b)

include h

theorem slope_eq (n : Fin 4096) (q : Fin 3072) : (hostSlope A (ix2 n q) : EReal) = slope A n q := by
  have e := Cert.ConvARefIdeal.Value.cots_apply A.dx A.db A.dc n q
  refine (Cert.ConvARefIdeal.Value.dsum_apply _ _ n q _ (e.trans (h n q.val))).trans ?_
  rw [e, Cert.ConvARefIdeal.Value.total_apply]
  rfl

theorem out_eq : hostSlope A = Cert.ConvAIdeal.Value.out A := by
  funext i
  clean_types
  idx_vars i
  exact slope_eq A h _ _

theorem bias_eq : rows (hostSlope A) = Cert.ConvAIdeal.Value.bias A := by
  funext i
  clean_types
  idx_vars i
  obtain rfl : i0 = 0 := Subsingleton.elim _ _
  refine (Cert.ConvARefIdeal.Value.rows_apply _ _).trans ?_
  exact Finset.sum_congr (M := EReal) rfl fun n _ => slope_eq A h n _

theorem row0_eq (q : Fin 3072) : (row0 (taps A.a) (hostSlope A) (ix2 0 q) : EReal) = ∑ n : Fin 4096, tapTerm A 0 q n :=
  (Cert.ConvARefIdeal.Value.rows_apply _ _).trans (Finset.sum_congr (M := EReal) rfl fun n _ => (Cert.ConvARefIdeal.Value.tap0_apply _ _ n q).trans (congrArg (fun z : EReal => z * _) (slope_eq A h n q)))

theorem row1_eq (q : Fin 3072) : (row1 (taps A.a) (hostSlope A) (ix2 0 q) : EReal) = ∑ n : Fin 4096, tapTerm A 1 q n :=
  (Cert.ConvARefIdeal.Value.rows_apply _ _).trans (Finset.sum_congr (M := EReal) rfl fun n _ => (Cert.ConvARefIdeal.Value.tap1_apply _ _ n q).trans (congrArg (fun z : EReal => z * _) (slope_eq A h n q)))

theorem row2_eq (q : Fin 3072) : (row2 (taps A.a) (hostSlope A) (ix2 0 q) : EReal) = ∑ n : Fin 4096, tapTerm A 2 q n :=
  (Cert.ConvARefIdeal.Value.rows_apply _ _).trans (Finset.sum_congr (M := EReal) rfl fun n _ => (Cert.ConvARefIdeal.Value.tap2_apply _ _ n q).trans (congrArg (fun z : EReal => z * _) (slope_eq A h n q)))

theorem row3_eq (q : Fin 3072) : (row3 (taps A.a) (hostSlope A) (ix2 0 q) : EReal) = ∑ n : Fin 4096, tapTerm A 3 q n :=
  (Cert.ConvARefIdeal.Value.rows_apply _ _).trans (Finset.sum_congr (M := EReal) rfl fun n _ => (Cert.ConvARefIdeal.Value.tap3_apply _ _ n q).trans (congrArg (fun z : EReal => z * _) (slope_eq A h n q)))

theorem weight_eq : stack (row0 (taps A.a) (hostSlope A)) (row1 (taps A.a) (hostSlope A)) (row2 (taps A.a) (hostSlope A)) (row3 (taps A.a) (hostSlope A)) = Cert.ConvAIdeal.Value.weight A := by
  funext i
  clean_types
  idx_vars i
  match i0 with
  | ⟨0, _⟩ => exact (Cert.ConvARefIdeal.Value.stack0 _ _ _ _ _).trans (row0_eq A h i1)
  | ⟨1, _⟩ => exact (Cert.ConvARefIdeal.Value.stack1 _ _ _ _ _).trans (row1_eq A h i1)
  | ⟨2, _⟩ => exact (Cert.ConvARefIdeal.Value.stack2 _ _ _ _ _).trans (row2_eq A h i1)
  | ⟨3, _⟩ => exact (Cert.ConvARefIdeal.Value.stack3 _ _ _ _ _).trans (row3_eq A h i1)

end

theorem algebraic : Cert.algebraic_ConvAIdeal_ConvARefIdeal_pre_conv_finite (hConvAIdeal := Cert.ConvAIdeal.Gen.facts) (hConvARefIdeal := Cert.ConvARefIdeal.Gen.facts) (hPre_conv_finite := Cert.Pre_conv_finite.Gen.facts) := by
  intro m g m' g' hpre hagree
  refine ⟨_, _, _, Cert.ConvAIdeal.Value.run_blocks m g, (θ_run _ _ _).mono (fun r h c => ⟨(h c).1.trans ?_, (h c).2.1.trans ?_, (h c).2.2.1.trans ?_, (h c).2.2.2⟩) (Cert.ConvARefIdeal.Value.run m' g')⟩
  all_goals
    obtain ⟨e0, e1, e2, e3, e4, e5⟩ := hagree c
    obtain ⟨h0, h1, h2⟩ := real_of_pre m hpre c
    have hc := real_cot _ h0 h1 h2
    have eg : grad m' c = hostSlope (args m c) := by
      unfold grad
      rw [e0, e1, e2, e3, e4, e5]
      rfl
  · exact (Cert.ConvARefIdeal.Value.res0 m' c).trans (eg.trans ((out_eq _ hc).trans (Cert.ConvAIdeal.Value.out_value m c).symm))
  · refine (Cert.ConvARefIdeal.Value.res1 m' c).trans (Eq.trans ?_ ((weight_eq _ hc).trans (Cert.ConvAIdeal.Value.weight_value m c).symm))
    rw [eg, e3]
    rfl
  · refine (Cert.ConvARefIdeal.Value.res2 m' c).trans (Eq.trans ?_ ((bias_eq _ hc).trans (Cert.ConvAIdeal.Value.bias_value m c).symm))
    rw [eg]

end Cert.ConvAClaim
end
-- ==== Proof.ConvBValue.lean ====
module

public import proofs.«01_k».proof.Proof.Gen.ConvBIdeal.Value
public import Idealize.ShloMosaic.Lib.Pipeline.ValueKit
public import Idealize.ShloMosaic.Lib.Pointwise

@[expose] public section

set_option maxRecDepth 16384

noncomputable section

namespace Cert.ConvBIdeal.Value

open Cert.ConvBIdeal Cert.ConvBIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![(grid0.coords t 0).val, 0] ∧ win0_1.index t = ![min (((grid0.coords t 0).val + 1) * 64) 511, 0] ∧ win0_2.index t = ![0, 0] ∧ win0_3.index t = ![(grid0.coords t 0).val, 2] ∧ (grid0.coords t 0).val = t.val := by
  decide +kernel

/-- Row `n`, column `c` of an array, zero below its last row. -/
def cell (a : S4096x3072.Idx → EReal) (c : Fin 3072) (n : Nat) : EReal := if h : n < 4096 then a (ix2 ⟨n, h⟩ c) else 0

/-- The gradient at row `n`: the next four rows, each times its weight. -/
def grad (a : S4096x3072.Idx → EReal) (w : S4x3072.Idx → EReal) (c : Fin 3072) (n : Nat) : EReal :=
  w (ix2 3 c) * cell a c n + w (ix2 0 c) * cell a c (n + 3) + w (ix2 1 c) * cell a c (n + 2) + w (ix2 2 c) * cell a c (n + 1)

/-- The result array: the gradient on the last columns, the third argument beside it. -/
def out (a : S4096x3072.Idx → EReal) (w : S4x3072.Idx → EReal) (b : S4096x9216.Idx → EReal) (i : S4096x9216.Idx) : EReal :=
  if h : 6144 ≤ (i 1).val then grad a w ⟨(i 1).val - 6144, by have := (i 1).isLt; simp at this; omega⟩ (i 0).val else b i

theorem entry (c : Dev nD) : V m c main_v0 = m ((c : Thread nD τ).loc main_arg2) := by
  delta V
  simp only [hostOps0]
  after_results_simp
  rfl

theorem stage0 (c : Dev nD) (t : Fin cfg0.N) (r : Fin 512) (q : Fin 3072) :
    iblk m c 0 t (ix2 r q) = cell (m ((c : Thread nD τ).loc main_arg0)) q (512 * (grid0.coords t 0).val + r.val) := by
  have hi : (grid0.coords t 0).val < 8 := (grid0.coords t 0).isLt
  have hy := idx0 t
  unfold cell
  rw [dif_pos (by omega)]
  blk_point [iblk, V_main_arg0, hy.1]

theorem stage1 (c : Dev nD) (t : Fin cfg0.N) (r : Fin 8) (q : Fin 3072) (h7 : (grid0.coords t 0).val < 7) :
    iblk m c 1 t (ix2 r q) = cell (m ((c : Thread nD τ).loc main_arg0)) q (512 * (grid0.coords t 0).val + 512 + r.val) := by
  have hy := idx0 t
  unfold cell
  rw [dif_pos (by omega)]
  blk_point [iblk, V_main_arg0, hy.2.1]

theorem stage2 (c : Dev nD) (t : Fin cfg0.N) (r : Fin 4) (q : Fin 3072) :
    iblk m c 2 t (ix2 r q) = m ((c : Thread nD τ).loc main_arg1) (ix2 r q) := by
  have hy := idx0 t
  blk_point [iblk, V_main_arg1, hy.2.2.1]

section
variable {i : grid0.Coords} {x0 : Vec Ideal S512x3072 .f32} {x1 : Vec Ideal S8x3072 .f32} {x2 : Vec Ideal S4x3072 .f32}
    {a : S4096x3072.Idx → EReal} {w : S4x3072.Idx → EReal} {o : Nat}
    {v0 : Vec Ideal S512x256 .f32} {v1 : Vec Ideal S8x256 .f32}

/-- The staged rows with the next block's first rows below them. -/
theorem ext_apply (ho : o + 256 ≤ 3072) (h0 : ∀ (r : Fin 512) (q : Fin 256), v0 (ix2 r q) = cell a ⟨o + q.val, by omega⟩ (512 * (i 0).val + r.val))
    (h1 : ∀ (r : Fin 8) (q : Fin 256), (i 0).val < 7 → v1 (ix2 r q) = cell a ⟨o + q.val, by omega⟩ (512 * (i 0).val + 512 + r.val)) (r : Nat) (q : Fin 256) (hr : r < 520) :
    (if h : r < 512 then v0 (ix2 ⟨r, h⟩ q) else Scalar.select (Scalar.cmpi .slt (BitVec.ofNat 32 (i 0).val) 7#32) (v1 (ix2 ⟨r - 512, by omega⟩ q)) (0 : EReal)) =
      cell a ⟨o + q.val, by omega⟩ (512 * (i 0).val + r) := by
  split
  · rw [h0]
  · have hi : (i 0).val < 8 := (i 0).isLt
    by_cases h7 : (i 0).val < 7
    · have e : Scalar.cmpi .slt (BitVec.ofNat 32 (i 0).val) 7#32 = 1#1 := (by decide : ∀ k : Fin 7, Scalar.cmpi .slt (BitVec.ofNat 32 k.val) 7#32 = 1#1) ⟨_, h7⟩
      rw [e, h1 _ _ h7]
      show cell a _ _ = _
      congr 1; show _ + (r - 512) = _; omega
    · have e : (i 0).val = 7 := by omega
      rw [e]
      show (0 : EReal) = _
      unfold cell; rw [dif_neg (by omega)]

/-- One column piece of the body, entry by entry. -/
theorem piece (ho : o + 256 ≤ 3072) (h0 : ∀ (r : Fin 512) (q : Fin 256), v0 (ix2 r q) = cell a ⟨o + q.val, by omega⟩ (512 * (i 0).val + r.val))
    (h1 : ∀ (r : Fin 8) (q : Fin 256), (i 0).val < 7 → v1 (ix2 r q) = cell a ⟨o + q.val, by omega⟩ (512 * (i 0).val + 512 + r.val))
    (w3 w0 w1 w2 : Vec Ideal S1x256 .f32) (e3 : ∀ q : Fin 256, w3 (ix2 0 q) = w (ix2 3 ⟨o + q.val, by omega⟩)) (e0 : ∀ q : Fin 256, w0 (ix2 0 q) = w (ix2 0 ⟨o + q.val, by omega⟩))
    (e1 : ∀ q : Fin 256, w1 (ix2 0 q) = w (ix2 1 ⟨o + q.val, by omega⟩)) (e2 : ∀ q : Fin 256, w2 (ix2 0 q) = w (ix2 2 ⟨o + q.val, by omega⟩)) (y : S512x256.Idx) :
    k0_pay1 (BitVec.ofNat 32 (i 0).val) v0 v1 w3 w0 w1 w2 y = grad a w ⟨o + (y 1).val, by have := (y 1).isLt; simp at this; omega⟩ (512 * (i 0).val + (y 0).val) := by
  idx_vars y
  pointwise [k0_pay1, grad]
  rw [ext_apply ho h0 h1 _ _ (Nat.mod_lt _ (by norm_num)), ext_apply ho h0 h1 _ _ (Nat.mod_lt _ (by norm_num)), ext_apply ho h0 h1 _ _ (Nat.mod_lt _ (by norm_num)), h0]
  rw [e3, e0, e1, e2, show 512 * (i 0).val + (y0.val + 520 - 517) % 520 = 512 * (i 0).val + y0.val + 3 by omega,
    show 512 * (i 0).val + (y0.val + 520 - 518) % 520 = 512 * (i 0).val + y0.val + 2 by omega,
    show 512 * (i 0).val + (y0.val + 520 - 519) % 520 = 512 * (i 0).val + y0.val + 1 by omega]

theorem piece_at (c : Dev nD) (t : Fin cfg0.N) (o : Nat) (ho : o + 256 ≤ 3072)
    (i0 : ∀ a, (![0, o] : Fin 2 → Nat) a + S512x256.size a ≤ S512x3072.size a) (i1 : ∀ a, (![0, o] : Fin 2 → Nat) a + S8x256.size a ≤ S8x3072.size a)
    (j3 : ∀ a, (![3, o] : Fin 2 → Nat) a + S1x256.size a ≤ S4x3072.size a) (j0 : ∀ a, (![0, o] : Fin 2 → Nat) a + S1x256.size a ≤ S4x3072.size a)
    (j1 : ∀ a, (![1, o] : Fin 2 → Nat) a + S1x256.size a ≤ S4x3072.size a) (j2 : ∀ a, (![2, o] : Fin 2 → Nat) a + S1x256.size a ≤ S4x3072.size a)
    (b : S4096x9216.Idx → EReal) (y : S512x256.Idx) (j : S4096x9216.Idx) (h0 : (j 0).val = 512 * (grid0.coords t 0).val + (y 0).val) (h1 : (j 1).val = 6144 + (o + (y 1).val)) :
    k0_pay1 (BitVec.ofNat 32 (grid0.coords t 0).val) (View.ld (iblk m c 0 t) (Rect.unit ![0, o] S512x256.size i0)) (View.ld (iblk m c 1 t) (Rect.unit ![0, o] S8x256.size i1))
      (View.ld (iblk m c 2 t) (Rect.unit ![3, o] S1x256.size j3)) (View.ld (iblk m c 2 t) (Rect.unit ![0, o] S1x256.size j0)) (View.ld (iblk m c 2 t) (Rect.unit ![1, o] S1x256.size j1)) (View.ld (iblk m c 2 t) (Rect.unit ![2, o] S1x256.size j2)) y =
      out (m ((c : Thread nD τ).loc main_arg0)) (m ((c : Thread nD τ).loc main_arg1)) b j := by
  have hy1 : (y 1).val < 256 := (y 1).isLt
  unfold out
  rw [dif_pos (by omega)]
  refine (piece (a := m ((c : Thread nD τ).loc main_arg0)) (w := m ((c : Thread nD τ).loc main_arg1)) (o := o) ho (fun r q => ?_) (fun r q h7 => ?_) _ _ _ _ (fun q => ?_) (fun q => ?_) (fun q => ?_) (fun q => ?_) y).trans ?_
  · rw [View.ld_unit_apply_of _ _ _ _ _ (ix2 r ⟨o + q.val, by omega⟩) (by intro a; fin_cases a <;> simp)]
    exact stage0 m c t _ _
  · rw [View.ld_unit_apply_of _ _ _ _ _ (ix2 r ⟨o + q.val, by omega⟩) (by intro a; fin_cases a <;> simp)]
    exact stage1 m c t _ _ h7
  · rw [View.ld_unit_apply_of _ _ _ _ _ (ix2 3 ⟨o + q.val, by omega⟩) (by intro a; fin_cases a <;> simp)]
    exact stage2 m c t _ _
  · rw [View.ld_unit_apply_of _ _ _ _ _ (ix2 0 ⟨o + q.val, by omega⟩) (by intro a; fin_cases a <;> simp)]
    exact stage2 m c t _ _
  · rw [View.ld_unit_apply_of _ _ _ _ _ (ix2 1 ⟨o + q.val, by omega⟩) (by intro a; fin_cases a <;> simp)]
    exact stage2 m c t _ _
  · rw [View.ld_unit_apply_of _ _ _ _ _ (ix2 2 ⟨o + q.val, by omega⟩) (by intro a; fin_cases a <;> simp)]
    exact stage2 m c t _ _
  · exact congrArg₂ (grad _ _) (Fin.ext (by show o + (y 1).val = (j 1).val - 6144; omega)) h0.symm

end

set_option maxHeartbeats 1600000 in
theorem value (c : Dev nD) : (dats m 0 c).arrAt 3 cfg0.N = out (m ((c : Thread nD τ).loc main_arg0)) (m ((c : Thread nD τ).loc main_arg1)) (m ((c : Thread nD τ).loc main_arg2)) := by
  refine ((dats m 0 c).arrAt_eq_of_coversWhere (P := fun i => 6144 ≤ (i 1).val) 3 (out (m ((c : Thread nD τ).loc main_arg0)) (m ((c : Thread nD τ).loc main_arg1)) (m ((c : Thread nD τ).loc main_arg2))) (fun β => 2 ≤ β 1) (by decide +kernel) (fun t hf y => ?_) (fun j => ?_)).trans ?_
  · have hy := idx0 t
    blk_simp
    rw [after0_3]
    unfold outsAt0
    frame_out
    have hj0 : ((((View.whole main_v0).slice (win0_3.rect t)).emb y) 0).val = 512 * (grid0.coords t 0).val + ((win0 3).xinj (grid0.coords t) y 0).val := by
      show _ = 512 * (grid0.coords t 0).val + (y 0).val
      blk_simp [hy.2.2.2.1]; omega
    have hj1 : ((((View.whole main_v0).slice (win0_3.rect t)).emb y) 1).val = 6144 + ((win0 3).xinj (grid0.coords t) y 1).val := by
      show _ = 6144 + (y 1).val
      blk_simp [hy.2.2.2.1]
    generalize ((View.whole main_v0).slice (win0_3.rect t)).emb y = j at hj0 hj1 ⊢
    canon_tiles y
    · exact piece_at m c t 2816 (by norm_num) inb_S512x3072_S512x256_0_2816 inb_S8x3072_S8x256_0_2816 inb_S4x3072_S1x256_3_2816 inb_S4x3072_S1x256_0_2816 inb_S4x3072_S1x256_1_2816 inb_S4x3072_S1x256_2_2816 _ y j (hj0.trans (congrArg (512 * (grid0.coords t 0).val + ·) h0)) (hj1.trans (congrArg (6144 + ·) h1))
    · exact piece_at m c t 2560 (by norm_num) inb_S512x3072_S512x256_0_2560 inb_S8x3072_S8x256_0_2560 inb_S4x3072_S1x256_3_2560 inb_S4x3072_S1x256_0_2560 inb_S4x3072_S1x256_1_2560 inb_S4x3072_S1x256_2_2560 _ y j (hj0.trans (congrArg (512 * (grid0.coords t 0).val + ·) h0)) (hj1.trans (congrArg (6144 + ·) h1))
    · exact piece_at m c t 2304 (by norm_num) inb_S512x3072_S512x256_0_2304 inb_S8x3072_S8x256_0_2304 inb_S4x3072_S1x256_3_2304 inb_S4x3072_S1x256_0_2304 inb_S4x3072_S1x256_1_2304 inb_S4x3072_S1x256_2_2304 _ y j (hj0.trans (congrArg (512 * (grid0.coords t 0).val + ·) h0)) (hj1.trans (congrArg (6144 + ·) h1))
    · exact piece_at m c t 2048 (by norm_num) inb_S512x3072_S512x256_0_2048 inb_S8x3072_S8x256_0_2048 inb_S4x3072_S1x256_3_2048 inb_S4x3072_S1x256_0_2048 inb_S4x3072_S1x256_1_2048 inb_S4x3072_S1x256_2_2048 _ y j (hj0.trans (congrArg (512 * (grid0.coords t 0).val + ·) h0)) (hj1.trans (congrArg (6144 + ·) h1))
    · exact piece_at m c t 1792 (by norm_num) inb_S512x3072_S512x256_0_1792 inb_S8x3072_S8x256_0_1792 inb_S4x3072_S1x256_3_1792 inb_S4x3072_S1x256_0_1792 inb_S4x3072_S1x256_1_1792 inb_S4x3072_S1x256_2_1792 _ y j (hj0.trans (congrArg (512 * (grid0.coords t 0).val + ·) h0)) (hj1.trans (congrArg (6144 + ·) h1))
    · exact piece_at m c t 1536 (by norm_num) inb_S512x3072_S512x256_0_1536 inb_S8x3072_S8x256_0_1536 inb_S4x3072_S1x256_3_1536 inb_S4x3072_S1x256_0_1536 inb_S4x3072_S1x256_1_1536 inb_S4x3072_S1x256_2_1536 _ y j (hj0.trans (congrArg (512 * (grid0.coords t 0).val + ·) h0)) (hj1.trans (congrArg (6144 + ·) h1))
    · exact piece_at m c t 1280 (by norm_num) inb_S512x3072_S512x256_0_1280 inb_S8x3072_S8x256_0_1280 inb_S4x3072_S1x256_3_1280 inb_S4x3072_S1x256_0_1280 inb_S4x3072_S1x256_1_1280 inb_S4x3072_S1x256_2_1280 _ y j (hj0.trans (congrArg (512 * (grid0.coords t 0).val + ·) h0)) (hj1.trans (congrArg (6144 + ·) h1))
    · exact piece_at m c t 1024 (by norm_num) inb_S512x3072_S512x256_0_1024 inb_S8x3072_S8x256_0_1024 inb_S4x3072_S1x256_3_1024 inb_S4x3072_S1x256_0_1024 inb_S4x3072_S1x256_1_1024 inb_S4x3072_S1x256_2_1024 _ y j (hj0.trans (congrArg (512 * (grid0.coords t 0).val + ·) h0)) (hj1.trans (congrArg (6144 + ·) h1))
    · exact piece_at m c t 768 (by norm_num) inb_S512x3072_S512x256_0_768 inb_S8x3072_S8x256_0_768 inb_S4x3072_S1x256_3_768 inb_S4x3072_S1x256_0_768 inb_S4x3072_S1x256_1_768 inb_S4x3072_S1x256_2_768 _ y j (hj0.trans (congrArg (512 * (grid0.coords t 0).val + ·) h0)) (hj1.trans (congrArg (6144 + ·) h1))
    · exact piece_at m c t 512 (by norm_num) inb_S512x3072_S512x256_0_512 inb_S8x3072_S8x256_0_512 inb_S4x3072_S1x256_3_512 inb_S4x3072_S1x256_0_512 inb_S4x3072_S1x256_1_512 inb_S4x3072_S1x256_2_512 _ y j (hj0.trans (congrArg (512 * (grid0.coords t 0).val + ·) h0)) (hj1.trans (congrArg (6144 + ·) h1))
    · exact piece_at m c t 256 (by norm_num) inb_S512x3072_S512x256_0_256 inb_S8x3072_S8x256_0_256 inb_S4x3072_S1x256_3_256 inb_S4x3072_S1x256_0_256 inb_S4x3072_S1x256_1_256 inb_S4x3072_S1x256_2_256 _ y j (hj0.trans (congrArg (512 * (grid0.coords t 0).val + ·) h0)) (hj1.trans (congrArg (6144 + ·) h1))
    · exact piece_at m c t 0 (by norm_num) inb_S512x3072_S512x256_0_0 inb_S8x3072_S8x256_0_0 inb_S4x3072_S1x256_3_0 inb_S4x3072_S1x256_0_0 inb_S4x3072_S1x256_1_0 inb_S4x3072_S1x256_2_0 _ y j (hj0.trans (congrArg (512 * (grid0.coords t 0).val + ·) h0)) (hj1.trans (congrArg (6144 + ·) (h1.trans (Nat.zero_add _).symm)))
  · blk_simp [Pipeline.Window.cell_apply]; omega
  · funext i
    split
    · rfl
    · rename_i h
      unfold out
      rw [dif_neg h, A_eq]
      exact congrFun (entry m c) i

end Cert.ConvBIdeal.Value
end
-- ==== Proof.ConvBClaim.lean ====
module

public import proofs.«01_k».proof.Defs
public import proofs.«01_k».proof.Proof.ConvBValue
public import proofs.«01_k».proof.Proof.Gen.ConvBRefIdeal.Run
public import Idealize.ShloMosaic.Lib.Pointwise
public import Idealize.ShloMosaic.Lib.Tactic.CleanTypes

@[expose] public section

set_option maxRecDepth 16384

noncomputable section

namespace Cert.ConvBClaim

open Idealize.ShloMosaic Idealize.ShloMosaic.TcCoe Idealize.SL.Sem

theorem out_congr {a a' : Cert.ConvBIdeal.S4096x3072.Idx → EReal} {w w' : Cert.ConvBIdeal.S4x3072.Idx → EReal} {b b' : Cert.ConvBIdeal.S4096x9216.Idx → EReal} (ha : a = a') (hw : w = w') (hb : b = b') :
    Cert.ConvBIdeal.Value.out a w b = Cert.ConvBIdeal.Value.out a' w' b' := by subst ha hw hb; rfl

theorem row_in (a : Cert.ConvBIdeal.S4096x3072.Idx → EReal) (q : Fin 3072) (n : Nat) (x : EReal) (r : Fin 3072) (k : Fin 4096) (hk : k.val = n) (hr : r = q := by rfl) :
    a (ix2 k r) * x = x * Cert.ConvBIdeal.Value.cell a q n := by
  subst hr hk
  unfold Cert.ConvBIdeal.Value.cell
  rw [dif_pos k.isLt, mul_comm]

theorem row_out (a : Cert.ConvBIdeal.S4096x3072.Idx → EReal) (q : Fin 3072) (n : Nat) (x : EReal) (hn : ¬ n < 4096) :
    0 = x * Cert.ConvBIdeal.Value.cell a q n := by
  unfold Cert.ConvBIdeal.Value.cell
  rw [dif_neg hn, mul_zero]

theorem reorder (p q r s : EReal) : p + q + r + s = p + s + r + q := by
  rw [add_right_comm p q r, add_right_comm (p + r) q s, add_right_comm p r s]

theorem algebraic : Cert.algebraic_ConvBIdeal_ConvBRefIdeal (hConvBIdeal := Cert.ConvBIdeal.Gen.facts) (hConvBRefIdeal := Cert.ConvBRefIdeal.Gen.facts) := by
  intro m g m' g' _ hagree
  refine ⟨_, Cert.ConvBIdeal.Value.run_blocks m g, (θ_run _ _ _).mono (fun r h c => ⟨(h c).1.trans ?_, (h c).2⟩) (Cert.ConvBRefIdeal.Value.run m' g')⟩
  obtain ⟨e0, e1, e2⟩ := hagree c
  refine Eq.trans ?_ ((out_congr e0 e1 e2).trans (Cert.ConvBIdeal.Value.value m c).symm)
  funext i
  clean_types
  idx_vars i
  pointwise [Cert.ConvBIdeal.Value.out, Cert.ConvBIdeal.Value.grad]
  split
  · rename_i h
    have h' : ¬ 6144 ≤ i1.val := by omega
    refine Eq.trans ?_ (dif_neg h').symm
    rfl
  · rename_i h
    have h' : 6144 ≤ i1.val := by omega
    have q : i1.val - 6144 < 3072 := by omega
    refine Eq.trans ?_ (dif_pos h').symm
    refine (congrArg₂ (fun x y : EReal => x + y) (congrArg₂ (fun x y : EReal => x + y) (congrArg₂ (fun x y : EReal => x + y) ?_ ?_) ?_) ?_).trans (reorder _ _ _ _)
    · split
      · exact row_in _ _ _ _ _ i0 rfl
      · exact absurd q ‹_›
    · split
      · rename_i k
        exact row_in _ _ _ _ _ ⟨3 + i0.val - 2, k.1.2⟩ (by show 3 + i0.val - 2 = _; omega)
      · exact row_out _ _ _ _ (by omega)
    · split
      · rename_i k
        exact row_in _ _ _ _ _ ⟨3 + i0.val - 1, k.1.2⟩ (by show 3 + i0.val - 1 = _; omega)
      · exact row_out _ _ _ _ (by omega)
    · split
      · rename_i k
        exact row_in _ _ _ _ _ ⟨3 + i0.val, k.1⟩ (Nat.add_comm _ _)
      · exact row_out _ _ _ _ (by omega)

end Cert.ConvBClaim
end
-- ==== Proof.MixedValue.lean ====
module

public import proofs.«01_k».proof.Defs
public import proofs.«01_k».proof.Proof.Gen.MixedIdeal.Value
public import proofs.«01_k».proof.Proof.Gen.MixedRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.MixedIdeal.Value

open Cert.MixedIdeal Cert.MixedIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![(grid0.coords t 0).val, (grid0.coords t 2).val] ∧ win0_1.index t = ![(grid0.coords t 1).val, (grid0.coords t 2).val] ∧ win0_2.index t = ![(grid0.coords t 0).val, (grid0.coords t 1).val] := by
  decide +kernel

/-- The gradient of a projection's input: over the output's columns, the cotangent's row times the weight's. -/
def grad (a : S4096x2048.Idx → EReal) (b : S4096x2048.Idx → EReal) (i : S4096x4096.Idx) : EReal :=
  ∑ k : Fin 2048, a (ix2 ⟨(i 0).val, (i 0).isLt⟩ k) * b (ix2 ⟨(i 1).val, (i 1).isLt⟩ k)

theorem value (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have hy := idx0 t
  blk_simp
  rw [after0_2]
  unfold outsAt0
  frame_out
  idx_vars y
  pointwise [k0_pay1, grad]
  refine Finset.sum_congr (M := EReal) rfl fun k _ => ?_
  congr 1
  · blk_point [iblk, V_main_arg0, hy.1, hy.2.2]
  · blk_point [iblk, V_main_arg1, hy.2.1, hy.2.2]

end Cert.MixedIdeal.Value
end
-- ==== Proof.HiddenValue.lean ====
module

public import proofs.«01_k».proof.Defs
public import proofs.«01_k».proof.Proof.Gen.HiddenIdeal.Value
public import proofs.«01_k».proof.Proof.Gen.HiddenRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.HiddenIdeal.Value

open Cert.HiddenIdeal Cert.HiddenIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![t.val / 3, t.val % 3] ∧ win0_1.index t = ![0, t.val % 3] ∧ win0_2.index t = ![t.val / 3, 0] ∧ win0_3.index t = ![0, 0] ∧ win0_4.index t = ![t.val / 3, 0] := by
  decide +kernel

theorem flush_mod : ∀ t, (win0 4).flush t = true → t.val % 3 = 2 := by decide +kernel

/-- One column's product. -/
def row (a : S4096x9216.Idx → EReal) (b : S2048x9216.Idx → EReal) (r : Fin 4096) (n : Fin 2048) (k : Fin 9216) : EReal :=
  a (ix2 r k) * b (ix2 n k)

def row' (a : S4096x128.Idx → EReal) (b : S2048x128.Idx → EReal) (r : Fin 4096) (n : Fin 2048) (k : Fin 128) : EReal :=
  a (ix2 r k) * b (ix2 n k)

/-- What point `t` adds: its third of the columns. -/
def part (x0 : Vec Ideal S512x3072 .bf16) (x1 : Vec Ideal S2048x3072 .bf16) (j : S512x2048.Idx) : EReal :=
  ∑ k : Fin 3072, x0 (ix2 ⟨(j 0).val, (j 0).isLt⟩ k) * x1 (ix2 ⟨(j 1).val, (j 1).isLt⟩ k)

/-- What the first point of a block adds besides: the second product. -/
def side (x2 : Vec Ideal S512x128 .bf16) (x3 : Vec Ideal S2048x128 .bf16) (j : S512x2048.Idx) : EReal :=
  ∑ k : Fin 128, x2 (ix2 ⟨(j 0).val, (j 0).isLt⟩ k) * x3 (ix2 ⟨(j 1).val, (j 1).isLt⟩ k)

theorem pay2_apply (x0 : Vec Ideal S512x3072 .bf16) (x1 : Vec Ideal S2048x3072 .bf16) (x2 : Vec Ideal S512x128 .bf16) (x3 : Vec Ideal S2048x128 .bf16) (j : S512x2048.Idx) :
    (k0_pay2 x0 x1 x2 x3 j : EReal) = part x0 x1 j + side x2 x3 j := by
  idx_vars j
  pointwise [k0_pay2, k0_pay1, part, side]

theorem pay3_apply (x0 : Vec Ideal S512x3072 .bf16) (x1 : Vec Ideal S2048x3072 .bf16) (acc : Vec Ideal S512x2048 .f32) (j : S512x2048.Idx) :
    (k0_pay3 x0 x1 acc j : EReal) = acc j + part x0 x1 j := by
  idx_vars j
  pointwise [k0_pay3, k0_pay1, part]

theorem first (c : Dev nD) (t : Fin cfg0.N) (h : t.val % 3 = 0) (j : S512x2048.Idx) :
    ((outsAt0 m c t.val t.isLt).2 j : EReal) = part (iblk m c 0 t) (iblk m c 1 t) j + side (iblk m c 2 t) (iblk m c 3 t) j := by
  rw [outsAt0_A m c t h (by omega) (by omega)]
  frame_out
  exact pay2_apply _ _ _ _ _

theorem second (c : Dev nD) (t : Fin cfg0.N) (h : t.val % 3 = 1) (j : S512x2048.Idx) :
    ((outsAt0 m c t.val t.isLt).2 j : EReal) = (outsAt0 m c (t.val - 1) (Nat.lt_of_le_of_lt (Nat.sub_le _ _) t.isLt)).2 j + part (iblk m c 0 t) (iblk m c 1 t) j := by
  rw [outsAt0_B m c t (by omega) (by omega) (by omega)]
  frame_out
  rw [(Memref.isWhole_whole cc0_scratch0).read_unread]
  exact pay3_apply _ _ _ _

theorem third (c : Dev nD) (t : Fin cfg0.N) (h : t.val % 3 = 2) (j : S512x2048.Idx) :
    ((outsAt0 m c t.val t.isLt).1 j : EReal) = (outsAt0 m c (t.val - 1) (Nat.lt_of_le_of_lt (Nat.sub_le _ _) t.isLt)).2 j + part (iblk m c 0 t) (iblk m c 1 t) j := by
  rw [outsAt0_C m c t (by omega) (by omega) h]
  frame_out
  rw [(Memref.isWhole_whole cc0_scratch0).read_unread]
  exact pay3_apply _ _ _ _

/-- The gradient of the input of two projections: each cotangent's row times its weight's, summed. -/
def grad (a : S4096x9216.Idx → EReal) (b : S2048x9216.Idx → EReal) (d : S4096x128.Idx → EReal) (e : S2048x128.Idx → EReal) (i : S4096x2048.Idx) : EReal :=
  ∑ k : Fin 128, d (ix2 ⟨(i 0).val, (i 0).isLt⟩ k) * e (ix2 ⟨(i 1).val, (i 1).isLt⟩ k) +
    ∑ k : Fin 9216, a (ix2 ⟨(i 0).val, (i 0).isLt⟩ k) * b (ix2 ⟨(i 1).val, (i 1).isLt⟩ k)

theorem grad_congr {a a' : S4096x9216.Idx → EReal} {b b' : S2048x9216.Idx → EReal} {d d' : S4096x128.Idx → EReal} {e e' : S2048x128.Idx → EReal}
    (ha : a = a') (hb : b = b') (hd : d = d') (he : e = e') : grad a b d e = grad a' b' d' e' := by
  rw [ha, hb, hd, he]

theorem part_eq (c : Dev nD) (t : Fin cfg0.N) (p : Fin 3) (r : Fin 4096) (hp : t.val % 3 = p.val) (y0 : Fin 512) (y1 : Fin 2048) (hr : r.val = t.val / 3 * 512 + y0.val) :
    part (iblk m c 0 t) (iblk m c 1 t) (ix2 y0 y1) =
      ∑ k : Fin 3072, row (m ((c : Thread nD τ).loc main_arg0)) (m ((c : Thread nD τ).loc main_arg1)) r y1 ⟨p.val * 3072 + k.val, by omega⟩ := by
  have hy := idx0 t
  rw [hp] at hy
  unfold part row
  refine Finset.sum_congr (M := EReal) rfl fun k _ => ?_
  congr 1
  · blk_point [iblk, V_main_arg0, hy.1]
  · blk_point [iblk, V_main_arg1, hy.2.1]

theorem side_eq (c : Dev nD) (t : Fin cfg0.N) (r : Fin 4096) (y0 : Fin 512) (y1 : Fin 2048) (hr : r.val = t.val / 3 * 512 + y0.val) :
    side (iblk m c 2 t) (iblk m c 3 t) (ix2 y0 y1) =
      ∑ k : Fin 128, row' (m ((c : Thread nD τ).loc main_arg2)) (m ((c : Thread nD τ).loc main_arg3)) r y1 k := by
  have hy := idx0 t
  unfold side row'
  refine Finset.sum_congr (M := EReal) rfl fun k _ => ?_
  congr 1
  · blk_point [iblk, V_main_arg2, hy.2.2.1]
  · blk_point [iblk, V_main_arg3, hy.2.2.2.1]

/-- A sum over 9216 columns in three thirds. -/
theorem thirds (f : Fin 9216 → EReal) (s : EReal) :
    (∑ k : Fin 3072, f ⟨(0 : Fin 3).val * 3072 + k.val, by omega⟩ + s + ∑ k : Fin 3072, f ⟨(1 : Fin 3).val * 3072 + k.val, by omega⟩) + ∑ k : Fin 3072, f ⟨(2 : Fin 3).val * 3072 + k.val, by omega⟩ = s + ∑ k : Fin 9216, f k := by
  have e : ∑ p : Fin 3, ∑ k : Fin 3072, f ⟨p.val * 3072 + k.val, by omega⟩ = ∑ k : Fin 9216, f k := Fin.sum_mul_add_congr fun p k h => rfl
  rw [← e, Fin.sum_univ_three, add_comm _ s]
  simp only [add_assoc]

/-- What a block's last point leaves in the output. -/
theorem last (c : Dev nD) (t : Fin cfg0.N) (h2 : t.val % 3 = 2) (r : Fin 4096) (y0 : Fin 512) (y1 : Fin 2048) (hr : r.val = t.val / 3 * 512 + y0.val) :
    ((outsAt0 m c t.val t.isLt).1 (ix2 y0 y1) : EReal) =
      ∑ k : Fin 128, row' (m ((c : Thread nD τ).loc main_arg2)) (m ((c : Thread nD τ).loc main_arg3)) r y1 k +
      ∑ k : Fin 9216, row (m ((c : Thread nD τ).loc main_arg0)) (m ((c : Thread nD τ).loc main_arg1)) r y1 k := by
  have h1' : t.val - 1 < cfg0.N := Nat.lt_of_le_of_lt (Nat.sub_le _ _) t.isLt
  have h0' : t.val - 1 - 1 < cfg0.N := Nat.lt_of_le_of_lt (Nat.sub_le _ _) h1'
  have a1 := second m c ⟨t.val - 1, h1'⟩ (by dsimp only; omega) (ix2 y0 y1)
  have a0 := first m c ⟨t.val - 1 - 1, h0'⟩ (by dsimp only; omega) (ix2 y0 y1)
  rw [part_eq m c ⟨t.val - 1, h1'⟩ 1 r (by dsimp only; omega) y0 y1 (by dsimp only; omega)] at a1
  rw [part_eq m c ⟨t.val - 1 - 1, h0'⟩ 0 r (by dsimp only; omega) y0 y1 (by dsimp only; omega), side_eq m c ⟨t.val - 1 - 1, h0'⟩ r y0 y1 (by dsimp only; omega)] at a0
  dsimp only at a0 a1
  rw [third m c t h2, part_eq m c t 2 r h2 y0 y1 hr, a1, a0]
  exact thirds _ _

theorem value (c : Dev nD) : (dats m 0 c).arrAt 4 cfg0.N = grad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h2 := flush_mod t hf
  have hN := lt_of_lt_of_eq t.isLt (show cfg0.N = 24 from N_0)
  have hy := idx0 t
  blk_simp
  rw [after0_4]
  idx_vars y
  have hr : t.val / 3 * 512 + y0.val < 4096 := by omega
  rw [last m c t h2 ⟨_, hr⟩ y0 y1 rfl]
  pointwise [grad, row, row']
  have e0 : ((View.whole main_v0).slice (win0_4.rect t)).emb (ix2 y0 y1) 0 = (⟨_, hr⟩ : Fin 4096) := by
    apply Fin.ext
    blk_simp [hy.2.2.2.2]
  have e1 : ((View.whole main_v0).slice (win0_4.rect t)).emb (ix2 y0 y1) 1 = y1 := by
    apply Fin.ext
    blk_simp [hy.2.2.2.2]
  rw [e0, e1]

end Cert.HiddenIdeal.Value
end
-- ==== Proof.Inputs.lean ====
module

public import proofs.«01_k».proof.Defs
public import proofs.«01_k».proof.Proof.MixedValue
public import proofs.«01_k».proof.Proof.HiddenValue
public import Idealize.ShloMosaic.Lib.Pointwise
public import Idealize.ShloMosaic.Lib.Tactic.CleanTypes

@[expose] public section

set_option maxRecDepth 16384

noncomputable section

namespace Cert.Inputs

open Idealize.ShloMosaic Idealize.ShloMosaic.TcCoe Idealize.SL.Sem

theorem Mixed : Cert.algebraic_MixedIdeal_MixedRefIdeal (hMixedIdeal := Cert.MixedIdeal.Gen.facts) (hMixedRefIdeal := Cert.MixedRefIdeal.Gen.facts) := by
  intro m g m' g' _ hagree
  refine ⟨_, Cert.MixedIdeal.Value.run_blocks m g, (θ_run _ _ _).mono (fun r h c => ⟨(h c).1.trans ?_, (h c).2⟩) (Cert.MixedRefIdeal.Value.run m' g')⟩
  obtain ⟨e0, e1⟩ := hagree c
  refine Eq.trans ?_ ((congrArg₂ Cert.MixedIdeal.Value.grad e0 e1).trans (Cert.MixedIdeal.Value.value m c).symm)
  funext i
  clean_types
  idx_vars i
  pointwise [Cert.MixedIdeal.Value.grad]

theorem Hidden : Cert.algebraic_HiddenIdeal_HiddenRefIdeal (hHiddenIdeal := Cert.HiddenIdeal.Gen.facts) (hHiddenRefIdeal := Cert.HiddenRefIdeal.Gen.facts) := by
  intro m g m' g' _ hagree
  refine ⟨_, Cert.HiddenIdeal.Value.run_blocks m g, (θ_run _ _ _).mono (fun r h c => ⟨(h c).1.trans ?_, (h c).2⟩) (Cert.HiddenRefIdeal.Value.run m' g')⟩
  obtain ⟨e0, e1, e2, e3⟩ := hagree c
  refine Eq.trans ?_ ((Cert.HiddenIdeal.Value.grad_congr e0 e1 e2 e3).trans (Cert.HiddenIdeal.Value.value m c).symm)
  funext i
  clean_types
  idx_vars i
  pointwise [Cert.HiddenIdeal.Value.grad]

end Cert.Inputs
end
-- ==== Proof.Sums.lean ====
module

public import Idealize.ShloMosaic.Lib.Pointwise
public import Idealize.ShloMosaic.Lib.Pipeline.ValueKit
public import Idealize.ShloMosaic.Lib.SortNet.Extract

@[expose] public section

set_option maxRecDepth 16384

noncomputable section

namespace Cert.Sums

open Idealize.ShloMosaic

/-- A host window sum from zero, over windows that slide along the rows only: a sum over the rows of the window. -/
theorem window_rows {R C W : Nat} (L H : Nat)
    (h : (⟨2, ![R, C]⟩ : Shape).ReduceWindows (![W, 1] : Fin 2 → Nat) ![1, 1] ![L, 0] ![H, 0] (⟨2, ![R, C]⟩ : Shape))
    (x : (⟨2, ![R, C]⟩ : Shape).Idx → EReal) (n : Fin R) (c : Fin C) :
    Ideal.hostReduceWindowAdd (s := ⟨2, ![R, C]⟩) (t := ⟨2, ![R, C]⟩) ![W, 1] ![1, 1] ![L, 0] ![H, 0] h x 0 (ix2 n c) =
      ∑ p : Fin W, if hp : L ≤ n.val + p.val ∧ n.val + p.val - L < R then x (ix2 ⟨n.val + p.val - L, hp.2⟩ c) else 0 := by
  unfold Ideal.hostReduceWindowAdd
  have key : ∀ (l : List (Fin (⟨2, ![W, 1]⟩ : Shape).numel)) (f : Fin (⟨2, ![W, 1]⟩ : Shape).numel → EReal) (v : EReal),
      l.foldl (fun r k => r + f k) v = v + (l.map f).sum := by
    intro l f
    induction l with
    | nil => intro v; simp
    | cons a l ih => intro v; simp [ih, add_assoc]
  refine (key (List.finRange _) _ 0).trans ?_
  rw [zero_add, ← Fin.sum_univ_def]
  have h0 : (ix2 n c 0).val * (![1, 1] : Fin 2 → Nat) 0 = n.val := Nat.mul_one _
  have h1 : (ix2 n c 1).val * (![1, 1] : Fin 2 → Nat) 1 = c.val := Nat.mul_one _
  have h2 : ∀ k : (⟨2, ![W, 1]⟩ : Shape).Idx, (k 1).val = 0 := fun k => Nat.lt_one_iff.mp (k 1).isLt
  let g : (⟨2, ![W, 1]⟩ : Shape).Idx → EReal := fun k =>
    if hp : L ≤ n.val + (k 0).val ∧ n.val + (k 0).val - L < R then x (ix2 ⟨n.val + (k 0).val - L, hp.2⟩ c) else 0
  refine (Finset.sum_congr (g := fun i => g ((⟨2, ![W, 1]⟩ : Shape).rowMajor.symm i)) rfl fun i _ => ?_).trans
    ((Equiv.sum_comp (⟨2, ![W, 1]⟩ : Shape).rowMajor.symm g).trans ?_)
  · by_cases hp : L ≤ n.val + ((⟨2, ![W, 1]⟩ : Shape).rowMajor.symm i 0).val ∧ n.val + ((⟨2, ![W, 1]⟩ : Shape).rowMajor.symm i 0).val - L < R
    · refine (@dif_pos _ (_) ?_ _ _ _).trans (Eq.trans ?_ (dif_pos hp).symm)
      · intro a
        match a with
        | 0 =>
          show L ≤ (ix2 n c 0).val * (![1, 1] : Fin 2 → Nat) 0 + _ ∧ (ix2 n c 0).val * (![1, 1] : Fin 2 → Nat) 0 + _ - L < R
          rw [h0]; exact hp
        | 1 =>
          show 0 ≤ (ix2 n c 1).val * (![1, 1] : Fin 2 → Nat) 1 + ((⟨2, ![W, 1]⟩ : Shape).rowMajor.symm i 1).val ∧ (ix2 n c 1).val * (![1, 1] : Fin 2 → Nat) 1 + ((⟨2, ![W, 1]⟩ : Shape).rowMajor.symm i 1).val - 0 < C
          rw [h1, h2]; exact ⟨Nat.zero_le _, c.isLt⟩
      · refine congrArg x ?_
        funext a
        apply Fin.ext
        match a with
        | 0 => show (ix2 n c 0).val * (![1, 1] : Fin 2 → Nat) 0 + _ - L = _; rw [h0]; rfl
        | 1 => show (ix2 n c 1).val * (![1, 1] : Fin 2 → Nat) 1 + ((⟨2, ![W, 1]⟩ : Shape).rowMajor.symm i 1).val - 0 = _; rw [h1, h2]; rfl
    · refine (@dif_neg _ (_) ?_ _ _ _).trans (by show (0 : EReal) = _; simp only [g]; rw [dif_neg hp])
      intro hin
      apply hp
      have := hin 0
      change L ≤ (ix2 n c 0).val * (![1, 1] : Fin 2 → Nat) 0 + ((⟨2, ![W, 1]⟩ : Shape).rowMajor.symm i 0).val ∧ (ix2 n c 0).val * (![1, 1] : Fin 2 → Nat) 0 + ((⟨2, ![W, 1]⟩ : Shape).rowMajor.symm i 0).val - L < R at this
      rw [h0] at this
      exact this
  · rw [sum_idx2]
    refine Finset.sum_congr rfl fun p _ => ?_
    rw [Fin.sum_univ_one]
    rfl

/-- A sum over rows `n, n + 1, …` of differences `A j - A (j + w)` of a sequence that vanishes from `N` on telescopes to the window of `w` rows at `n`. -/
theorem suffix_telescope (A : Nat → ℝ) (N w : Nat) (hA : ∀ j, N ≤ j → A j = 0) (M n : Nat) (hM : N ≤ n + M) :
    ∑ p ∈ Finset.range M, (A (n + p) - A (n + p + w)) = ∑ k ∈ Finset.range w, A (n + k) := by
  have key : ∀ M, ∑ p ∈ Finset.range M, (A (n + p) - A (n + p + w)) + ∑ k ∈ Finset.range w, A (n + M + k) = ∑ k ∈ Finset.range w, A (n + k) := by
    intro M
    induction M with
    | zero => simp
    | succ M ih =>
      rw [← ih, Finset.sum_range_succ]
      have e : ∑ k ∈ Finset.range w, A (n + (M + 1) + k) + A (n + M) = ∑ k ∈ Finset.range w, A (n + M + k) + A (n + M + w) := by
        rw [← Finset.sum_range_succ (fun k => A (n + M + k)) w, Finset.sum_range_succ']
        congr 1
        refine Finset.sum_congr rfl fun k _ => ?_
        congr 1; omega
      linarith
  have := key M
  rw [Finset.sum_eq_zero (s := Finset.range w) (f := fun k => A (n + M + k)) (fun k _ => hA _ (by omega))] at this
  linarith

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row count clipped at a window's length, as a real number. -/
theorem count_value (b d : BitVec 32) (n w : Nat) (hb : b.toNat = n) (hd : d.toNat = w) (hn : n < 2 ^ 31) (hw : w < 2 ^ 31) :
    (FloatOps.sitofp .f32 (IntOp.minsi b d) : Ideal .f32) = (((min n w : ℕ) : ℝ) : EReal) := by
  show (((IntOp.minsi b d).toInt : ℝ) : EReal) = _
  rw [SortNet.toInt_minsi]
  have e1 : b.toInt = n := by rw [BitVec.toInt_eq_toNat_of_lt (by omega), hb]
  have e2 : d.toInt = w := by rw [BitVec.toInt_eq_toNat_of_lt (by omega), hd]
  rw [e1, e2, ← Nat.cast_min, Int.cast_natCast]

/-- The number of the row `r` of block `i`, plus one, as a word. -/
theorem row_word (i s r : Nat) (hi : i < 4096) (hs : s < 4096) (hr : r < 4096) :
    (IntOp.addi (IntOp.addi (Scalar.muli (BitVec.ofNat 32 i) (BitVec.ofNat 32 s)) (BitVec.ofNat 32 r)) 1#32).toNat = i * s + r + 1 := by
  show ((BitVec.ofNat 32 i * BitVec.ofNat 32 s + BitVec.ofNat 32 r + 1#32 : BitVec 32)).toNat = _
  have : i * s < 4096 * 4096 := Nat.mul_lt_mul'' hi hs
  rw [← BitVec.ofNat_mul, ← BitVec.ofNat_add, BitVec.toNat_add, BitVec.toNat_ofNat, BitVec.toNat_ofNat]
  omega

end Cert.Sums
end
-- ==== Proof.Distrib.lean ====
module

public import Idealize.ShloMosaic.Lib.Pipeline.ValueKit
public import Idealize.ShloMosaic.Lib.Pointwise
public import proofs.«01_k».proof.Proof.Sums

@[expose] public section

noncomputable section

namespace Cert.Distrib

open Idealize.ShloMosaic

/-- A finite nonnegative factor passes through a sum. -/
theorem mul_sum_nonneg {ι : Type} (s : Finset ι) (f : ι → EReal) (x : EReal) (h0 : 0 ≤ x) (h1 : x ≠ ⊤) : x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 h1, ih]

theorem half_value : Ideal.ofBits .f32 0x3F000000#32 = ((1 / 2 : ℝ) : EReal) := by
  simp only [Ideal.ofBits, Ideal.ieee]
  simp
  rw [← EReal.coe_mul]
  norm_num

theorem one_value : Ideal.ofBits .f32 0x3F800000#32 = ((1 : ℝ) : EReal) := by
  simp only [Ideal.ofBits, Ideal.ieee]
  simp
  rw [← EReal.coe_mul]
  norm_num

theorem two_value : Ideal.ofBits .f32 0x40000000#32 = ((2 : ℝ) : EReal) := by
  simp only [Ideal.ofBits, Ideal.ieee]
  simp
  rw [← EReal.coe_mul]
  norm_num

theorem width_value : Ideal.ofBits .f32 0x45000000#32 = ((2048 : ℝ) : EReal) := by
  simp only [Ideal.ofBits, Ideal.ieee]
  simp
  rw [← EReal.coe_mul]
  norm_num

end Cert.Distrib
end
-- ==== Proof.LossValue.lean ====
module

public import proofs.«01_k».proof.Proof.Gen.LossIdeal.Value
public import Idealize.ShloMosaic.Lib.Pipeline.ValueKit
public import Idealize.ShloMosaic.Lib.Pointwise
public import proofs.«01_k».proof.Proof.Distrib

@[expose] public section

set_option maxRecDepth 16384

noncomputable section

namespace Cert.LossIdeal.Value

open Cert.LossIdeal Cert.LossIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![t.val, 0] ∧ win0_1.index t = ![t.val, 0] ∧ win0_3.index t = ![t.val, 0] := by
  decide +kernel

/-- The gradient of the loss: the error over the row length. -/
def slope (a b : S4096x2048.Idx → EReal) (i : S4096x2048.Idx) : EReal := Ideal.div (a i - b i) (Ideal.ofBits .f32 0x45000000#32)

/-- The mean squared error of a row. -/
def rowLoss (a b : S4096x2048.Idx → EReal) (n : Fin 4096) : EReal :=
  Ideal.div (∑ k : Fin 2048, (a (ix2 n k) - b (ix2 n k)) * (a (ix2 n k) - b (ix2 n k))) (Ideal.ofBits .f32 0x45000000#32)

theorem slope_value (c : Dev nD) : (dats m 0 c).arrAt 3 cfg0.N = slope (m ((c : Thread nD τ).loc main_arg0)) (m ((c : Thread nD τ).loc main_arg1)) := by
  refine (dats m 0 c).arrAt_eq_of_covers 3 _ (by decide +kernel) fun t hf y => ?_
  have hy := idx0 t
  have hN := lt_of_lt_of_eq t.isLt (show cfg0.N = 8 from N_0)
  blk_simp
  rw [after0_3]
  have h : (outsAt0 m c t.val t.isLt).2 = k0_pay2 (iblk m c 0 t) (iblk m c 1 t) := by
    by_cases h0 : t.val % 8 = 0
    · rw [outsAt0_A m c t h0 (by omega)]; frame_out
    · rw [outsAt0_B m c t h0 (by omega)]; frame_out
  rw [h]
  idx_vars y
  pointwise [k0_pay2, k0_pay1, slope]
  refine congrArg (fun x : EReal => Ideal.div x _) (congrArg₂ (fun x y : EReal => x - y) ?_ ?_)
  · blk_point [iblk, V_main_arg0, hy.1, hy.2.2]
  · blk_point [iblk, V_main_arg1, hy.2.1, hy.2.2]

/-- One tile's part of the loss. -/
def part (x0 x1 : Vec Ideal S512x2048 .f32) : EReal := k0_pay3 x0 x1 (ix2 0 0)

theorem part_eq (c : Dev nD) (t : Fin cfg0.N) : part (iblk m c 0 t) (iblk m c 1 t) =
    (Ideal.ofBits .f32 0x3F000000#32 : EReal) * ∑ r : Fin 512, rowLoss (m ((c : Thread nD τ).loc main_arg0)) (m ((c : Thread nD τ).loc main_arg1)) ⟨t.val * 512 + r.val, by have := lt_of_lt_of_eq t.isLt (show cfg0.N = 8 from N_0); omega⟩ := by
  unfold part
  pointwise [k0_pay3, k0_pay1, rowLoss]
  have hy := idx0 t
  refine congrArg (fun x : EReal => _ * x) (Finset.sum_congr (M := EReal) rfl fun r _ => congrArg (fun x : EReal => Ideal.div x _) (Finset.sum_congr (M := EReal) rfl fun k _ => ?_))
  refine congrArg (fun x : EReal => x * x) (congrArg₂ (fun x y : EReal => x - y) ?_ ?_)
  · blk_point [iblk, V_main_arg0, hy.1]
  · blk_point [iblk, V_main_arg1, hy.2.1]

theorem point_eq (j : S1x1.Idx) : j = ix2 0 0 := by
  idx_vars j
  rw [Subsingleton.elim j0 0, Subsingleton.elim j1 0]

theorem first (c : Dev nD) (t : Fin cfg0.N) (h : t.val % 8 = 0) (j : S1x1.Idx) :
    ((outsAt0 m c t.val t.isLt).1 j : EReal) = 0 + part (iblk m c 0 t) (iblk m c 1 t) := by
  have hN := lt_of_lt_of_eq t.isLt (show cfg0.N = 8 from N_0)
  rw [outsAt0_A m c t h (by omega)]
  frame_out
  rw [zero_add]
  rw [point_eq j]
  rfl

theorem pay4_apply (x0 x1 : Vec Ideal S512x2048 .f32) (p : Vec Ideal S1x1 .f32) (j : S1x1.Idx) : (k0_pay4 x0 x1 p j : EReal) = p j + k0_pay3 x0 x1 j := by
  pointwise [k0_pay4]

theorem later (c : Dev nD) (t : Fin cfg0.N) (h : ¬ t.val % 8 = 0) (j : S1x1.Idx) :
    ((outsAt0 m c t.val t.isLt).1 j : EReal) = (outsAt0 m c (t.val - 1) (Nat.lt_of_le_of_lt (Nat.sub_le _ _) t.isLt)).1 j + part (iblk m c 0 t) (iblk m c 1 t) := by
  have hN := lt_of_lt_of_eq t.isLt (show cfg0.N = 8 from N_0)
  rw [outsAt0_B m c t h (by omega)]
  frame_out
  rw [point_eq j]
  exact pay4_apply _ _ _ _

/-- Half the sum of the rows' mean squared errors. -/
def loss (a b : S4096x2048.Idx → EReal) (_ : S1x1.Idx) : EReal :=
  (Ideal.ofBits .f32 0x3F000000#32 : EReal) * ∑ n : Fin 4096, rowLoss a b n

theorem loss_congr {a a' b b' : S4096x2048.Idx → EReal} (ha : a = a') (hb : b = b') : loss a b = loss a' b' := by rw [ha, hb]

theorem slope_congr {a a' b b' : S4096x2048.Idx → EReal} (ha : a = a') (hb : b = b') : slope a b = slope a' b' := by rw [ha, hb]

/-- The tiles' parts, summed, make the loss. -/
theorem parts_sum (a b : S4096x2048.Idx → EReal) (i : S1x1.Idx) :
    (∑ p : Fin 8, (Ideal.ofBits .f32 0x3F000000#32 : EReal) * ∑ r : Fin 512, rowLoss a b ⟨p.val * 512 + r.val, by omega⟩) = loss a b i := by
  unfold loss
  have e : ∑ p : Fin 8, ∑ r : Fin 512, rowLoss a b ⟨p.val * 512 + r.val, by omega⟩ = ∑ n : Fin 4096, rowLoss a b n := Fin.sum_mul_add_congr fun p k h => rfl
  rw [← e, Cert.Distrib.mul_sum_nonneg]
  · rw [Cert.Distrib.half_value]; exact EReal.coe_nonneg.mpr (by norm_num)
  · rw [Cert.Distrib.half_value]; exact EReal.coe_ne_top _

theorem loss_value (c : Dev nD) : (dats m 0 c).arrAt 2 cfg0.N = loss (m ((c : Thread nD τ).loc main_arg0)) (m ((c : Thread nD τ).loc main_arg1)) := by
  have h7 : 7 < cfg0.N := lt_of_lt_of_eq (by norm_num : 7 < 8) N_0.symm
  have hw : ∀ t : Fin cfg0.N, t.val = 7 → (cfg0.win 2).WholeAt t := by decide +kernel
  refine (dats m 0 c).arrAt_eq_of_after_last 2 ⟨7, h7⟩ (hw _ rfl) _ fun j => ?_
  rw [after0_2]
  refine (Pipeline.eq_sum_fin_of_reset_step_apply_last (M := EReal) (fun n h i => (outsAt0 m c n h).1 i) 8 (fun _ => 0) (fun t _ => part (iblk m c 0 t) (iblk m c 1 t)) (first m c) (later m c) (le_of_eq N_0) ⟨7, h7⟩ N_0.symm j).trans ?_
  rw [zero_add]
  refine Eq.trans ?_ (parts_sum _ _ _)
  exact Fintype.sum_equiv (finCongr N_0) _ _ fun t => part_eq m c t

end Cert.LossIdeal.Value
end
-- ==== Proof.LossClaim.lean ====
module

public import proofs.«01_k».proof.Defs
public import proofs.«01_k».proof.Proof.LossValue
public import proofs.«01_k».proof.Proof.Gen.LossRefIdeal.Run
public import Idealize.ShloMosaic.Lib.Pointwise
public import Idealize.ShloMosaic.Lib.Tactic.CleanTypes

@[expose] public section

set_option maxRecDepth 16384

noncomputable section

namespace Cert.LossClaim

open Idealize.ShloMosaic Idealize.ShloMosaic.TcCoe Idealize.SL.Sem

/-- The reference's factors make the division by the row length. -/
theorem factors (x : EReal) : Ideal.div (Ideal.ofBits .f32 0x3F000000#32) (Ideal.ofBits .f32 0x45000000#32) * (Ideal.ofBits .f32 0x40000000#32 * x) =
    Ideal.div x (Ideal.ofBits .f32 0x45000000#32) := by
  rw [Cert.Distrib.half_value, Cert.Distrib.width_value, Cert.Distrib.two_value, Ideal.div_coe (by norm_num), Ideal.div_coe (by norm_num), ← mul_assoc, ← EReal.coe_mul, ← EReal.coe_mul, mul_comm x]
  norm_num

theorem algebraic : Cert.algebraic_LossIdeal_LossRefIdeal (hLossIdeal := Cert.LossIdeal.Gen.facts) (hLossRefIdeal := Cert.LossRefIdeal.Gen.facts) := by
  intro m g m' g' _ hagree
  refine ⟨_, _, Cert.LossIdeal.Value.run_blocks m g, (θ_run _ _ _).mono (fun r h c => ⟨(h c).1.trans ?_, (h c).2.1.trans ?_, (h c).2.2⟩) (Cert.LossRefIdeal.Value.run m' g')⟩
  · obtain ⟨e0, e1⟩ := hagree c
    refine Eq.trans ?_ ((Cert.LossIdeal.Value.loss_congr e0 e1).trans (Cert.LossIdeal.Value.loss_value m c).symm)
    funext i
    clean_types
    idx_vars i
    pointwise [Cert.LossIdeal.Value.loss, Cert.LossIdeal.Value.rowLoss]
  · obtain ⟨e0, e1⟩ := hagree c
    refine Eq.trans ?_ ((Cert.LossIdeal.Value.slope_congr e0 e1).trans (Cert.LossIdeal.Value.slope_value m c).symm)
    funext i
    clean_types
    idx_vars i
    pointwise [Cert.LossIdeal.Value.slope]
    exact factors _

end Cert.LossClaim
end
-- ==== Proof.NormValue.lean ====
module

public import proofs.«01_k».proof.Proof.Gen.NormIdeal.Value
public import Idealize.ShloMosaic.Lib.Pipeline.ValueKit
public import Idealize.ShloMosaic.Lib.Pointwise

@[expose] public section

set_option maxRecDepth 16384

noncomputable section

namespace Cert.NormIdeal.Value

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![t.val, 0] ∧ win0_1.index t = ![0, 0] ∧ win0_2.index t = ![t.val, 0] ∧ win0_3.index t = ![t.val, 0] := by
  decide +kernel

/-- One over the root of a row's mean square. -/
def root (a : S4096x2048.Idx → EReal) (n : Fin 4096) : EReal :=
  Ideal.rsqrt (Ideal.div (∑ k : Fin 2048, a (ix2 n k) * a (ix2 n k)) (Ideal.ofBits .f32 0x45000000#32) + Ideal.ofBits .f32 0x358637BD#32)

/-- The roots as a column. -/
def roots (a : S4096x2048.Idx → EReal) (i : S4096x1.Idx) : EReal := root a ⟨(i 0).val, (i 0).isLt⟩

/-- The normalised row. -/
def normed (a : S4096x2048.Idx → EReal) (w : S1x2048.Idx → EReal) (i : S4096x2048.Idx) : EReal :=
  a i * root a ⟨(i 0).val, (i 0).isLt⟩ * w (ix2 0 ⟨(i 1).val, (i 1).isLt⟩)

theorem roots_congr {a a' : S4096x2048.Idx → EReal} (ha : a = a') : roots a = roots a' := by rw [ha]

theorem normed_congr {a a' : S4096x2048.Idx → EReal} {w w' : S1x2048.Idx → EReal} (ha : a = a') (hw : w = w') : normed a w = normed a' w' := by rw [ha, hw]

theorem tile_root (c : Dev nD) (t : Fin cfg0.N) (y0 : Fin 512) (n : Fin 4096) (hn : n.val = t.val * 512 + y0.val) :
    (k0_pay1 (iblk m c 0 t) (ix2 y0 0) : EReal) = root (m ((c : Thread nD τ).loc main_arg0)) n := by
  have hy := idx0 t
  pointwise [k0_pay1, root]
  refine congrArg (fun x : EReal => Ideal.rsqrt (Ideal.div x _ + _)) (Finset.sum_congr (M := EReal) rfl fun k _ => congrArg (fun x : EReal => x * x) ?_)
  blk_point [iblk, V_main_arg0, hy.1]

theorem roots_value (c : Dev nD) : (dats m 0 c).arrAt 3 cfg0.N = roots (m ((c : Thread nD τ).loc main_arg0)) := by
  refine (dats m 0 c).arrAt_eq_of_covers 3 _ (by decide +kernel) fun t hf y => ?_
  have hy := idx0 t
  have hN := lt_of_lt_of_eq t.isLt (show cfg0.N = 8 from N_0)
  blk_simp
  rw [after0_3]
  frame_out
  idx_vars y
  rw [Subsingleton.elim y1 0]
  refine (tile_root m c t y0 ⟨t.val * 512 + y0.val, by omega⟩ rfl).trans ?_
  unfold roots
  refine congrArg (root _) (Fin.ext ?_)
  blk_simp [hy.2.2.2]

theorem normed_value (c : Dev nD) : (dats m 0 c).arrAt 2 cfg0.N = normed (m ((c : Thread nD τ).loc main_arg0)) (m ((c : Thread nD τ).loc main_arg1)) := by
  refine (dats m 0 c).arrAt_eq_of_covers 2 _ (by decide +kernel) fun t hf y => ?_
  have hy := idx0 t
  have hN := lt_of_lt_of_eq t.isLt (show cfg0.N = 8 from N_0)
  blk_simp
  rw [after0_2]
  frame_out
  idx_vars y
  pointwise [k0_pay2]
  rw [tile_root m c t y0 ⟨t.val * 512 + y0.val, by omega⟩ rfl]
  unfold normed
  refine (congrArg₂ (fun x y : EReal => x * y) (congrArg₂ (fun x y : EReal => x * y) ?_ (congrArg (root _) (Fin.ext ?_))) ?_)

  · blk_point [iblk, V_main_arg0, hy.1, hy.2.2.1]
  · blk_simp [hy.2.2.1]
  · blk_point [iblk, V_main_arg1, hy.2.1, hy.2.2.1]

end Cert.NormIdeal.Value
end
-- ==== Proof.NormClaim.lean ====
module

public import proofs.«01_k».proof.Defs
public import proofs.«01_k».proof.Proof.NormValue
public import proofs.«01_k».proof.Proof.Gen.NormRefIdeal.Run
public import Idealize.ShloMosaic.Lib.Pointwise
public import Idealize.ShloMosaic.Lib.Tactic.CleanTypes

@[expose] public section

set_option maxRecDepth 16384

noncomputable section

namespace Cert.NormClaim

open Idealize.ShloMosaic Idealize.ShloMosaic.TcCoe Idealize.SL.Sem

theorem algebraic : Cert.algebraic_NormIdeal_NormRefIdeal (hNormIdeal := Cert.NormIdeal.Gen.facts) (hNormRefIdeal := Cert.NormRefIdeal.Gen.facts) := by
  intro m g m' g' _ hagree
  refine ⟨_, _, Cert.NormIdeal.Value.run_blocks m g, (θ_run _ _ _).mono (fun r h c => ⟨(h c).1.trans ?_, (h c).2.1.trans ?_, (h c).2.2⟩) (Cert.NormRefIdeal.Value.run m' g')⟩
  · obtain ⟨e0, e1⟩ := hagree c
    refine Eq.trans ?_ ((Cert.NormIdeal.Value.normed_congr e0 e1).trans (Cert.NormIdeal.Value.normed_value m c).symm)
    funext i
    clean_types
    idx_vars i
    pointwise [Cert.NormIdeal.Value.normed, Cert.NormIdeal.Value.root]
  · obtain ⟨e0, e1⟩ := hagree c
    refine Eq.trans ?_ ((Cert.NormIdeal.Value.roots_congr e0).trans (Cert.NormIdeal.Value.roots_value m c).symm)
    funext i
    clean_types
    idx_vars i
    pointwise [Cert.NormIdeal.Value.roots, Cert.NormIdeal.Value.root]

end Cert.NormClaim
end
-- ==== Proof.NormRow.lean ====
module

public import proofs.«01_k».proof.Proof.Distrib

@[expose] public section

noncomputable section

namespace Cert.NormRow

open Idealize.ShloMosaic

theorem minus_half_value : Ideal.ofBits .f32 0xBF000000#32 = ((-(1 / 2) : ℝ) : EReal) := by
  simp only [Ideal.ofBits, Ideal.ieee]
  simp
  rw [← EReal.coe_mul]
  norm_num

theorem eps_value : ∃ e : ℝ, 0 < e ∧ Ideal.ofBits .f32 0x358637BD#32 = (e : EReal) := by
  refine ⟨8796093 * (2 ^ 43)⁻¹, by norm_num, ?_⟩
  simp only [Ideal.ofBits, Ideal.ieee]
  simp

theorem square_nonneg (x : EReal) : 0 ≤ x * x := by
  induction x using EReal.rec with
  | bot => simp
  | top => simp
  | coe r => rw [← EReal.coe_mul]; exact EReal.coe_nonneg.mpr (mul_self_nonneg r)

theorem real_of_square (x : EReal) (h : x * x ≠ ⊤) : ((x.toReal : ℝ) : EReal) = x := by
  refine EReal.coe_toReal ?_ ?_ <;> rintro rfl <;> simp at h

/-- Twice a real multiple. -/
theorem twice (c : ℝ) (y : EReal) : (c : EReal) * y + c * y = ((c + c : ℝ) : EReal) * y := by
  induction y using EReal.rec with
  | coe r => simp only [← EReal.coe_mul, ← EReal.coe_add]; congr 1; ring
  | top =>
    rcases lt_trichotomy c 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy c 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

theorem div_width (x : EReal) : Ideal.div x (Ideal.ofBits .f32 0x45000000#32) = x * ((1 / 2048 : ℝ) : EReal) := by
  rw [Cert.Distrib.width_value, Ideal.div_coe (by norm_num)]

/-- The gradient of a normalised row, in the two forms. -/
theorem row (x g : Fin 2048 → EReal) (j : Fin 2048) (v r : EReal)
    (hv : v = Ideal.div (∑ k, x k * x k) (Ideal.ofBits .f32 0x45000000#32) + Ideal.ofBits .f32 0x358637BD#32) (hr : r = Ideal.rsqrt v) :
    g j * r + x j * Ideal.div ((∑ k, x k * g k) * (Ideal.ofBits .f32 0xBF000000#32 * Ideal.div r v)) (Ideal.ofBits .f32 0x45000000#32)
        + Ideal.div ((∑ k, x k * g k) * (Ideal.ofBits .f32 0xBF000000#32 * Ideal.div r v)) (Ideal.ofBits .f32 0x45000000#32) * x j =
      r * (g j - x j * r * Ideal.div (∑ k, g k * (x k * r)) (Ideal.ofBits .f32 0x45000000#32)) := by
  obtain ⟨e, he, eq⟩ := eps_value
  rw [eq, div_width] at hv
  simp only [div_width, minus_half_value]
  have h0 : 0 ≤ ∑ k, x k * x k := Finset.sum_nonneg fun k _ => square_nonneg (x k)
  by_cases ht : ∑ k, x k * x k = ⊤
  · have hv' : v = ⊤ := by
      rw [hv, ht, EReal.top_mul_coe_of_pos (by norm_num)]; rfl
    have hr' : r = 0 := by rw [hr, hv']; rfl
    rw [hr', hv']
    have hd : Ideal.div 0 ⊤ = 0 := by simp [Ideal.div]
    simp [hd]
  · obtain ⟨a, ha⟩ : ∃ a : ℝ, ∑ k, x k * x k = (a : EReal) := ⟨_, (EReal.coe_toReal ht (fun h => by rw [h] at h0; simp at h0)).symm⟩
    have ha0 : 0 ≤ a := by rw [ha] at h0; exact EReal.coe_nonneg.mp h0
    have hx : ∀ k, ∃ t : ℝ, x k = (t : EReal) := fun k => ⟨(x k).toReal, (real_of_square _ fun hk => by
      have := Finset.single_le_sum (f := fun k => x k * x k) (fun k _ => square_nonneg (x k)) (Finset.mem_univ k)
      simp only [hk, top_le_iff] at this
      exact ht this).symm⟩
    obtain ⟨xj, hxj⟩ := hx j
    have hb : 0 < a * (1 / 2048) + e := by positivity
    have hv' : v = ((a * (1 / 2048) + e : ℝ) : EReal) := by rw [hv, ha, ← EReal.coe_mul, ← EReal.coe_add]
    generalize a * (1 / 2048) + e = b at hb hv'
    have hr' : r = (((Real.sqrt b)⁻¹ : ℝ) : EReal) := by
      rw [hr, hv', Ideal.rsqrt_coe, if_neg (by linarith), if_neg hb.ne']
    have hs : (Real.sqrt b)⁻¹ * (Real.sqrt b)⁻¹ = 1 / b := by
      rw [← mul_inv, Real.mul_self_sqrt hb.le, one_div]
    have hp : 0 ≤ (Real.sqrt b)⁻¹ := by positivity
    generalize (Real.sqrt b)⁻¹ = ρ at hr' hs hp
    have hM : ∑ k, g k * (x k * r) = r * ∑ k, x k * g k := by
      rw [hr', Cert.Distrib.mul_sum_nonneg _ _ _ (EReal.coe_nonneg.mpr hp) (EReal.coe_ne_top _)]
      exact Finset.sum_congr rfl fun k _ => by ac_rfl
    rw [hM, hv', Ideal.div_coe hb.ne', hxj, hr']
    generalize ∑ k, x k * g k = M
    rw [sub_eq_add_neg, EReal.left_distrib_of_nonneg_of_ne_top (EReal.coe_nonneg.mpr hp) (EReal.coe_ne_top _), add_assoc, mul_comm (g j)]
    congr 1
    have e1 : (xj : EReal) * (M * (((-(1 / 2) : ℝ) : EReal) * ((ρ : EReal) * ((1 / b : ℝ) : EReal))) * ((1 / 2048 : ℝ) : EReal)) = ((xj * (-(1 / 2)) * ρ * (1 / b) * (1 / 2048) : ℝ) : EReal) * M := by
      simp only [EReal.coe_mul]; ac_rfl
    rw [mul_comm _ (xj : EReal), e1, twice, ← hs]
    have e2 : (ρ : EReal) * (-((xj : EReal) * ρ * (ρ * M * ((1 / 2048 : ℝ) : EReal)))) = ((ρ * xj * ρ * ρ * (1 / 2048) * (-1) : ℝ) : EReal) * M := by
      rw [mul_neg, ← neg_one_mul]
      simp only [EReal.coe_mul, EReal.coe_neg, EReal.coe_one]; ac_rfl
    rw [e2]
    congr 2
    ring

end Cert.NormRow
end
-- ==== Proof.NormGradValue.lean ====
module

public import proofs.«01_k».proof.Proof.Gen.NormGradIdeal.Value
public import proofs.«01_k».proof.Proof.NormRow
public import Idealize.ShloMosaic.Lib.Pipeline.ValueKit
public import Idealize.ShloMosaic.Lib.Pointwise

@[expose] public section

set_option maxRecDepth 16384

noncomputable section

namespace Cert.NormGradIdeal.Value

open Cert.NormGradIdeal Cert.NormGradIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![t.val, 0] ∧ win0_1.index t = ![t.val, 0] ∧ win0_2.index t = ![t.val, 0] ∧ win0_3.index t = ![0, 0] ∧ win0_4.index t = ![t.val, 0] ∧ win0_5.index t = ![t.val, 0] := by
  decide +kernel

/-- One over the root of a row's mean square. -/
def root (a : S4096x2048.Idx → EReal) (n : Fin 4096) : EReal :=
  Ideal.rsqrt (Ideal.div (∑ k : Fin 2048, a (ix2 n k) * a (ix2 n k)) (Ideal.ofBits .f32 0x45000000#32) + Ideal.ofBits .f32 0x358637BD#32)

/-- The gradient of the row before its norm. -/
def slope (g a : S4096x2048.Idx → EReal) (w : S1x2048.Idx → EReal) (b : S4096x2048.Idx → EReal) (i : S4096x2048.Idx) : EReal :=
  b i + root a ⟨(i 0).val, (i 0).isLt⟩ * (g i * w (ix2 0 ⟨(i 1).val, (i 1).isLt⟩) - a i * root a ⟨(i 0).val, (i 0).isLt⟩ *
    Ideal.div (∑ k : Fin 2048, g (ix2 ⟨(i 0).val, (i 0).isLt⟩ k) * w (ix2 0 k) * (a (ix2 ⟨(i 0).val, (i 0).isLt⟩ k) * root a ⟨(i 0).val, (i 0).isLt⟩)) (Ideal.ofBits .f32 0x45000000#32))

/-- A row's term of the gradient of the norm's weight. -/
def rowTerm (g a : S4096x2048.Idx → EReal) (q : Fin 2048) (n : Fin 4096) : EReal := g (ix2 n q) * (a (ix2 n q) * root a n)

/-- The gradient of the norm's weight. -/
def weight (g a : S4096x2048.Idx → EReal) (i : S1x2048.Idx) : EReal := ∑ n : Fin 4096, rowTerm g a ⟨(i 1).val, (i 1).isLt⟩ n

theorem weight_congr {g g' a a' : S4096x2048.Idx → EReal} (hg : g = g') (ha : a = a') : weight g a = weight g' a' := by rw [hg, ha]

/-- The tiles' parts, summed. -/
theorem parts_sum (g a : S4096x2048.Idx → EReal) (i : S1x2048.Idx) :
    (∑ p : Fin 8, ∑ r : Fin 512, rowTerm g a ⟨(i 1).val, (i 1).isLt⟩ ⟨p.val * 512 + r.val, by omega⟩) = weight g a i := by
  unfold weight
  exact Fin.sum_mul_add_congr fun p k h => rfl

/-- The roots as the host computes them. -/
def hostRoots (x : FVec Ideal S4096x2048 .f32) : FVec Ideal S4096x1 .f32 :=
  Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))

/-- The host computes the roots before the call. -/
theorem entry (c : Dev nD) (n : Fin 4096) : V m c main_v7 (ix2 n 0) = root (m ((c : Thread nD τ).loc main_arg1)) n := by
  have h : V m c main_v7 = hostRoots (m ((c : Thread nD τ).loc main_arg1)) := by
    delta V
    simp only [hostOps0]
    after_results_simp
    rfl
  rw [h]
  pointwise [hostRoots, root]

theorem stage_g (c : Dev nD) (t : Fin cfg0.N) (r : Fin 512) (q : Fin 2048) (n : Fin 4096) (hn : n.val = t.val * 512 + r.val) : iblk m c 0 t (ix2 r q) = (m ((c : Thread nD τ).loc main_arg0)) (ix2 n q) := by
  have hy := idx0 t
  blk_point [iblk, V_main_arg0, hy.1]

theorem stage_x (c : Dev nD) (t : Fin cfg0.N) (r : Fin 512) (q : Fin 2048) (n : Fin 4096) (hn : n.val = t.val * 512 + r.val) : iblk m c 1 t (ix2 r q) = (m ((c : Thread nD τ).loc main_arg1)) (ix2 n q) := by
  have hy := idx0 t
  blk_point [iblk, V_main_arg1, hy.2.1]

theorem stage_r (c : Dev nD) (t : Fin cfg0.N) (r : Fin 512) (n : Fin 4096) (hn : n.val = t.val * 512 + r.val) : iblk m c 2 t (ix2 r 0) = root (m ((c : Thread nD τ).loc main_arg1)) n := by
  have hy := idx0 t
  refine Eq.trans ?_ (entry m c n)
  blk_point [iblk, hy.2.2.1]

theorem stage_w (c : Dev nD) (t : Fin cfg0.N) (q : Fin 2048) : iblk m c 3 t (ix2 0 q) = (m ((c : Thread nD τ).loc main_arg2)) (ix2 0 q) := by
  have hy := idx0 t
  blk_point [iblk, V_main_arg2, hy.2.2.2.1]

theorem stage_b (c : Dev nD) (t : Fin cfg0.N) (r : Fin 512) (q : Fin 2048) (n : Fin 4096) (hn : n.val = t.val * 512 + r.val) : iblk m c 4 t (ix2 r q) = (m ((c : Thread nD τ).loc main_arg3)) (ix2 n q) := by
  have hy := idx0 t
  blk_point [iblk, V_main_arg3, hy.2.2.2.2.1]

theorem tile_slope (c : Dev nD) (t : Fin cfg0.N) (y : S512x2048.Idx) (j : S4096x2048.Idx) (hj0 : (j 0).val = t.val * 512 + (y 0).val) (hj1 : (j 1).val = (y 1).val) :
    (k0_pay3 (iblk m c 0 t) (iblk m c 2 t) (iblk m c 1 t) (iblk m c 4 t) (iblk m c 3 t) y : EReal) = slope (m ((c : Thread nD τ).loc main_arg0)) (m ((c : Thread nD τ).loc main_arg1)) (m ((c : Thread nD τ).loc main_arg2)) (m ((c : Thread nD τ).loc main_arg3)) j := by
  idx_vars y
  idx_vars j
  have e : j1 = y1 := Fin.ext hj1
  subst e
  pointwise [k0_pay3, k0_pay2, k0_pay1, slope]
  have er := stage_r m c t y0 j0 hj0
  have e0 := fun q => stage_g m c t y0 q j0 hj0
  have e1 := fun q => stage_x m c t y0 q j0 hj0
  have e3 := fun q => stage_w m c t q
  have e4 := fun q => stage_b m c t y0 q j0 hj0
  simp only [er, e0, e1, e3, e4]

theorem slope_value (c : Dev nD) : (dats m 0 c).arrAt 5 cfg0.N = slope (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hy := idx0 t
  have hN := lt_of_lt_of_eq t.isLt (show cfg0.N = 8 from N_0)
  blk_simp
  rw [after0_5]
  have h : (outsAt0 m c t.val t.isLt).1 = k0_pay3 (iblk m c 0 t) (iblk m c 2 t) (iblk m c 1 t) (iblk m c 4 t) (iblk m c 3 t) := by
    by_cases h0 : t.val % 8 = 0
    · rw [outsAt0_A m c t h0 (by omega)]; frame_out
    · rw [outsAt0_B m c t h0 (by omega)]; frame_out
  rw [h]
  have hj0 : ((((View.whole main_v8_0).slice (win0_5.rect t)).emb y) 0).val = t.val * 512 + (y 0).val := by
    blk_simp [hy.2.2.2.2.2]
  have hj1 : ((((View.whole main_v8_0).slice (win0_5.rect t)).emb y) 1).val = (y 1).val := by
    blk_simp [hy.2.2.2.2.2]
  generalize ((View.whole main_v8_0).slice (win0_5.rect t)).emb y = j at hj0 hj1 ⊢
  exact tile_slope m c t y j hj0 hj1

theorem slope_congr {g g' a a' : S4096x2048.Idx → EReal} {w w' : S1x2048.Idx → EReal} {b b' : S4096x2048.Idx → EReal} (hg : g = g') (ha : a = a') (hw : w = w') (hb : b = b') : slope g a w b = slope g' a' w' b' := by rw [hg, ha, hw, hb]

/-- One tile's part of the weight's gradient. -/
theorem part_eq (c : Dev nD) (t : Fin cfg0.N) (j : S1x2048.Idx) : (k0_pay4 (iblk m c 0 t) (iblk m c 2 t) (iblk m c 1 t) j : EReal) =
    ∑ r : Fin 512, rowTerm (m ((c : Thread nD τ).loc main_arg0)) (m ((c : Thread nD τ).loc main_arg1)) ⟨(j 1).val, (j 1).isLt⟩ ⟨t.val * 512 + r.val, by have := lt_of_lt_of_eq t.isLt (show cfg0.N = 8 from N_0); omega⟩ := by
  idx_vars j
  pointwise [k0_pay4, k0_pay2, k0_pay1, rowTerm]
  refine Finset.sum_congr (M := EReal) rfl fun r _ => congrArg₂ (fun x y : EReal => x * y) (stage_g m c t _ _ _ rfl) (congrArg₂ (fun x y : EReal => x * y) (stage_x m c t _ _ _ rfl) (stage_r m c t _ _ rfl))

theorem first (c : Dev nD) (t : Fin cfg0.N) (h : t.val % 8 = 0) (j : S1x2048.Idx) :
    ((outsAt0 m c t.val t.isLt).2 j : EReal) = 0 + k0_pay4 (iblk m c 0 t) (iblk m c 2 t) (iblk m c 1 t) j := by
  have hN := lt_of_lt_of_eq t.isLt (show cfg0.N = 8 from N_0)
  rw [outsAt0_A m c t h (by omega)]
  frame_out
  rw [zero_add]

theorem acc_apply (x0 : Vec Ideal S512x2048 .f32) (x1 : Vec Ideal S512x1 .f32) (x2 : Vec Ideal S512x2048 .f32) (p : Vec Ideal S1x2048 .f32) (j : S1x2048.Idx) : (k0_pay5 x0 x1 x2 p j : EReal) = p j + k0_pay4 x0 x1 x2 j := by
  idx_vars j
  pointwise [k0_pay5]

theorem later (c : Dev nD) (t : Fin cfg0.N) (h : ¬ t.val % 8 = 0) (j : S1x2048.Idx) :
    ((outsAt0 m c t.val t.isLt).2 j : EReal) = (outsAt0 m c (t.val - 1) (Nat.lt_of_le_of_lt (Nat.sub_le _ _) t.isLt)).2 j + k0_pay4 (iblk m c 0 t) (iblk m c 2 t) (iblk m c 1 t) j := by
  have hN := lt_of_lt_of_eq t.isLt (show cfg0.N = 8 from N_0)
  rw [outsAt0_B m c t h (by omega)]
  frame_out
  exact acc_apply _ _ _ _ _

theorem weight_value (c : Dev nD) : (dats m 0 c).arrAt 6 cfg0.N = weight (m ((c : Thread nD τ).loc main_arg0)) (m ((c : Thread nD τ).loc main_arg1)) := by
  have h7 : 7 < cfg0.N := lt_of_lt_of_eq (by norm_num : 7 < 8) N_0.symm
  have hw : ∀ t : Fin cfg0.N, t.val = 7 → (cfg0.win 6).WholeAt t := by decide +kernel
  refine (dats m 0 c).arrAt_eq_of_after_last 6 ⟨7, h7⟩ (hw _ rfl) _ fun j => ?_
  rw [after0_6]
  refine (Pipeline.eq_sum_fin_of_reset_step_apply_last (M := EReal) (fun n h i => (outsAt0 m c n h).2 i) 8 (fun _ => 0) (fun t j => k0_pay4 (iblk m c 0 t) (iblk m c 2 t) (iblk m c 1 t) j) (first m c) (later m c) (le_of_eq N_0) ⟨7, h7⟩ N_0.symm j).trans ?_
  rw [zero_add]
  refine Eq.trans ?_ (parts_sum _ _ _)
  exact Fintype.sum_equiv (finCongr N_0) _ _ fun t => part_eq m c t j

end Cert.NormGradIdeal.Value
end
-- ==== Proof.NormGradClaim.lean ====
module

public import proofs.«01_k».proof.Defs
public import proofs.«01_k».proof.Proof.NormGradValue
public import proofs.«01_k».proof.Proof.Gen.NormGradRefIdeal.Run
public import Idealize.ShloMosaic.Lib.Pointwise
public import Idealize.ShloMosaic.Lib.Tactic.CleanTypes

@[expose] public section

set_option maxRecDepth 16384

noncomputable section

namespace Cert.NormGradClaim

open Idealize.ShloMosaic Idealize.ShloMosaic.TcCoe Idealize.SL.Sem

theorem row_at (g a : Cert.NormGradIdeal.S4096x2048.Idx → EReal) (w : Cert.NormGradIdeal.S1x2048.Idx → EReal) (n : Fin 4096) (j : Fin 2048) :
    (g (ix2 n j) * w (ix2 0 j)) * Ideal.rsqrt (Ideal.div (∑ k : Fin 2048, a (ix2 n k) * a (ix2 n k)) (Ideal.ofBits .f32 0x45000000#32) + Ideal.ofBits .f32 0x358637BD#32) + a (ix2 n j) * Ideal.div ((∑ k : Fin 2048, a (ix2 n k) * (g (ix2 n k) * w (ix2 0 k))) * (Ideal.ofBits .f32 0xBF000000#32 * Ideal.div (Ideal.rsqrt (Ideal.div (∑ k : Fin 2048, a (ix2 n k) * a (ix2 n k)) (Ideal.ofBits .f32 0x45000000#32) + Ideal.ofBits .f32 0x358637BD#32)) (Ideal.div (∑ k : Fin 2048, a (ix2 n k) * a (ix2 n k)) (Ideal.ofBits .f32 0x45000000#32) + Ideal.ofBits .f32 0x358637BD#32))) (Ideal.ofBits .f32 0x45000000#32) + Ideal.div ((∑ k : Fin 2048, a (ix2 n k) * (g (ix2 n k) * w (ix2 0 k))) * (Ideal.ofBits .f32 0xBF000000#32 * Ideal.div (Ideal.rsqrt (Ideal.div (∑ k : Fin 2048, a (ix2 n k) * a (ix2 n k)) (Ideal.ofBits .f32 0x45000000#32) + Ideal.ofBits .f32 0x358637BD#32)) (Ideal.div (∑ k : Fin 2048, a (ix2 n k) * a (ix2 n k)) (Ideal.ofBits .f32 0x45000000#32) + Ideal.ofBits .f32 0x358637BD#32))) (Ideal.ofBits .f32 0x45000000#32) * a (ix2 n j) =
      Ideal.rsqrt (Ideal.div (∑ k : Fin 2048, a (ix2 n k) * a (ix2 n k)) (Ideal.ofBits .f32 0x45000000#32) + Ideal.ofBits .f32 0x358637BD#32) * ((g (ix2 n j) * w (ix2 0 j)) - a (ix2 n j) * Ideal.rsqrt (Ideal.div (∑ k : Fin 2048, a (ix2 n k) * a (ix2 n k)) (Ideal.ofBits .f32 0x45000000#32) + Ideal.ofBits .f32 0x358637BD#32) * Ideal.div (∑ k : Fin 2048, g (ix2 n k) * w (ix2 0 k) * (a (ix2 n k) * Ideal.rsqrt (Ideal.div (∑ k : Fin 2048, a (ix2 n k) * a (ix2 n k)) (Ideal.ofBits .f32 0x45000000#32) + Ideal.ofBits .f32 0x358637BD#32))) (Ideal.ofBits .f32 0x45000000#32)) :=
  Cert.NormRow.row (fun k => a (ix2 n k)) (fun k => g (ix2 n k) * w (ix2 0 k)) j _ _ rfl rfl

theorem algebraic : Cert.algebraic_NormGradIdeal_NormGradRefIdeal (hNormGradIdeal := Cert.NormGradIdeal.Gen.facts) (hNormGradRefIdeal := Cert.NormGradRefIdeal.Gen.facts) := by
  intro m g m' g' _ hagree
  refine ⟨_, _, Cert.NormGradIdeal.Value.run_blocks m g, (θ_run _ _ _).mono (fun r h c => ⟨(h c).1.trans ?_, (h c).2.1.trans ?_, (h c).2.2⟩) (Cert.NormGradRefIdeal.Value.run m' g')⟩
  · obtain ⟨e0, e1, e2, e3⟩ := hagree c
    refine Eq.trans ?_ ((Cert.NormGradIdeal.Value.slope_congr e0 e1 e2 e3).trans (Cert.NormGradIdeal.Value.slope_value m c).symm)
    unfold Cert.NormGradRefIdeal.Value.res_main_v37
    funext i
    clean_types
    idx_vars i
    pointwise [Cert.NormGradIdeal.Value.slope, Cert.NormGradIdeal.Value.root]
    simp only [Fin.sum_univ_one]
    refine congrArg (fun x : EReal => _ + x) ?_
    exact row_at _ _ _ i0 i1
  · obtain ⟨e0, e1, e2, e3⟩ := hagree c
    refine Eq.trans ?_ ((Cert.NormGradIdeal.Value.weight_congr e0 e1).trans (Cert.NormGradIdeal.Value.weight_value m c).symm)
    funext i
    clean_types
    idx_vars i
    pointwise [Cert.NormGradIdeal.Value.weight, Cert.NormGradIdeal.Value.rowTerm, Cert.NormGradIdeal.Value.root]
    refine (Fin.sum_univ_one _).trans (Finset.sum_congr (M := EReal) rfl fun n _ => ?_)
    exact mul_comm (G := EReal) _ _

end Cert.NormGradClaim
end
-- ==== Proof.PoolValue.lean ====
module

public import proofs.«01_k».proof.Proof.Gen.PoolIdeal.Value
public import Idealize.ShloMosaic.Lib.Pipeline.ValueKit
public import Idealize.ShloMosaic.Lib.Pointwise
public import proofs.«01_k».proof.Proof.Sums

@[expose] public section

set_option maxRecDepth 16384

noncomputable section

namespace Cert.PoolIdeal.Value

open Cert.PoolIdeal Cert.PoolIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![(grid0.coords t 0).val, 0] ∧ win0_1.index t = ![(grid0.coords t 0).val * 32 - 1, 0] ∧ win0_2.index t = ![(grid0.coords t 0).val, 1] ∧ win0_3.index t = ![0, 0, 0] ∧ win0_4.index t = ![0, 0] ∧ win0_5.index t = ![(grid0.coords t 0).val, 0] := by
  decide +kernel

/-- Column `c` of the first 2048, at row `n` of the array with sixteen zero rows set above it. -/
def cell (a : S4096x9216.Idx → EReal) (c : Fin 2048) (n : Nat) : EReal := if h : 16 ≤ n ∧ n < 4112 then a (ix2 ⟨n - 16, by omega⟩ ⟨c.val, by omega⟩) else 0

/-- The window length of the column group `g`. -/
def width (g : Nat) : Nat := if g = 0 then 2 else if g = 1 then 4 else if g = 2 then 8 else 16

/-- The mean over the window of `w` rows that ends at row `n`, less the row's own entry. -/
def mean (a : S4096x9216.Idx → EReal) (w : Nat) (c : Fin 2048) (n : Nat) : EReal :=
  Ideal.div (∑ k ∈ Finset.range w, cell a c (n + 16 - k)) (((min (n + 1) w : ℕ) : ℝ) : EReal) - cell a c (n + 16)

/-- One entry: the group's means through its mixing matrix, scaled, times the gate's `z` and logistic. -/
def mixed (a : S4096x9216.Idx → EReal) (M : S4x512x512.Idx → EReal) (S : S1x2048.Idx → EReal) (g : Fin 4) (d : Fin 512) (n : Fin 4096) : EReal :=
  (∑ e : Fin 512, mean a (width g.val) ⟨512 * g.val + e.val, by omega⟩ n.val * M (ix3 g e d)) * S (ix2 0 ⟨512 * g.val + d.val, by omega⟩) *
    (a (ix2 n ⟨2048 + (512 * g.val + d.val), by omega⟩) * FloatOps.logistic (F := Ideal) (φ := .f32) (a (ix2 n ⟨2048 + (512 * g.val + d.val), by omega⟩)))

variable {a : S4096x9216.Idx → EReal} {i : grid0.Coords} {x0 : Vec Ideal S512x2048 .f32} {x1 : Vec Ideal S16x2048 .f32}

/-- The last rows of the block before, zero above the first block, with the staged rows below them. -/
theorem ext_apply (h0 : ∀ r c, x0 (ix2 r c) = cell a c (512 * (i 0).val + r.val + 16))
    (h1 : ∀ r c, 0 < (i 0).val → x1 (ix2 r c) = cell a c (512 * (i 0).val + r.val)) (r : Nat) (c : Fin 2048) (hr : r < 528) :
    (if h : r < 16 then Scalar.select (Scalar.cmpi .sgt (BitVec.ofNat 32 (i 0).val) 0#32) (x1 (ix2 ⟨r, h⟩ c)) (0 : EReal) else x0 (ix2 ⟨r - 16, by omega⟩ c)) =
      cell a c (512 * (i 0).val + r) := by
  split
  · have hi : (i 0).val < 8 := (i 0).isLt
    by_cases h7 : 0 < (i 0).val
    · have e : Scalar.cmpi .sgt (BitVec.ofNat 32 (i 0).val) 0#32 = 1#1 := (by decide : ∀ k : Fin 8, 0 < k.val → Scalar.cmpi .sgt (BitVec.ofNat 32 k.val) 0#32 = 1#1) ⟨_, hi⟩ h7
      rw [e, h1 _ _ h7]
      rfl
    · have e : (i 0).val = 0 := by omega
      rw [e]
      show (0 : EReal) = _
      unfold cell; rw [dif_neg (by omega)]
  · rw [h0]
    congr 1; show _ + (r - 16) + 16 = _; omega

section
variable (h0 : ∀ r c, x0 (ix2 r c) = cell a c (512 * (i 0).val + r.val + 16))
    (h1 : ∀ r c, 0 < (i 0).val → x1 (ix2 r c) = cell a c (512 * (i 0).val + r.val))
include h0 h1

theorem pay2_apply (r : Fin 528) (c : Fin 2048) (hr : 1 ≤ r.val) :
    k0_pay2 i x0 x1 (ix2 r c) = ∑ k ∈ Finset.range 2, cell a c (512 * (i 0).val + r.val - k) := by
  pointwise [k0_pay2]
  rw [ext_apply h0 h1 _ _ r.isLt, ext_apply h0 h1 _ _ (Nat.mod_lt _ (by norm_num)), Finset.sum_range_succ, Finset.sum_range_one]
  congr 2; omega

theorem pay3_apply (r : Fin 528) (c : Fin 2048) (hr : 3 ≤ r.val) :
    k0_pay3 i x0 x1 (ix2 r c) = ∑ k ∈ Finset.range 4, cell a c (512 * (i 0).val + r.val - k) := by
  pointwise [k0_pay3]
  rw [pay2_apply h0 h1 _ _ (by omega), pay2_apply h0 h1 _ _ (by show 1 ≤ (r.val + 528 - 2) % 528; omega), Finset.sum_range_add _ 2 2]
  congr 1
  refine Finset.sum_congr rfl fun k _ => congrArg _ ?_
  show _ + (r.val + 528 - 2) % 528 - k = _; omega

theorem pay4_apply (r : Fin 528) (c : Fin 2048) (hr : 7 ≤ r.val) :
    k0_pay4 i x0 x1 (ix2 r c) = ∑ k ∈ Finset.range 8, cell a c (512 * (i 0).val + r.val - k) := by
  pointwise [k0_pay4]
  rw [pay3_apply h0 h1 _ _ (by omega), pay3_apply h0 h1 _ _ (by show 3 ≤ (r.val + 528 - 4) % 528; omega), Finset.sum_range_add _ 4 4]
  congr 1
  refine Finset.sum_congr rfl fun k _ => congrArg _ ?_
  show _ + (r.val + 528 - 4) % 528 - k = _; omega

theorem pay5_apply (r : Fin 528) (c : Fin 2048) (hr : 15 ≤ r.val) :
    k0_pay5 i x0 x1 (ix2 r c) = ∑ k ∈ Finset.range 16, cell a c (512 * (i 0).val + r.val - k) := by
  pointwise [k0_pay5]
  rw [pay4_apply h0 h1 _ _ (by omega), pay4_apply h0 h1 _ _ (by show 7 ≤ (r.val + 528 - 8) % 528; omega), Finset.sum_range_add _ 8 8]
  congr 1
  refine Finset.sum_congr rfl fun k _ => congrArg _ ?_
  show _ + (r.val + 528 - 8) % 528 - k = _; omega

end

/-- One row of window means, as a tile computes it. -/
theorem mean_tile {w : Nat} (b d : BitVec 32) (hd : d.toNat = w) (hw : w < 2 ^ 31) (hw0 : 0 < w) (r n : Nat) (c : Fin 2048) (S x : EReal) (hn : n < 4096) (hb : b.toNat = n + 1)
    (hS : S = ∑ k ∈ Finset.range w, cell a c (n + 16 - k)) (hx : x = cell a c (n + 16)) :
    Ideal.div S (FloatOps.sitofp (F := Ideal) FTy.f32 (IntOp.minsi b d)) - x = mean a w c n := by
  subst hS hx
  unfold mean
  rw [Sums.count_value b d (n + 1) w hb hd (by omega) hw]

section Pieces
variable (h0 : ∀ r c, x0 (ix2 r c) = cell a c (512 * (i 0).val + r.val + 16))
    (h1 : ∀ r c, 0 < (i 0).val → x1 (ix2 r c) = cell a c (512 * (i 0).val + r.val))
    {M : S4x512x512.Idx → EReal} {S : S1x2048.Idx → EReal} {x3 : Vec Ideal S1x512x512 .bf16} {x4 : Vec Ideal S1x512 .f32} {x2 : Vec Ideal S512x512 .f32}
include h0 h1

theorem piece0 (y : S512x512.Idx) (n : Fin 4096) (hn : n.val = 512 * (i 0).val + (y 0).val) (h3 : ∀ e d, x3 (ix3 0 e d) = M (ix3 0 e d))
    (h4 : ∀ d : Fin 512, x4 (ix2 0 d) = S (ix2 0 ⟨0 + d.val, by omega⟩)) (h2 : ∀ d : Fin 512, d = y 1 → x2 (ix2 (y 0) d) = a (ix2 n ⟨2048 + (0 + d.val), by omega⟩)) :
    k0_pay8 (k0_pay6 i x0 x1 x3 x4) (k0_pay7 x2) y = mixed a M S 0 (y 1) n := by
  have hi : (i 0).val < 8 := (i 0).isLt
  have h2' := h2 _ rfl
  idx_vars y
  pointwise [k0_pay8, k0_pay6, k0_pay7]
  unfold mixed
  refine congrArg₂ (· * ·) (congrArg₂ (· * ·) (Finset.sum_congr rfl fun e _ => congrArg₂ (· * ·) ?_ (h3 _ _)) (h4 _)) (congrArg (fun z : EReal => z * FloatOps.logistic (F := Ideal) (φ := .f32) z) h2')
  refine mean_tile (w := 2) _ 2#32 rfl (by norm_num) (by norm_num) y0.val n.val _ _ _ n.isLt ((Sums.row_word _ _ _ (by omega) (by omega) (by omega)).trans (by rw [hn]; show _ = 512 * (i 0).val + y0.val + 1; omega)) ?_ ?_
  · rw [pay2_apply h0 h1 _ _ (by first | omega | (simp; omega))]
    refine Finset.sum_congr rfl fun k _ => ?_
    refine congrArg₂ (cell a) (Fin.ext ?_) ?_
    · first | rfl | exact (Nat.zero_add _).symm
    rw [hn]; show 512 * (i 0).val + (16 + y0.val) - k = 512 * (i 0).val + y0.val + 16 - k; omega
  · rw [h0]
    refine congrArg₂ (cell a) (Fin.ext ?_) (by rw [hn])
    first | rfl | exact (Nat.zero_add _).symm

theorem piece1 (y : S512x512.Idx) (n : Fin 4096) (hn : n.val = 512 * (i 0).val + (y 0).val) (h3 : ∀ e d, x3 (ix3 0 e d) = M (ix3 1 e d))
    (h4 : ∀ d : Fin 512, x4 (ix2 0 d) = S (ix2 0 ⟨512 + d.val, by omega⟩)) (h2 : ∀ d : Fin 512, d = y 1 → x2 (ix2 (y 0) d) = a (ix2 n ⟨2048 + (512 + d.val), by omega⟩)) :
    k0_pay9 (BitVec.ofNat 32 (i 0).val) x0 (k0_pay3 i x0 x1) x3 x4 x2 y = mixed a M S 1 (y 1) n := by
  have hi : (i 0).val < 8 := (i 0).isLt
  have h2' := h2 _ rfl
  idx_vars y
  pointwise [k0_pay9]
  unfold mixed
  refine congrArg₂ (· * ·) (congrArg₂ (· * ·) (Finset.sum_congr rfl fun e _ => congrArg₂ (· * ·) ?_ (h3 _ _)) (h4 _)) (congrArg (fun z : EReal => z * FloatOps.logistic (F := Ideal) (φ := .f32) z) h2')
  refine mean_tile (w := 4) _ 4#32 rfl (by norm_num) (by norm_num) y0.val n.val _ _ _ n.isLt ((Sums.row_word _ _ _ (by omega) (by omega) (by omega)).trans (by rw [hn]; show _ = 512 * (i 0).val + y0.val + 1; omega)) ?_ ?_
  · rw [pay3_apply h0 h1 _ _ (by first | omega | (simp; omega))]
    refine Finset.sum_congr rfl fun k _ => ?_
    refine congrArg₂ (cell a) (Fin.ext ?_) ?_
    · first | rfl | exact (Nat.zero_add _).symm
    rw [hn]; show 512 * (i 0).val + (16 + y0.val) - k = 512 * (i 0).val + y0.val + 16 - k; omega
  · rw [h0]
    refine congrArg₂ (cell a) (Fin.ext ?_) (by rw [hn])
    first | rfl | exact (Nat.zero_add _).symm

theorem piece2 (y : S512x512.Idx) (n : Fin 4096) (hn : n.val = 512 * (i 0).val + (y 0).val) (h3 : ∀ e d, x3 (ix3 0 e d) = M (ix3 2 e d))
    (h4 : ∀ d : Fin 512, x4 (ix2 0 d) = S (ix2 0 ⟨1024 + d.val, by omega⟩)) (h2 : ∀ d : Fin 512, d = y 1 → x2 (ix2 (y 0) d) = a (ix2 n ⟨2048 + (1024 + d.val), by omega⟩)) :
    k0_pay12 x0 (k0_pay10 (k0_pay4 i x0 x1)) (k0_pay11 (F := Ideal) (BitVec.ofNat 32 (i 0).val)) x3 x4 x2 y = mixed a M S 2 (y 1) n := by
  have hi : (i 0).val < 8 := (i 0).isLt
  have h2' := h2 _ rfl
  idx_vars y
  pointwise [k0_pay12, k0_pay10, k0_pay11]
  unfold mixed
  refine congrArg₂ (· * ·) (congrArg₂ (· * ·) (Finset.sum_congr rfl fun e _ => congrArg₂ (· * ·) ?_ (h3 _ _)) (h4 _)) (congrArg (fun z : EReal => z * FloatOps.logistic (F := Ideal) (φ := .f32) z) h2')
  refine mean_tile (w := 8) _ 8#32 rfl (by norm_num) (by norm_num) y0.val n.val _ _ _ n.isLt ((Sums.row_word _ _ _ (by omega) (by omega) (by omega)).trans (by rw [hn]; show _ = 512 * (i 0).val + y0.val + 1; omega)) ?_ ?_
  · rw [pay4_apply h0 h1 _ _ (by first | omega | (simp; omega))]
    refine Finset.sum_congr rfl fun k _ => ?_
    refine congrArg₂ (cell a) (Fin.ext ?_) ?_
    · first | rfl | exact (Nat.zero_add _).symm
    rw [hn]; show 512 * (i 0).val + (16 + y0.val) - k = 512 * (i 0).val + y0.val + 16 - k; omega
  · rw [h0]
    refine congrArg₂ (cell a) (Fin.ext ?_) (by rw [hn])
    first | rfl | exact (Nat.zero_add _).symm

theorem piece3 (y : S512x512.Idx) (n : Fin 4096) (hn : n.val = 512 * (i 0).val + (y 0).val) (h3 : ∀ e d, x3 (ix3 0 e d) = M (ix3 3 e d))
    (h4 : ∀ d : Fin 512, x4 (ix2 0 d) = S (ix2 0 ⟨1536 + d.val, by omega⟩)) (h2 : ∀ d : Fin 512, d = y 1 → x2 (ix2 (y 0) d) = a (ix2 n ⟨2048 + (1536 + d.val), by omega⟩)) :
    k0_pay1 (k0_pay13 (BitVec.ofNat 32 (i 0).val) x0 (k0_pay5 i x0 x1) x3 x4) x2 y = mixed a M S 3 (y 1) n := by
  have hi : (i 0).val < 8 := (i 0).isLt
  have h2' := h2 _ rfl
  idx_vars y
  pointwise [k0_pay1, k0_pay13]
  unfold mixed
  refine congrArg₂ (· * ·) (congrArg₂ (· * ·) (Finset.sum_congr rfl fun e _ => congrArg₂ (· * ·) ?_ (h3 _ _)) (h4 _)) (congrArg (fun z : EReal => z * FloatOps.logistic (F := Ideal) (φ := .f32) z) h2')
  refine mean_tile (w := 16) _ 16#32 rfl (by norm_num) (by norm_num) y0.val n.val _ _ _ n.isLt ((Sums.row_word _ _ _ (by omega) (by omega) (by omega)).trans (by rw [hn]; show _ = 512 * (i 0).val + y0.val + 1; omega)) ?_ ?_
  · rw [pay5_apply h0 h1 _ _ (by first | omega | (simp; omega))]
    refine Finset.sum_congr rfl fun k _ => ?_
    refine congrArg₂ (cell a) (Fin.ext ?_) ?_
    · first | rfl | exact (Nat.zero_add _).symm
    rw [hn]; show 512 * (i 0).val + (16 + y0.val) - k = 512 * (i 0).val + y0.val + 16 - k; omega
  · rw [h0]
    refine congrArg₂ (cell a) (Fin.ext ?_) (by rw [hn])
    first | rfl | exact (Nat.zero_add _).symm

end Pieces

theorem stage0 (c : Dev nD) (t : Fin cfg0.N) (r : Fin 512) (q : Fin 2048) :
    X0_0 m c t (ix2 r q) = cell (m ((c : Thread nD τ).loc main_arg0)) q (512 * (grid0.coords t 0).val + r.val + 16) := by
  have hi : (grid0.coords t 0).val < 8 := (grid0.coords t 0).isLt
  have hy := idx0 t
  unfold cell
  rw [dif_pos (by omega)]
  unfold X0_0 Pipeline.Window.fill
  rw [dif_pos (moved0_0 t _)]
  blk_point [iblk, V_main_arg0, hy.1]

theorem stage1 (c : Dev nD) (t : Fin cfg0.N) (r : Fin 16) (q : Fin 2048) (h7 : 0 < (grid0.coords t 0).val) :
    X0_1 m c t (ix2 r q) = cell (m ((c : Thread nD τ).loc main_arg0)) q (512 * (grid0.coords t 0).val + r.val) := by
  have hi : (grid0.coords t 0).val < 8 := (grid0.coords t 0).isLt
  have hy := idx0 t
  unfold cell
  rw [dif_pos (by omega)]
  unfold X0_1 Pipeline.Window.fill
  rw [dif_pos (moved0_1 t _)]
  blk_point [iblk, V_main_arg0, hy.2.1]

theorem stage2 (c : Dev nD) (t : Fin cfg0.N) (p : S512x2048.Idx) (r : Fin 512) (q : Fin 2048) (hr : r.val < 512) (hp : (p 0).val = r.val) (hq : (p 1).val = q.val) :
    X0_2 m c t p = (m ((c : Thread nD τ).loc main_arg0)) (ix2 ⟨512 * (grid0.coords t 0).val + r.val, by have : (grid0.coords t 0).val < 8 := (grid0.coords t 0).isLt; omega⟩ ⟨2048 + q.val, by omega⟩) := by
  have hy := idx0 t
  unfold X0_2 Pipeline.Window.fill
  rw [dif_pos (moved0_2 t _)]
  blk_point [iblk, V_main_arg0, hy.2.2.1, hp, hq]

theorem stage3 (c : Dev nD) (t : Fin cfg0.N) (p : S4x512x512.Idx) (g : Fin 4) (e d : Fin 512) (hg : (p 0).val = g.val) (he : (p 1).val = e.val) (hd : (p 2).val = d.val) :
    iblk m c 3 t p = m ((c : Thread nD τ).loc main_arg1) (ix3 g e d) := by
  have hy := idx0 t
  blk_point [iblk, V_main_arg1, hy.2.2.2.1, hg, he, hd]

theorem stage4 (c : Dev nD) (t : Fin cfg0.N) (p : S1x2048.Idx) (q : Fin 2048) (hq : (p 1).val = q.val) :
    iblk m c 4 t p = m ((c : Thread nD τ).loc main_arg2) (ix2 0 q) := by
  have hy := idx0 t
  blk_point [iblk, V_main_arg2, hy.2.2.2.2.1, hq]

/-- The written half of the result, the other half left out. -/
def out (a : S4096x9216.Idx → EReal) (M : S4x512x512.Idx → EReal) (S : S1x2048.Idx → EReal) (i : S4096x4096.Idx) : EReal :=
  if h : (i 1).val < 2048 then mixed a M S ⟨(i 1).val / 512, by omega⟩ ⟨(i 1).val % 512, by omega⟩ ⟨(i 0).val, (i 0).isLt⟩ else 0

theorem out_at (a : S4096x9216.Idx → EReal) (M : S4x512x512.Idx → EReal) (S : S1x2048.Idx → EReal) (j : S4096x4096.Idx) (g : Fin 4) (d : Fin 512) (n : Fin 4096)
    (h0 : (j 0).val = n.val) (h1 : (j 1).val = 512 * g.val + d.val) : out a M S j = mixed a M S g d n := by
  unfold out
  rw [dif_pos (by omega)]
  congr 1 <;> apply Fin.ext <;> simp only [] <;> omega

set_option maxHeartbeats 1600000 in
theorem value (c : Dev nD) (j : S4096x4096.Idx) (hj : (j 1).val < 2048) : (dats m 0 c).arrAt 5 cfg0.N j = out (m ((c : Thread nD τ).loc main_arg0)) (m ((c : Thread nD τ).loc main_arg1)) (m ((c : Thread nD τ).loc main_arg2)) j := by
  refine (congrFun ((dats m 0 c).arrAt_eq_of_coversWhere (P := fun i => (i 1).val < 2048) 5 (out (m ((c : Thread nD τ).loc main_arg0)) (m ((c : Thread nD τ).loc main_arg1)) (m ((c : Thread nD τ).loc main_arg2))) (fun β => β 1 < 1) (by decide +kernel) (fun t hf y => ?_) (fun j => ?_)) j).trans (if_pos hj)
  · have hy := idx0 t
    have hi : (grid0.coords t 0).val < 8 := (grid0.coords t 0).isLt
    blk_simp
    rw [after0_5]
    unfold outsAt0
    frame_out
    have hj0 : ((((View.whole main_v0).slice (win0_5.rect t)).emb y) 0).val = 512 * (grid0.coords t 0).val + ((win0 5).xinj (grid0.coords t) y 0).val := by
      show _ = 512 * (grid0.coords t 0).val + (y 0).val
      blk_simp [hy.2.2.2.2.2]; omega
    have hj1 : ((((View.whole main_v0).slice (win0_5.rect t)).emb y) 1).val = ((win0 5).xinj (grid0.coords t) y 1).val := by
      show _ = (y 1).val
      blk_simp [hy.2.2.2.2.2]
    generalize ((View.whole main_v0).slice (win0_5.rect t)).emb y = j at hj0 hj1 ⊢
    canon_tiles y
    · refine (piece3 (stage0 m c t) (stage1 m c t) (M := m ((c : Thread nD τ).loc main_arg1)) (S := m ((c : Thread nD τ).loc main_arg2)) y ⟨512 * (grid0.coords t 0).val + (y 0).val, by omega⟩ rfl (fun e d => ?_) (fun d => ?_) (fun d _ => ?_)).trans (out_at _ _ _ j 3 (y 1) ⟨512 * (grid0.coords t 0).val + (y 0).val, by omega⟩ (hj0.trans (congrArg (512 * (grid0.coords t 0).val + ·) h0)) (hj1.trans (h1.trans ?_))).symm
      · exact stage3 m c t _ _ _ _ rfl (by show 0 + 1 * e.val = _; omega) (by show 0 + 1 * d.val = _; omega)
      · exact stage4 m c t _ _ (by show 1536 + 1 * d.val = 1536 + d.val; omega)
      · exact stage2 m c t _ (y 0) ⟨1536 + d.val, by omega⟩ (by omega) (by show 0 + 1 * (y 0).val = _; omega) (by show 1536 + 1 * d.val = 1536 + d.val; omega)
      · rfl
    · refine (piece2 (stage0 m c t) (stage1 m c t) (M := m ((c : Thread nD τ).loc main_arg1)) (S := m ((c : Thread nD τ).loc main_arg2)) y ⟨512 * (grid0.coords t 0).val + (y 0).val, by omega⟩ rfl (fun e d => ?_) (fun d => ?_) (fun d _ => ?_)).trans (out_at _ _ _ j 2 (y 1) ⟨512 * (grid0.coords t 0).val + (y 0).val, by omega⟩ (hj0.trans (congrArg (512 * (grid0.coords t 0).val + ·) h0)) (hj1.trans (h1.trans ?_))).symm
      · exact stage3 m c t _ _ _ _ rfl (by show 0 + 1 * e.val = _; omega) (by show 0 + 1 * d.val = _; omega)
      · exact stage4 m c t _ _ (by show 1024 + 1 * d.val = 1024 + d.val; omega)
      · exact stage2 m c t _ (y 0) ⟨1024 + d.val, by omega⟩ (by omega) (by show 0 + 1 * (y 0).val = _; omega) (by show 1024 + 1 * d.val = 1024 + d.val; omega)
      · rfl
    · refine (piece1 (stage0 m c t) (stage1 m c t) (M := m ((c : Thread nD τ).loc main_arg1)) (S := m ((c : Thread nD τ).loc main_arg2)) y ⟨512 * (grid0.coords t 0).val + (y 0).val, by omega⟩ rfl (fun e d => ?_) (fun d => ?_) (fun d _ => ?_)).trans (out_at _ _ _ j 1 (y 1) ⟨512 * (grid0.coords t 0).val + (y 0).val, by omega⟩ (hj0.trans (congrArg (512 * (grid0.coords t 0).val + ·) h0)) (hj1.trans (h1.trans ?_))).symm
      · exact stage3 m c t _ _ _ _ rfl (by show 0 + 1 * e.val = _; omega) (by show 0 + 1 * d.val = _; omega)
      · exact stage4 m c t _ _ (by show 512 + 1 * d.val = 512 + d.val; omega)
      · exact stage2 m c t _ (y 0) ⟨512 + d.val, by omega⟩ (by omega) (by show 0 + 1 * (y 0).val = _; omega) (by show 512 + 1 * d.val = 512 + d.val; omega)
      · rfl
    · refine (piece0 (stage0 m c t) (stage1 m c t) (M := m ((c : Thread nD τ).loc main_arg1)) (S := m ((c : Thread nD τ).loc main_arg2)) y ⟨512 * (grid0.coords t 0).val + (y 0).val, by omega⟩ rfl (fun e d => ?_) (fun d => ?_) (fun d _ => ?_)).trans (out_at _ _ _ j 0 (y 1) ⟨512 * (grid0.coords t 0).val + (y 0).val, by omega⟩ (hj0.trans (congrArg (512 * (grid0.coords t 0).val + ·) h0)) (hj1.trans (h1.trans ?_))).symm
      · exact stage3 m c t _ _ _ _ rfl (by show 0 + 1 * e.val = _; omega) (by show 0 + 1 * d.val = _; omega)
      · exact stage4 m c t _ _ (by show 0 + 1 * d.val = 0 + d.val; omega)
      · exact stage2 m c t _ (y 0) ⟨0 + d.val, by omega⟩ (by omega) (by show 0 + 1 * (y 0).val = _; omega) (by show 0 + 1 * d.val = 0 + d.val; omega)
      · exact (Nat.zero_add _).symm
  · show (j 1).val < 2048 ↔ (j 1).val / 2048 < 1; omega

end Cert.PoolIdeal.Value
end
-- ==== Proof.PoolARows.lean ====
module

public import proofs.«01_k».proof.Proof.Gen.PoolAIdeal.Value
public import proofs.«01_k».proof.Proof.PoolValue
public import Idealize.ShloMosaic.Lib.Pipeline.ValueKit
public import Idealize.ShloMosaic.Lib.Pipeline.ReadBack
public import Idealize.ShloMosaic.Lib.Pointwise
public import proofs.«01_k».proof.Proof.Sums

@[expose] public section

set_option maxRecDepth 16384

noncomputable section

namespace Cert.PoolAIdeal.Value

open Cert.PoolAIdeal Cert.PoolAIdeal.Gen Idealize.ShloMosaic Idealize.ShloMosaic.TcCoe Idealize.SL.Sem
open Idealize.ShloMosaic.Pipeline (Dat)
open Cert.PoolIdeal.Value (cell mean width)

variable (m : (ℓ : Loc nD τ sig) → Buf (Elt Ideal) ℓ)

theorem idx0 : ∀ t, win0_0.index t = ![(grid0.coords t 0).val, 0] ∧ win0_1.index t = ![(grid0.coords t 0).val, 0] ∧ win0_2.index t = ![(grid0.coords t 0).val * 16 - 1, 0] ∧ win0_3.index t = ![(grid0.coords t 0).val, 1] ∧ win0_4.index t = ![0, 0, 0] ∧ win0_5.index t = ![0, 0] ∧ win0_6.index t = ![(grid0.coords t 0).val, 1] ∧ win0_7.index t = ![(grid0.coords t 0).val, 0] ∧ (grid0.coords t 0).val = t.val := by
  decide +kernel

theorem coord (t : Fin cfg0.N) : (grid0.coords t 0).val = t.val := (idx0 t).2.2.2.2.2.2.2.2

/-- The arguments of one device. -/
structure Args where
  d : S4096x4096.Idx → EReal
  a : S4096x9216.Idx → EReal
  w : S4x512x512.Idx → EReal
  s : S1x2048.Idx → EReal

/-- The arguments as the memory holds them. -/
def args (c : Dev nD) : Args :=
  ⟨m ((c : Thread nD τ).loc main_arg0), m ((c : Thread nD τ).loc main_arg1), m ((c : Thread nD τ).loc main_arg2), m ((c : Thread nD τ).loc main_arg3)⟩

/-- Column `d` of the group `g`. -/
def col (g : Fin 4) (d : Fin 512) : Fin 2048 := ⟨512 * g.val + d.val, by omega⟩

/-- The cotangent's entry. -/
def dy (A : Args) (n : Fin 4096) (q : Fin 2048) : EReal := A.d (ix2 n ⟨q.val, by omega⟩)

/-- The gate's entry. -/
def gate (A : Args) (n : Fin 4096) (q : Fin 2048) : EReal := A.a (ix2 n ⟨2048 + q.val, by omega⟩)

/-- The pooled entry. -/
def pool (A : Args) (n : Fin 4096) (g : Fin 4) (e : Fin 512) : EReal := mean A.a (width g.val) (col g e) n.val

/-- The pooled row through the group's mixing matrix. -/
def mix (A : Args) (n : Fin 4096) (g : Fin 4) (d : Fin 512) : EReal := ∑ e : Fin 512, pool A n g e * A.w (ix3 g e d)

/-- The cotangent through the gate. -/
def gated (A : Args) (n : Fin 4096) (q : Fin 2048) : EReal := dy A n q * (gate A n q * FloatOps.logistic (F := Ideal) (φ := .f32) (gate A n q))

/-- The cotangent of the mixed columns. -/
def dmix (A : Args) (n : Fin 4096) (g : Fin 4) (d : Fin 512) : EReal := gated A n (col g d) * A.s (ix2 0 (col g d))

/-- The cotangent `g` through the gate at `p`. -/
def through (p g : EReal) : EReal := g * (FloatOps.logistic (F := Ideal) (φ := .f32) p * (1 + p * (1 - FloatOps.logistic (F := Ideal) (φ := .f32) p)))

/-- The gate's gradient. -/
def dgate (A : Args) (n : Fin 4096) (g : Fin 4) (d : Fin 512) : EReal := through (gate A n (col g d)) (dy A n (col g d) * mix A n g d * A.s (ix2 0 (col g d)))

/-- The number of rows in the window of the group `g` that ends at row `n`. -/
def count (g : Fin 4) (n : Fin 4096) : EReal := (((min (n.val + 1) (width g.val) : ℕ) : ℝ) : EReal)

/-- The pooled columns' gradient over its window's length. -/
def dq (A : Args) (n : Fin 4096) (g : Fin 4) (e : Fin 512) : EReal := Ideal.div (∑ d : Fin 512, dmix A n g d * A.w (ix3 g e d)) (count g n)

/-- A row's term of the scale's gradient. -/
def scaleTerm (A : Args) (g : Fin 4) (d : Fin 512) (n : Fin 4096) : EReal := gated A n (col g d) * mix A n g d

/-- A row's term of the mixing matrices' gradient. -/
def mixTerm (A : Args) (g : Fin 4) (e d : Fin 512) (n : Fin 4096) : EReal := pool A n g e * dmix A n g d

/-- The group of a column. -/
def grp (q : Nat) (h : q < 2048) : Fin 4 := ⟨q / 512, by omega⟩

/-- The place of a column in its group. -/
def pos (q : Nat) : Fin 512 := ⟨q % 512, by omega⟩

/-- The written columns of the first result, the others left out. -/
def out0 (A : Args) (i : S4096x9216.Idx) : EReal := if h : 2048 ≤ (i 1).val ∧ (i 1).val < 4096 then dgate A ⟨(i 0).val, (i 0).isLt⟩ (grp ((i 1).val - 2048) (by omega)) (pos ((i 1).val - 2048)) else 0

/-- The second result. -/
def out1 (A : Args) (i : S4096x2048.Idx) : EReal := dq A ⟨(i 0).val, (i 0).isLt⟩ (grp (i 1).val (i 1).isLt) (pos (i 1).val)

/-- The scale's gradient. -/
def scale (A : Args) (i : S1x2048.Idx) : EReal := ∑ n : Fin 4096, scaleTerm A (grp (i 1).val (i 1).isLt) (pos (i 1).val) n

/-- The mixing matrices' gradient. -/
def weight (A : Args) (i : S4x512x512.Idx) : EReal := ∑ n : Fin 4096, mixTerm A ⟨(i 0).val, (i 0).isLt⟩ ⟨(i 1).val, (i 1).isLt⟩ ⟨(i 2).val, (i 2).isLt⟩ n

/-- Row `r` of tile `t`. -/
def row (t : Fin cfg0.N) (r : Fin 256) : Fin 4096 := ⟨t.val * 256 + r.val, by have := lt_of_lt_of_eq t.isLt (show cfg0.N = 16 from N_0); omega⟩

/-- One tile's part of the scale's gradient. -/
def scalePart (A : Args) (t : Fin cfg0.N) (i : S1x2048.Idx) : EReal := ∑ r : Fin 256, scaleTerm A (grp (i 1).val (i 1).isLt) (pos (i 1).val) (row t r)

/-- One tile's part of the mixing matrices' gradient. -/
def weightPart (A : Args) (t : Fin cfg0.N) (i : S4x512x512.Idx) : EReal := ∑ r : Fin 256, mixTerm A ⟨(i 0).val, (i 0).isLt⟩ ⟨(i 1).val, (i 1).isLt⟩ ⟨(i 2).val, (i 2).isLt⟩ (row t r)

section
variable {A : Args} {t : Fin cfg0.N} {x : Vec Ideal S256x2048 .f32} {p : Vec Ideal S16x2048 .f32}

/-- The last rows of the block before, zero above the first block, with the staged rows below them. -/
theorem ext_apply (h0 : ∀ r c, x (ix2 r c) = cell A.a c (256 * t.val + r.val + 16))
    (h1 : ∀ r c, 0 < t.val → p (ix2 r c) = cell A.a c (256 * t.val + r.val)) (r : Nat) (c : Fin 2048) (hr : r < 272) :
    (if h : r < 16 then Scalar.select (Scalar.cmpi .sgt (BitVec.ofNat 32 (grid0.coords t 0).val) 0#32) (p (ix2 ⟨r, h⟩ c)) (0 : EReal) else x (ix2 ⟨r - 16, by omega⟩ c)) =
      cell A.a c (256 * t.val + r) := by
  have hN := lt_of_lt_of_eq t.isLt (show cfg0.N = 16 from N_0)
  split
  · rw [coord]
    by_cases h7 : 0 < t.val
    · have e : Scalar.cmpi .sgt (BitVec.ofNat 32 t.val) 0#32 = 1#1 := (by decide : ∀ k : Fin 16, 0 < k.val → Scalar.cmpi .sgt (BitVec.ofNat 32 k.val) 0#32 = 1#1) ⟨_, hN⟩ h7
      rw [e, h1 _ _ h7]
      rfl
    · have e : t.val = 0 := by omega
      rw [e]
      show (0 : EReal) = _
      unfold cell; rw [dif_neg (by omega)]
  · rw [h0]
    congr 1; show _ + (r - 16) + 16 = _; omega

variable (h0 : ∀ r c, x (ix2 r c) = cell A.a c (256 * t.val + r.val + 16))
    (h1 : ∀ r c, 0 < t.val → p (ix2 r c) = cell A.a c (256 * t.val + r.val))
include h0 h1

theorem sum2 (r : Fin 272) (c : Fin 2048) (hr : 1 ≤ r.val) :
    k0_pay4 (grid0.coords t) x p (ix2 r c) = ∑ k ∈ Finset.range 2, cell A.a c (256 * t.val + r.val - k) := by
  pointwise [k0_pay4]
  rw [ext_apply h0 h1 _ _ r.isLt, ext_apply h0 h1 _ _ (Nat.mod_lt _ (by norm_num)), Finset.sum_range_succ, Finset.sum_range_one]
  congr 2; omega

theorem sum4 (r : Fin 272) (c : Fin 2048) (hr : 3 ≤ r.val) :
    k0_pay5 (grid0.coords t) x p (ix2 r c) = ∑ k ∈ Finset.range 4, cell A.a c (256 * t.val + r.val - k) := by
  pointwise [k0_pay5]
  rw [sum2 h0 h1 _ _ (by omega), sum2 h0 h1 _ _ (by show 1 ≤ (r.val + 272 - 2) % 272; omega), Finset.sum_range_add _ 2 2]
  congr 1
  refine Finset.sum_congr rfl fun k _ => congrArg _ ?_
  show _ + (r.val + 272 - 2) % 272 - k = _; omega

theorem sum8 (r : Fin 272) (c : Fin 2048) (hr : 7 ≤ r.val) :
    k0_pay6 (grid0.coords t) x p (ix2 r c) = ∑ k ∈ Finset.range 8, cell A.a c (256 * t.val + r.val - k) := by
  pointwise [k0_pay6]
  rw [sum4 h0 h1 _ _ (by omega), sum4 h0 h1 _ _ (by show 3 ≤ (r.val + 272 - 4) % 272; omega), Finset.sum_range_add _ 4 4]
  congr 1
  refine Finset.sum_congr rfl fun k _ => congrArg _ ?_
  show _ + (r.val + 272 - 4) % 272 - k = _; omega

theorem sum16 (r : Fin 272) (c : Fin 2048) (hr : 15 ≤ r.val) :
    k0_pay7 (grid0.coords t) x p (ix2 r c) = ∑ k ∈ Finset.range 16, cell A.a c (256 * t.val + r.val - k) := by
  pointwise [k0_pay7]
  rw [sum8 h0 h1 _ _ (by omega), sum8 h0 h1 _ _ (by show 7 ≤ (r.val + 272 - 8) % 272; omega), Finset.sum_range_add _ 8 8]
  congr 1
  refine Finset.sum_congr rfl fun k _ => congrArg _ ?_
  show _ + (r.val + 272 - 8) % 272 - k = _; omega

theorem pooled0 (r : Fin 256) (e : Fin 512) : ((k0_pay9 (grid0.coords t) x p) (ix2 r e) : EReal) = pool A (row t r) 0 e := by
  have hN := lt_of_lt_of_eq t.isLt (show cfg0.N = 16 from N_0)
  have hc := coord t
  pointwise [k0_pay9, k0_pay8]
  unfold pool row
  refine Cert.PoolIdeal.Value.mean_tile (w := 2) _ 2#32 rfl (by norm_num) (by norm_num) r.val _ _ _ _ (by show t.val * 256 + r.val < 4096; omega) ((Sums.row_word _ _ _ (by omega) (by omega) (by omega)).trans (by rw [hc])) ?_ ?_
  · rw [sum2 h0 h1 _ _ (by first | omega | (simp; omega))]
    refine Finset.sum_congr rfl fun k _ => ?_
    refine congrArg₂ (cell A.a) (Fin.ext ?_) ?_
    · first | rfl | exact (Nat.zero_add _).symm
    show 256 * t.val + (16 + r.val) - k = t.val * 256 + r.val + 16 - k; omega
  · rw [h0]
    refine congrArg₂ (cell A.a) (Fin.ext ?_) ?_
    · first | rfl | exact (Nat.zero_add _).symm
    show 256 * t.val + r.val + 16 = t.val * 256 + r.val + 16; omega

omit h0 h1 in
theorem count0 (r : Fin 256) : ((k0_pay8 (F := Ideal) (grid0.coords t)) (ix2 r 0) : EReal) = count 0 (row t r) := by
  have hN := lt_of_lt_of_eq t.isLt (show cfg0.N = 16 from N_0)
  have hc := coord t
  pointwise [k0_pay8]
  unfold count row
  exact Sums.count_value _ 2#32 _ 2 ((Sums.row_word _ _ _ (by omega) (by omega) (by omega)).trans (by rw [hc])) rfl (by show t.val * 256 + r.val + 1 < _; omega) (by norm_num)

theorem mixed0 (w : Vec Ideal S1x512x512 .bf16) (hw : ∀ e d, (w (ix3 0 e d) : EReal) = A.w (ix3 0 e d)) (r : Fin 256) (d : Fin 512) : ((k0_pay10 (grid0.coords t) x p w) (ix2 r d) : EReal) = mix A (row t r) 0 d := by
  pointwise [k0_pay10]
  exact Finset.sum_congr (M := EReal) rfl fun e _ => congrArg₂ (fun x y : EReal => x * y) (pooled0 h0 h1 r e) (hw e d)

theorem pooled1 (r : Fin 256) (e : Fin 512) : ((k0_pay18 (BitVec.ofNat 32 (grid0.coords t 0).val) x (k0_pay5 (grid0.coords t) x p)) (ix2 r e) : EReal) = pool A (row t r) 1 e := by
  have hN := lt_of_lt_of_eq t.isLt (show cfg0.N = 16 from N_0)
  have hc := coord t
  pointwise [k0_pay18, k0_pay17]
  unfold pool row
  refine Cert.PoolIdeal.Value.mean_tile (w := 4) _ 4#32 rfl (by norm_num) (by norm_num) r.val _ _ _ _ (by show t.val * 256 + r.val < 4096; omega) ((Sums.row_word _ _ _ (by omega) (by omega) (by omega)).trans (by rw [hc])) ?_ ?_
  · rw [sum4 h0 h1 _ _ (by first | omega | (simp; omega))]
    refine Finset.sum_congr rfl fun k _ => ?_
    refine congrArg₂ (cell A.a) (Fin.ext ?_) ?_
    · first | rfl | exact (Nat.zero_add _).symm
    show 256 * t.val + (16 + r.val) - k = t.val * 256 + r.val + 16 - k; omega
  · rw [h0]
    refine congrArg₂ (cell A.a) (Fin.ext ?_) ?_
    · first | rfl | exact (Nat.zero_add _).symm
    show 256 * t.val + r.val + 16 = t.val * 256 + r.val + 16; omega

omit h0 h1 in
theorem count1 (r : Fin 256) : ((k0_pay17 (F := Ideal) (BitVec.ofNat 32 (grid0.coords t 0).val)) (ix2 r 0) : EReal) = count 1 (row t r) := by
  have hN := lt_of_lt_of_eq t.isLt (show cfg0.N = 16 from N_0)
  have hc := coord t
  pointwise [k0_pay17]
  unfold count row
  exact Sums.count_value _ 4#32 _ 4 ((Sums.row_word _ _ _ (by omega) (by omega) (by omega)).trans (by rw [hc])) rfl (by show t.val * 256 + r.val + 1 < _; omega) (by norm_num)

theorem mixed1 (w : Vec Ideal S1x512x512 .bf16) (hw : ∀ e d, (w (ix3 0 e d) : EReal) = A.w (ix3 1 e d)) (r : Fin 256) (d : Fin 512) : ((k0_pay19 (BitVec.ofNat 32 (grid0.coords t 0).val) x (k0_pay5 (grid0.coords t) x p) w) (ix2 r d) : EReal) = mix A (row t r) 1 d := by
  pointwise [k0_pay19]
  exact Finset.sum_congr (M := EReal) rfl fun e _ => congrArg₂ (fun x y : EReal => x * y) (pooled1 h0 h1 r e) (hw e d)

theorem pooled2 (r : Fin 256) (e : Fin 512) : ((k0_pay28 x (k0_pay6 (grid0.coords t) x p) (k0_pay26 (BitVec.ofNat 32 (grid0.coords t 0).val))) (ix2 r e) : EReal) = pool A (row t r) 2 e := by
  have hN := lt_of_lt_of_eq t.isLt (show cfg0.N = 16 from N_0)
  have hc := coord t
  pointwise [k0_pay28, k0_pay27, k0_pay26]
  unfold pool row
  refine Cert.PoolIdeal.Value.mean_tile (w := 8) _ 8#32 rfl (by norm_num) (by norm_num) r.val _ _ _ _ (by show t.val * 256 + r.val < 4096; omega) ((Sums.row_word _ _ _ (by omega) (by omega) (by omega)).trans (by rw [hc])) ?_ ?_
  · rw [sum8 h0 h1 _ _ (by first | omega | (simp; omega))]
    refine Finset.sum_congr rfl fun k _ => ?_
    refine congrArg₂ (cell A.a) (Fin.ext ?_) ?_
    · first | rfl | exact (Nat.zero_add _).symm
    show 256 * t.val + (16 + r.val) - k = t.val * 256 + r.val + 16 - k; omega
  · rw [h0]
    refine congrArg₂ (cell A.a) (Fin.ext ?_) ?_
    · first | rfl | exact (Nat.zero_add _).symm
    show 256 * t.val + r.val + 16 = t.val * 256 + r.val + 16; omega

omit h0 h1 in
theorem count2 (r : Fin 256) : ((k0_pay27 (F := Ideal) (k0_pay26 (BitVec.ofNat 32 (grid0.coords t 0).val))) (ix2 r 0) : EReal) = count 2 (row t r) := by
  have hN := lt_of_lt_of_eq t.isLt (show cfg0.N = 16 from N_0)
  have hc := coord t
  pointwise [k0_pay27, k0_pay26]
  unfold count row
  exact Sums.count_value _ 8#32 _ 8 ((Sums.row_word _ _ _ (by omega) (by omega) (by omega)).trans (by rw [hc])) rfl (by show t.val * 256 + r.val + 1 < _; omega) (by norm_num)

theorem mixed2 (w : Vec Ideal S1x512x512 .bf16) (hw : ∀ e d, (w (ix3 0 e d) : EReal) = A.w (ix3 2 e d)) (r : Fin 256) (d : Fin 512) : ((k0_pay29 x (k0_pay6 (grid0.coords t) x p) (k0_pay26 (BitVec.ofNat 32 (grid0.coords t 0).val)) w) (ix2 r d) : EReal) = mix A (row t r) 2 d := by
  pointwise [k0_pay29]
  exact Finset.sum_congr (M := EReal) rfl fun e _ => congrArg₂ (fun x y : EReal => x * y) (pooled2 h0 h1 r e) (hw e d)

theorem pooled3 (r : Fin 256) (e : Fin 512) : ((k0_pay37 (BitVec.ofNat 32 (grid0.coords t 0).val) x (k0_pay7 (grid0.coords t) x p)) (ix2 r e) : EReal) = pool A (row t r) 3 e := by
  have hN := lt_of_lt_of_eq t.isLt (show cfg0.N = 16 from N_0)
  have hc := coord t
  pointwise [k0_pay37, k0_pay36]
  unfold pool row
  refine Cert.PoolIdeal.Value.mean_tile (w := 16) _ 16#32 rfl (by norm_num) (by norm_num) r.val _ _ _ _ (by show t.val * 256 + r.val < 4096; omega) ((Sums.row_word _ _ _ (by omega) (by omega) (by omega)).trans (by rw [hc])) ?_ ?_
  · rw [sum16 h0 h1 _ _ (by first | omega | (simp; omega))]
    refine Finset.sum_congr rfl fun k _ => ?_
    refine congrArg₂ (cell A.a) (Fin.ext ?_) ?_
    · first | rfl | exact (Nat.zero_add _).symm
    show 256 * t.val + (16 + r.val) - k = t.val * 256 + r.val + 16 - k; omega
  · rw [h0]
    refine congrArg₂ (cell A.a) (Fin.ext ?_) ?_
    · first | rfl | exact (Nat.zero_add _).symm
    show 256 * t.val + r.val + 16 = t.val * 256 + r.val + 16; omega

omit h0 h1 in
theorem count3 (r : Fin 256) : ((k0_pay36 (F := Ideal) (BitVec.ofNat 32 (grid0.coords t 0).val)) (ix2 r 0) : EReal) = count 3 (row t r) := by
  have hN := lt_of_lt_of_eq t.isLt (show cfg0.N = 16 from N_0)
  have hc := coord t
  pointwise [k0_pay36]
  unfold count row
  exact Sums.count_value _ 16#32 _ 16 ((Sums.row_word _ _ _ (by omega) (by omega) (by omega)).trans (by rw [hc])) rfl (by show t.val * 256 + r.val + 1 < _; omega) (by norm_num)

theorem mixed3 (w : Vec Ideal S1x512x512 .bf16) (hw : ∀ e d, (w (ix3 0 e d) : EReal) = A.w (ix3 3 e d)) (r : Fin 256) (d : Fin 512) : ((k0_pay38 (BitVec.ofNat 32 (grid0.coords t 0).val) x (k0_pay7 (grid0.coords t) x p) w) (ix2 r d) : EReal) = mix A (row t r) 3 d := by
  pointwise [k0_pay38]
  exact Finset.sum_congr (M := EReal) rfl fun e _ => congrArg₂ (fun x y : EReal => x * y) (pooled3 h0 h1 r e) (hw e d)

end

/-- What one column group of a tile is given. -/
structure Piece (A : Args) (t : Fin cfg0.N) (g : Fin 4) (u : Vec Ideal S256x512 .bf16) (x : Vec Ideal S256x512 .f32) (n : Vec Ideal S256x1 .f32) (v d : Vec Ideal S256x512 .f32) (s : Vec Ideal S1x512 .f32) (w : Vec Ideal S1x512x512 .bf16) : Prop where
  u : ∀ (r : Fin 256) (e : Fin 512), (u (ix2 r e) : EReal) = pool A (row t r) g e
  x : ∀ (r : Fin 256) (e : Fin 512), (x (ix2 r e) : EReal) = mix A (row t r) g e
  n : ∀ (r : Fin 256), (n (ix2 r 0) : EReal) = count g (row t r)
  v : ∀ (r : Fin 256) (e : Fin 512), (v (ix2 r e) : EReal) = gate A (row t r) (col g e)
  d : ∀ (r : Fin 256) (e : Fin 512), (d (ix2 r e) : EReal) = dy A (row t r) (col g e)
  s : ∀ (e : Fin 512), (s (ix2 0 e) : EReal) = A.s (ix2 0 (col g e))
  w : ∀ (e d : Fin 512), (w (ix3 0 e d) : EReal) = A.w (ix3 g e d)

section
variable {A : Args} {t : Fin cfg0.N} {g : Fin 4} {u : Vec Ideal S256x512 .bf16} {x : Vec Ideal S256x512 .f32} {n : Vec Ideal S256x1 .f32} {v d : Vec Ideal S256x512 .f32} {s : Vec Ideal S1x512 .f32} {w : Vec Ideal S1x512x512 .bf16}

theorem dgate_apply (P : Piece A t g u x n v d s w) (r : Fin 256) (q : Fin 512) : (k0_pay11 x v d s (ix2 r q) : EReal) = dgate A (row t r) g q := by
  pointwise [k0_pay11, dgate, through]
  rw [P.x, P.v, P.d, P.s]

theorem gated_apply (P : Piece A t g u x n v d s w) (r : Fin 256) (q : Fin 512) : (k0_pay12 v d (ix2 r q) : EReal) = gated A (row t r) (col g q) := by
  pointwise [k0_pay12, gated]
  rw [P.v, P.d]

theorem dmix_apply (P : Piece A t g u x n v d s w) (r : Fin 256) (q : Fin 512) : (k0_pay14 v d s (ix2 r q) : EReal) = dmix A (row t r) g q := by
  pointwise [k0_pay14, dmix]
  rw [gated_apply P, P.s]

theorem scale_apply (P : Piece A t g u x n v d s w) (z : Vec Ideal S1x512 .f32) (q : Fin 512) : (k0_pay13 x v d z (ix2 0 q) : EReal) = z (ix2 0 q) + ∑ r : Fin 256, scaleTerm A g q (row t r) := by
  pointwise [k0_pay13]
  exact congrArg (fun y : EReal => z (ix2 0 q) + y) (Finset.sum_congr (M := EReal) rfl fun r _ => congrArg₂ (fun x y : EReal => x * y) (gated_apply P r q) (P.x r q))

theorem weight_apply (P : Piece A t g u x n v d s w) (z : Vec Ideal S1x512x512 .f32) (e q : Fin 512) : (k0_pay15 u v d s z (ix3 0 e q) : EReal) = z (ix3 0 e q) + ∑ r : Fin 256, mixTerm A g e q (row t r) := by
  pointwise [k0_pay15]
  exact congrArg (fun y : EReal => z (ix3 0 e q) + y) (Finset.sum_congr (M := EReal) rfl fun r _ => congrArg₂ (fun x y : EReal => x * y) (P.u r e) (dmix_apply P r q))

theorem dq_apply (P : Piece A t g u x n v d s w) (r : Fin 256) (e : Fin 512) : (k0_pay16 n (k0_pay14 v d s) w (ix2 r e) : EReal) = dq A (row t r) g e := by
  pointwise [k0_pay16, dq]
  rw [P.n]
  exact congrArg (fun y : EReal => Ideal.div y (count g (row t r))) (Finset.sum_congr (M := EReal) rfl fun q _ => congrArg₂ (fun x y : EReal => x * y) (dmix_apply P r q) (P.w e q))

end

theorem stage_d (c : Dev nD) (t : Fin cfg0.N) (r : Fin 256) (q : Fin 2048) : iblk m c 0 t (ix2 r q) = dy (args m c) (row t r) q := by
  have hy := idx0 t
  have hc := coord t
  unfold dy args row
  blk_point [iblk, V_main_arg0, hy.1]

theorem stage_x (c : Dev nD) (t : Fin cfg0.N) (r : Fin 256) (q : Fin 2048) : X0_1 m c t (ix2 r q) = cell (args m c).a q (256 * t.val + r.val + 16) := by
  have hN := lt_of_lt_of_eq t.isLt (show cfg0.N = 16 from N_0)
  have hy := idx0 t
  have hc := coord t
  unfold cell args
  rw [dif_pos (by omega)]
  unfold X0_1 Pipeline.Window.fill
  rw [dif_pos (moved0_1 t _)]
  blk_point [iblk, V_main_arg1, hy.2.1]

theorem stage_p (c : Dev nD) (t : Fin cfg0.N) (r : Fin 16) (q : Fin 2048) (h7 : 0 < t.val) : X0_2 m c t (ix2 r q) = cell (args m c).a q (256 * t.val + r.val) := by
  have hN := lt_of_lt_of_eq t.isLt (show cfg0.N = 16 from N_0)
  have hy := idx0 t
  have hc := coord t
  unfold cell args
  rw [dif_pos (by omega)]
  unfold X0_2 Pipeline.Window.fill
  rw [dif_pos (moved0_2 t _)]
  blk_point [iblk, V_main_arg1, hy.2.2.1]

theorem stage_v (c : Dev nD) (t : Fin cfg0.N) (r : Fin 256) (q : Fin 2048) : X0_3 m c t (ix2 r q) = gate (args m c) (row t r) q := by
  have hy := idx0 t
  have hc := coord t
  unfold gate args row X0_3 Pipeline.Window.fill
  rw [dif_pos (moved0_3 t _)]
  blk_point [iblk, V_main_arg1, hy.2.2.2.1]

theorem stage_w (c : Dev nD) (t : Fin cfg0.N) (g : Fin 4) (e d : Fin 512) : iblk m c 4 t (ix3 g e d) = (args m c).w (ix3 g e d) := by
  have hy := idx0 t
  unfold args
  blk_point [iblk, V_main_arg2, hy.2.2.2.2.1]

theorem stage_s (c : Dev nD) (t : Fin cfg0.N) (q : Fin 2048) : iblk m c 5 t (ix2 0 q) = (args m c).s (ix2 0 q) := by
  have hy := idx0 t
  unfold args
  blk_point [iblk, V_main_arg3, hy.2.2.2.2.2.1]

theorem piece0 (c : Dev nD) (t : Fin cfg0.N) : Piece (args m c) t 0 (k0_pay9 (grid0.coords t) (X0_1 m c t) (X0_2 m c t)) (k0_pay10 (grid0.coords t) (X0_1 m c t) (X0_2 m c t) (View.ld (iblk m c 4 t) (Rect.unit ![0, 0, 0] S1x512x512.size inb_S4x512x512_S1x512x512_0_0_0))) (k0_pay8 (F := Ideal) (grid0.coords t)) (View.ld (X0_3 m c t) (Rect.unit ![0, 0] S256x512.size inb_S256x2048_S256x512_0_0)) (View.ld (iblk m c 0 t) (Rect.unit ![0, 0] S256x512.size inb_S256x2048_S256x512_0_0)) (View.ld (iblk m c 5 t) (Rect.unit ![0, 0] S1x512.size inb_S1x2048_S1x512_0_0)) (View.ld (iblk m c 4 t) (Rect.unit ![0, 0, 0] S1x512x512.size inb_S4x512x512_S1x512x512_0_0_0)) := by
  have hw : ∀ e d : Fin 512, ((View.ld (iblk m c 4 t) (Rect.unit ![0, 0, 0] S1x512x512.size inb_S4x512x512_S1x512x512_0_0_0)) (ix3 0 e d) : EReal) = (args m c).w (ix3 0 e d) := fun e d => by
    rw [View.ld_unit_apply_of _ _ _ _ _ (ix3 0 e d) (by intro a; fin_cases a <;> simp)]
    exact stage_w m c t _ _ _
  refine ⟨pooled0 (stage_x m c t) (stage_p m c t), mixed0 (stage_x m c t) (stage_p m c t) _ hw, count0, fun r e => ?_, fun r e => ?_, fun e => ?_, hw⟩
  · rw [View.ld_unit_apply_of _ _ _ _ _ (ix2 r (col 0 e)) (by intro a; fin_cases a <;> simp [col])]
    exact stage_v m c t _ _
  · rw [View.ld_unit_apply_of _ _ _ _ _ (ix2 r (col 0 e)) (by intro a; fin_cases a <;> simp [col])]
    exact stage_d m c t _ _
  · rw [View.ld_unit_apply_of _ _ _ _ _ (ix2 0 (col 0 e)) (by intro a; fin_cases a <;> simp [col])]
    exact stage_s m c t _

theorem piece1 (c : Dev nD) (t : Fin cfg0.N) : Piece (args m c) t 1 (k0_pay18 (BitVec.ofNat 32 (grid0.coords t 0).val) (X0_1 m c t) (k0_pay5 (grid0.coords t) (X0_1 m c t) (X0_2 m c t))) (k0_pay19 (BitVec.ofNat 32 (grid0.coords t 0).val) (X0_1 m c t) (k0_pay5 (grid0.coords t) (X0_1 m c t) (X0_2 m c t)) (View.ld (iblk m c 4 t) (Rect.unit ![1, 0, 0] S1x512x512.size inb_S4x512x512_S1x512x512_1_0_0))) (k0_pay17 (F := Ideal) (BitVec.ofNat 32 (grid0.coords t 0).val)) (View.ld (X0_3 m c t) (Rect.unit ![0, 512] S256x512.size inb_S256x2048_S256x512_0_512)) (View.ld (iblk m c 0 t) (Rect.unit ![0, 512] S256x512.size inb_S256x2048_S256x512_0_512)) (View.ld (iblk m c 5 t) (Rect.unit ![0, 512] S1x512.size inb_S1x2048_S1x512_0_512)) (View.ld (iblk m c 4 t) (Rect.unit ![1, 0, 0] S1x512x512.size inb_S4x512x512_S1x512x512_1_0_0)) := by
  have hw : ∀ e d : Fin 512, ((View.ld (iblk m c 4 t) (Rect.unit ![1, 0, 0] S1x512x512.size inb_S4x512x512_S1x512x512_1_0_0)) (ix3 0 e d) : EReal) = (args m c).w (ix3 1 e d) := fun e d => by
    rw [View.ld_unit_apply_of _ _ _ _ _ (ix3 1 e d) (by intro a; fin_cases a <;> simp)]
    exact stage_w m c t _ _ _
  refine ⟨pooled1 (stage_x m c t) (stage_p m c t), mixed1 (stage_x m c t) (stage_p m c t) _ hw, count1, fun r e => ?_, fun r e => ?_, fun e => ?_, hw⟩
  · rw [View.ld_unit_apply_of _ _ _ _ _ (ix2 r (col 1 e)) (by intro a; fin_cases a <;> simp [col])]
    exact stage_v m c t _ _
  · rw [View.ld_unit_apply_of _ _ _ _ _ (ix2 r (col 1 e)) (by intro a; fin_cases a <;> simp [col])]
    exact stage_d m c t _ _
  · rw [View.ld_unit_apply_of _ _ _ _ _ (ix2 0 (col 1 e)) (by intro a; fin_cases a <;> simp [col])]
    exact stage_s m c t _

theorem piece2 (c : Dev nD) (t : Fin cfg0.N) : Piece (args m c) t 2 (k0_pay28 (X0_1 m c t) (k0_pay6 (grid0.coords t) (X0_1 m c t) (X0_2 m c t)) (k0_pay26 (BitVec.ofNat 32 (grid0.coords t 0).val))) (k0_pay29 (X0_1 m c t) (k0_pay6 (grid0.coords t) (X0_1 m c t) (X0_2 m c t)) (k0_pay26 (BitVec.ofNat 32 (grid0.coords t 0).val)) (View.ld (iblk m c 4 t) (Rect.unit ![2, 0, 0] S1x512x512.size inb_S4x512x512_S1x512x512_2_0_0))) (k0_pay27 (F := Ideal) (k0_pay26 (BitVec.ofNat 32 (grid0.coords t 0).val))) (View.ld (X0_3 m c t) (Rect.unit ![0, 1024] S256x512.size inb_S256x2048_S256x512_0_1024)) (View.ld (iblk m c 0 t) (Rect.unit ![0, 1024] S256x512.size inb_S256x2048_S256x512_0_1024)) (View.ld (iblk m c 5 t) (Rect.unit ![0, 1024] S1x512.size inb_S1x2048_S1x512_0_1024)) (View.ld (iblk m c 4 t) (Rect.unit ![2, 0, 0] S1x512x512.size inb_S4x512x512_S1x512x512_2_0_0)) := by
  have hw : ∀ e d : Fin 512, ((View.ld (iblk m c 4 t) (Rect.unit ![2, 0, 0] S1x512x512.size inb_S4x512x512_S1x512x512_2_0_0)) (ix3 0 e d) : EReal) = (args m c).w (ix3 2 e d) := fun e d => by
    rw [View.ld_unit_apply_of _ _ _ _ _ (ix3 2 e d) (by intro a; fin_cases a <;> simp)]
    exact stage_w m c t _ _ _
  refine ⟨pooled2 (stage_x m c t) (stage_p m c t), mixed2 (stage_x m c t) (stage_p m c t) _ hw, count2, fun r e => ?_, fun r e => ?_, fun e => ?_, hw⟩
  · rw [View.ld_unit_apply_of _ _ _ _ _ (ix2 r (col 2 e)) (by intro a; fin_cases a <;> simp [col])]
    exact stage_v m c t _ _
  · rw [View.ld_unit_apply_of _ _ _ _ _ (ix2 r (col 2 e)) (by intro a; fin_cases a <;> simp [col])]
    exact stage_d m c t _ _
  · rw [View.ld_unit_apply_of _ _ _ _ _ (ix2 0 (col 2 e)) (by intro a; fin_cases a <;> simp [col])]
    exact stage_s m c t _

theorem piece3 (c : Dev nD) (t : Fin cfg0.N) : Piece (args m c) t 3 (k0_pay37 (BitVec.ofNat 32 (grid0.coords t 0).val) (X0_1 m c t) (k0_pay7 (grid0.coords t) (X0_1 m c t) (X0_2 m c t))) (k0_pay38 (BitVec.ofNat 32 (grid0.coords t 0).val) (X0_1 m c t) (k0_pay7 (grid0.coords t) (X0_1 m c t) (X0_2 m c t)) (View.ld (iblk m c 4 t) (Rect.unit ![3, 0, 0] S1x512x512.size inb_S4x512x512_S1x512x512_3_0_0))) (k0_pay36 (F := Ideal) (BitVec.ofNat 32 (grid0.coords t 0).val)) (View.ld (X0_3 m c t) (Rect.unit ![0, 1536] S256x512.size inb_S256x2048_S256x512_0_1536)) (View.ld (iblk m c 0 t) (Rect.unit ![0, 1536] S256x512.size inb_S256x2048_S256x512_0_1536)) (View.ld (iblk m c 5 t) (Rect.unit ![0, 1536] S1x512.size inb_S1x2048_S1x512_0_1536)) (View.ld (iblk m c 4 t) (Rect.unit ![3, 0, 0] S1x512x512.size inb_S4x512x512_S1x512x512_3_0_0)) := by
  have hw : ∀ e d : Fin 512, ((View.ld (iblk m c 4 t) (Rect.unit ![3, 0, 0] S1x512x512.size inb_S4x512x512_S1x512x512_3_0_0)) (ix3 0 e d) : EReal) = (args m c).w (ix3 3 e d) := fun e d => by
    rw [View.ld_unit_apply_of _ _ _ _ _ (ix3 3 e d) (by intro a; fin_cases a <;> simp)]
    exact stage_w m c t _ _ _
  refine ⟨pooled3 (stage_x m c t) (stage_p m c t), mixed3 (stage_x m c t) (stage_p m c t) _ hw, count3, fun r e => ?_, fun r e => ?_, fun e => ?_, hw⟩
  · rw [View.ld_unit_apply_of _ _ _ _ _ (ix2 r (col 3 e)) (by intro a; fin_cases a <;> simp [col])]
    exact stage_v m c t _ _
  · rw [View.ld_unit_apply_of _ _ _ _ _ (ix2 r (col 3 e)) (by intro a; fin_cases a <;> simp [col])]
    exact stage_d m c t _ _
  · rw [View.ld_unit_apply_of _ _ _ _ _ (ix2 0 (col 3 e)) (by intro a; fin_cases a <;> simp [col])]
    exact stage_s m c t _

end Cert.PoolAIdeal.Value
end
-- ==== Proof.PoolAPieces.lean ====
module

public import proofs.«01_k».proof.Proof.PoolARows

@[expose] public section

set_option maxRecDepth 16384

noncomputable section

namespace Cert.PoolAIdeal.Value

open Cert.PoolAIdeal Cert.PoolAIdeal.Gen Idealize.ShloMosaic Idealize.ShloMosaic.TcCoe Idealize.SL.Sem
open Idealize.ShloMosaic.Pipeline (Dat)

variable (m : (ℓ : Loc nD τ sig) → Buf (Elt Ideal) ℓ)

theorem grp_eq (q : Nat) (h : q < 2048) (g : Fin 4) (d : Fin 512) (e : q = 512 * g.val + d.val) : grp q h = g := Fin.ext (by show q / 512 = g.val; omega)

theorem pos_eq (q : Nat) (g : Fin 4) (d : Fin 512) (e : q = 512 * g.val + d.val) : pos q = d := Fin.ext (by show q % 512 = d.val; omega)

section
variable {A : Args} {t : Fin cfg0.N} {g : Fin 4} {u : Vec Ideal S256x512 .bf16} {x : Vec Ideal S256x512 .f32} {n : Vec Ideal S256x1 .f32} {v d : Vec Ideal S256x512 .f32} {s : Vec Ideal S1x512 .f32} {w : Vec Ideal S1x512x512 .bf16}

theorem dgate_at (P : Piece A t g u x n v d s w) (y : S256x512.Idx) (j : S4096x9216.Idx) (h0 : (j 0).val = t.val * 256 + (y 0).val) (h1 : (j 1).val = 2048 + (512 * g.val + (y 1).val)) :
    (k0_pay11 x v d s y : EReal) = out0 A j := by
  have hy : (y 1).val < 512 := (y 1).isLt
  have e : (j 1).val - 2048 = 512 * g.val + (y 1).val := by omega
  unfold out0
  rw [dif_pos (by omega), grp_eq _ _ g (y 1) e, pos_eq _ g (y 1) e]
  have e0 : (⟨(j 0).val, (j 0).isLt⟩ : Fin 4096) = row t (y 0) := Fin.ext h0
  rw [e0]
  idx_vars y
  exact dgate_apply P y0 y1

theorem dq_at (P : Piece A t g u x n v d s w) (y : S256x512.Idx) (j : S4096x2048.Idx) (h0 : (j 0).val = t.val * 256 + (y 0).val) (h1 : (j 1).val = 512 * g.val + (y 1).val) :
    (k0_pay16 n (k0_pay14 v d s) w y : EReal) = out1 A j := by
  have e0 : (⟨(j 0).val, (j 0).isLt⟩ : Fin 4096) = row t (y 0) := Fin.ext h0
  have e : out1 A j = dq A (row t (y 0)) g (y 1) := (congrFun (congrFun (congrArg (dq A) e0) _) _).trans (congrArg₂ (dq A (row t (y 0))) (grp_eq _ _ g (y 1) h1) (pos_eq _ g (y 1) h1))
  rw [e]
  idx_vars y
  exact dq_apply P y0 y1

theorem scale_at (P : Piece A t g u x n v d s w) (z : Vec Ideal S1x512 .f32) (y : S1x512.Idx) (j : S1x2048.Idx) (h1 : (j 1).val = 512 * g.val + (y 1).val) (b : EReal) (hz : (z y : EReal) = b) :
    (k0_pay13 x v d z y : EReal) = b + scalePart A t j := by
  have e : scalePart A t j = ∑ r : Fin 256, scaleTerm A g (y 1) (row t r) := Finset.sum_congr (M := EReal) rfl fun r _ => congrFun (congrArg₂ (scaleTerm A) (grp_eq _ _ g (y 1) h1) (pos_eq _ g (y 1) h1)) _
  rw [e, ← hz]
  idx_vars y
  obtain rfl : y0 = 0 := Subsingleton.elim _ _
  exact scale_apply P z y1

theorem weight_at (P : Piece A t g u x n v d s w) (z : Vec Ideal S1x512x512 .f32) (y : S1x512x512.Idx) (j : S4x512x512.Idx) (h0 : (j 0).val = g.val) (h1 : (j 1).val = (y 1).val) (h2 : (j 2).val = (y 2).val) (b : EReal) (hz : (z y : EReal) = b) :
    (k0_pay15 u v d s z y : EReal) = b + weightPart A t j := by
  have e0 : (⟨(j 0).val, (j 0).isLt⟩ : Fin 4) = g := Fin.ext h0
  have e1 : (⟨(j 1).val, (j 1).isLt⟩ : Fin 512) = y 1 := Fin.ext h1
  have e2 : (⟨(j 2).val, (j 2).isLt⟩ : Fin 512) = y 2 := Fin.ext h2
  have e : weightPart A t j = ∑ r : Fin 256, mixTerm A g (y 1) (y 2) (row t r) := Finset.sum_congr (M := EReal) rfl fun r _ => congrFun ((congrFun (congrFun (congrArg (mixTerm A) e0) _) _).trans (congrArg₂ (mixTerm A g) e1 e2)) _
  rw [e, ← hz]
  idx_vars y
  obtain rfl : y0 = 0 := Subsingleton.elim _ _
  exact weight_apply P z y1 y2

end

theorem out0_A (c : Dev nD) (t : Fin cfg0.N) (h : t.val % 16 = 0) (y : S256x2048.Idx) (j : S4096x9216.Idx) (hj0 : (j 0).val = t.val * 256 + (y 0).val) (hj1 : (j 1).val = 2048 + (y 1).val) :
    ((outsAt0 m c t.val t.isLt).1 y : EReal) = out0 (args m c) j := by
  rw [outsAt0_A m c t h]
  frame_out
  canon_tiles y
  · exact dgate_at (piece3 m c t) y j (hj0.trans (congrArg (t.val * 256 + ·) h0)) (hj1.trans (congrArg (2048 + ·) h1))
  · exact dgate_at (piece2 m c t) y j (hj0.trans (congrArg (t.val * 256 + ·) h0)) (hj1.trans (congrArg (2048 + ·) h1))
  · exact dgate_at (piece1 m c t) y j (hj0.trans (congrArg (t.val * 256 + ·) h0)) (hj1.trans (congrArg (2048 + ·) h1))
  · exact dgate_at (piece0 m c t) y j (hj0.trans (congrArg (t.val * 256 + ·) h0)) (hj1.trans (congrArg (2048 + ·) (h1.trans (Nat.zero_add _).symm)))

theorem out1_A (c : Dev nD) (t : Fin cfg0.N) (h : t.val % 16 = 0) (y : S256x2048.Idx) (j : S4096x2048.Idx) (hj0 : (j 0).val = t.val * 256 + (y 0).val) (hj1 : (j 1).val = (y 1).val) :
    ((outsAt0 m c t.val t.isLt).2.1 y : EReal) = out1 (args m c) j := by
  rw [outsAt0_A m c t h]
  frame_out
  canon_tiles y
  · exact dq_at (piece3 m c t) y j (hj0.trans (congrArg (t.val * 256 + ·) h0)) (hj1.trans h1)
  · exact dq_at (piece2 m c t) y j (hj0.trans (congrArg (t.val * 256 + ·) h0)) (hj1.trans h1)
  · exact dq_at (piece1 m c t) y j (hj0.trans (congrArg (t.val * 256 + ·) h0)) (hj1.trans h1)
  · exact dq_at (piece0 m c t) y j (hj0.trans (congrArg (t.val * 256 + ·) h0)) (hj1.trans (h1.trans (Nat.zero_add _).symm))

theorem out0_B (c : Dev nD) (t : Fin cfg0.N) (h : ¬ t.val % 16 = 0) (y : S256x2048.Idx) (j : S4096x9216.Idx) (hj0 : (j 0).val = t.val * 256 + (y 0).val) (hj1 : (j 1).val = 2048 + (y 1).val) :
    ((outsAt0 m c t.val t.isLt).1 y : EReal) = out0 (args m c) j := by
  rw [outsAt0_B m c t h]
  frame_out
  canon_tiles y
  · exact dgate_at (piece3 m c t) y j (hj0.trans (congrArg (t.val * 256 + ·) h0)) (hj1.trans (congrArg (2048 + ·) h1))
  · exact dgate_at (piece2 m c t) y j (hj0.trans (congrArg (t.val * 256 + ·) h0)) (hj1.trans (congrArg (2048 + ·) h1))
  · exact dgate_at (piece1 m c t) y j (hj0.trans (congrArg (t.val * 256 + ·) h0)) (hj1.trans (congrArg (2048 + ·) h1))
  · exact dgate_at (piece0 m c t) y j (hj0.trans (congrArg (t.val * 256 + ·) h0)) (hj1.trans (congrArg (2048 + ·) (h1.trans (Nat.zero_add _).symm)))

theorem out1_B (c : Dev nD) (t : Fin cfg0.N) (h : ¬ t.val % 16 = 0) (y : S256x2048.Idx) (j : S4096x2048.Idx) (hj0 : (j 0).val = t.val * 256 + (y 0).val) (hj1 : (j 1).val = (y 1).val) :
    ((outsAt0 m c t.val t.isLt).2.1 y : EReal) = out1 (args m c) j := by
  rw [outsAt0_B m c t h]
  frame_out
  canon_tiles y
  · exact dq_at (piece3 m c t) y j (hj0.trans (congrArg (t.val * 256 + ·) h0)) (hj1.trans h1)
  · exact dq_at (piece2 m c t) y j (hj0.trans (congrArg (t.val * 256 + ·) h0)) (hj1.trans h1)
  · exact dq_at (piece1 m c t) y j (hj0.trans (congrArg (t.val * 256 + ·) h0)) (hj1.trans h1)
  · exact dq_at (piece0 m c t) y j (hj0.trans (congrArg (t.val * 256 + ·) h0)) (hj1.trans (h1.trans (Nat.zero_add _).symm))

theorem scale_B (c : Dev nD) (t : Fin cfg0.N) (h : ¬ t.val % 16 = 0) (j : S1x2048.Idx) :
    ((outsAt0 m c t.val t.isLt).2.2.1 j : EReal) = (outsAt0 m c (t.val - 1) (Nat.lt_of_le_of_lt (Nat.sub_le _ _) t.isLt)).2.2.1 j + scalePart (args m c) t j := by
  rw [outsAt0_B m c t h]
  frame_out
  canon_tiles y
  · exact scale_at (piece3 m c t) _ y _ h1 _ (View.ld_unit_apply_of _ _ _ _ _ _ (by intro a; fin_cases a <;> simp <;> omega))
  · exact scale_at (piece2 m c t) _ y _ h1 _ (View.ld_unit_apply_of _ _ _ _ _ _ (by intro a; fin_cases a <;> simp <;> omega))
  · exact scale_at (piece1 m c t) _ y _ h1 _ (View.ld_unit_apply_of _ _ _ _ _ _ (by intro a; fin_cases a <;> simp <;> omega))
  · exact scale_at (piece0 m c t) _ y _ (h1.trans (Nat.zero_add _).symm) _ (View.ld_unit_apply_of _ _ _ _ _ _ (by intro a; fin_cases a <;> simp <;> omega))

theorem weight_B (c : Dev nD) (t : Fin cfg0.N) (h : ¬ t.val % 16 = 0) (j : S4x512x512.Idx) :
    ((outsAt0 m c t.val t.isLt).2.2.2 j : EReal) = (outsAt0 m c (t.val - 1) (Nat.lt_of_le_of_lt (Nat.sub_le _ _) t.isLt)).2.2.2 j + weightPart (args m c) t j := by
  rw [outsAt0_B m c t h]
  frame_out
  canon_tiles y
  · exact weight_at (piece3 m c t) _ y _ (by omega) (by omega) (by omega) _ (View.ld_unit_apply_of _ _ _ _ _ _ (by intro a; fin_cases a <;> simp <;> omega))
  · exact weight_at (piece2 m c t) _ y _ (by omega) (by omega) (by omega) _ (View.ld_unit_apply_of _ _ _ _ _ _ (by intro a; fin_cases a <;> simp <;> omega))
  · exact weight_at (piece1 m c t) _ y _ (by omega) (by omega) (by omega) _ (View.ld_unit_apply_of _ _ _ _ _ _ (by intro a; fin_cases a <;> simp <;> omega))
  · exact weight_at (piece0 m c t) _ y _ (by omega) (by omega) (by omega) _ (View.ld_unit_apply_of _ _ _ _ _ _ (by intro a; fin_cases a <;> simp <;> omega))

end Cert.PoolAIdeal.Value
end
-- ==== Proof.PoolAValue.lean ====
module

public import proofs.«01_k».proof.Proof.PoolAPieces

@[expose] public section

set_option maxRecDepth 16384

noncomputable section

namespace Cert.PoolAIdeal.Value

open Cert.PoolAIdeal Cert.PoolAIdeal.Gen Idealize.ShloMosaic Idealize.ShloMosaic.TcCoe Idealize.SL.Sem
open Idealize.ShloMosaic.Pipeline (Dat)

variable (m : (ℓ : Loc nD τ sig) → Buf (Elt Ideal) ℓ)

theorem zeroS (j : S1x2048.Idx) : (k0_pay2 (F := Ideal) j : EReal) = 0 := by
  idx_vars j
  pointwise [k0_pay2]

theorem zeroW (j : S4x512x512.Idx) : (k0_pay3 (F := Ideal) j : EReal) = 0 := by
  idx_vars j
  pointwise [k0_pay3]

section
variable {A : Args} {t : Fin cfg0.N} {g : Fin 4} {u : Vec Ideal S256x512 .bf16} {x : Vec Ideal S256x512 .f32} {n : Vec Ideal S256x1 .f32} {v d : Vec Ideal S256x512 .f32} {s : Vec Ideal S1x512 .f32} {w : Vec Ideal S1x512x512 .bf16}

theorem scale_start (P : Piece A t g u x n v d s w) (o : Nat) (ho : o = 512 * g.val) (inb) (z : Vec Ideal S1x512 .f32) (y : S1x512.Idx) (hz : (z y : EReal) = 0) :
    (k0_pay13 x v d z y : EReal) = 0 + scalePart A t ((Rect.unit (s := S1x2048) ![0, o] ![1, 512] inb).emb y) :=
  scale_at P z y _ ((ValueKit.rect_emb_unit_val (s := S1x2048) ![0, o] ![1, 512] inb y 1).trans (congrArg (· + (y 1).val) ho)) 0 hz

theorem weight_start (P : Piece A t g u x n v d s w) (o : Nat) (ho : o = g.val) (inb) (z : Vec Ideal S1x512x512 .f32) (y : S1x512x512.Idx) (hz : (z y : EReal) = 0) :
    (k0_pay15 u v d s z y : EReal) = 0 + weightPart A t ((Rect.unit (s := S4x512x512) ![o, 0, 0] ![1, 512, 512] inb).emb y) := by
  have hy : (y 0).val < 1 := (y 0).isLt
  have h0 := ValueKit.rect_emb_unit_val (s := S4x512x512) ![o, 0, 0] ![1, 512, 512] inb y 0
  have h1 := ValueKit.rect_emb_unit_val (s := S4x512x512) ![o, 0, 0] ![1, 512, 512] inb y 1
  have h2 := ValueKit.rect_emb_unit_val (s := S4x512x512) ![o, 0, 0] ![1, 512, 512] inb y 2
  refine weight_at P z y _ (h0.trans ?_) (h1.trans (Nat.zero_add _)) (h2.trans (Nat.zero_add _)) 0 hz
  show o + (y 0).val = g.val
  omega

end

theorem scale_A (c : Dev nD) (t : Fin cfg0.N) (h : t.val % 16 = 0) (j : S1x2048.Idx) :
    ((outsAt0 m c t.val t.isLt).2.2.1 j : EReal) = 0 + scalePart (args m c) t j := by
  rw [outsAt0_A m c t h]
  frame_out
  refine View.canon_append_of_piecesOf (Val := Elt Ideal) (s := S1x2048) (e := .f32) (fun j => 0 + scalePart (args m c) t j) [_] [_, _, _, _] ⟨fun y => ?_, fun y => ?_, fun y => ?_, fun y => ?_, trivial⟩ j ?_
  · refine scale_start (piece3 m c t) 1536 rfl inb_S1x2048_S1x512_0_1536 _ y ?_
    simp (decide := true) only [↓View.readCov_skip, ↓View.readCov_fill]
    exact zeroS _
  · refine scale_start (piece2 m c t) 1024 rfl inb_S1x2048_S1x512_0_1024 _ y ?_
    simp (decide := true) only [↓View.readCov_skip, ↓View.readCov_fill]
    exact zeroS _
  · refine scale_start (piece1 m c t) 512 rfl inb_S1x2048_S1x512_0_512 _ y ?_
    simp (decide := true) only [↓View.readCov_skip, ↓View.readCov_fill]
    exact zeroS _
  · refine scale_start (piece0 m c t) 0 rfl inb_S1x2048_S1x512_0_0 _ y ?_
    simp (decide := true) only [↓View.readCov_skip, ↓View.readCov_fill]
    exact zeroS _
  · exact View.cover_of_tiledL (Val := Elt Ideal) (s := S1x2048) (e := .f32) _ S1x512.size (by sl_kernel_rfl) j

theorem weight_A (c : Dev nD) (t : Fin cfg0.N) (h : t.val % 16 = 0) (j : S4x512x512.Idx) :
    ((outsAt0 m c t.val t.isLt).2.2.2 j : EReal) = 0 + weightPart (args m c) t j := by
  rw [outsAt0_A m c t h]
  frame_out
  refine View.canon_append_of_piecesOf (Val := Elt Ideal) (s := S4x512x512) (e := .f32) (fun j => 0 + weightPart (args m c) t j) [_] [_, _, _, _] ⟨fun y => ?_, fun y => ?_, fun y => ?_, fun y => ?_, trivial⟩ j ?_
  · refine weight_start (piece3 m c t) 3 rfl inb_S4x512x512_S1x512x512_3_0_0 _ y ?_
    simp (decide := true) only [↓View.readCov_skip, ↓View.readCov_fill]
    exact zeroW _
  · refine weight_start (piece2 m c t) 2 rfl inb_S4x512x512_S1x512x512_2_0_0 _ y ?_
    simp (decide := true) only [↓View.readCov_skip, ↓View.readCov_fill]
    exact zeroW _
  · refine weight_start (piece1 m c t) 1 rfl inb_S4x512x512_S1x512x512_1_0_0 _ y ?_
    simp (decide := true) only [↓View.readCov_skip, ↓View.readCov_fill]
    exact zeroW _
  · refine weight_start (piece0 m c t) 0 rfl inb_S4x512x512_S1x512x512_0_0_0 _ y ?_
    simp (decide := true) only [↓View.readCov_skip, ↓View.readCov_fill]
    exact zeroW _
  · exact View.cover_of_tiledL (Val := Elt Ideal) (s := S4x512x512) (e := .f32) _ S1x512x512.size (by sl_kernel_rfl) j

set_option maxHeartbeats 1000000 in
theorem out0_value (c : Dev nD) (j : S4096x9216.Idx) (hj : 2048 ≤ (j 1).val ∧ (j 1).val < 4096) : (dats m 0 c).arrAt 6 cfg0.N j = out0 (args m c) j := by
  refine (congrFun ((dats m 0 c).arrAt_eq_of_coversWhere (P := fun i => 2048 ≤ (i 1).val ∧ (i 1).val < 4096) 6 (out0 (args m c)) (fun β => β 1 = 1) (by decide +kernel) (fun t hf y => ?_) (fun j => ?_)) j).trans (if_pos hj)
  · have hy := idx0 t
    have hc := coord t
    have hN := lt_of_lt_of_eq t.isLt (show cfg0.N = 16 from N_0)
    blk_simp
    rw [after0_6]
    have hj0 : ((((View.whole main_v0_0).slice (win0_6.rect t)).emb y) 0).val = t.val * 256 + ((win0 6).xinj (grid0.coords t) y 0).val := by
      show _ = t.val * 256 + (y 0).val
      blk_simp [hy.2.2.2.2.2.2.1, hc]
    have hj1 : ((((View.whole main_v0_0).slice (win0_6.rect t)).emb y) 1).val = 2048 + ((win0 6).xinj (grid0.coords t) y 1).val := by
      show _ = 2048 + (y 1).val
      blk_simp [hy.2.2.2.2.2.2.1, hc]
    generalize ((View.whole main_v0_0).slice (win0_6.rect t)).emb y = j at hj0 hj1 ⊢
    by_cases h0 : t.val % 16 = 0
    · exact out0_A m c t h0 _ j hj0 hj1
    · exact out0_B m c t h0 _ j hj0 hj1
  · show (2048 ≤ (j 1).val ∧ (j 1).val < 4096) ↔ (j 1).val / 2048 = 1; omega

set_option maxHeartbeats 1000000 in
theorem out1_value (c : Dev nD) : (dats m 0 c).arrAt 7 cfg0.N = out1 (args m c) := by
  refine (dats m 0 c).arrAt_eq_of_covers 7 _ (by decide +kernel) fun t hf y => ?_
  have hy := idx0 t
  have hc := coord t
  have hN := lt_of_lt_of_eq t.isLt (show cfg0.N = 16 from N_0)
  blk_simp
  rw [after0_7]
  have hj0 : ((((View.whole main_v0_1).slice (win0_7.rect t)).emb y) 0).val = t.val * 256 + (y 0).val := by
    blk_simp [hy.2.2.2.2.2.2.2.1, hc]
  have hj1 : ((((View.whole main_v0_1).slice (win0_7.rect t)).emb y) 1).val = (y 1).val := by
    blk_simp [hy.2.2.2.2.2.2.2.1, hc]
  generalize ((View.whole main_v0_1).slice (win0_7.rect t)).emb y = j at hj0 hj1 ⊢
  by_cases h0 : t.val % 16 = 0
  · exact out1_A m c t h0 y j hj0 hj1
  · exact out1_B m c t h0 y j hj0 hj1

theorem weight_sum (A : Args) (i : S4x512x512.Idx) : (∑ t : Fin cfg0.N, weightPart A t i) = weight A i := by
  refine (Fintype.sum_equiv (finCongr N_0) _ (fun t : Fin 16 => ∑ r : Fin 256, mixTerm A ⟨(i 0).val, (i 0).isLt⟩ ⟨(i 1).val, (i 1).isLt⟩ ⟨(i 2).val, (i 2).isLt⟩ ⟨t.val * 256 + r.val, by omega⟩) fun t => rfl).trans ?_
  unfold weight
  exact Fin.sum_mul_add_congr fun p k h => rfl

theorem scale_sum (A : Args) (i : S1x2048.Idx) : (∑ t : Fin cfg0.N, scalePart A t i) = scale A i := by
  refine (Fintype.sum_equiv (finCongr N_0) _ (fun t : Fin 16 => ∑ r : Fin 256, scaleTerm A (grp (i 1).val (i 1).isLt) (pos (i 1).val) ⟨t.val * 256 + r.val, by omega⟩) fun t => rfl).trans ?_
  unfold scale
  exact Fin.sum_mul_add_congr fun p k h => rfl

theorem scale_value (c : Dev nD) : (dats m 0 c).arrAt 8 cfg0.N = scale (args m c) := by
  have h15 : 15 < cfg0.N := lt_of_lt_of_eq (by norm_num : 15 < 16) N_0.symm
  have hw : ∀ t : Fin cfg0.N, t.val = 15 → (cfg0.win 8).WholeAt t := by decide +kernel
  refine (dats m 0 c).arrAt_eq_of_after_last 8 ⟨15, h15⟩ (hw _ rfl) _ fun j => ?_
  rw [after0_8]
  refine (Pipeline.eq_sum_fin_of_reset_step_apply_last (M := EReal) (fun n h i => (outsAt0 m c n h).2.2.1 i) 16 (fun _ => 0) (fun t j => scalePart (args m c) t j) (scale_A m c) (scale_B m c) (le_of_eq N_0) ⟨15, h15⟩ N_0.symm j).trans ?_
  rw [zero_add]
  exact scale_sum _ _

theorem weight_value (c : Dev nD) : (dats m 0 c).arrAt 9 cfg0.N = weight (args m c) := by
  have h15 : 15 < cfg0.N := lt_of_lt_of_eq (by norm_num : 15 < 16) N_0.symm
  have hw : ∀ t : Fin cfg0.N, t.val = 15 → (cfg0.win 9).WholeAt t := by decide +kernel
  refine (dats m 0 c).arrAt_eq_of_after_last 9 ⟨15, h15⟩ (hw _ rfl) _ fun j => ?_
  rw [after0_9]
  refine (Pipeline.eq_sum_fin_of_reset_step_apply_last (M := EReal) (fun n h i => (outsAt0 m c n h).2.2.2 i) 16 (fun _ => 0) (fun t j => weightPart (args m c) t j) (weight_A m c) (weight_B m c) (le_of_eq N_0) ⟨15, h15⟩ N_0.symm j).trans ?_
  rw [zero_add]
  exact weight_sum _ _

end Cert.PoolAIdeal.Value
end
-- ==== Proof.PoolRef.lean ====
module

public import proofs.«01_k».proof.Proof.Gen.PoolRefIdeal.Run
public import proofs.«01_k».proof.Proof.PoolValue
public import proofs.«01_k».proof.Proof.Finite
public import Idealize.ShloMosaic.Lib.Tactic.CleanTypes

@[expose] public section

set_option maxRecDepth 16384

noncomputable section

namespace Cert.PoolRefIdeal.Value

open Cert.PoolRefIdeal Cert.PoolRefIdeal.Gen Idealize.ShloMosaic Idealize.ShloMosaic.TcCoe Idealize.SL.Sem
open Cert.PoolIdeal.Value (cell mean mixed width)

/-- The running sums of the first 2048 columns, sixteen zero rows above them. -/
def prefixes (P : FVec Ideal S4096x9216 .f32) : FVec Ideal S4112x2048 .f32 :=
  concatenate S4112x2048 0 [⟨S16x2048, (broadcastInDim S16x2048 ![] bcast_S_S16x2048 (constant S_ .f32 0x00000000#32))⟩, ⟨S4096x2048, (Host.reduceWindowAdd ![4096, 1] ![1, 1] ![4095, 0] ![0, 0] (extractStridedSlice S4096x2048 ![0, 0] P slices_S4096x9216_S4096x2048_0_0) (broadcastInDim S_ ![] bcast_S_S_ (constant S_ .f32 0x00000000#32)) reduceWindows_S4096x2048_S4096x2048_w4096s1p4095_0_w1s1p0_0 h_S_)⟩] concatenates_S16x2048_S4096x2048_S4112x2048_d0

/-- The pooled columns of group 0. -/
def group0 (P : FVec Ideal S4096x9216 .f32) : FVec Ideal S4096x512 .f32 :=
  subf (Host.divf (subf (extractStridedSlice S4096x512 ![16, 0] (prefixes P) slices_S4112x2048_S4096x512_16_0) (extractStridedSlice S4096x512 ![14, 0] (prefixes P) slices_S4112x2048_S4096x512_14_0)) (broadcastInDim S4096x512 ![0, 1] bcast_S4096x1_S4096x512_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 2#32))))))) (extractStridedSlice S4096x512 ![0, 0] (extractStridedSlice S4096x2048 ![0, 0] P slices_S4096x9216_S4096x2048_0_0) slices_S4096x2048_S4096x512_0_0)

/-- The pooled columns of group 1. -/
def group1 (P : FVec Ideal S4096x9216 .f32) : FVec Ideal S4096x512 .f32 :=
  subf (Host.divf (subf (extractStridedSlice S4096x512 ![16, 512] (prefixes P) slices_S4112x2048_S4096x512_16_512) (extractStridedSlice S4096x512 ![12, 512] (prefixes P) slices_S4112x2048_S4096x512_12_512)) (broadcastInDim S4096x512 ![0, 1] bcast_S4096x1_S4096x512_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 4#32))))))) (extractStridedSlice S4096x512 ![0, 512] (extractStridedSlice S4096x2048 ![0, 0] P slices_S4096x9216_S4096x2048_0_0) slices_S4096x2048_S4096x512_0_512)

/-- The pooled columns of group 2. -/
def group2 (P : FVec Ideal S4096x9216 .f32) : FVec Ideal S4096x512 .f32 :=
  subf (Host.divf (subf (extractStridedSlice S4096x512 ![16, 1024] (prefixes P) slices_S4112x2048_S4096x512_16_1024) (extractStridedSlice S4096x512 ![8, 1024] (prefixes P) slices_S4112x2048_S4096x512_8_1024)) (broadcastInDim S4096x512 ![0, 1] bcast_S4096x1_S4096x512_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 8#32))))))) (extractStridedSlice S4096x512 ![0, 1024] (extractStridedSlice S4096x2048 ![0, 0] P slices_S4096x9216_S4096x2048_0_0) slices_S4096x2048_S4096x512_0_1024)

/-- The pooled columns of group 3. -/
def group3 (P : FVec Ideal S4096x9216 .f32) : FVec Ideal S4096x512 .f32 :=
  subf (Host.divf (subf (extractStridedSlice S4096x512 ![16, 1536] (prefixes P) slices_S4112x2048_S4096x512_16_1536) (extractStridedSlice S4096x512 ![0, 1536] (prefixes P) slices_S4112x2048_S4096x512_0_1536)) (broadcastInDim S4096x512 ![0, 1] bcast_S4096x1_S4096x512_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 16#32))))))) (extractStridedSlice S4096x512 ![0, 1536] (extractStridedSlice S4096x2048 ![0, 0] P slices_S4096x9216_S4096x2048_0_0) slices_S4096x2048_S4096x512_0_1536)

/-- The four groups side by side. -/
def pooled (P : FVec Ideal S4096x9216 .f32) : FVec Ideal S4096x4x512 .f32 :=
  concatenate S4096x4x512 1 [⟨S4096x1x512, ((broadcastInDim S4096x1x512 ![0, 2] bcast_S4096x512_S4096x1x512_0_2 (group0 P)) : (⟨S4096x1x512, .f32⟩ : BufTy).Contents (Elt Ideal))⟩, ⟨S4096x1x512, ((broadcastInDim S4096x1x512 ![0, 2] bcast_S4096x512_S4096x1x512_0_2 (group1 P)) : (⟨S4096x1x512, .f32⟩ : BufTy).Contents (Elt Ideal))⟩, ⟨S4096x1x512, ((broadcastInDim S4096x1x512 ![0, 2] bcast_S4096x512_S4096x1x512_0_2 (group2 P)) : (⟨S4096x1x512, .f32⟩ : BufTy).Contents (Elt Ideal))⟩, ⟨S4096x1x512, ((broadcastInDim S4096x1x512 ![0, 2] bcast_S4096x512_S4096x1x512_0_2 (group3 P)) : (⟨S4096x1x512, .f32⟩ : BufTy).Contents (Elt Ideal))⟩] concatenates_S4096x1x512_S4096x1x512_S4096x1x512_S4096x1x512_S4096x4x512_d1

/-- The groups through their mixing matrices, the columns in order. -/
def mixes (P : FVec Ideal S4096x9216 .f32) (M : FVec Ideal S4x512x512 .bf16) : FVec Ideal S4096x2048 .f32 :=
  shapeCast _ (transpose S4096x4x512 [2, 0, 1] (Host.dotGeneral dot_S4x512x512_S4096x4x512_S4x512x4096_1_2_2_0_0_1 none (extf .f32 M bitsLt_bf16_f32) (pooled P)) transposes_S4x512x4096_S4096x4x512_2_0_1) shapeCasts_S4096x4x512_S4096x2048

/-- The gate through `z` times its logistic. -/
def gate (P : FVec Ideal S4096x9216 .f32) : FVec Ideal S4096x2048 .f32 :=
  mulf (extractStridedSlice S4096x2048 ![0, 2048] P slices_S4096x9216_S4096x2048_0_2048) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 2048] P slices_S4096x9216_S4096x2048_0_2048)))))

/-- The whole result. -/
def whole (P : FVec Ideal S4096x9216 .f32) (M : FVec Ideal S4x512x512 .bf16) (S : FVec Ideal S1x2048 .f32) : FVec Ideal S4096x4096 .bf16 :=
  truncf .bf16 (concatenate S4096x4096 1 [⟨S4096x2048, (mulf (mulf (mixes P M) (broadcastInDim S4096x2048 ![0, 1] bcast_S1x2048_S4096x2048_0_1 (broadcastInDim S1x2048 ![1] bcast_S2048_S1x2048_1 (shapeCast _ S shapeCasts_S1x2048_S2048)))) (gate P))⟩, ⟨S4096x2048, (broadcastInDim S4096x2048 ![] bcast_S_S4096x2048 (constant S_ .f32 0x00000000#32))⟩] concatenates_S4096x2048_S4096x2048_S4096x4096_d1) bitsLt_bf16_f32

theorem result_eq (m : (ℓ : Loc nD τ sig) → Buf (Elt Ideal) ℓ) (c : Dev nD) :
    res_main_v75 m c = whole (m ((c.tc : Thread nD τ).loc main_arg0)) (m ((c.tc : Thread nD τ).loc main_arg1)) (m ((c.tc : Thread nD τ).loc main_arg2)) := rfl

/-- A column of the first 2048 among all of the array's. -/
def left (c : Fin 2048) : Fin 9216 := ⟨c.val, by omega⟩

/-- The number of rows in the window that ends at row `n`. -/
def cnt (w n : Nat) : ℝ := ((min (n + 1) w : ℕ) : ℝ)

/-- Column `c`, row `n` of a real array with sixteen zero rows above it. -/
def rcell (A : Fin 4096 → Fin 2048 → ℝ) (c : Fin 2048) (n : Nat) : ℝ := if h : 16 ≤ n ∧ n < 4112 then A ⟨n - 16, by omega⟩ c else 0

theorem count (r : Fin 4096) (d : BitVec 32) (w : Nat) (hd : d.toNat = w) (hw : w < 2 ^ 31) :
    FloatOps.sitofp (F := Ideal) FTy.f32 (IntOp.minsi (IntOp.addi (BitVec.ofNat 32 r.val) 1#32) d) = (cnt w r.val : EReal) := by
  refine Sums.count_value _ d (r.val + 1) w ?_ hd (by omega) hw
  show (BitVec.ofNat 32 r.val + 1#32 : BitVec 32).toNat = _
  rw [BitVec.toNat_add, BitVec.toNat_ofNat]
  have := r.isLt
  simp; omega

/-- A sum of the last `W` terms up to `n`, over a sequence that is zero below `16`, is the sum of all terms up to `n`. -/
theorem tail_sum (f : Nat → ℝ) (hf : ∀ j, j < 16 → f j = 0) (L n : Nat) (hn : n ≤ L) :
    ∑ p : Fin (L + 1), (if L ≤ n + p.val then f (n + p.val - L + 16) else 0) = ∑ k ∈ Finset.range (n + 17), f k := by
  rw [← Finset.sum_range (fun p => if L ≤ n + p then f (n + p - L + 16) else 0)]
  rw [show L + 1 = (L - n) + (n + 1) by omega, Finset.sum_range_add _ (L - n) (n + 1), Finset.sum_eq_zero (s := Finset.range (L - n)), zero_add,
    show n + 17 = 16 + (n + 1) by omega, Finset.sum_range_add _ 16 (n + 1), Finset.sum_eq_zero (s := Finset.range 16), zero_add]
  · refine Finset.sum_congr rfl fun k hk => ?_
    rw [if_pos (by omega)]
    congr 1; omega
  · intro k hk; exact hf k (Finset.mem_range.mp hk)
  · intro k hk; have := Finset.mem_range.mp hk; rw [if_neg (by omega)]

/-- A difference of two running sums is the sum of the terms between them, the last first. -/
theorem diff_sum (f : Nat → ℝ) (n w : Nat) (hw : w ≤ n) :
    ∑ k ∈ Finset.range n, f k - ∑ k ∈ Finset.range (n - w), f k = ∑ k ∈ Finset.range w, f (n - 1 - k) := by
  conv_lhs => rw [show n = (n - w) + w by omega, Finset.sum_range_add]
  rw [show n - w + w - w = n - w by omega, add_sub_cancel_left, ← Finset.sum_range_reflect]
  refine Finset.sum_congr rfl fun k hk => ?_
  have := Finset.mem_range.mp hk
  congr 1; omega

theorem window_sum (f : Nat → ℝ) (n w a b : Nat) (hw : w ≤ n + 17) (ha : a = n + 17) (hb : b = n + 17 - w) :
    ∑ k ∈ Finset.range a, f k - ∑ k ∈ Finset.range b, f k = ∑ k ∈ Finset.range w, f (n + 16 - k) := by
  subst ha hb
  exact diff_sum f (n + 17) w hw

section
variable {P : FVec Ideal S4096x9216 .f32} {A : Fin 4096 → Fin 2048 → ℝ} (hA : ∀ n (c : Fin 2048), (P (ix2 n (left c)) : EReal) = (A n c : EReal))
include hA

theorem cell_real (c : Fin 2048) (n : Nat) : cell P c n = (rcell A c n : EReal) := by
  unfold cell rcell
  split
  · exact hA _ _
  · rfl

theorem first_apply (r : Fin 4096) (c : Fin 2048) : (extractStridedSlice S4096x2048 ![0, 0] P slices_S4096x9216_S4096x2048_0_0 (ix2 r c) : EReal) = (A r c : EReal) := by
  refine Eq.trans ?_ (hA r c)
  pointwise
  rfl

theorem prefixes_apply (r : Fin 4112) (c : Fin 2048) : (prefixes P (ix2 r c) : EReal) = ((∑ k ∈ Finset.range (r.val + 1), rcell A c k : ℝ) : EReal) := by
  unfold prefixes
  pointwise
  by_cases h : r.val < 16
  · rw [dif_pos h, Finset.sum_eq_zero]
    · rfl
    · intro k hk
      have := Finset.mem_range.mp hk
      unfold rcell; rw [dif_neg (by omega)]
  · rw [dif_neg h]
    unfold Host.reduceWindowAdd
    pointwise
    rw [Ideal.hostReduceWindowAdd_def, Sums.window_rows, show r.val + 1 = (r.val - 16) + 17 by omega, ← tail_sum (rcell A c) (fun j hj => dif_neg (by omega)) 4095 (r.val - 16) (by omega), Sums.coe_sum]
    refine Finset.sum_congr rfl fun p _ => ?_
    by_cases hp : 4095 ≤ r.val - 16 + p.val
    · rw [dif_pos ⟨hp, by omega⟩, if_pos hp]
      unfold rcell
      rw [dif_pos (by omega)]
      exact (first_apply hA _ c).trans (congrArg (fun x : Fin 4096 => ((A x c : ℝ) : EReal)) (Fin.ext (Nat.add_sub_cancel _ 16).symm))
    · rw [dif_neg (fun h => hp h.1), if_neg hp]; rfl

theorem group0_apply (n : Fin 4096) (e : Fin 512) (c : Fin 2048) (h : c.val = 0 + e.val) : (group0 P (ix2 n e) : EReal) = mean P 2 c n.val := by
  rw [show c = ⟨e.val, by omega⟩ from Fin.ext (h.trans (Nat.zero_add _))]
  unfold mean
  have hc := cell_real hA ⟨e.val, by omega⟩
  simp only [hc]
  rw [← hc (n.val + 16), ← Sums.coe_sum]
  unfold group0
  pointwise
  rw [prefixes_apply hA, prefixes_apply hA, count n _ 2 rfl (by norm_num), ← EReal.coe_sub]
  refine congrArg₂ (fun x y : EReal => x - y) (congrArg (fun x : ℝ => Ideal.div (x : EReal) _) (window_sum (rcell A ⟨e.val, by omega⟩) n.val 2 _ _ (by omega) ?_ ?_)) ?_
  · show 16 + n.val + 1 = _; omega
  · show 14 + n.val + 1 = _; omega
  · unfold cell
    rw [dif_pos (by omega)]
    refine congrArg P (congrArg₂ ix2 (Fin.ext ?_) (Fin.ext rfl))
    show n.val = n.val + 16 - 16
    omega

theorem group1_apply (n : Fin 4096) (e : Fin 512) (c : Fin 2048) (h : c.val = 512 + e.val) : (group1 P (ix2 n e) : EReal) = mean P 4 c n.val := by
  rw [show c = ⟨512 + e.val, by omega⟩ from Fin.ext (h.trans (rfl))]
  unfold mean
  have hc := cell_real hA ⟨512 + e.val, by omega⟩
  simp only [hc]
  rw [← hc (n.val + 16), ← Sums.coe_sum]
  unfold group1
  pointwise
  rw [prefixes_apply hA, prefixes_apply hA, count n _ 4 rfl (by norm_num), ← EReal.coe_sub]
  refine congrArg₂ (fun x y : EReal => x - y) (congrArg (fun x : ℝ => Ideal.div (x : EReal) _) (window_sum (rcell A ⟨512 + e.val, by omega⟩) n.val 4 _ _ (by omega) ?_ ?_)) ?_
  · show 16 + n.val + 1 = _; omega
  · show 12 + n.val + 1 = _; omega
  · unfold cell
    rw [dif_pos (by omega)]
    refine congrArg P (congrArg₂ ix2 (Fin.ext ?_) (Fin.ext rfl))
    show n.val = n.val + 16 - 16
    omega

theorem group2_apply (n : Fin 4096) (e : Fin 512) (c : Fin 2048) (h : c.val = 1024 + e.val) : (group2 P (ix2 n e) : EReal) = mean P 8 c n.val := by
  rw [show c = ⟨1024 + e.val, by omega⟩ from Fin.ext (h.trans (rfl))]
  unfold mean
  have hc := cell_real hA ⟨1024 + e.val, by omega⟩
  simp only [hc]
  rw [← hc (n.val + 16), ← Sums.coe_sum]
  unfold group2
  pointwise
  rw [prefixes_apply hA, prefixes_apply hA, count n _ 8 rfl (by norm_num), ← EReal.coe_sub]
  refine congrArg₂ (fun x y : EReal => x - y) (congrArg (fun x : ℝ => Ideal.div (x : EReal) _) (window_sum (rcell A ⟨1024 + e.val, by omega⟩) n.val 8 _ _ (by omega) ?_ ?_)) ?_
  · show 16 + n.val + 1 = _; omega
  · show 8 + n.val + 1 = _; omega
  · unfold cell
    rw [dif_pos (by omega)]
    refine congrArg P (congrArg₂ ix2 (Fin.ext ?_) (Fin.ext rfl))
    show n.val = n.val + 16 - 16
    omega

theorem group3_apply (n : Fin 4096) (e : Fin 512) (c : Fin 2048) (h : c.val = 1536 + e.val) : (group3 P (ix2 n e) : EReal) = mean P 16 c n.val := by
  rw [show c = ⟨1536 + e.val, by omega⟩ from Fin.ext (h.trans (rfl))]
  unfold mean
  have hc := cell_real hA ⟨1536 + e.val, by omega⟩
  simp only [hc]
  rw [← hc (n.val + 16), ← Sums.coe_sum]
  unfold group3
  pointwise
  rw [prefixes_apply hA, prefixes_apply hA, count n _ 16 rfl (by norm_num), ← EReal.coe_sub]
  refine congrArg₂ (fun x y : EReal => x - y) (congrArg (fun x : ℝ => Ideal.div (x : EReal) _) (window_sum (rcell A ⟨1536 + e.val, by omega⟩) n.val 16 _ _ (by omega) ?_ ?_)) ?_
  · show 16 + n.val + 1 = _; omega
  · show n.val + 1 = _; omega
  · unfold cell
    rw [dif_pos (by omega)]
    refine congrArg P (congrArg₂ ix2 (Fin.ext ?_) (Fin.ext rfl))
    show n.val = n.val + 16 - 16
    omega

theorem pooled_apply (n : Fin 4096) (g : Fin 4) (e : Fin 512) : (pooled P (ix3 n g e) : EReal) = mean P (width g.val) ⟨512 * g.val + e.val, by omega⟩ n.val := by
  unfold pooled
  clean_types
  pointwise
  fin_cases g
  · exact group0_apply hA n e _ rfl
  · exact group1_apply hA n e _ rfl
  · exact group2_apply hA n e _ rfl
  · exact group3_apply hA n e _ rfl

theorem mixes_apply (M : FVec Ideal S4x512x512 .bf16) (n : Fin 4096) (c : Fin 2048) : (mixes P M (ix2 n c) : EReal) =
    ∑ e : Fin 512, mean P (width (c.val / 512)) ⟨512 * (c.val / 512) + e.val, by omega⟩ n.val * M (ix3 ⟨c.val / 512, by omega⟩ e ⟨c.val % 512, by omega⟩) := by
  unfold mixes
  pointwise
  refine Finset.sum_congr (M := EReal) rfl fun e _ => ?_
  rw [mul_comm]
  exact congrArg₂ (· * ·) (pooled_apply hA _ _ _) rfl

theorem whole_apply (M : FVec Ideal S4x512x512 .bf16) (S : FVec Ideal S1x2048 .f32) (j : S4096x4096.Idx) (hj : (j 1).val < 2048) :
    (whole P M S j : EReal) = PoolIdeal.Value.out P M S j := by
  unfold whole PoolIdeal.Value.out
  rw [dif_pos hj]
  unfold mixed
  idx_vars j
  clean_types
  pointwise [gate]
  have e : 512 * (j1.val / 512) + j1.val % 512 = j1.val := Nat.div_add_mod _ _
  simp only [e]
  exact (dif_pos hj).trans (congrArg₂ (· * ·) (congrArg₂ (· * ·) (mixes_apply hA M _ _) rfl) rfl)

end

end Cert.PoolRefIdeal.Value
end
-- ==== Proof.PoolARef.lean ====
module

public import proofs.«01_k».proof.Proof.Gen.PoolARefIdeal.Run
public import proofs.«01_k».proof.Proof.PoolARows
public import proofs.«01_k».proof.Proof.PoolRef
public import proofs.«01_k».proof.Proof.ConvARef
public import Idealize.ShloMosaic.Lib.Tactic.CleanTypes

@[expose] public section

set_option maxRecDepth 16384

noncomputable section

namespace Cert.PoolARefIdeal.Value

open Cert.PoolARefIdeal Cert.PoolARefIdeal.Gen Idealize.ShloMosaic Idealize.ShloMosaic.TcCoe Idealize.SL.Sem
open Cert.PoolIdeal.Value (cell mean width)
open Cert.PoolRefIdeal.Value (pooled mixes left rcell)
open Cert.PoolAIdeal.Value (Args col dy gate pool mix gated dmix through dgate count dq scaleTerm mixTerm grp pos)

/-- The cotangent's written half. -/
def first (D : FVec Ideal S4096x4096 .f32) : FVec Ideal S4096x2048 .f32 := extractStridedSlice S4096x2048 ![0, 0] D slices_S4096x4096_S4096x2048_0_0

/-- The scale of every row. -/
def spread (S : FVec Ideal S1x2048 .f32) : FVec Ideal S4096x2048 .f32 :=
  broadcastInDim S4096x2048 ![0, 1] bcast_S1x2048_S4096x2048_0_1 (broadcastInDim S1x2048 ![1] bcast_S2048_S1x2048_1 (shapeCast _ S shapeCasts_S1x2048_S2048))

/-- The ones of the gate. -/
def ones : FVec Ideal S4096x2048 .f32 := broadcastInDim S4096x2048 ![] bcast_S_S4096x2048 (constant S_ .f32 0x3F800000#32)

/-- The gate's columns. -/
def gin (P : FVec Ideal S4096x9216 .f32) : FVec Ideal S4096x2048 .f32 := extractStridedSlice S4096x2048 ![0, 2048] P slices_S4096x9216_S4096x2048_0_2048

/-- Their logistic. -/
def lgst (P : FVec Ideal S4096x9216 .f32) : FVec Ideal S4096x2048 .f32 := Host.divf ones (addf ones (Host.exp (Host.negf (gin P))))

/-- The cotangent through the gate. -/
def cotan (D : FVec Ideal S4096x4096 .f32) (P : FVec Ideal S4096x9216 .f32) : FVec Ideal S4096x2048 .f32 := mulf (first D) (mulf (gin P) (lgst P))

/-- The scaled cotangent by groups, the rows last. -/
def turned (D : FVec Ideal S4096x4096 .f32) (P : FVec Ideal S4096x9216 .f32) (S : FVec Ideal S1x2048 .f32) : FVec Ideal S4x512x4096 .f32 :=
  transpose S4x512x4096 [1, 2, 0] (shapeCast _ (mulf (cotan D P) (spread S)) shapeCasts_S4096x2048_S4096x4x512) transposes_S4096x4x512_S4x512x4096_1_2_0

/-- The mixing matrices' gradient. -/
def matrices (D : FVec Ideal S4096x4096 .f32) (P : FVec Ideal S4096x9216 .f32) (S : FVec Ideal S1x2048 .f32) : FVec Ideal S4x512x512 .f32 :=
  transpose S4x512x512 [0, 2, 1] (Host.dotGeneral dot_S4x512x4096_S4096x4x512_S4x512x512_2_0_1_2_0_1 none (turned D P S) (pooled P)) transposes_S4x512x512_S4x512x512_0_2_1

/-- The scaled cotangent back through the mixing matrices. -/
def back (D : FVec Ideal S4096x4096 .f32) (P : FVec Ideal S4096x9216 .f32) (M : FVec Ideal S4x512x512 .bf16) (S : FVec Ideal S1x2048 .f32) : FVec Ideal S4096x4x512 .f32 :=
  transpose S4096x4x512 [1, 0, 2] (Host.dotGeneral dot_S4x512x4096_S4x512x512_S4x4096x512_1_2_2_1_0_0 none (turned D P S) (extf .f32 M bitsLt_bf16_f32)) transposes_S4x4096x512_S4096x4x512_1_0_2

/-- The number of rows in the window of length `w` that ends at each row. -/
def counts (w : BitVec 32) : FVec Ideal S4096x512 .f32 :=
  broadcastInDim S4096x512 ![0, 1] bcast_S4096x1_S4096x512_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 w)))))

def share0 (B : FVec Ideal S4096x4x512 .f32) : FVec Ideal S4096x512 .f32 := Host.divf (shapeCast _ (extractStridedSlice S4096x1x512 ![0, 0, 0] B slices_S4096x4x512_S4096x1x512_0_0_0) shapeCasts_S4096x1x512_S4096x512) (counts 2#32)
def share1 (B : FVec Ideal S4096x4x512 .f32) : FVec Ideal S4096x512 .f32 := Host.divf (shapeCast _ (extractStridedSlice S4096x1x512 ![0, 1, 0] B slices_S4096x4x512_S4096x1x512_0_1_0) shapeCasts_S4096x1x512_S4096x512) (counts 4#32)
def share2 (B : FVec Ideal S4096x4x512 .f32) : FVec Ideal S4096x512 .f32 := Host.divf (shapeCast _ (extractStridedSlice S4096x1x512 ![0, 2, 0] B slices_S4096x4x512_S4096x1x512_0_2_0) shapeCasts_S4096x1x512_S4096x512) (counts 8#32)
def share3 (B : FVec Ideal S4096x4x512 .f32) : FVec Ideal S4096x512 .f32 := Host.divf (shapeCast _ (extractStridedSlice S4096x1x512 ![0, 3, 0] B slices_S4096x4x512_S4096x1x512_0_3_0) shapeCasts_S4096x1x512_S4096x512) (counts 16#32)

/-- The four shares side by side. -/
def shares (B : FVec Ideal S4096x4x512 .f32) : FVec Ideal S4096x2048 .f32 :=
  concatenate S4096x2048 1 [⟨S4096x512, (share0 B : (⟨S4096x512, .f32⟩ : BufTy).Contents (Elt Ideal))⟩, ⟨S4096x512, (share1 B : (⟨S4096x512, .f32⟩ : BufTy).Contents (Elt Ideal))⟩, ⟨S4096x512, (share2 B : (⟨S4096x512, .f32⟩ : BufTy).Contents (Elt Ideal))⟩, ⟨S4096x512, (share3 B : (⟨S4096x512, .f32⟩ : BufTy).Contents (Elt Ideal))⟩] concatenates_S4096x512_S4096x512_S4096x512_S4096x512_S4096x2048_d1

/-- The scale's gradient, in the host's two steps. -/
def rows (X : FVec Ideal S4096x2048 .f32) : FVec Ideal S1x2048 .f32 :=
  broadcastInDim S1x2048 ![1] bcast_S2048_S1x2048_1 (Host.reduceAdd (shapeCast _ (Host.reduceAdd X (constant S_ .f32 0x00000000#32) reducesTo_S4096x2048_S2048_d0 h_S_) shapeCasts_S2048_S1x2048) (constant S_ .f32 0x00000000#32) reducesTo_S1x2048_S2048_d0 h_S_)

/-- The gate's cotangent. -/
def up (D : FVec Ideal S4096x4096 .f32) (P : FVec Ideal S4096x9216 .f32) (M : FVec Ideal S4x512x512 .bf16) (S : FVec Ideal S1x2048 .f32) : FVec Ideal S4096x2048 .f32 :=
  mulf (mulf (mixes P M) (spread S)) (first D)

/-- A cotangent through the gate's derivative. -/
def dsum (G : FVec Ideal S4096x2048 .f32) (P : FVec Ideal S4096x9216 .f32) : FVec Ideal S4096x2048 .f32 :=
  addf (mulf G (lgst P)) (mulf (mulf (gin P) G) (mulf (lgst P) (subf ones (lgst P))))

/-- The columns the first result leaves at zero. -/
def zeros : FVec Ideal S4096x5120 .f32 := broadcastInDim S4096x5120 ![] bcast_S_S4096x5120 (constant S_ .f32 0x00000000#32)

/-- The first result, of the gate's gradient. -/
def whole (X : FVec Ideal S4096x2048 .f32) : FVec Ideal S4096x9216 .bf16 :=
  truncf .bf16 (concatenate S4096x9216 1 [⟨S4096x2048, broadcastInDim S4096x2048 ![] bcast_S_S4096x2048 (constant S_ .f32 0x00000000#32)⟩, ⟨S4096x2048, X⟩, ⟨S4096x5120, zeros⟩] concatenates_S4096x2048_S4096x2048_S4096x5120_S4096x9216_d1) bitsLt_bf16_f32

section
variable (m : (ℓ : Loc nD τ sig) → Buf (Elt Ideal) ℓ) (c : Dev nD)

theorem res0 : res_main_v134 m c = whole (dsum (up (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1))) := rfl

theorem res1 : res_main_v130 m c = shares (back (m ((c.tc : Thread nD τ).loc main_arg0)) (m ((c.tc : Thread nD τ).loc main_arg1)) (m ((c.tc : Thread nD τ).loc main_arg2)) (m ((c.tc : Thread nD τ).loc main_arg3))) := rfl

theorem res2 : res_main_v135 m c = rows (mulf (mixes (m ((c.tc : Thread nD τ).loc main_arg1)) (m ((c.tc : Thread nD τ).loc main_arg2))) (cotan (m ((c.tc : Thread nD τ).loc main_arg0)) (m ((c.tc : Thread nD τ).loc main_arg1)))) := rfl

theorem res3 : res_main_v88 m c = matrices (m ((c.tc : Thread nD τ).loc main_arg0)) (m ((c.tc : Thread nD τ).loc main_arg1)) (m ((c.tc : Thread nD τ).loc main_arg3)) := rfl

end

theorem rows_apply (X : FVec Ideal S4096x2048 .f32) (q : Fin 2048) : (rows X (ix2 0 q) : EReal) = ∑ n : Fin 4096, (X (ix2 n q) : EReal) := by
  pointwise [rows]
  exact Fintype.sum_unique _

theorem lgst_apply (P : FVec Ideal S4096x9216 .f32) (n : Fin 4096) (q : Fin 2048) : (lgst P (ix2 n q) : EReal) = Ideal.logistic (P (ix2 n ⟨2048 + q.val, by omega⟩)) := by
  pointwise [lgst, gin, ones]
  rfl

section
variable (A : Args)

theorem cotan_apply (n : Fin 4096) (q : Fin 2048) : (cotan A.d A.a (ix2 n q) : EReal) = gated A n q := by
  unfold cotan
  pointwise [first, gin]
  rw [lgst_apply]
  rfl

theorem turned_apply (g : Fin 4) (d : Fin 512) (n : Fin 4096) : (turned A.d A.a A.s (ix3 g d n) : EReal) = dmix A n g d := by
  have e : (mulf (cotan A.d A.a) (spread A.s) (ix2 n (col g d)) : EReal) = dmix A n g d := by
    pointwise [spread]
    rw [cotan_apply]
    rfl
  rw [← e]
  unfold turned
  pointwise
  rw [show (⟨g.val * 512 + d.val, by omega⟩ : Fin 2048) = col g d from Fin.ext (by show g.val * 512 + d.val = 512 * g.val + d.val; omega)]

theorem back_apply (n : Fin 4096) (g : Fin 4) (e : Fin 512) : (back A.d A.a A.w A.s (ix3 n g e) : EReal) = ∑ d : Fin 512, dmix A n g d * A.w (ix3 g e d) := by
  unfold back
  pointwise
  exact Finset.sum_congr (M := EReal) rfl fun d _ => congrArg (fun x : EReal => x * _) (turned_apply A g d n)

theorem counts_apply (w : BitVec 32) (v : Nat) (hd : w.toNat = v) (hw : v < 2 ^ 31) (n : Fin 4096) (e : Fin 512) : (counts w (ix2 n e) : EReal) = (((min (n.val + 1) v : ℕ) : ℝ) : EReal) := by
  unfold counts
  pointwise
  exact Cert.PoolRefIdeal.Value.count n w v hd hw

theorem share0_apply (n : Fin 4096) (e : Fin 512) : (share0 (back A.d A.a A.w A.s) (ix2 n e) : EReal) = dq A n 0 e := by
  unfold share0
  pointwise
  exact congrArg₂ Ideal.div (back_apply A n 0 e) (counts_apply 2#32 2 rfl (by norm_num) n e)

theorem share1_apply (n : Fin 4096) (e : Fin 512) : (share1 (back A.d A.a A.w A.s) (ix2 n e) : EReal) = dq A n 1 e := by
  unfold share1
  pointwise
  exact congrArg₂ Ideal.div (back_apply A n 1 e) (counts_apply 4#32 4 rfl (by norm_num) n e)

theorem share2_apply (n : Fin 4096) (e : Fin 512) : (share2 (back A.d A.a A.w A.s) (ix2 n e) : EReal) = dq A n 2 e := by
  unfold share2
  pointwise
  exact congrArg₂ Ideal.div (back_apply A n 2 e) (counts_apply 8#32 8 rfl (by norm_num) n e)

theorem share3_apply (n : Fin 4096) (e : Fin 512) : (share3 (back A.d A.a A.w A.s) (ix2 n e) : EReal) = dq A n 3 e := by
  unfold share3
  pointwise
  exact congrArg₂ Ideal.div (back_apply A n 3 e) (counts_apply 16#32 16 rfl (by norm_num) n e)

theorem shares_apply (n : Fin 4096) (c : Fin 2048) : (shares (back A.d A.a A.w A.s) (ix2 n c) : EReal) = dq A n (grp c.val c.isLt) (pos c.val) := by
  unfold shares
  clean_types
  pointwise
  have hc := c.isLt
  split
  · exact (share0_apply A n _).trans (congrArg₂ (dq A n) (Fin.ext (by show 0 = c.val / 512; omega)) (Fin.ext (by show c.val = c.val % 512; omega)))
  · split
    · exact (share1_apply A n _).trans (congrArg₂ (dq A n) (Fin.ext (by show 1 = c.val / 512; omega)) (Fin.ext (by show c.val - 512 = c.val % 512; omega)))
    · split
      · exact (share2_apply A n _).trans (congrArg₂ (dq A n) (Fin.ext (by show 2 = c.val / 512; omega)) (Fin.ext (by show c.val - 512 - 512 = c.val % 512; omega)))
      · exact (share3_apply A n _).trans (congrArg₂ (dq A n) (Fin.ext (by show 3 = c.val / 512; omega)) (Fin.ext (by show c.val - 512 - 512 - 512 = c.val % 512; omega)))

variable {R : Fin 4096 → Fin 2048 → ℝ} (hR : ∀ n (c : Fin 2048), (A.a (ix2 n (left c)) : EReal) = (R n c : EReal))
include hR

theorem pool_apply (n : Fin 4096) (g : Fin 4) (e : Fin 512) : (pooled A.a (ix3 n g e) : EReal) = pool A n g e := Cert.PoolRefIdeal.Value.pooled_apply hR n g e

theorem mix_apply (n : Fin 4096) (c : Fin 2048) : (mixes A.a A.w (ix2 n c) : EReal) = mix A n (grp c.val c.isLt) (pos c.val) := Cert.PoolRefIdeal.Value.mixes_apply hR A.w n c

theorem matrices_apply (g : Fin 4) (e d : Fin 512) : (matrices A.d A.a A.s (ix3 g e d) : EReal) = ∑ n : Fin 4096, mixTerm A g e d n := by
  unfold matrices
  pointwise
  exact Finset.sum_congr (M := EReal) rfl fun n _ => (congrArg₂ (fun x y : EReal => x * y) (turned_apply A g d n) (pool_apply A hR n g e)).trans (mul_comm _ _)

theorem mean_real (w : Nat) (hw : 0 < w) (c : Fin 2048) (n : Nat) : ∃ r : ℝ, mean A.a w c n = r := by
  have h0 : (((min (n + 1) w : ℕ) : ℝ)) ≠ 0 := Nat.cast_ne_zero.2 (by omega)
  have hc := Cert.PoolRefIdeal.Value.cell_real hR c
  refine ⟨(∑ k ∈ Finset.range w, rcell R c (n + 16 - k)) * (1 / ((min (n + 1) w : ℕ) : ℝ)) - rcell R c (n + 16), ?_⟩
  unfold mean
  simp only [hc]
  rw [Ideal.div_coe h0, ← Sums.coe_sum, ← EReal.coe_mul, ← EReal.coe_sub]

variable {Wr : S4x512x512.Idx → ℝ} (hW : ∀ i, A.w i = (Wr i : EReal)) {Sr : S1x2048.Idx → ℝ} (hS : ∀ i, A.s i = (Sr i : EReal)) {Dr : Fin 4096 → Fin 2048 → ℝ} (hD : ∀ n q, dy A n q = (Dr n q : EReal))
include hW

theorem mix_real (n : Fin 4096) (g : Fin 4) (d : Fin 512) : ∃ r : ℝ, mix A n g d = r := by
  have hp : ∀ e : Fin 512, ∃ r : ℝ, pool A n g e = r := fun e => mean_real A hR (width g.val) (by unfold width; split <;> [skip; split <;> [skip; split]] <;> norm_num) (col g e) n.val
  choose p hp using hp
  refine ⟨∑ e : Fin 512, p e * Wr (ix3 g e d), ?_⟩
  unfold mix
  rw [Sums.coe_sum]
  refine Finset.sum_congr (M := EReal) rfl fun e _ => ?_
  rw [hp, hW, EReal.coe_mul]

omit hW in
theorem up_apply (n : Fin 4096) (q : Fin 2048) : (up A.d A.a A.w A.s (ix2 n q) : EReal) = dy A n q * mix A n (grp q.val q.isLt) (pos q.val) * A.s (ix2 0 q) := by
  have e : (up A.d A.a A.w A.s (ix2 n q) : EReal) = mix A n (grp q.val q.isLt) (pos q.val) * A.s (ix2 0 q) * dy A n q := by
    unfold up
    pointwise [spread, first]
    exact congrArg (fun x : EReal => x * _ * _) (mix_apply A hR n q)
  rw [e, mul_comm, mul_assoc]

include hS hD

omit hR hW hS hD in
theorem col_grp (q : Fin 2048) : col (grp q.val q.isLt) (pos q.val) = q := Fin.ext (Nat.div_add_mod _ _)

theorem dgate_apply (n : Fin 4096) (q : Fin 2048) : (dsum (up A.d A.a A.w A.s) A.a (ix2 n q) : EReal) = dgate A n (grp q.val q.isLt) (pos q.val) := by
  obtain ⟨x, hx⟩ := mix_real A hR hW n (grp q.val q.isLt) (pos q.val)
  have hu := up_apply A hR n q
  have hr : dy A n q * mix A n (grp q.val q.isLt) (pos q.val) * A.s (ix2 0 q) = ((Dr n q * x * Sr (ix2 0 q) : ℝ) : EReal) := by
    rw [hx, hS, hD, EReal.coe_mul, EReal.coe_mul]
  have e : (dsum (up A.d A.a A.w A.s) A.a (ix2 n q) : EReal) = through (gate A n q) (dy A n q * mix A n (grp q.val q.isLt) (pos q.val) * A.s (ix2 0 q)) := by
    rw [hr]
    refine Eq.trans ?_ (Cert.ConvARefIdeal.Value.gated (Dr n q * x * Sr (ix2 0 q)) (gate A n q))
    unfold dsum
    pointwise [gin, ones]
    rw [lgst_apply, hu, hr]
    rfl
  refine e.trans ?_
  unfold dgate
  rw [col_grp]

theorem out0_eq (j : S4096x9216.Idx) (hj : 2048 ≤ (j 1).val ∧ (j 1).val < 4096) : (whole (dsum (up A.d A.a A.w A.s) A.a) j : EReal) = Cert.PoolAIdeal.Value.out0 A j := by
  have e : (whole (dsum (up A.d A.a A.w A.s) A.a) j : EReal) = dsum (up A.d A.a A.w A.s) A.a (ix2 ⟨(j 0).val, (j 0).isLt⟩ ⟨(j 1).val - 2048, by omega⟩) := by
    generalize dsum (up A.d A.a A.w A.s) A.a = X
    unfold whole
    idx_vars j
    have hj1 : 2048 ≤ j1.val ∧ j1.val < 4096 := hj
    pointwise
    exact (dif_neg (by omega)).trans (dif_pos (by omega))
  unfold Cert.PoolAIdeal.Value.out0
  rw [dif_pos hj]
  exact e.trans (dgate_apply A hR hW hS hD _ _)

omit hR hW hS hD in
theorem out1_eq : shares (back A.d A.a A.w A.s) = Cert.PoolAIdeal.Value.out1 A := by
  funext i
  clean_types
  idx_vars i
  exact shares_apply A _ _

omit hW hS hD in
theorem scale_eq : rows (mulf (mixes A.a A.w) (cotan A.d A.a)) = Cert.PoolAIdeal.Value.scale A := by
  funext i
  clean_types
  idx_vars i
  obtain rfl : i0 = 0 := Subsingleton.elim _ _
  refine (rows_apply _ _).trans ?_
  refine Finset.sum_congr (M := EReal) rfl fun n _ => ?_
  refine (congrArg₂ (fun x y : EReal => x * y) (mix_apply A hR n i1) (cotan_apply A n i1)).trans ((mul_comm _ _).trans ?_)
  unfold scaleTerm
  exact congrArg (fun q => gated A n q * _) (Fin.ext (Nat.div_add_mod _ _).symm)

omit hW hS hD in
theorem weight_eq : matrices A.d A.a A.s = Cert.PoolAIdeal.Value.weight A := by
  funext i
  clean_types
  idx_vars i
  exact matrices_apply A hR _ _ _

end

end Cert.PoolARefIdeal.Value
end
-- ==== Proof.PoolAClaim.lean ====
module

public import proofs.«01_k».proof.Defs
public import proofs.«01_k».proof.Proof.Gen.Pre_pool_a_finite
public import proofs.«01_k».proof.Proof.Gen.On_pool_a_written
public import proofs.«01_k».proof.Proof.PoolAValue
public import proofs.«01_k».proof.Proof.PoolARef
public import proofs.«01_k».proof.Proof.Finite

@[expose] public section

set_option maxRecDepth 16384

noncomputable section

namespace Cert.PoolAClaim

open Idealize.ShloMosaic Idealize.ShloMosaic.TcCoe Idealize.SL.Sem
open Cert.PoolAIdeal.Value (Args args dy)
open Cert.PoolRefIdeal.Value (left)

/-- The precondition makes the entries it names real numbers. -/
theorem real_of_pre (m : (ℓ : Loc Cert.PoolAIdeal.nD Cert.PoolAIdeal.τ Cert.PoolAIdeal.sig) → Buf (Elt Ideal) ℓ)
    (h : Cert.Pre_PoolAIdeal_pool_a_finite (hPre_pool_a_finite := Cert.Pre_pool_a_finite.Gen.facts) m) (c : Dev Cert.PoolAIdeal.nD) :
    (∀ n q, dy (args m c) n q = (((dy (args m c) n q).toReal : ℝ) : EReal)) ∧ (∀ n q, (args m c).a (ix2 n (left q)) = ((((args m c).a (ix2 n (left q))).toReal : ℝ) : EReal)) ∧
      (∀ i, (args m c).w i = ((((args m c).w i).toReal : ℝ) : EReal)) ∧ ∀ i, (args m c).s i = ((((args m c).s i).toReal : ℝ) : EReal) := by
  haveI : Subsingleton Cert.Pre_pool_a_finite.S_.Idx := ⟨fun a b => funext fun k => k.elim0⟩
  have e := congrFun (h c) ix0
  obtain ⟨e012, e3⟩ := IntOp.andi_eq_one.mp e
  obtain ⟨e01, e2⟩ := IntOp.andi_eq_one.mp e012
  obtain ⟨e0, e1⟩ := IntOp.andi_eq_one.mp e01
  refine ⟨fun n q => ?_, fun n q => ?_, fun i => (Finite.real_of_all _ _ _ (fun _ => rfl) _ _ ix0 e2 i).symm, fun i => (Finite.real_of_all _ _ _ (fun _ => rfl) _ _ ix0 e3 i).symm⟩
  · have e := (Finite.real_of_all _ _ _ (fun _ => rfl) _ _ ix0 e0 (ix2 n q)).symm
    pointwise at e
    exact e
  · have e := (Finite.real_of_all _ _ _ (fun _ => rfl) _ _ ix0 e1 (ix2 n q)).symm
    pointwise at e
    exact e

/-- The mask of the first result is set on the gate's columns only. -/
theorem written (m : (ℓ : Loc Cert.PoolAIdeal.nD Cert.PoolAIdeal.τ Cert.PoolAIdeal.sig) → Buf (Elt Ideal) ℓ) (c : Dev Cert.PoolAIdeal.nD) (i : Cert.PoolAIdeal.S4096x9216.Idx)
    (h : (Cert.On_pool_a_written.fn (F := Ideal) (m ((c.tc : Thread Cert.PoolAIdeal.nD Cert.PoolAIdeal.τ).loc Cert.PoolAIdeal.main_arg0)) (m ((c.tc : Thread Cert.PoolAIdeal.nD Cert.PoolAIdeal.τ).loc Cert.PoolAIdeal.main_arg1)) (m ((c.tc : Thread Cert.PoolAIdeal.nD Cert.PoolAIdeal.τ).loc Cert.PoolAIdeal.main_arg2)) (m ((c.tc : Thread Cert.PoolAIdeal.nD Cert.PoolAIdeal.τ).loc Cert.PoolAIdeal.main_arg3))).1 i = 1#1) : 2048 ≤ (i 1).val ∧ (i 1).val < 4096 :=
  (by decide +kernel : ∀ k : Fin 9216, IntOp.andi (IntOp.cmpi .sge (BitVec.ofNat 32 k.val) 2048#32) (IntOp.cmpi .slt (BitVec.ofNat 32 k.val) 4096#32) = 1#1 → 2048 ≤ k.val ∧ k.val < 4096) (i 1) h

theorem algebraic : Cert.algebraic_PoolAIdeal_PoolARefIdeal_on_pool_a_written_pre_pool_a_finite (hPoolAIdeal := Cert.PoolAIdeal.Gen.facts) (hPoolARefIdeal := Cert.PoolARefIdeal.Gen.facts) (hPre_pool_a_finite := Cert.Pre_pool_a_finite.Gen.facts) (hOn_pool_a_written := Cert.On_pool_a_written.Gen.facts) := by
  intro m g m' g' hpre hagree
  refine ⟨_, _, _, _, (θ_run _ _ _).mono (fun r h c => ⟨fun i _ => congrFun (h c).1 i, fun i _ => congrFun (h c).2.1 i, fun i _ => congrFun (h c).2.2.1 i, fun i _ => congrFun (h c).2.2.2.1 i, (h c).2.2.2.2⟩) (Cert.PoolAIdeal.Value.run_blocks m g),
    (θ_run _ _ _).mono (fun r h c => ⟨fun i hi => (congrFun (h c).1 i).trans ?_, fun i _ => congrFun ((h c).2.1.trans ?_) i, fun i _ => congrFun ((h c).2.2.1.trans ?_) i, fun i _ => congrFun ((h c).2.2.2.1.trans ?_) i, (h c).2.2.2.2⟩) (Cert.PoolARefIdeal.Value.run m' g')⟩
  all_goals
    obtain ⟨e0, e1, e2, e3⟩ := hagree c
    obtain ⟨hD, hR, hW, hS⟩ := real_of_pre m hpre c
  · have hj := written m c i hi
    rw [Cert.PoolARefIdeal.Value.res0]
    refine Eq.trans ?_ (Cert.PoolAIdeal.Value.out0_value m c i hj).symm
    rw [e0, e1, e2, e3]
    exact Cert.PoolARefIdeal.Value.out0_eq (args m c) (R := fun n q => ((args m c).a (ix2 n (left q))).toReal) hR (Wr := fun i => ((args m c).w i).toReal) hW (Sr := fun i => ((args m c).s i).toReal) hS (Dr := fun n q => (dy (args m c) n q).toReal) hD i hj
  · rw [Cert.PoolARefIdeal.Value.res1, e0, e1, e2, e3]
    exact (Cert.PoolARefIdeal.Value.out1_eq (args m c)).trans (Cert.PoolAIdeal.Value.out1_value m c).symm
  · rw [Cert.PoolARefIdeal.Value.res2, e0, e1, e2]
    exact (Cert.PoolARefIdeal.Value.scale_eq (args m c) (R := fun n q => ((args m c).a (ix2 n (left q))).toReal) hR).trans (Cert.PoolAIdeal.Value.scale_value m c).symm
  · rw [Cert.PoolARefIdeal.Value.res3, e0, e1, e3]
    exact (Cert.PoolARefIdeal.Value.weight_eq (args m c) (R := fun n q => ((args m c).a (ix2 n (left q))).toReal) hR).trans (Cert.PoolAIdeal.Value.weight_value m c).symm

end Cert.PoolAClaim
end
-- ==== Proof.PoolB.lean ====
module

public import proofs.«01_k».proof.Proof.Gen.PoolBIdeal.Value
public import Idealize.ShloMosaic.Lib.Pipeline.ValueKit
public import Idealize.ShloMosaic.Lib.Pointwise
public import proofs.«01_k».proof.Proof.Sums

@[expose] public section

set_option maxRecDepth 16384

noncomputable section

namespace Cert.PoolBIdeal.Value

open Cert.PoolBIdeal Cert.PoolBIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![(grid0.coords t 0).val, 0] ∧ win0_1.index t = ![min (((grid0.coords t 0).val + 1) * 32) 255, 0] ∧ win0_2.index t = ![(grid0.coords t 0).val, 0] ∧ (grid0.coords t 0).val = t.val := by
  decide +kernel

/-- Row `n`, column `c` of an array, zero below its last row. -/
def cell (a : S4096x2048.Idx → EReal) (c : Fin 2048) (n : Nat) : EReal := if h : n < 4096 then a (ix2 ⟨n, h⟩ c) else 0

variable {a : S4096x2048.Idx → EReal} {i : grid0.Coords} {x0 : Vec Ideal S512x2048 .f32} {x1 : Vec Ideal S16x2048 .f32}

/-- The staged rows with the next block's first rows below them. -/
theorem ext_apply (h0 : ∀ r c, x0 (ix2 r c) = cell a c (512 * (i 0).val + r.val))
    (h1 : ∀ r c, (i 0).val < 7 → x1 (ix2 r c) = cell a c (512 * (i 0).val + 512 + r.val)) (r : Nat) (c : Fin 2048) (hr : r < 528) :
    (if h : r < 512 then x0 (ix2 ⟨r, h⟩ c) else Scalar.select (Scalar.cmpi .slt (BitVec.ofNat 32 (i 0).val) 7#32) (x1 (ix2 ⟨r - 512, by omega⟩ c)) (0 : EReal)) =
      cell a c (512 * (i 0).val + r) := by
  split
  · rw [h0]
  · have hi : (i 0).val < 8 := (i 0).isLt
    by_cases h7 : (i 0).val < 7
    · have e : Scalar.cmpi .slt (BitVec.ofNat 32 (i 0).val) 7#32 = 1#1 := (by decide : ∀ k : Fin 7, Scalar.cmpi .slt (BitVec.ofNat 32 k.val) 7#32 = 1#1) ⟨_, h7⟩
      rw [e, h1 _ _ h7]
      show cell a c _ = _
      congr 1; show _ + (r - 512) = _; omega
    · have e : (i 0).val = 7 := by omega
      rw [e]
      show (0 : EReal) = _
      unfold cell; rw [dif_neg (by omega)]

section
variable (h0 : ∀ r c, x0 (ix2 r c) = cell a c (512 * (i 0).val + r.val))
    (h1 : ∀ r c, (i 0).val < 7 → x1 (ix2 r c) = cell a c (512 * (i 0).val + 512 + r.val))
include h0 h1

theorem pay4_apply (r : Fin 528) (c : Fin 2048) (hr : r.val + 1 < 528) :
    k0_pay4 i x0 x1 (ix2 r c) = ∑ k ∈ Finset.range 2, cell a c (512 * (i 0).val + r.val + k) := by
  pointwise [k0_pay4]
  rw [ext_apply h0 h1 _ _ r.isLt, ext_apply h0 h1 _ _ (Nat.mod_lt _ (by norm_num)), Finset.sum_range_succ, Finset.sum_range_one]
  congr 2; omega

theorem pay5_apply (r : Fin 528) (c : Fin 2048) (hr : r.val + 3 < 528) :
    k0_pay5 i x0 x1 (ix2 r c) = ∑ k ∈ Finset.range 4, cell a c (512 * (i 0).val + r.val + k) := by
  pointwise [k0_pay5]
  rw [pay4_apply h0 h1 _ _ (by omega), pay4_apply h0 h1 _ _ (by show (r.val + 528 - 526) % 528 + 1 < 528; omega), Finset.sum_range_add _ 2 2]
  congr 1
  refine Finset.sum_congr rfl fun k _ => congrArg _ ?_
  show _ + (r.val + 528 - 526) % 528 + k = _; omega

theorem pay6_apply (r : Fin 528) (c : Fin 2048) (hr : r.val + 7 < 528) :
    k0_pay6 i x0 x1 (ix2 r c) = ∑ k ∈ Finset.range 8, cell a c (512 * (i 0).val + r.val + k) := by
  pointwise [k0_pay6]
  rw [pay5_apply h0 h1 _ _ (by omega), pay5_apply h0 h1 _ _ (by show (r.val + 528 - 524) % 528 + 3 < 528; omega), Finset.sum_range_add _ 4 4]
  congr 1
  refine Finset.sum_congr rfl fun k _ => congrArg _ ?_
  show _ + (r.val + 528 - 524) % 528 + k = _; omega

theorem pay7_apply (r : Fin 528) (c : Fin 2048) (hr : r.val + 15 < 528) :
    k0_pay7 i x0 x1 (ix2 r c) = ∑ k ∈ Finset.range 16, cell a c (512 * (i 0).val + r.val + k) := by
  pointwise [k0_pay7]
  rw [pay6_apply h0 h1 _ _ (by omega), pay6_apply h0 h1 _ _ (by show (r.val + 528 - 520) % 528 + 7 < 528; omega), Finset.sum_range_add _ 8 8]
  congr 1
  refine Finset.sum_congr rfl fun k _ => congrArg _ ?_
  show _ + (r.val + 528 - 520) % 528 + k = _; omega

end

/-- The gradient at row `n`: the window of `w` rows from `n`, less the row's own entry times the row's count. -/
def grad (a : S4096x2048.Idx → EReal) (w : Nat) (c : Fin 2048) (n : Nat) : EReal :=
  ∑ k ∈ Finset.range w, cell a c (n + k) - cell a c n * (((min (n + 1) w : ℕ) : ℝ) : EReal)

/-- The window length of a column. -/
def width (c : Nat) : Nat := if c < 512 then 2 else if c < 1024 then 4 else if c < 1536 then 8 else 16

theorem entry (c : Dev nD) : V m c main_v0 = m ((c : Thread nD τ).loc main_arg1) := by
  delta V
  simp only [hostOps0]
  after_results_simp
  rfl

theorem stage0 (c : Dev nD) (t : Fin cfg0.N) (r : Fin 512) (q : Fin 2048) :
    iblk m c 0 t (ix2 r q) = cell (m ((c : Thread nD τ).loc main_arg0)) q (512 * (grid0.coords t 0).val + r.val) := by
  have hi : (grid0.coords t 0).val < 8 := (grid0.coords t 0).isLt
  have hy := idx0 t
  unfold cell
  rw [dif_pos (by omega)]
  blk_point [iblk, V_main_arg0, hy.1]

theorem stage1 (c : Dev nD) (t : Fin cfg0.N) (r : Fin 16) (q : Fin 2048) (h7 : (grid0.coords t 0).val < 7) :
    iblk m c 1 t (ix2 r q) = cell (m ((c : Thread nD τ).loc main_arg0)) q (512 * (grid0.coords t 0).val + 512 + r.val) := by
  have hy := idx0 t
  unfold cell
  rw [dif_pos (by omega)]
  blk_point [iblk, V_main_arg0, hy.2.1]

/-- The result array: the gradient on the first columns, the second argument beside it. -/
def out (a : S4096x2048.Idx → EReal) (b : S4096x9216.Idx → EReal) (i : S4096x9216.Idx) : EReal :=
  if h : (i 1).val < 2048 then grad a (width (i 1).val) ⟨(i 1).val, h⟩ (i 0).val else b i

section
variable (h0 : ∀ r c, x0 (ix2 r c) = cell a c (512 * (i 0).val + r.val))
    (h1 : ∀ r c, (i 0).val < 7 → x1 (ix2 r c) = cell a c (512 * (i 0).val + 512 + r.val))
include h0 h1

theorem piece0 (y : S512x512.Idx) :
    k0_pay8 i x0 x1 y = grad a 2 ⟨(y 1).val, by have := (y 1).isLt; simp at this; omega⟩ (512 * (i 0).val + (y 0).val) := by
  idx_vars y
  have hi : (i 0).val < 8 := (i 0).isLt
  pointwise [k0_pay8]
  rw [pay4_apply h0 h1 _ _ (by first | omega | (simp; omega)), h0]
  unfold grad
  refine congrArg₂ (· - ·) rfl (congrArg₂ (· * ·) rfl ((Sums.count_value _ _ _ _ (Sums.row_word _ _ _ (by omega) (by omega) (by omega)) rfl (by omega) (by decide)).trans ?_))
  congr 3
  omega

theorem piece1 (y : S512x512.Idx) :
    k0_pay1 (k0_pay9 i x0 x1) (k0_pay10 x0) (k0_pay11 i) y = grad a 4 ⟨512 + (y 1).val, by have := (y 1).isLt; simp at this; omega⟩ (512 * (i 0).val + (y 0).val) := by
  idx_vars y
  have hi : (i 0).val < 8 := (i 0).isLt
  pointwise [k0_pay1, k0_pay9, k0_pay10, k0_pay11]
  rw [pay5_apply h0 h1 _ _ (by first | omega | (simp; omega)), h0]
  unfold grad
  refine congrArg₂ (· - ·) rfl (congrArg₂ (· * ·) rfl ((Sums.count_value _ _ _ _ (Sums.row_word _ _ _ (by omega) (by omega) (by omega)) rfl (by omega) (by decide)).trans ?_))
  congr 3
  omega

theorem piece2 (y : S512x512.Idx) :
    k0_pay2 (BitVec.ofNat 32 (i 0).val) x0 (k0_pay6 i x0 x1) y = grad a 8 ⟨1024 + (y 1).val, by have := (y 1).isLt; simp at this; omega⟩ (512 * (i 0).val + (y 0).val) := by
  idx_vars y
  have hi : (i 0).val < 8 := (i 0).isLt
  pointwise [k0_pay2]
  rw [pay6_apply h0 h1 _ _ (by first | omega | (simp; omega)), h0]
  unfold grad
  refine congrArg₂ (· - ·) rfl (congrArg₂ (· * ·) rfl ((Sums.count_value _ _ _ _ (Sums.row_word _ _ _ (by omega) (by omega) (by omega)) rfl (by omega) (by decide)).trans ?_))
  congr 3
  omega

theorem piece3 (y : S512x512.Idx) :
    k0_pay3 (BitVec.ofNat 32 (i 0).val) x0 (k0_pay7 i x0 x1) y = grad a 16 ⟨1536 + (y 1).val, by have := (y 1).isLt; simp at this; omega⟩ (512 * (i 0).val + (y 0).val) := by
  idx_vars y
  have hi : (i 0).val < 8 := (i 0).isLt
  pointwise [k0_pay3]
  rw [pay7_apply h0 h1 _ _ (by first | omega | (simp; omega)), h0]
  unfold grad
  refine congrArg₂ (· - ·) rfl (congrArg₂ (· * ·) rfl ((Sums.count_value _ _ _ _ (Sums.row_word _ _ _ (by omega) (by omega) (by omega)) rfl (by omega) (by decide)).trans ?_))
  congr 3
  omega

end

theorem out_at {w : Nat} (a : S4096x2048.Idx → EReal) (b : S4096x9216.Idx → EReal) (j : S4096x9216.Idx) (q : Fin 2048) (n : Nat)
    (h0 : (j 0).val = n) (h1 : (j 1).val = q.val) (hw : width q.val = w) : out a b j = grad a w q n := by
  subst h0 hw
  unfold out
  rw [dif_pos (by omega)]
  simp only [h1]

set_option maxHeartbeats 1600000 in
theorem value (c : Dev nD) : (dats m 0 c).arrAt 2 cfg0.N = out (m ((c : Thread nD τ).loc main_arg0)) (m ((c : Thread nD τ).loc main_arg1)) := by
  refine ((dats m 0 c).arrAt_eq_of_coversWhere (P := fun i => (i 1).val < 2048) 2 (out (m ((c : Thread nD τ).loc main_arg0)) (m ((c : Thread nD τ).loc main_arg1))) (fun β => β 1 < 1) (by decide +kernel) (fun t hf y => ?_) (fun j => ?_)).trans ?_
  · have hy := idx0 t
    blk_simp
    rw [after0_2]
    unfold outsAt0
    frame_out
    have hj0 : ((((View.whole main_v0).slice (win0_2.rect t)).emb y) 0).val = 512 * (grid0.coords t 0).val + ((win0 2).xinj (grid0.coords t) y 0).val := by
      show _ = 512 * (grid0.coords t 0).val + (y 0).val
      blk_simp [hy.2.2.1]; omega
    have hj1 : ((((View.whole main_v0).slice (win0_2.rect t)).emb y) 1).val = ((win0 2).xinj (grid0.coords t) y 1).val := by
      show _ = (y 1).val
      blk_simp [hy.2.2.1]
    generalize ((View.whole main_v0).slice (win0_2.rect t)).emb y = j at hj0 hj1 ⊢
    canon_tiles y
    · rw [out_at (w := 16) _ _ _ ⟨1536 + (y 1).val, by omega⟩ (512 * (grid0.coords t 0).val + (y 0).val) (hj0.trans (congrArg (512 * (grid0.coords t 0).val + ·) h0)) (hj1.trans h1) (by unfold width; grind)]
      exact piece3 (stage0 m c t) (stage1 m c t) y
    · rw [out_at (w := 8) _ _ _ ⟨1024 + (y 1).val, by omega⟩ (512 * (grid0.coords t 0).val + (y 0).val) (hj0.trans (congrArg (512 * (grid0.coords t 0).val + ·) h0)) (hj1.trans h1) (by unfold width; grind)]
      exact piece2 (stage0 m c t) (stage1 m c t) y
    · rw [out_at (w := 4) _ _ _ ⟨512 + (y 1).val, by omega⟩ (512 * (grid0.coords t 0).val + (y 0).val) (hj0.trans (congrArg (512 * (grid0.coords t 0).val + ·) h0)) (hj1.trans h1) (by unfold width; grind)]
      exact piece1 (stage0 m c t) (stage1 m c t) y
    · rw [out_at (w := 2) _ _ _ ⟨(y 1).val, by omega⟩ (512 * (grid0.coords t 0).val + (y 0).val) (hj0.trans (congrArg (512 * (grid0.coords t 0).val + ·) h0)) (hj1.trans h1) (by unfold width; grind)]
      exact piece0 (stage0 m c t) (stage1 m c t) y
  · blk_simp [Pipeline.Window.cell_apply]; omega
  · funext i
    split
    · rfl
    · rename_i h
      unfold out
      rw [dif_neg h, A_eq]
      exact congrFun (entry m c) i

end Cert.PoolBIdeal.Value
end
-- ==== Proof.PoolBRef.lean ====
module

public import proofs.«01_k».proof.Proof.Gen.PoolBRefIdeal.Run
public import proofs.«01_k».proof.Proof.PoolB
public import proofs.«01_k».proof.Proof.Finite
public import Idealize.ShloMosaic.Lib.Tactic.CleanTypes

@[expose] public section

set_option maxRecDepth 16384

noncomputable section

namespace Cert.PoolBRefIdeal.Value

open Cert.PoolBRefIdeal Cert.PoolBRefIdeal.Gen Idealize.ShloMosaic Idealize.ShloMosaic.TcCoe Idealize.SL.Sem

variable (V0 : Valuation τ sig (Elt Ideal)) (A : S4096x2048.Idx → ℝ)

/-- The number of rows in the window that ends at row `n`. -/
def cnt (w n : Nat) : ℝ := ((min (n + 1) w : ℕ) : ℝ)

/-- Row `n`, column `c` of a real array, zero below its last row. -/
def rcell (c : Fin 2048) (n : Nat) : ℝ := if h : n < 4096 then A (ix2 ⟨n, h⟩ c) else 0

theorem count (r : Fin 4096) (d : BitVec 32) (w : Nat) (hd : d.toNat = w) (hw : w < 2 ^ 31) :
    FloatOps.sitofp (F := Ideal) FTy.f32 (IntOp.minsi (IntOp.addi (BitVec.ofNat 32 r.val) 1#32) d) = (cnt w r.val : EReal) := by
  refine Sums.count_value _ d (r.val + 1) w ?_ hd (by omega) hw
  show (BitVec.ofNat 32 r.val + 1#32 : BitVec 32).toNat = _
  rw [BitVec.toNat_add, BitVec.toNat_ofNat]
  have := r.isLt
  simp; omega

variable {V0 A} (hA : ∀ i, (V0 (Proc.devRef .tc main_arg0) i : EReal) = (A i : EReal))
include hA

theorem v106_apply (r : Fin 4096) (c : Fin 512) : (res_main_v106 V0 (ix2 r c) : EReal) = ((rcell A ⟨c.val, by omega⟩ r.val * cnt 2 r.val : ℝ) : EReal) := by
  unfold res_main_v106 res_main_v41 res_main_v0
  clean_types
  pointwise
  rw [hA, count r _ 2 rfl (by norm_num), EReal.coe_mul]
  unfold rcell
  rw [dif_pos r.isLt]

theorem v145_apply (r : Fin 4096) (c : Fin 512) : (res_main_v145 V0 (ix2 r c) : EReal) = ((rcell A ⟨c.val, by omega⟩ r.val : ℝ) : EReal) := by
  have h : (res_main_v145 V0 (ix2 r c) : EReal) = Ideal.div (res_main_v106 V0 (ix2 r c)) (cnt 2 r.val : EReal) := by
    rw [← count r 2#32 2 rfl (by norm_num)]
    unfold res_main_v145 res_main_v53 res_main_v47
    clean_types
    pointwise
  have h0 : cnt 2 r.val ≠ 0 := by
    unfold cnt
    exact Nat.cast_ne_zero.2 (by omega)
  rw [h, v106_apply hA, Ideal.div_coe h0, ← EReal.coe_mul, mul_one_div, mul_div_cancel_right₀ _ h0]

theorem v108_apply (r : Fin 4096) (c : Fin 512) : (res_main_v108 V0 (ix2 r c) : EReal) = ((rcell A ⟨512 + c.val, by omega⟩ r.val * cnt 4 r.val : ℝ) : EReal) := by
  unfold res_main_v108 res_main_v41 res_main_v0
  clean_types
  pointwise
  rw [hA, count r _ 4 rfl (by norm_num), EReal.coe_mul]
  unfold rcell
  rw [dif_pos r.isLt]

theorem v135_apply (r : Fin 4096) (c : Fin 512) : (res_main_v135 V0 (ix2 r c) : EReal) = ((rcell A ⟨512 + c.val, by omega⟩ r.val : ℝ) : EReal) := by
  have h : (res_main_v135 V0 (ix2 r c) : EReal) = Ideal.div (res_main_v108 V0 (ix2 r c)) (cnt 4 r.val : EReal) := by
    rw [← count r 4#32 4 rfl (by norm_num)]
    unfold res_main_v135 res_main_v59 res_main_v47
    clean_types
    pointwise
  have h0 : cnt 4 r.val ≠ 0 := by
    unfold cnt
    exact Nat.cast_ne_zero.2 (by omega)
  rw [h, v108_apply hA, Ideal.div_coe h0, ← EReal.coe_mul, mul_one_div, mul_div_cancel_right₀ _ h0]

theorem v110_apply (r : Fin 4096) (c : Fin 512) : (res_main_v110 V0 (ix2 r c) : EReal) = ((rcell A ⟨1024 + c.val, by omega⟩ r.val * cnt 8 r.val : ℝ) : EReal) := by
  unfold res_main_v110 res_main_v41 res_main_v0
  clean_types
  pointwise
  rw [hA, count r _ 8 rfl (by norm_num), EReal.coe_mul]
  unfold rcell
  rw [dif_pos r.isLt]

theorem v125_apply (r : Fin 4096) (c : Fin 512) : (res_main_v125 V0 (ix2 r c) : EReal) = ((rcell A ⟨1024 + c.val, by omega⟩ r.val : ℝ) : EReal) := by
  have h : (res_main_v125 V0 (ix2 r c) : EReal) = Ideal.div (res_main_v110 V0 (ix2 r c)) (cnt 8 r.val : EReal) := by
    rw [← count r 8#32 8 rfl (by norm_num)]
    unfold res_main_v125 res_main_v65 res_main_v47
    clean_types
    pointwise
  have h0 : cnt 8 r.val ≠ 0 := by
    unfold cnt
    exact Nat.cast_ne_zero.2 (by omega)
  rw [h, v110_apply hA, Ideal.div_coe h0, ← EReal.coe_mul, mul_one_div, mul_div_cancel_right₀ _ h0]

theorem v112_apply (r : Fin 4096) (c : Fin 512) : (res_main_v112 V0 (ix2 r c) : EReal) = ((rcell A ⟨1536 + c.val, by omega⟩ r.val * cnt 16 r.val : ℝ) : EReal) := by
  unfold res_main_v112 res_main_v41 res_main_v0
  clean_types
  pointwise
  rw [hA, count r _ 16 rfl (by norm_num), EReal.coe_mul]
  unfold rcell
  rw [dif_pos r.isLt]

theorem v116_apply (r : Fin 4096) (c : Fin 512) : (res_main_v116 V0 (ix2 r c) : EReal) = ((rcell A ⟨1536 + c.val, by omega⟩ r.val : ℝ) : EReal) := by
  have h : (res_main_v116 V0 (ix2 r c) : EReal) = Ideal.div (res_main_v112 V0 (ix2 r c)) (cnt 16 r.val : EReal) := by
    rw [← count r 16#32 16 rfl (by norm_num)]
    unfold res_main_v116 res_main_v71 res_main_v47
    clean_types
    pointwise
  have h0 : cnt 16 r.val ≠ 0 := by
    unfold cnt
    exact Nat.cast_ne_zero.2 (by omega)
  rw [h, v112_apply hA, Ideal.div_coe h0, ← EReal.coe_mul, mul_one_div, mul_div_cancel_right₀ _ h0]

set_option maxHeartbeats 4000000 in
theorem v150_apply (n : Fin 4096) (c : Fin 2048) : (res_main_v150 V0 (ix2 ⟨16 + n.val, by omega⟩ c) : EReal) =
    ((rcell A c n.val - rcell A c (n.val + PoolBIdeal.Value.width c.val) : ℝ) : EReal) := by
  unfold res_main_v150
  clean_types
  pointwise
  unfold PoolBIdeal.Value.width
  simp only [v116_apply hA, v125_apply hA, v135_apply hA, v145_apply hA]
  have hz : ∀ j, 4096 ≤ j → rcell A c j = 0 := fun j hj => dif_neg (by omega)
  have hn : ∀ j, ((rcell A c n.val - rcell A c j : ℝ) : EReal) = -(rcell A c j : EReal) + (rcell A c n.val : EReal) := by
    intro j; rw [sub_eq_neg_add, EReal.coe_add, EReal.coe_neg]
  rw [hn]
  have e : ∀ (k : Nat) (hk : k < 2048) (j j' : Nat), k = c.val → j = j' → rcell A ⟨k, hk⟩ j = rcell A c j' := by
    rintro k hk j j' h rfl; congr 1; exact Fin.ext h
  have k : ∀ j, ¬j < 4096 → -((rcell A c j : ℝ) : EReal) = 0 := by
    intro j hj; rw [hz _ (by omega), EReal.coe_zero, neg_zero]
  split_ifs <;> first
    | (exfalso; omega)
    | (simp only [zero_add, add_zero]
       first
         | (refine congrArg₂ (fun x y : EReal => x + y) (congrArg (fun x : ℝ => -(x : EReal)) (e _ _ _ _ ?_ ?_)) (congrArg (fun x : ℝ => (x : EReal)) (e _ _ _ _ ?_ rfl)) <;> first | rfl | omega)
         | (refine (congrArg (fun x : ℝ => (x : EReal)) (e _ _ _ _ ?_ rfl)).trans ((congrArg (fun x : EReal => x + (rcell A c n.val : EReal)) (k _ ?_)).trans (zero_add _)).symm <;> first | rfl | omega))

/-- The suffix sum of the scattered differences, at row `n`: the window of `w` rows from `n`. -/
theorem window_apply (n : Fin 4096) (c : Fin 2048) :
    (Host.reduceWindowAdd ![4096, 1] ![1, 1] ![0, 0] ![4095, 0] (extractStridedSlice S4096x2048 ![16, 0] (res_main_v150 V0) slices_S4112x2048_S4096x2048_16_0)
      (broadcastInDim S_ ![] bcast_S_S_ (constant (F := Ideal) S_ .f32 0x00000000#32)) reduceWindows_S4096x2048_S4096x2048_w4096s1p0_4095_w1s1p0_0 h_S_ (ix2 n c) : EReal) =
    ((∑ k ∈ Finset.range (PoolBIdeal.Value.width c.val), rcell A c (n.val + k) : ℝ) : EReal) := by
  unfold Host.reduceWindowAdd
  pointwise
  rw [Ideal.hostReduceWindowAdd_def, Sums.window_rows, ← Sums.suffix_telescope (rcell A c) 4096 _ (fun j hj => dif_neg (by omega)) 4096 n.val (by omega), Sums.coe_sum, Finset.sum_range]
  refine Finset.sum_congr rfl fun p _ => ?_
  split
  · rename_i h
    refine Eq.trans ?_ (v150_apply hA ⟨n.val + p.val, by omega⟩ c)
    pointwise
  · rename_i h
    unfold rcell
    rw [dif_neg (by omega), dif_neg (by omega), sub_zero, EReal.coe_zero]

/-- The kernel's entry over real arguments. -/
theorem grad_eq (n : Fin 4096) (c : Fin 2048) : PoolBIdeal.Value.grad (V0 (Proc.devRef .tc main_arg0)) (PoolBIdeal.Value.width c.val) c n.val =
    -((rcell A c n.val * cnt (PoolBIdeal.Value.width c.val) n.val : ℝ) : EReal) + ((∑ k ∈ Finset.range (PoolBIdeal.Value.width c.val), rcell A c (n.val + k) : ℝ) : EReal) := by
  have hc : ∀ j, PoolBIdeal.Value.cell (V0 (Proc.devRef .tc main_arg0)) c j = (rcell A c j : EReal) := by
    intro j
    unfold PoolBIdeal.Value.cell rcell
    split
    · exact hA _
    · rfl
  unfold PoolBIdeal.Value.grad
  simp only [hc]
  rw [← Sums.coe_sum, ← EReal.coe_mul, ← EReal.coe_sub, ← EReal.coe_neg, ← EReal.coe_add, neg_add_eq_sub]
  rfl

set_option maxHeartbeats 4000000 in
/-- The reference's result is the array the kernel leaves. -/
theorem result_eq : concatenate S4096x9216 1 [⟨S4096x2048, (truncf .bf16 (addf (addf (addf (addf (pad S4096x2048 ![0, 1536] ![0, 0] ![0, 0] (Host.negf (res_main_v112 V0)) (constant S_ .f32 0x00000000#32) pads_S4096x512_S4096x2048_000_153600 h_S_) (pad S4096x2048 ![0, 1024] ![0, 512] ![0, 0] (Host.negf (res_main_v110 V0)) (constant S_ .f32 0x00000000#32) pads_S4096x512_S4096x2048_000_10245120 h_S_)) (pad S4096x2048 ![0, 512] ![0, 1024] ![0, 0] (Host.negf (res_main_v108 V0)) (constant S_ .f32 0x00000000#32) pads_S4096x512_S4096x2048_000_51210240 h_S_)) (pad S4096x2048 ![0, 0] ![0, 1536] ![0, 0] (Host.negf (res_main_v106 V0)) (constant S_ .f32 0x00000000#32) pads_S4096x512_S4096x2048_000_015360 h_S_)) (Host.reduceWindowAdd ![4096, 1] ![1, 1] ![0, 0] ![4095, 0] (extractStridedSlice S4096x2048 ![16, 0] (res_main_v150 V0) slices_S4112x2048_S4096x2048_16_0) (broadcastInDim S_ ![] bcast_S_S_ (constant S_ .f32 0x00000000#32)) reduceWindows_S4096x2048_S4096x2048_w4096s1p0_4095_w1s1p0_0 h_S_)) bitsLt_bf16_f32)⟩, ⟨S4096x7168, (extractStridedSlice S4096x7168 ![0, 2048] (V0 (Proc.devRef .tc main_arg1)) slices_S4096x9216_S4096x7168_0_2048)⟩] concatenates_S4096x2048_S4096x7168_S4096x9216_d1 = PoolBIdeal.Value.out (V0 (Proc.devRef .tc main_arg0)) (V0 (Proc.devRef .tc main_arg1)) := by
  refine funext fun i => ?_
  idx_vars i
  clean_types
  pointwise
  unfold PoolBIdeal.Value.out
  by_cases h : i1.val < 2048
  · rw [dif_pos h, dif_pos (show ((ix2 i0 i1) 1).val < 2048 from h)]
    refine (congrArg₂ (· + ·) ?_ (window_apply hA i0 ⟨i1.val, h⟩)).trans (grad_eq hA i0 ⟨i1.val, h⟩).symm
    simp only [v106_apply hA, v108_apply hA, v110_apply hA, v112_apply hA]
    have e : ∀ (k : Nat) (hk : k < 2048), k = i1.val → rcell A ⟨k, hk⟩ = rcell A ⟨i1.val, h⟩ := by
      rintro k hk rfl; rfl
    unfold PoolBIdeal.Value.width
    split_ifs <;> first
      | (exfalso; omega)
      | (simp only [zero_add, add_zero]; done)
      | (simp only [zero_add, add_zero]
         rw [e (_ + (_ - _)) _ ?_]
         omega)
  · rw [dif_neg h, dif_neg (show ¬ ((ix2 i0 i1) 1).val < 2048 from h)]
    congr 2; apply Fin.ext; simp only []; omega

end Cert.PoolBRefIdeal.Value
end
-- ==== Proof.PoolBClaim.lean ====
module

public import proofs.«01_k».proof.Defs
public import proofs.«01_k».proof.Proof.Gen.Pre_pool_b_finite
public import proofs.«01_k».proof.Proof.PoolBRef

@[expose] public section

noncomputable section

namespace Cert.PoolBClaim

open Idealize.ShloMosaic Idealize.ShloMosaic.TcCoe Idealize.SL.Sem

/-- The precondition makes every entry of the first argument a real number. -/
theorem real_of_pre (m : (ℓ : Loc Cert.PoolBIdeal.nD Cert.PoolBIdeal.τ Cert.PoolBIdeal.sig) → Buf (Elt Ideal) ℓ)
    (h : Cert.Pre_PoolBIdeal_pool_b_finite (hPre_pool_b_finite := Cert.Pre_pool_b_finite.Gen.facts) m) (c : Dev Cert.PoolBIdeal.nD) (i : Cert.PoolBIdeal.S4096x2048.Idx) :
    (m ((c.tc : Thread Cert.PoolBIdeal.nD Cert.PoolBIdeal.τ).loc Cert.PoolBIdeal.main_arg0) i : EReal) =
      (((m ((c.tc : Thread Cert.PoolBIdeal.nD Cert.PoolBIdeal.τ).loc Cert.PoolBIdeal.main_arg0) i : EReal).toReal : ℝ) : EReal) :=
  haveI : Subsingleton Cert.Pre_pool_b_finite.S_.Idx := ⟨fun a b => funext fun k => k.elim0⟩
  (Finite.real_of_all _ _ _ (fun _ => rfl) _ _ ix0 (congrFun (h c) ix0) i).symm

theorem algebraic : Cert.algebraic_PoolBIdeal_PoolBRefIdeal_pre_pool_b_finite (hPoolBIdeal := Cert.PoolBIdeal.Gen.facts) (hPoolBRefIdeal := Cert.PoolBRefIdeal.Gen.facts) (hPre_pool_b_finite := Cert.Pre_pool_b_finite.Gen.facts) := by
  intro m g m' g' hpre hagree
  refine ⟨_, Cert.PoolBIdeal.Value.run_blocks m g, (θ_run _ _ _).mono (fun r h c => ⟨(h c).1.trans ?_, (h c).2⟩) (Cert.PoolBRefIdeal.Value.run m' g')⟩
  obtain ⟨e0, e1⟩ := hagree c
  refine (Cert.PoolBRefIdeal.Value.result_eq (A := fun i => (m ((c.tc : Thread Cert.PoolBIdeal.nD Cert.PoolBIdeal.τ).loc Cert.PoolBIdeal.main_arg0) i : EReal).toReal) fun i => ?_).trans ?_
  · exact (congrFun e0 i).trans (real_of_pre m hpre c i)
  · exact (congrArg₂ Cert.PoolBIdeal.Value.out e0 e1).trans (Cert.PoolBIdeal.Value.value m c).symm

end Cert.PoolBClaim
end
-- ==== Proof.PoolClaim.lean ====
module

public import proofs.«01_k».proof.Defs
public import proofs.«01_k».proof.Proof.Gen.Pre_pool_finite
public import proofs.«01_k».proof.Proof.Gen.On_pool_written
public import proofs.«01_k».proof.Proof.PoolRef

@[expose] public section

set_option maxRecDepth 16384

noncomputable section

namespace Cert.PoolClaim

open Idealize.ShloMosaic Idealize.ShloMosaic.TcCoe Idealize.SL.Sem

/-- The precondition makes every entry of the first 2048 columns a real number. -/
theorem real_of_pre (m : (ℓ : Loc Cert.PoolIdeal.nD Cert.PoolIdeal.τ Cert.PoolIdeal.sig) → Buf (Elt Ideal) ℓ)
    (h : Cert.Pre_PoolIdeal_pool_finite (hPre_pool_finite := Cert.Pre_pool_finite.Gen.facts) m) (c : Dev Cert.PoolIdeal.nD) (n : Fin 4096) (q : Fin 2048) :
    (m ((c.tc : Thread Cert.PoolIdeal.nD Cert.PoolIdeal.τ).loc Cert.PoolIdeal.main_arg0) (ix2 n (Cert.PoolRefIdeal.Value.left q)) : EReal) =
      (((m ((c.tc : Thread Cert.PoolIdeal.nD Cert.PoolIdeal.τ).loc Cert.PoolIdeal.main_arg0) (ix2 n (Cert.PoolRefIdeal.Value.left q)) : EReal).toReal : ℝ) : EReal) := by
  haveI : Subsingleton Cert.Pre_pool_finite.S_.Idx := ⟨fun a b => funext fun k => k.elim0⟩
  have e := (Finite.real_of_all _ _ _ (fun _ => rfl) _ _ ix0 (congrFun (h c) ix0) (ix2 n q)).symm
  pointwise at e
  exact e

/-- The mask is set on the first half of the columns only. -/
theorem written_lt (m : (ℓ : Loc Cert.PoolIdeal.nD Cert.PoolIdeal.τ Cert.PoolIdeal.sig) → Buf (Elt Ideal) ℓ) (c : Dev Cert.PoolIdeal.nD) (i : Cert.PoolIdeal.S4096x4096.Idx)
    (h : Cert.On_pool_written.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) i = 1#1) : (i 1).val < 2048 :=
  (by decide +kernel : ∀ k : Fin 4096, IntOp.cmpi .slt (BitVec.ofNat 32 k.val) 2048#32 = 1#1 → k.val < 2048) (i 1) h

theorem algebraic : Cert.algebraic_PoolIdeal_PoolRefIdeal_on_pool_written_pre_pool_finite (hPoolIdeal := Cert.PoolIdeal.Gen.facts) (hPoolRefIdeal := Cert.PoolRefIdeal.Gen.facts) (hPre_pool_finite := Cert.Pre_pool_finite.Gen.facts) (hOn_pool_written := Cert.On_pool_written.Gen.facts) := by
  intro m g m' g' hpre hagree
  refine ⟨_, (θ_run _ _ _).mono (fun r h c => ⟨fun i _ => congrFun (h c).1 i, (h c).2⟩) (Cert.PoolIdeal.Value.run_blocks m g), (θ_run _ _ _).mono (fun r h c => ⟨fun i hi => (congrFun (h c).1 i).trans ?_, (h c).2⟩) (Cert.PoolRefIdeal.Value.run m' g')⟩
  obtain ⟨e0, e1, e2⟩ := hagree c
  have hj := written_lt m c i hi
  rw [Cert.PoolRefIdeal.Value.result_eq]
  refine Eq.trans ?_ (Cert.PoolIdeal.Value.value m c i hj).symm
  rw [e0, e1, e2]
  exact Cert.PoolRefIdeal.Value.whole_apply (A := fun n q => (m ((c.tc : Thread Cert.PoolIdeal.nD Cert.PoolIdeal.τ).loc Cert.PoolIdeal.main_arg0) (ix2 n (Cert.PoolRefIdeal.Value.left q)) : EReal).toReal) (real_of_pre m hpre c) _ _ i hj

end Cert.PoolClaim
end
-- ==== Proof.PostValue.lean ====
module

public import proofs.«01_k».proof.Proof.Gen.PostIdeal.Value
public import Idealize.ShloMosaic.Lib.Pipeline.ValueKit
public import Idealize.ShloMosaic.Lib.Pointwise

@[expose] public section

set_option maxRecDepth 16384

noncomputable section

namespace Cert.PostIdeal.Value

open Cert.PostIdeal Cert.PostIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![t.val, 0] ∧ win0_1.index t = ![t.val, 0] ∧ win0_2.index t = ![0, 0] ∧ win0_3.index t = ![t.val, 0] ∧ win0_4.index t = ![t.val, 0] := by
  decide +kernel

/-- One over the root of a row's mean square. -/
def root (a : S4096x2048.Idx → EReal) (n : Fin 4096) : EReal :=
  Ideal.rsqrt (Ideal.div (∑ k : Fin 2048, a (ix2 n k) * a (ix2 n k)) (Ideal.ofBits .f32 0x45000000#32) + Ideal.ofBits .f32 0x358637BD#32)

/-- The roots as a column. -/
def roots (a : S4096x2048.Idx → EReal) (i : S4096x1.Idx) : EReal := root a ⟨(i 0).val, (i 0).isLt⟩

/-- The row plus its normalised branch. -/
def normed (a : S4096x2048.Idx → EReal) (b : S4096x2048.Idx → EReal) (w : S1x2048.Idx → EReal) (i : S4096x2048.Idx) : EReal :=
  b i + a i * root a ⟨(i 0).val, (i 0).isLt⟩ * w (ix2 0 ⟨(i 1).val, (i 1).isLt⟩)

theorem roots_congr {a a' : S4096x2048.Idx → EReal} (ha : a = a') : roots a = roots a' := by rw [ha]

theorem normed_congr {a a' b b' : S4096x2048.Idx → EReal} {w w' : S1x2048.Idx → EReal} (ha : a = a') (hb : b = b') (hw : w = w') : normed a b w = normed a' b' w' := by rw [ha, hb, hw]

theorem tile_root (c : Dev nD) (t : Fin cfg0.N) (y0 : Fin 512) (n : Fin 4096) (hn : n.val = t.val * 512 + y0.val) :
    (k0_pay1 (iblk m c 0 t) (ix2 y0 0) : EReal) = root (m ((c : Thread nD τ).loc main_arg0)) n := by
  have hy := idx0 t
  pointwise [k0_pay1, root]
  refine congrArg (fun x : EReal => Ideal.rsqrt (Ideal.div x _ + _)) (Finset.sum_congr (M := EReal) rfl fun k _ => congrArg (fun x : EReal => x * x) ?_)
  blk_point [iblk, V_main_arg0, hy.1]

theorem roots_value (c : Dev nD) : (dats m 0 c).arrAt 4 cfg0.N = roots (m ((c : Thread nD τ).loc main_arg0)) := by
  refine (dats m 0 c).arrAt_eq_of_covers 4 _ (by decide +kernel) fun t hf y => ?_
  have hy := idx0 t
  have hN := lt_of_lt_of_eq t.isLt (show cfg0.N = 8 from N_0)
  blk_simp
  rw [after0_4]
  frame_out
  idx_vars y
  rw [Subsingleton.elim y1 0]
  refine (tile_root m c t y0 ⟨t.val * 512 + y0.val, by omega⟩ rfl).trans ?_
  unfold roots
  refine congrArg (root _) (Fin.ext ?_)
  blk_simp [hy.2.2.2.2]

theorem normed_value (c : Dev nD) : (dats m 0 c).arrAt 3 cfg0.N = normed (m ((c : Thread nD τ).loc main_arg0)) (m ((c : Thread nD τ).loc main_arg1)) (m ((c : Thread nD τ).loc main_arg2)) := by
  refine (dats m 0 c).arrAt_eq_of_covers 3 _ (by decide +kernel) fun t hf y => ?_
  have hy := idx0 t
  have hN := lt_of_lt_of_eq t.isLt (show cfg0.N = 8 from N_0)
  blk_simp
  rw [after0_3]
  frame_out
  idx_vars y
  pointwise [k0_pay2]
  rw [tile_root m c t y0 ⟨t.val * 512 + y0.val, by omega⟩ rfl]
  unfold normed
  refine congrArg₂ (fun x y : EReal => x + y) ?_ (congrArg₂ (fun x y : EReal => x * y) (congrArg₂ (fun x y : EReal => x * y) ?_ (congrArg (root _) (Fin.ext ?_))) ?_)
  · blk_point [iblk, V_main_arg1, hy.2.1, hy.2.2.2.1]
  · blk_point [iblk, V_main_arg0, hy.1, hy.2.2.2.1]
  · blk_simp [hy.2.2.2.1]
  · blk_point [iblk, V_main_arg2, hy.2.2.1, hy.2.2.2.1]

end Cert.PostIdeal.Value
end
-- ==== Proof.PostClaim.lean ====
module

public import proofs.«01_k».proof.Defs
public import proofs.«01_k».proof.Proof.PostValue
public import proofs.«01_k».proof.Proof.Gen.PostRefIdeal.Run
public import Idealize.ShloMosaic.Lib.Pointwise
public import Idealize.ShloMosaic.Lib.Tactic.CleanTypes

@[expose] public section

set_option maxRecDepth 16384

noncomputable section

namespace Cert.PostClaim

open Idealize.ShloMosaic Idealize.ShloMosaic.TcCoe Idealize.SL.Sem

theorem algebraic : Cert.algebraic_PostIdeal_PostRefIdeal (hPostIdeal := Cert.PostIdeal.Gen.facts) (hPostRefIdeal := Cert.PostRefIdeal.Gen.facts) := by
  intro m g m' g' _ hagree
  refine ⟨_, _, Cert.PostIdeal.Value.run_blocks m g, (θ_run _ _ _).mono (fun r h c => ⟨(h c).1.trans ?_, (h c).2.1.trans ?_, (h c).2.2⟩) (Cert.PostRefIdeal.Value.run m' g')⟩
  · obtain ⟨e0, e1, e2⟩ := hagree c
    refine Eq.trans ?_ ((Cert.PostIdeal.Value.normed_congr e0 e1 e2).trans (Cert.PostIdeal.Value.normed_value m c).symm)
    funext i
    clean_types
    idx_vars i
    pointwise [Cert.PostIdeal.Value.normed, Cert.PostIdeal.Value.root]
  · obtain ⟨e0, e1, e2⟩ := hagree c
    refine Eq.trans ?_ ((Cert.PostIdeal.Value.roots_congr e0).trans (Cert.PostIdeal.Value.roots_value m c).symm)
    funext i
    clean_types
    idx_vars i
    pointwise [Cert.PostIdeal.Value.roots, Cert.PostIdeal.Value.root]

end Cert.PostClaim
end
-- ==== Proof.PostGradValue.lean ====
module

public import proofs.«01_k».proof.Proof.Gen.PostGradIdeal.Value
public import proofs.«01_k».proof.Proof.NormRow
public import Idealize.ShloMosaic.Lib.Pipeline.ValueKit
public import Idealize.ShloMosaic.Lib.Pointwise

@[expose] public section

set_option maxRecDepth 16384

noncomputable section

namespace Cert.PostGradIdeal.Value

open Cert.PostGradIdeal Cert.PostGradIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![t.val, 0] ∧ win0_1.index t = ![t.val, 0] ∧ win0_2.index t = ![t.val, 0] ∧ win0_3.index t = ![0, 0] ∧ win0_4.index t = ![t.val, 0] := by
  decide +kernel

/-- One over the root of a row's mean square. -/
def root (a : S4096x2048.Idx → EReal) (n : Fin 4096) : EReal :=
  Ideal.rsqrt (Ideal.div (∑ k : Fin 2048, a (ix2 n k) * a (ix2 n k)) (Ideal.ofBits .f32 0x45000000#32) + Ideal.ofBits .f32 0x358637BD#32)

/-- The gradient of the row before its norm. -/
def slope (g a : S4096x2048.Idx → EReal) (w : S1x2048.Idx → EReal) (i : S4096x2048.Idx) : EReal :=
  root a ⟨(i 0).val, (i 0).isLt⟩ * (g i * w (ix2 0 ⟨(i 1).val, (i 1).isLt⟩) - a i * root a ⟨(i 0).val, (i 0).isLt⟩ *
    Ideal.div (∑ k : Fin 2048, g (ix2 ⟨(i 0).val, (i 0).isLt⟩ k) * w (ix2 0 k) * (a (ix2 ⟨(i 0).val, (i 0).isLt⟩ k) * root a ⟨(i 0).val, (i 0).isLt⟩)) (Ideal.ofBits .f32 0x45000000#32))

/-- A row's term of the gradient of the norm's weight. -/
def rowTerm (g a : S4096x2048.Idx → EReal) (q : Fin 2048) (n : Fin 4096) : EReal := g (ix2 n q) * (a (ix2 n q) * root a n)

/-- The gradient of the norm's weight. -/
def weight (g a : S4096x2048.Idx → EReal) (i : S1x2048.Idx) : EReal := ∑ n : Fin 4096, rowTerm g a ⟨(i 1).val, (i 1).isLt⟩ n

theorem weight_congr {g g' a a' : S4096x2048.Idx → EReal} (hg : g = g') (ha : a = a') : weight g a = weight g' a' := by rw [hg, ha]

/-- The tiles' parts, summed. -/
theorem parts_sum (g a : S4096x2048.Idx → EReal) (i : S1x2048.Idx) :
    (∑ p : Fin 8, ∑ r : Fin 512, rowTerm g a ⟨(i 1).val, (i 1).isLt⟩ ⟨p.val * 512 + r.val, by omega⟩) = weight g a i := by
  unfold weight
  exact Fin.sum_mul_add_congr fun p k h => rfl

/-- The roots as the host computes them. -/
def hostRoots (x : FVec Ideal S4096x2048 .f32) : FVec Ideal S4096x1 .f32 :=
  Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))

/-- The host computes the roots before the call. -/
theorem entry (c : Dev nD) (n : Fin 4096) : V m c main_v7 (ix2 n 0) = root (m ((c : Thread nD τ).loc main_arg1)) n := by
  have h : V m c main_v7 = hostRoots (m ((c : Thread nD τ).loc main_arg1)) := by
    delta V
    simp only [hostOps0]
    after_results_simp
    rfl
  rw [h]
  pointwise [hostRoots, root]

theorem stage_g (c : Dev nD) (t : Fin cfg0.N) (r : Fin 512) (q : Fin 2048) (n : Fin 4096) (hn : n.val = t.val * 512 + r.val) : iblk m c 0 t (ix2 r q) = (m ((c : Thread nD τ).loc main_arg0)) (ix2 n q) := by
  have hy := idx0 t
  blk_point [iblk, V_main_arg0, hy.1]

theorem stage_x (c : Dev nD) (t : Fin cfg0.N) (r : Fin 512) (q : Fin 2048) (n : Fin 4096) (hn : n.val = t.val * 512 + r.val) : iblk m c 1 t (ix2 r q) = (m ((c : Thread nD τ).loc main_arg1)) (ix2 n q) := by
  have hy := idx0 t
  blk_point [iblk, V_main_arg1, hy.2.1]

theorem stage_r (c : Dev nD) (t : Fin cfg0.N) (r : Fin 512) (n : Fin 4096) (hn : n.val = t.val * 512 + r.val) : iblk m c 2 t (ix2 r 0) = root (m ((c : Thread nD τ).loc main_arg1)) n := by
  have hy := idx0 t
  refine Eq.trans ?_ (entry m c n)
  blk_point [iblk, hy.2.2.1]

theorem stage_w (c : Dev nD) (t : Fin cfg0.N) (q : Fin 2048) : iblk m c 3 t (ix2 0 q) = (m ((c : Thread nD τ).loc main_arg2)) (ix2 0 q) := by
  have hy := idx0 t
  blk_point [iblk, V_main_arg2, hy.2.2.2.1]

theorem tile_slope (c : Dev nD) (t : Fin cfg0.N) (y : S512x2048.Idx) (j : S4096x2048.Idx) (hj0 : (j 0).val = t.val * 512 + (y 0).val) (hj1 : (j 1).val = (y 1).val) :
    (k0_pay5 (iblk m c 0 t) (iblk m c 2 t) (iblk m c 1 t) (iblk m c 3 t) y : EReal) = slope (m ((c : Thread nD τ).loc main_arg0)) (m ((c : Thread nD τ).loc main_arg1)) (m ((c : Thread nD τ).loc main_arg2)) j := by
  idx_vars y
  idx_vars j
  have e : j1 = y1 := Fin.ext hj1
  subst e
  pointwise [k0_pay5, k0_pay2, k0_pay1, slope]
  have er := stage_r m c t y0 j0 hj0
  have e0 := fun q => stage_g m c t y0 q j0 hj0
  have e1 := fun q => stage_x m c t y0 q j0 hj0
  have e3 := fun q => stage_w m c t q
  simp only [er, e0, e1, e3]

theorem slope_value (c : Dev nD) : (dats m 0 c).arrAt 4 cfg0.N = slope (m ((c : Thread nD τ).loc main_arg0)) (m ((c : Thread nD τ).loc main_arg1)) (m ((c : Thread nD τ).loc main_arg2)) := by
  refine (dats m 0 c).arrAt_eq_of_covers 4 _ (by decide +kernel) fun t hf y => ?_
  have hy := idx0 t
  have hN := lt_of_lt_of_eq t.isLt (show cfg0.N = 8 from N_0)
  blk_simp
  rw [after0_4]
  have h : (outsAt0 m c t.val t.isLt).1 = k0_pay5 (iblk m c 0 t) (iblk m c 2 t) (iblk m c 1 t) (iblk m c 3 t) := by
    by_cases h0 : t.val % 8 = 0
    · rw [outsAt0_A m c t h0 (by omega)]; frame_out
    · rw [outsAt0_B m c t h0 (by omega)]; frame_out
  rw [h]
  have hj0 : ((((View.whole main_v8_0).slice (win0_4.rect t)).emb y) 0).val = t.val * 512 + (y 0).val := by
    blk_simp [hy.2.2.2.2]
  have hj1 : ((((View.whole main_v8_0).slice (win0_4.rect t)).emb y) 1).val = (y 1).val := by
    blk_simp [hy.2.2.2.2]
  generalize ((View.whole main_v8_0).slice (win0_4.rect t)).emb y = j at hj0 hj1 ⊢
  exact tile_slope m c t y j hj0 hj1

theorem slope_congr {g g' a a' : S4096x2048.Idx → EReal} {w w' : S1x2048.Idx → EReal} (hg : g = g') (ha : a = a') (hw : w = w') : slope g a w = slope g' a' w' := by rw [hg, ha, hw]

/-- One tile's part of the weight's gradient. -/
theorem part_eq (c : Dev nD) (t : Fin cfg0.N) (j : S1x2048.Idx) : (k0_pay3 (iblk m c 0 t) (iblk m c 2 t) (iblk m c 1 t) j : EReal) =
    ∑ r : Fin 512, rowTerm (m ((c : Thread nD τ).loc main_arg0)) (m ((c : Thread nD τ).loc main_arg1)) ⟨(j 1).val, (j 1).isLt⟩ ⟨t.val * 512 + r.val, by have := lt_of_lt_of_eq t.isLt (show cfg0.N = 8 from N_0); omega⟩ := by
  idx_vars j
  pointwise [k0_pay3, k0_pay2, k0_pay1, rowTerm]
  refine Finset.sum_congr (M := EReal) rfl fun r _ => congrArg₂ (fun x y : EReal => x * y) (stage_g m c t _ _ _ rfl) (congrArg₂ (fun x y : EReal => x * y) (stage_x m c t _ _ _ rfl) (stage_r m c t _ _ rfl))

theorem first (c : Dev nD) (t : Fin cfg0.N) (h : t.val % 8 = 0) (j : S1x2048.Idx) :
    ((outsAt0 m c t.val t.isLt).2 j : EReal) = 0 + k0_pay3 (iblk m c 0 t) (iblk m c 2 t) (iblk m c 1 t) j := by
  have hN := lt_of_lt_of_eq t.isLt (show cfg0.N = 8 from N_0)
  rw [outsAt0_A m c t h (by omega)]
  frame_out
  rw [zero_add]

theorem acc_apply (x0 : Vec Ideal S512x2048 .f32) (x1 : Vec Ideal S512x1 .f32) (x2 : Vec Ideal S512x2048 .f32) (p : Vec Ideal S1x2048 .f32) (j : S1x2048.Idx) : (k0_pay4 x0 x1 x2 p j : EReal) = p j + k0_pay3 x0 x1 x2 j := by
  idx_vars j
  pointwise [k0_pay4]

theorem later (c : Dev nD) (t : Fin cfg0.N) (h : ¬ t.val % 8 = 0) (j : S1x2048.Idx) :
    ((outsAt0 m c t.val t.isLt).2 j : EReal) = (outsAt0 m c (t.val - 1) (Nat.lt_of_le_of_lt (Nat.sub_le _ _) t.isLt)).2 j + k0_pay3 (iblk m c 0 t) (iblk m c 2 t) (iblk m c 1 t) j := by
  have hN := lt_of_lt_of_eq t.isLt (show cfg0.N = 8 from N_0)
  rw [outsAt0_B m c t h (by omega)]
  frame_out
  exact acc_apply _ _ _ _ _

theorem weight_value (c : Dev nD) : (dats m 0 c).arrAt 5 cfg0.N = weight (m ((c : Thread nD τ).loc main_arg0)) (m ((c : Thread nD τ).loc main_arg1)) := by
  have h7 : 7 < cfg0.N := lt_of_lt_of_eq (by norm_num : 7 < 8) N_0.symm
  have hw : ∀ t : Fin cfg0.N, t.val = 7 → (cfg0.win 5).WholeAt t := by decide +kernel
  refine (dats m 0 c).arrAt_eq_of_after_last 5 ⟨7, h7⟩ (hw _ rfl) _ fun j => ?_
  rw [after0_5]
  refine (Pipeline.eq_sum_fin_of_reset_step_apply_last (M := EReal) (fun n h i => (outsAt0 m c n h).2 i) 8 (fun _ => 0) (fun t j => k0_pay3 (iblk m c 0 t) (iblk m c 2 t) (iblk m c 1 t) j) (first m c) (later m c) (le_of_eq N_0) ⟨7, h7⟩ N_0.symm j).trans ?_
  rw [zero_add]
  refine Eq.trans ?_ (parts_sum _ _ _)
  exact Fintype.sum_equiv (finCongr N_0) _ _ fun t => part_eq m c t j

end Cert.PostGradIdeal.Value
end
-- ==== Proof.PostGradClaim.lean ====
module

public import proofs.«01_k».proof.Defs
public import proofs.«01_k».proof.Proof.PostGradValue
public import proofs.«01_k».proof.Proof.Gen.PostGradRefIdeal.Run
public import Idealize.ShloMosaic.Lib.Pointwise
public import Idealize.ShloMosaic.Lib.Tactic.CleanTypes

@[expose] public section

set_option maxRecDepth 16384

noncomputable section

namespace Cert.PostGradClaim

open Idealize.ShloMosaic Idealize.ShloMosaic.TcCoe Idealize.SL.Sem

theorem row_at (g a : Cert.PostGradIdeal.S4096x2048.Idx → EReal) (w : Cert.PostGradIdeal.S1x2048.Idx → EReal) (n : Fin 4096) (j : Fin 2048) :
    (g (ix2 n j) * w (ix2 0 j)) * Ideal.rsqrt (Ideal.div (∑ k : Fin 2048, a (ix2 n k) * a (ix2 n k)) (Ideal.ofBits .f32 0x45000000#32) + Ideal.ofBits .f32 0x358637BD#32) + a (ix2 n j) * Ideal.div ((∑ k : Fin 2048, a (ix2 n k) * (g (ix2 n k) * w (ix2 0 k))) * (Ideal.ofBits .f32 0xBF000000#32 * Ideal.div (Ideal.rsqrt (Ideal.div (∑ k : Fin 2048, a (ix2 n k) * a (ix2 n k)) (Ideal.ofBits .f32 0x45000000#32) + Ideal.ofBits .f32 0x358637BD#32)) (Ideal.div (∑ k : Fin 2048, a (ix2 n k) * a (ix2 n k)) (Ideal.ofBits .f32 0x45000000#32) + Ideal.ofBits .f32 0x358637BD#32))) (Ideal.ofBits .f32 0x45000000#32) + Ideal.div ((∑ k : Fin 2048, a (ix2 n k) * (g (ix2 n k) * w (ix2 0 k))) * (Ideal.ofBits .f32 0xBF000000#32 * Ideal.div (Ideal.rsqrt (Ideal.div (∑ k : Fin 2048, a (ix2 n k) * a (ix2 n k)) (Ideal.ofBits .f32 0x45000000#32) + Ideal.ofBits .f32 0x358637BD#32)) (Ideal.div (∑ k : Fin 2048, a (ix2 n k) * a (ix2 n k)) (Ideal.ofBits .f32 0x45000000#32) + Ideal.ofBits .f32 0x358637BD#32))) (Ideal.ofBits .f32 0x45000000#32) * a (ix2 n j) =
      Ideal.rsqrt (Ideal.div (∑ k : Fin 2048, a (ix2 n k) * a (ix2 n k)) (Ideal.ofBits .f32 0x45000000#32) + Ideal.ofBits .f32 0x358637BD#32) * ((g (ix2 n j) * w (ix2 0 j)) - a (ix2 n j) * Ideal.rsqrt (Ideal.div (∑ k : Fin 2048, a (ix2 n k) * a (ix2 n k)) (Ideal.ofBits .f32 0x45000000#32) + Ideal.ofBits .f32 0x358637BD#32) * Ideal.div (∑ k : Fin 2048, g (ix2 n k) * w (ix2 0 k) * (a (ix2 n k) * Ideal.rsqrt (Ideal.div (∑ k : Fin 2048, a (ix2 n k) * a (ix2 n k)) (Ideal.ofBits .f32 0x45000000#32) + Ideal.ofBits .f32 0x358637BD#32))) (Ideal.ofBits .f32 0x45000000#32)) :=
  Cert.NormRow.row (fun k => a (ix2 n k)) (fun k => g (ix2 n k) * w (ix2 0 k)) j _ _ rfl rfl

theorem algebraic : Cert.algebraic_PostGradIdeal_PostGradRefIdeal (hPostGradIdeal := Cert.PostGradIdeal.Gen.facts) (hPostGradRefIdeal := Cert.PostGradRefIdeal.Gen.facts) := by
  intro m g m' g' _ hagree
  refine ⟨_, _, Cert.PostGradIdeal.Value.run_blocks m g, (θ_run _ _ _).mono (fun r h c => ⟨(h c).1.trans ?_, (h c).2.1.trans ?_, (h c).2.2⟩) (Cert.PostGradRefIdeal.Value.run m' g')⟩
  · obtain ⟨e0, e1, e2⟩ := hagree c
    refine Eq.trans ?_ ((Cert.PostGradIdeal.Value.slope_congr e0 e1 e2).trans (Cert.PostGradIdeal.Value.slope_value m c).symm)
    unfold Cert.PostGradRefIdeal.Value.res_main_v37
    funext i
    clean_types
    idx_vars i
    pointwise [Cert.PostGradIdeal.Value.slope, Cert.PostGradIdeal.Value.root]
    simp only [Fin.sum_univ_one]

    exact row_at _ _ _ i0 i1
  · obtain ⟨e0, e1, e2⟩ := hagree c
    refine Eq.trans ?_ ((Cert.PostGradIdeal.Value.weight_congr e0 e1).trans (Cert.PostGradIdeal.Value.weight_value m c).symm)
    funext i
    clean_types
    idx_vars i
    pointwise [Cert.PostGradIdeal.Value.weight, Cert.PostGradIdeal.Value.rowTerm, Cert.PostGradIdeal.Value.root]
    refine (Fin.sum_univ_one _).trans (Finset.sum_congr (M := EReal) rfl fun n _ => ?_)
    exact mul_comm (G := EReal) _ _

end Cert.PostGradClaim
end
-- ==== Proof.InProjValue.lean ====
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![(grid0.coords t 1).val, 0] ∧ win0_1.index t = ![0, (grid0.coords t 0).val] ∧ win0_2.index t = ![(grid0.coords t 1).val, (grid0.coords t 0).val] := by
  decide +kernel

/-- A projection: a row of the first argument times a column of the weight. -/
def product (a : S4096x2048.Idx → EReal) (b : S2048x9216.Idx → EReal) (i : S4096x9216.Idx) : EReal :=
  ∑ k : Fin 2048, a (ix2 ⟨(i 0).val, (i 0).isLt⟩ k) * b (ix2 k ⟨(i 1).val, (i 1).isLt⟩)

theorem value (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have hy := idx0 t
  blk_simp
  rw [after0_2]
  frame_out
  idx_vars y
  pointwise [k0_pay1, product]
  refine Finset.sum_congr (M := EReal) rfl fun k _ => ?_
  congr 1
  · blk_point [iblk, V_main_arg0, hy.1, hy.2.2]
  · blk_point [iblk, V_main_arg1, hy.2.1, hy.2.2]

end Cert.InProjIdeal.Value
end
-- ==== Proof.DtProjValue.lean ====
module

public import proofs.«01_k».proof.Defs
public import proofs.«01_k».proof.Proof.Gen.DtProjIdeal.Value
public import proofs.«01_k».proof.Proof.Gen.DtProjRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.DtProjIdeal.Value

open Cert.DtProjIdeal Cert.DtProjIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![(grid0.coords t 1).val, 0] ∧ win0_1.index t = ![0, (grid0.coords t 0).val] ∧ win0_2.index t = ![(grid0.coords t 1).val, (grid0.coords t 0).val] := by
  decide +kernel

/-- A projection: a row of the first argument times a column of the weight. -/
def product (a : S4096x2048.Idx → EReal) (b : S2048x128.Idx → EReal) (i : S4096x128.Idx) : EReal :=
  ∑ k : Fin 2048, a (ix2 ⟨(i 0).val, (i 0).isLt⟩ k) * b (ix2 k ⟨(i 1).val, (i 1).isLt⟩)

theorem value (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have hy := idx0 t
  blk_simp
  rw [after0_2]
  frame_out
  idx_vars y
  pointwise [k0_pay1, product]
  refine Finset.sum_congr (M := EReal) rfl fun k _ => ?_
  congr 1
  · blk_point [iblk, V_main_arg0, hy.1, hy.2.2]
  · blk_point [iblk, V_main_arg1, hy.2.1, hy.2.2]

end Cert.DtProjIdeal.Value
end
-- ==== Proof.OutProjValue.lean ====
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.OutProjIdeal.Value

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![(grid0.coords t 1).val, 0] ∧ win0_1.index t = ![0, (grid0.coords t 0).val] ∧ win0_2.index t = ![(grid0.coords t 1).val, (grid0.coords t 0).val] := by
  decide +kernel

/-- A projection: a row of the first argument times a column of the weight. -/
def product (a : S4096x4096.Idx → EReal) (b : S4096x2048.Idx → EReal) (i : S4096x2048.Idx) : EReal :=
  ∑ k : Fin 4096, a (ix2 ⟨(i 0).val, (i 0).isLt⟩ k) * b (ix2 k ⟨(i 1).val, (i 1).isLt⟩)

theorem value (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have hy := idx0 t
  blk_simp
  rw [after0_2]
  frame_out
  idx_vars y
  pointwise [k0_pay1, product]
  refine Finset.sum_congr (M := EReal) rfl fun k _ => ?_
  congr 1
  · blk_point [iblk, V_main_arg0, hy.1, hy.2.2]
  · blk_point [iblk, V_main_arg1, hy.2.1, hy.2.2]

end Cert.OutProjIdeal.Value
end
-- ==== Proof.Projections.lean ====
module

public import proofs.«01_k».proof.Defs
public import proofs.«01_k».proof.Proof.InProjValue
public import proofs.«01_k».proof.Proof.DtProjValue
public import proofs.«01_k».proof.Proof.OutProjValue
public import Idealize.ShloMosaic.Lib.Pointwise
public import Idealize.ShloMosaic.Lib.Tactic.CleanTypes

@[expose] public section

set_option maxRecDepth 16384

noncomputable section

namespace Cert.Projections

open Idealize.ShloMosaic Idealize.ShloMosaic.TcCoe Idealize.SL.Sem

theorem InProj : Cert.algebraic_InProjIdeal_InProjRefIdeal (hInProjIdeal := Cert.InProjIdeal.Gen.facts) (hInProjRefIdeal := Cert.InProjRefIdeal.Gen.facts) := by
  intro m g m' g' _ hagree
  refine ⟨_, Cert.InProjIdeal.Value.run_blocks m g, (θ_run _ _ _).mono (fun r h c => ⟨(h c).1.trans ?_, (h c).2⟩) (Cert.InProjRefIdeal.Value.run m' g')⟩
  obtain ⟨e0, e1⟩ := hagree c
  refine Eq.trans ?_ ((congrArg₂ Cert.InProjIdeal.Value.product e0 e1).trans (Cert.InProjIdeal.Value.value m c).symm)
  funext i
  clean_types
  idx_vars i
  pointwise [Cert.InProjIdeal.Value.product]

theorem DtProj : Cert.algebraic_DtProjIdeal_DtProjRefIdeal (hDtProjIdeal := Cert.DtProjIdeal.Gen.facts) (hDtProjRefIdeal := Cert.DtProjRefIdeal.Gen.facts) := by
  intro m g m' g' _ hagree
  refine ⟨_, Cert.DtProjIdeal.Value.run_blocks m g, (θ_run _ _ _).mono (fun r h c => ⟨(h c).1.trans ?_, (h c).2⟩) (Cert.DtProjRefIdeal.Value.run m' g')⟩
  obtain ⟨e0, e1⟩ := hagree c
  refine Eq.trans ?_ ((congrArg₂ Cert.DtProjIdeal.Value.product e0 e1).trans (Cert.DtProjIdeal.Value.value m c).symm)
  funext i
  clean_types
  idx_vars i
  pointwise [Cert.DtProjIdeal.Value.product]

theorem OutProj : Cert.algebraic_OutProjIdeal_OutProjRefIdeal (hOutProjIdeal := Cert.OutProjIdeal.Gen.facts) (hOutProjRefIdeal := Cert.OutProjRefIdeal.Gen.facts) := by
  intro m g m' g' _ hagree
  refine ⟨_, Cert.OutProjIdeal.Value.run_blocks m g, (θ_run _ _ _).mono (fun r h c => ⟨(h c).1.trans ?_, (h c).2⟩) (Cert.OutProjRefIdeal.Value.run m' g')⟩
  obtain ⟨e0, e1⟩ := hagree c
  refine Eq.trans ?_ ((congrArg₂ Cert.OutProjIdeal.Value.product e0 e1).trans (Cert.OutProjIdeal.Value.value m c).symm)
  funext i
  clean_types
  idx_vars i
  pointwise [Cert.OutProjIdeal.Value.product]

end Cert.Projections
end
-- ==== Proof.InWeightValue.lean ====
module

public import proofs.«01_k».proof.Defs
public import proofs.«01_k».proof.Proof.Gen.InWeightIdeal.Value
public import proofs.«01_k».proof.Proof.Gen.InWeightRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.InWeightIdeal.Value

open Cert.InWeightIdeal Cert.InWeightIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![0, (grid0.coords t 0).val] ∧ win0_1.index t = ![0, (grid0.coords t 1).val] ∧ win0_2.index t = ![(grid0.coords t 0).val, (grid0.coords t 1).val] := by
  decide +kernel

/-- The gradient of a projection's weight: over the rows, the input's column times the cotangent's. -/
def grad (a : S4096x2048.Idx → EReal) (b : S4096x9216.Idx → EReal) (i : S2048x9216.Idx) : EReal :=
  ∑ k : Fin 4096, a (ix2 k ⟨(i 0).val, (i 0).isLt⟩) * b (ix2 k ⟨(i 1).val, (i 1).isLt⟩)

theorem value (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have hy := idx0 t
  blk_simp
  rw [after0_2]
  frame_out
  idx_vars y
  pointwise [k0_pay1, grad]
  refine Finset.sum_congr (M := EReal) rfl fun k _ => ?_
  congr 1
  · blk_point [iblk, V_main_arg0, hy.1, hy.2.2]
  · blk_point [iblk, V_main_arg1, hy.2.1, hy.2.2]

end Cert.InWeightIdeal.Value
end
-- ==== Proof.DtWeightValue.lean ====
module

public import proofs.«01_k».proof.Defs
public import proofs.«01_k».proof.Proof.Gen.DtWeightIdeal.Value
public import proofs.«01_k».proof.Proof.Gen.DtWeightRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.DtWeightIdeal.Value

open Cert.DtWeightIdeal Cert.DtWeightIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![0, (grid0.coords t 0).val] ∧ win0_1.index t = ![0, (grid0.coords t 1).val] ∧ win0_2.index t = ![(grid0.coords t 0).val, (grid0.coords t 1).val] := by
  decide +kernel

/-- The gradient of a projection's weight: over the rows, the input's column times the cotangent's. -/
def grad (a : S4096x2048.Idx → EReal) (b : S4096x128.Idx → EReal) (i : S2048x128.Idx) : EReal :=
  ∑ k : Fin 4096, a (ix2 k ⟨(i 0).val, (i 0).isLt⟩) * b (ix2 k ⟨(i 1).val, (i 1).isLt⟩)

theorem value (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have hy := idx0 t
  blk_simp
  rw [after0_2]
  frame_out
  idx_vars y
  pointwise [k0_pay1, grad]
  refine Finset.sum_congr (M := EReal) rfl fun k _ => ?_
  congr 1
  · blk_point [iblk, V_main_arg0, hy.1, hy.2.2]
  · blk_point [iblk, V_main_arg1, hy.2.1, hy.2.2]

end Cert.DtWeightIdeal.Value
end
-- ==== Proof.OutWeightValue.lean ====
module

public import proofs.«01_k».proof.Defs
public import proofs.«01_k».proof.Proof.Gen.OutWeightIdeal.Value
public import proofs.«01_k».proof.Proof.Gen.OutWeightRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.OutWeightIdeal.Value

open Cert.OutWeightIdeal Cert.OutWeightIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t, win0_0.index t = ![0, (grid0.coords t 0).val] ∧ win0_1.index t = ![0, (grid0.coords t 1).val] ∧ win0_2.index t = ![(grid0.coords t 0).val, (grid0.coords t 1).val] := by
  decide +kernel

/-- The gradient of a projection's weight: over the rows, the input's column times the cotangent's. -/
def grad (a : S4096x4096.Idx → EReal) (b : S4096x2048.Idx → EReal) (i : S4096x2048.Idx) : EReal :=
  ∑ k : Fin 4096, a (ix2 k ⟨(i 0).val, (i 0).isLt⟩) * b (ix2 k ⟨(i 1).val, (i 1).isLt⟩)

theorem value (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have hy := idx0 t
  blk_simp
  rw [after0_2]
  frame_out
  idx_vars y
  pointwise [k0_pay1, grad]
  refine Finset.sum_congr (M := EReal) rfl fun k _ => ?_
  congr 1
  · blk_point [iblk, V_main_arg0, hy.1, hy.2.2]
  · blk_point [iblk, V_main_arg1, hy.2.1, hy.2.2]

end Cert.OutWeightIdeal.Value
end
-- ==== Proof.Weights.lean ====
module

public import proofs.«01_k».proof.Defs
public import proofs.«01_k».proof.Proof.InWeightValue
public import proofs.«01_k».proof.Proof.DtWeightValue
public import proofs.«01_k».proof.Proof.OutWeightValue
public import Idealize.ShloMosaic.Lib.Pointwise
public import Idealize.ShloMosaic.Lib.Tactic.CleanTypes

@[expose] public section

set_option maxRecDepth 16384

noncomputable section

namespace Cert.Weights

open Idealize.ShloMosaic Idealize.ShloMosaic.TcCoe Idealize.SL.Sem

theorem InWeight : Cert.algebraic_InWeightIdeal_InWeightRefIdeal (hInWeightIdeal := Cert.InWeightIdeal.Gen.facts) (hInWeightRefIdeal := Cert.InWeightRefIdeal.Gen.facts) := by
  intro m g m' g' _ hagree
  refine ⟨_, Cert.InWeightIdeal.Value.run_blocks m g, (θ_run _ _ _).mono (fun r h c => ⟨(h c).1.trans ?_, (h c).2⟩) (Cert.InWeightRefIdeal.Value.run m' g')⟩
  obtain ⟨e0, e1⟩ := hagree c
  refine Eq.trans ?_ ((congrArg₂ Cert.InWeightIdeal.Value.grad e0 e1).trans (Cert.InWeightIdeal.Value.value m c).symm)
  funext i
  clean_types
  idx_vars i
  pointwise [Cert.InWeightIdeal.Value.grad]
  exact Finset.sum_congr (M := EReal) rfl fun k _ => mul_comm _ _

theorem DtWeight : Cert.algebraic_DtWeightIdeal_DtWeightRefIdeal (hDtWeightIdeal := Cert.DtWeightIdeal.Gen.facts) (hDtWeightRefIdeal := Cert.DtWeightRefIdeal.Gen.facts) := by
  intro m g m' g' _ hagree
  refine ⟨_, Cert.DtWeightIdeal.Value.run_blocks m g, (θ_run _ _ _).mono (fun r h c => ⟨(h c).1.trans ?_, (h c).2⟩) (Cert.DtWeightRefIdeal.Value.run m' g')⟩
  obtain ⟨e0, e1⟩ := hagree c
  refine Eq.trans ?_ ((congrArg₂ Cert.DtWeightIdeal.Value.grad e0 e1).trans (Cert.DtWeightIdeal.Value.value m c).symm)
  funext i
  clean_types
  idx_vars i
  pointwise [Cert.DtWeightIdeal.Value.grad]
  exact Finset.sum_congr (M := EReal) rfl fun k _ => mul_comm _ _

theorem OutWeight : Cert.algebraic_OutWeightIdeal_OutWeightRefIdeal (hOutWeightIdeal := Cert.OutWeightIdeal.Gen.facts) (hOutWeightRefIdeal := Cert.OutWeightRefIdeal.Gen.facts) := by
  intro m g m' g' _ hagree
  refine ⟨_, Cert.OutWeightIdeal.Value.run_blocks m g, (θ_run _ _ _).mono (fun r h c => ⟨(h c).1.trans ?_, (h c).2⟩) (Cert.OutWeightRefIdeal.Value.run m' g')⟩
  obtain ⟨e0, e1⟩ := hagree c
  refine Eq.trans ?_ ((congrArg₂ Cert.OutWeightIdeal.Value.grad e0 e1).trans (Cert.OutWeightIdeal.Value.value m c).symm)
  funext i
  clean_types
  idx_vars i
  pointwise [Cert.OutWeightIdeal.Value.grad]
  exact Finset.sum_congr (M := EReal) rfl fun k _ => mul_comm _ _

end Cert.Weights
end
-- ==== Proof.lean ====
module

public import proofs.«01_k».proof.Defs
public import proofs.«01_k».proof.Proof.ConvAClaim
public import proofs.«01_k».proof.Proof.ConvBClaim
public import proofs.«01_k».proof.Proof.ConvClaim
public import proofs.«01_k».proof.Proof.Gen.Conv
public import proofs.«01_k».proof.Proof.Gen.Conv.Frame
public import proofs.«01_k».proof.Proof.Gen.ConvA
public import proofs.«01_k».proof.Proof.Gen.ConvA.Frame
public import proofs.«01_k».proof.Proof.Gen.ConvAIdeal
public import proofs.«01_k».proof.Proof.Gen.ConvAIdeal.Frame
public import proofs.«01_k».proof.Proof.Gen.ConvARefIdeal
public import proofs.«01_k».proof.Proof.Gen.ConvARefIdeal.Run
public import proofs.«01_k».proof.Proof.Gen.ConvB
public import proofs.«01_k».proof.Proof.Gen.ConvB.Frame
public import proofs.«01_k».proof.Proof.Gen.ConvBIdeal
public import proofs.«01_k».proof.Proof.Gen.ConvBIdeal.Frame
public import proofs.«01_k».proof.Proof.Gen.ConvBRefIdeal
public import proofs.«01_k».proof.Proof.Gen.ConvBRefIdeal.Run
public import proofs.«01_k».proof.Proof.Gen.ConvIdeal
public import proofs.«01_k».proof.Proof.Gen.ConvIdeal.Frame
public import proofs.«01_k».proof.Proof.Gen.ConvRefIdeal
public import proofs.«01_k».proof.Proof.Gen.ConvRefIdeal.Run
public import proofs.«01_k».proof.Proof.Gen.DtProj
public import proofs.«01_k».proof.Proof.Gen.DtProj.Frame
public import proofs.«01_k».proof.Proof.Gen.DtProjIdeal
public import proofs.«01_k».proof.Proof.Gen.DtProjIdeal.Frame
public import proofs.«01_k».proof.Proof.Gen.DtProjRefIdeal
public import proofs.«01_k».proof.Proof.Gen.DtProjRefIdeal.Run
public import proofs.«01_k».proof.Proof.Gen.DtWeight
public import proofs.«01_k».proof.Proof.Gen.DtWeight.Frame
public import proofs.«01_k».proof.Proof.Gen.DtWeightIdeal
public import proofs.«01_k».proof.Proof.Gen.DtWeightIdeal.Frame
public import proofs.«01_k».proof.Proof.Gen.DtWeightRefIdeal
public import proofs.«01_k».proof.Proof.Gen.DtWeightRefIdeal.Run
public import proofs.«01_k».proof.Proof.Gen.Hidden
public import proofs.«01_k».proof.Proof.Gen.Hidden.Frame
public import proofs.«01_k».proof.Proof.Gen.HiddenIdeal
public import proofs.«01_k».proof.Proof.Gen.HiddenIdeal.Frame
public import proofs.«01_k».proof.Proof.Gen.HiddenRefIdeal
public import proofs.«01_k».proof.Proof.Gen.HiddenRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InWeight
public import proofs.«01_k».proof.Proof.Gen.InWeight.Frame
public import proofs.«01_k».proof.Proof.Gen.InWeightIdeal
public import proofs.«01_k».proof.Proof.Gen.InWeightIdeal.Frame
public import proofs.«01_k».proof.Proof.Gen.InWeightRefIdeal
public import proofs.«01_k».proof.Proof.Gen.InWeightRefIdeal.Run
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossRefIdeal
public import proofs.«01_k».proof.Proof.Gen.LossRefIdeal.Run
public import proofs.«01_k».proof.Proof.Gen.Mixed
public import proofs.«01_k».proof.Proof.Gen.Mixed.Frame
public import proofs.«01_k».proof.Proof.Gen.MixedIdeal
public import proofs.«01_k».proof.Proof.Gen.MixedIdeal.Frame
public import proofs.«01_k».proof.Proof.Gen.MixedRefIdeal
public import proofs.«01_k».proof.Proof.Gen.MixedRefIdeal.Run
public import proofs.«01_k».proof.Proof.Gen.Norm
public import proofs.«01_k».proof.Proof.Gen.Norm.Frame
public import proofs.«01_k».proof.Proof.Gen.NormGrad
public import proofs.«01_k».proof.Proof.Gen.NormGrad.Frame
public import proofs.«01_k».proof.Proof.Gen.NormGradIdeal
public import proofs.«01_k».proof.Proof.Gen.NormGradIdeal.Frame
public import proofs.«01_k».proof.Proof.Gen.NormGradRefIdeal
public import proofs.«01_k».proof.Proof.Gen.NormGradRefIdeal.Run
public import proofs.«01_k».proof.Proof.Gen.NormIdeal
public import proofs.«01_k».proof.Proof.Gen.NormIdeal.Frame
public import proofs.«01_k».proof.Proof.Gen.NormRefIdeal
public import proofs.«01_k».proof.Proof.Gen.NormRefIdeal.Run
public import proofs.«01_k».proof.Proof.Gen.On_pool_a_written
public import proofs.«01_k».proof.Proof.Gen.On_pool_written
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutWeight
public import proofs.«01_k».proof.Proof.Gen.OutWeight.Frame
public import proofs.«01_k».proof.Proof.Gen.OutWeightIdeal
public import proofs.«01_k».proof.Proof.Gen.OutWeightIdeal.Frame
public import proofs.«01_k».proof.Proof.Gen.OutWeightRefIdeal
public import proofs.«01_k».proof.Proof.Gen.OutWeightRefIdeal.Run
public import proofs.«01_k».proof.Proof.Gen.Pool
public import proofs.«01_k».proof.Proof.Gen.Pool.Frame
public import proofs.«01_k».proof.Proof.Gen.PoolA
public import proofs.«01_k».proof.Proof.Gen.PoolA.Frame
public import proofs.«01_k».proof.Proof.Gen.PoolAIdeal
public import proofs.«01_k».proof.Proof.Gen.PoolAIdeal.Frame
public import proofs.«01_k».proof.Proof.Gen.PoolARefIdeal
public import proofs.«01_k».proof.Proof.Gen.PoolARefIdeal.Run
public import proofs.«01_k».proof.Proof.Gen.PoolB
public import proofs.«01_k».proof.Proof.Gen.PoolB.Frame
public import proofs.«01_k».proof.Proof.Gen.PoolBIdeal
public import proofs.«01_k».proof.Proof.Gen.PoolBIdeal.Frame
public import proofs.«01_k».proof.Proof.Gen.PoolBRefIdeal
public import proofs.«01_k».proof.Proof.Gen.PoolBRefIdeal.Run
public import proofs.«01_k».proof.Proof.Gen.PoolIdeal
public import proofs.«01_k».proof.Proof.Gen.PoolIdeal.Frame
public import proofs.«01_k».proof.Proof.Gen.PoolRefIdeal
public import proofs.«01_k».proof.Proof.Gen.PoolRefIdeal.Run
public import proofs.«01_k».proof.Proof.Gen.Post
public import proofs.«01_k».proof.Proof.Gen.Post.Frame
public import proofs.«01_k».proof.Proof.Gen.PostGrad
public import proofs.«01_k».proof.Proof.Gen.PostGrad.Frame
public import proofs.«01_k».proof.Proof.Gen.PostGradIdeal
public import proofs.«01_k».proof.Proof.Gen.PostGradIdeal.Frame
public import proofs.«01_k».proof.Proof.Gen.PostGradRefIdeal
public import proofs.«01_k».proof.Proof.Gen.PostGradRefIdeal.Run
public import proofs.«01_k».proof.Proof.Gen.PostIdeal
public import proofs.«01_k».proof.Proof.Gen.PostIdeal.Frame
public import proofs.«01_k».proof.Proof.Gen.PostRefIdeal
public import proofs.«01_k».proof.Proof.Gen.PostRefIdeal.Run
public import proofs.«01_k».proof.Proof.Gen.Pre_conv_finite
public import proofs.«01_k».proof.Proof.Gen.Pre_pool_a_finite
public import proofs.«01_k».proof.Proof.Gen.Pre_pool_b_finite
public import proofs.«01_k».proof.Proof.Gen.Pre_pool_finite
public import proofs.«01_k».proof.Proof.Inputs
public import proofs.«01_k».proof.Proof.LossClaim
public import proofs.«01_k».proof.Proof.NormClaim
public import proofs.«01_k».proof.Proof.NormGradClaim
public import proofs.«01_k».proof.Proof.PoolAClaim
public import proofs.«01_k».proof.Proof.PoolBClaim
public import proofs.«01_k».proof.Proof.PoolClaim
public import proofs.«01_k».proof.Proof.PostClaim
public import proofs.«01_k».proof.Proof.PostGradClaim
public import proofs.«01_k».proof.Proof.Projections
public import proofs.«01_k».proof.Proof.Weights

@[expose] public section

noncomputable section

namespace Cert.Proof

open Idealize.ShloMosaic Idealize.SL.Sem

theorem claim : Cert.Claim := ⟨
  Cert.PoolA.Gen.facts,
  Cert.PoolAIdeal.Gen.facts,
  Cert.PoolARefIdeal.Gen.facts,
  Cert.PoolB.Gen.facts,
  Cert.PoolBIdeal.Gen.facts,
  Cert.PoolBRefIdeal.Gen.facts,
  Cert.InWeight.Gen.facts,
  Cert.InWeightIdeal.Gen.facts,
  Cert.InWeightRefIdeal.Gen.facts,
  Cert.DtWeight.Gen.facts,
  Cert.DtWeightIdeal.Gen.facts,
  Cert.DtWeightRefIdeal.Gen.facts,
  Cert.OutWeight.Gen.facts,
  Cert.OutWeightIdeal.Gen.facts,
  Cert.OutWeightRefIdeal.Gen.facts,
  Cert.Mixed.Gen.facts,
  Cert.MixedIdeal.Gen.facts,
  Cert.MixedRefIdeal.Gen.facts,
  Cert.Hidden.Gen.facts,
  Cert.HiddenIdeal.Gen.facts,
  Cert.HiddenRefIdeal.Gen.facts,
  Cert.InProj.Gen.facts,
  Cert.InProjIdeal.Gen.facts,
  Cert.InProjRefIdeal.Gen.facts,
  Cert.DtProj.Gen.facts,
  Cert.DtProjIdeal.Gen.facts,
  Cert.DtProjRefIdeal.Gen.facts,
  Cert.OutProj.Gen.facts,
  Cert.OutProjIdeal.Gen.facts,
  Cert.OutProjRefIdeal.Gen.facts,
  Cert.Pool.Gen.facts,
  Cert.PoolIdeal.Gen.facts,
  Cert.PoolRefIdeal.Gen.facts,
  Cert.Conv.Gen.facts,
  Cert.ConvIdeal.Gen.facts,
  Cert.ConvRefIdeal.Gen.facts,
  Cert.ConvA.Gen.facts,
  Cert.ConvAIdeal.Gen.facts,
  Cert.ConvARefIdeal.Gen.facts,
  Cert.ConvB.Gen.facts,
  Cert.ConvBIdeal.Gen.facts,
  Cert.ConvBRefIdeal.Gen.facts,
  Cert.Loss.Gen.facts,
  Cert.LossIdeal.Gen.facts,
  Cert.LossRefIdeal.Gen.facts,
  Cert.Norm.Gen.facts,
  Cert.NormIdeal.Gen.facts,
  Cert.NormRefIdeal.Gen.facts,
  Cert.Post.Gen.facts,
  Cert.PostIdeal.Gen.facts,
  Cert.PostRefIdeal.Gen.facts,
  Cert.PostGrad.Gen.facts,
  Cert.PostGradIdeal.Gen.facts,
  Cert.PostGradRefIdeal.Gen.facts,
  Cert.NormGrad.Gen.facts,
  Cert.NormGradIdeal.Gen.facts,
  Cert.NormGradRefIdeal.Gen.facts,
  Cert.Pre_pool_a_finite.Gen.facts,
  Cert.Pre_pool_b_finite.Gen.facts,
  Cert.Pre_pool_finite.Gen.facts,
  Cert.Pre_conv_finite.Gen.facts,
  Cert.On_pool_a_written.Gen.facts,
  Cert.On_pool_written.Gen.facts,
  fun m ρ _ => Cert.PoolA.Gen.frame m ρ,
  fun m ρ _ => Cert.PoolAIdeal.Gen.frame m ρ,
  fun m ρ _ => Cert.PoolAIdeal.Gen.frame m ρ,
  fun m ρ _ => (θ_run Cert.PoolARefIdeal.defs _ _).mono (fun r h => ⟨fun c => (h c).2.2.2.2, sem_eq_zero_of_no_sems (by decide) r.2⟩) (Cert.PoolARefIdeal.Value.run m ρ),
  fun m ρ _ => (θ_run Cert.PoolARefIdeal.defs _ _).mono (fun r h => ⟨fun c => (h c).2.2.2.2, sem_eq_zero_of_no_sems (by decide) r.2⟩) (Cert.PoolARefIdeal.Value.run m ρ),
  fun m ρ _ => Cert.PoolB.Gen.frame m ρ,
  fun m ρ _ => Cert.PoolBIdeal.Gen.frame m ρ,
  fun m ρ _ => Cert.PoolBIdeal.Gen.frame m ρ,
  fun m ρ _ => (θ_run Cert.PoolBRefIdeal.defs _ _).mono (fun r h => ⟨fun c => (h c).2, sem_eq_zero_of_no_sems (by decide) r.2⟩) (Cert.PoolBRefIdeal.Value.run m ρ),
  fun m ρ _ => (θ_run Cert.PoolBRefIdeal.defs _ _).mono (fun r h => ⟨fun c => (h c).2, sem_eq_zero_of_no_sems (by decide) r.2⟩) (Cert.PoolBRefIdeal.Value.run m ρ),
  fun m ρ _ => Cert.InWeight.Gen.frame m ρ,
  fun m ρ _ => Cert.InWeightIdeal.Gen.frame m ρ,
  fun m ρ _ => (θ_run Cert.InWeightRefIdeal.defs _ _).mono (fun r h => ⟨fun c => (h c).2, sem_eq_zero_of_no_sems (by decide) r.2⟩) (Cert.InWeightRefIdeal.Value.run m ρ),
  fun m ρ _ => Cert.DtWeight.Gen.frame m ρ,
  fun m ρ _ => Cert.DtWeightIdeal.Gen.frame m ρ,
  fun m ρ _ => (θ_run Cert.DtWeightRefIdeal.defs _ _).mono (fun r h => ⟨fun c => (h c).2, sem_eq_zero_of_no_sems (by decide) r.2⟩) (Cert.DtWeightRefIdeal.Value.run m ρ),
  fun m ρ _ => Cert.OutWeight.Gen.frame m ρ,
  fun m ρ _ => Cert.OutWeightIdeal.Gen.frame m ρ,
  fun m ρ _ => (θ_run Cert.OutWeightRefIdeal.defs _ _).mono (fun r h => ⟨fun c => (h c).2, sem_eq_zero_of_no_sems (by decide) r.2⟩) (Cert.OutWeightRefIdeal.Value.run m ρ),
  fun m ρ _ => Cert.Mixed.Gen.frame m ρ,
  fun m ρ _ => Cert.MixedIdeal.Gen.frame m ρ,
  fun m ρ _ => (θ_run Cert.MixedRefIdeal.defs _ _).mono (fun r h => ⟨fun c => (h c).2, sem_eq_zero_of_no_sems (by decide) r.2⟩) (Cert.MixedRefIdeal.Value.run m ρ),
  fun m ρ _ => Cert.Hidden.Gen.frame m ρ,
  fun m ρ _ => Cert.HiddenIdeal.Gen.frame m ρ,
  fun m ρ _ => (θ_run Cert.HiddenRefIdeal.defs _ _).mono (fun r h => ⟨fun c => (h c).2, sem_eq_zero_of_no_sems (by decide) r.2⟩) (Cert.HiddenRefIdeal.Value.run m ρ),
  fun m ρ _ => Cert.InProj.Gen.frame m ρ,
  fun m ρ _ => Cert.InProjIdeal.Gen.frame m ρ,
  fun m ρ _ => (θ_run Cert.InProjRefIdeal.defs _ _).mono (fun r h => ⟨fun c => (h c).2, sem_eq_zero_of_no_sems (by decide) r.2⟩) (Cert.InProjRefIdeal.Value.run m ρ),
  fun m ρ _ => Cert.DtProj.Gen.frame m ρ,
  fun m ρ _ => Cert.DtProjIdeal.Gen.frame m ρ,
  fun m ρ _ => (θ_run Cert.DtProjRefIdeal.defs _ _).mono (fun r h => ⟨fun c => (h c).2, sem_eq_zero_of_no_sems (by decide) r.2⟩) (Cert.DtProjRefIdeal.Value.run m ρ),
  fun m ρ _ => Cert.OutProj.Gen.frame m ρ,
  fun m ρ _ => Cert.OutProjIdeal.Gen.frame m ρ,
  fun m ρ _ => (θ_run Cert.OutProjRefIdeal.defs _ _).mono (fun r h => ⟨fun c => (h c).2, sem_eq_zero_of_no_sems (by decide) r.2⟩) (Cert.OutProjRefIdeal.Value.run m ρ),
  fun m ρ _ => Cert.Pool.Gen.frame m ρ,
  fun m ρ _ => Cert.PoolIdeal.Gen.frame m ρ,
  fun m ρ _ => Cert.PoolIdeal.Gen.frame m ρ,
  fun m ρ _ => (θ_run Cert.PoolRefIdeal.defs _ _).mono (fun r h => ⟨fun c => (h c).2, sem_eq_zero_of_no_sems (by decide) r.2⟩) (Cert.PoolRefIdeal.Value.run m ρ),
  fun m ρ _ => (θ_run Cert.PoolRefIdeal.defs _ _).mono (fun r h => ⟨fun c => (h c).2, sem_eq_zero_of_no_sems (by decide) r.2⟩) (Cert.PoolRefIdeal.Value.run m ρ),
  fun m ρ _ => Cert.Conv.Gen.frame m ρ,
  fun m ρ _ => Cert.ConvIdeal.Gen.frame m ρ,
  fun m ρ _ => (θ_run Cert.ConvRefIdeal.defs _ _).mono (fun r h => ⟨fun c => (h c).2, sem_eq_zero_of_no_sems (by decide) r.2⟩) (Cert.ConvRefIdeal.Value.run m ρ),
  fun m ρ _ => Cert.ConvA.Gen.frame m ρ,
  fun m ρ _ => Cert.ConvAIdeal.Gen.frame m ρ,
  fun m ρ _ => Cert.ConvAIdeal.Gen.frame m ρ,
  fun m ρ _ => (θ_run Cert.ConvARefIdeal.defs _ _).mono (fun r h => ⟨fun c => (h c).2.2.2, sem_eq_zero_of_no_sems (by decide) r.2⟩) (Cert.ConvARefIdeal.Value.run m ρ),
  fun m ρ _ => (θ_run Cert.ConvARefIdeal.defs _ _).mono (fun r h => ⟨fun c => (h c).2.2.2, sem_eq_zero_of_no_sems (by decide) r.2⟩) (Cert.ConvARefIdeal.Value.run m ρ),
  fun m ρ _ => Cert.ConvB.Gen.frame m ρ,
  fun m ρ _ => Cert.ConvBIdeal.Gen.frame m ρ,
  fun m ρ _ => (θ_run Cert.ConvBRefIdeal.defs _ _).mono (fun r h => ⟨fun c => (h c).2, sem_eq_zero_of_no_sems (by decide) r.2⟩) (Cert.ConvBRefIdeal.Value.run m ρ),
  fun m ρ _ => Cert.Loss.Gen.frame m ρ,
  fun m ρ _ => Cert.LossIdeal.Gen.frame m ρ,
  fun m ρ _ => (θ_run Cert.LossRefIdeal.defs _ _).mono (fun r h => ⟨fun c => (h c).2.2, sem_eq_zero_of_no_sems (by decide) r.2⟩) (Cert.LossRefIdeal.Value.run m ρ),
  fun m ρ _ => Cert.Norm.Gen.frame m ρ,
  fun m ρ _ => Cert.NormIdeal.Gen.frame m ρ,
  fun m ρ _ => (θ_run Cert.NormRefIdeal.defs _ _).mono (fun r h => ⟨fun c => (h c).2.2, sem_eq_zero_of_no_sems (by decide) r.2⟩) (Cert.NormRefIdeal.Value.run m ρ),
  fun m ρ _ => Cert.Post.Gen.frame m ρ,
  fun m ρ _ => Cert.PostIdeal.Gen.frame m ρ,
  fun m ρ _ => (θ_run Cert.PostRefIdeal.defs _ _).mono (fun r h => ⟨fun c => (h c).2.2, sem_eq_zero_of_no_sems (by decide) r.2⟩) (Cert.PostRefIdeal.Value.run m ρ),
  fun m ρ _ => Cert.PostGrad.Gen.frame m ρ,
  fun m ρ _ => Cert.PostGradIdeal.Gen.frame m ρ,
  fun m ρ _ => (θ_run Cert.PostGradRefIdeal.defs _ _).mono (fun r h => ⟨fun c => (h c).2.2, sem_eq_zero_of_no_sems (by decide) r.2⟩) (Cert.PostGradRefIdeal.Value.run m ρ),
  fun m ρ _ => Cert.NormGrad.Gen.frame m ρ,
  fun m ρ _ => Cert.NormGradIdeal.Gen.frame m ρ,
  fun m ρ _ => (θ_run Cert.NormGradRefIdeal.defs _ _).mono (fun r h => ⟨fun c => (h c).2.2, sem_eq_zero_of_no_sems (by decide) r.2⟩) (Cert.NormGradRefIdeal.Value.run m ρ),
  trivial,
  Cert.PoolAClaim.algebraic,
  trivial,
  Cert.PoolBClaim.algebraic,
  trivial,
  Cert.Weights.InWeight,
  trivial,
  Cert.Weights.DtWeight,
  trivial,
  Cert.Weights.OutWeight,
  trivial,
  Cert.Inputs.Mixed,
  trivial,
  Cert.Inputs.Hidden,
  trivial,
  Cert.Projections.InProj,
  trivial,
  Cert.Projections.DtProj,
  trivial,
  Cert.Projections.OutProj,
  trivial,
  Cert.PoolClaim.algebraic,
  trivial,
  Cert.ConvClaim.algebraic,
  trivial,
  Cert.ConvAClaim.algebraic,
  trivial,
  Cert.ConvBClaim.algebraic,
  trivial,
  Cert.LossClaim.algebraic,
  trivial,
  Cert.NormClaim.algebraic,
  trivial,
  Cert.PostClaim.algebraic,
  trivial,
  Cert.PostGradClaim.algebraic,
  trivial,
  Cert.NormGradClaim.algebraic⟩

end Cert.Proof

end
